-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_InputKernel (m : (ℓ : Loc Cert.InputKernel.nD Cert.InputKernel.τ Cert.InputKernel.sig) → Buf (Elt Bits) ℓ) : Prop :=
  True

def Pre_InputKernelIdeal (m : (ℓ : Loc Cert.InputKernelIdeal.nD Cert.InputKernelIdeal.τ Cert.InputKernelIdeal.sig) → Buf (Elt Ideal) ℓ) : Prop :=
  True

def Pre_InputReferenceIdeal (m : (ℓ : Loc Cert.InputReferenceIdeal.nD Cert.InputReferenceIdeal.τ Cert.InputReferenceIdeal.sig) → Buf (Elt Ideal) ℓ) : Prop :=
  True

def Pre_PostKernel (m : (ℓ : Loc Cert.PostKernel.nD Cert.PostKernel.τ Cert.PostKernel.sig) → Buf (Elt Bits) ℓ) : Prop :=
  True

def Pre_PostKernelIdeal (m : (ℓ : Loc Cert.PostKernelIdeal.nD Cert.PostKernelIdeal.τ Cert.PostKernelIdeal.sig) → Buf (Elt Ideal) ℓ) : Prop :=
  True

def Pre_PostReferenceIdeal (m : (ℓ : Loc Cert.PostReferenceIdeal.nD Cert.PostReferenceIdeal.τ Cert.PostReferenceIdeal.sig) → Buf (Elt Ideal) ℓ) : Prop :=
  True

def Pre_InWeightKernel (m : (ℓ : Loc Cert.InWeightKernel.nD Cert.InWeightKernel.τ Cert.InWeightKernel.sig) → Buf (Elt Bits) ℓ) : Prop :=
  True

def Pre_InWeightKernelIdeal (m : (ℓ : Loc Cert.InWeightKernelIdeal.nD Cert.InWeightKernelIdeal.τ Cert.InWeightKernelIdeal.sig) → Buf (Elt Ideal) ℓ) : Prop :=
  True

def Pre_InWeightReferenceIdeal (m : (ℓ : Loc Cert.InWeightReferenceIdeal.nD Cert.InWeightReferenceIdeal.τ Cert.InWeightReferenceIdeal.sig) → Buf (Elt Ideal) ℓ) : Prop :=
  True

def Pre_SquareWeightKernel (m : (ℓ : Loc Cert.SquareWeightKernel.nD Cert.SquareWeightKernel.τ Cert.SquareWeightKernel.sig) → Buf (Elt Bits) ℓ) : Prop :=
  True

def Pre_SquareWeightKernelIdeal (m : (ℓ : Loc Cert.SquareWeightKernelIdeal.nD Cert.SquareWeightKernelIdeal.τ Cert.SquareWeightKernelIdeal.sig) → Buf (Elt Ideal) ℓ) : Prop :=
  True

def Pre_SquareWeightReferenceIdeal (m : (ℓ : Loc Cert.SquareWeightReferenceIdeal.nD Cert.SquareWeightReferenceIdeal.τ Cert.SquareWeightReferenceIdeal.sig) → Buf (Elt Ideal) ℓ) : Prop :=
  True

def Pre_AttnWeightKernel (m : (ℓ : Loc Cert.AttnWeightKernel.nD Cert.AttnWeightKernel.τ Cert.AttnWeightKernel.sig) → Buf (Elt Bits) ℓ) : Prop :=
  True

def Pre_AttnWeightKernelIdeal (m : (ℓ : Loc Cert.AttnWeightKernelIdeal.nD Cert.AttnWeightKernelIdeal.τ Cert.AttnWeightKernelIdeal.sig) → Buf (Elt Ideal) ℓ) : Prop :=
  True

def Pre_AttnWeightReferenceIdeal (m : (ℓ : Loc Cert.AttnWeightReferenceIdeal.nD Cert.AttnWeightReferenceIdeal.τ Cert.AttnWeightReferenceIdeal.sig) → Buf (Elt Ideal) ℓ) : Prop :=
  True

def Pre_ModWeightKernel (m : (ℓ : Loc Cert.ModWeightKernel.nD Cert.ModWeightKernel.τ Cert.ModWeightKernel.sig) → Buf (Elt Bits) ℓ) : Prop :=
  True

def Pre_ModWeightKernelIdeal (m : (ℓ : Loc Cert.ModWeightKernelIdeal.nD Cert.ModWeightKernelIdeal.τ Cert.ModWeightKernelIdeal.sig) → Buf (Elt Ideal) ℓ) : Prop :=
  True

def Pre_ModWeightReferenceIdeal (m : (ℓ : Loc Cert.ModWeightReferenceIdeal.nD Cert.ModWeightReferenceIdeal.τ Cert.ModWeightReferenceIdeal.sig) → Buf (Elt Ideal) ℓ) : Prop :=
  True

def Pre_SmallWeightKernel (m : (ℓ : Loc Cert.SmallWeightKernel.nD Cert.SmallWeightKernel.τ Cert.SmallWeightKernel.sig) → Buf (Elt Bits) ℓ) : Prop :=
  True

def Pre_SmallWeightKernelIdeal (m : (ℓ : Loc Cert.SmallWeightKernelIdeal.nD Cert.SmallWeightKernelIdeal.τ Cert.SmallWeightKernelIdeal.sig) → Buf (Elt Ideal) ℓ) : Prop :=
  True

def Pre_SmallWeightReferenceIdeal (m : (ℓ : Loc Cert.SmallWeightReferenceIdeal.nD Cert.SmallWeightReferenceIdeal.τ Cert.SmallWeightReferenceIdeal.sig) → Buf (Elt Ideal) ℓ) : Prop :=
  True

def Pre_SumKernel (m : (ℓ : Loc Cert.SumKernel.nD Cert.SumKernel.τ Cert.SumKernel.sig) → Buf (Elt Bits) ℓ) : Prop :=
  True

def Pre_SumKernelIdeal (m : (ℓ : Loc Cert.SumKernelIdeal.nD Cert.SumKernelIdeal.τ Cert.SumKernelIdeal.sig) → Buf (Elt Ideal) ℓ) : Prop :=
  True

def Pre_SumReferenceIdeal (m : (ℓ : Loc Cert.SumReferenceIdeal.nD Cert.SumReferenceIdeal.τ Cert.SumReferenceIdeal.sig) → Buf (Elt Ideal) ℓ) : Prop :=
  True

def Pre_ModKernel (m : (ℓ : Loc Cert.ModKernel.nD Cert.ModKernel.τ Cert.ModKernel.sig) → Buf (Elt Bits) ℓ) : Prop :=
  True

def Pre_ModKernelIdeal (m : (ℓ : Loc Cert.ModKernelIdeal.nD Cert.ModKernelIdeal.τ Cert.ModKernelIdeal.sig) → Buf (Elt Ideal) ℓ) : Prop :=
  True

def Pre_ModReferenceIdeal (m : (ℓ : Loc Cert.ModReferenceIdeal.nD Cert.ModReferenceIdeal.τ Cert.ModReferenceIdeal.sig) → Buf (Elt Ideal) ℓ) : Prop :=
  True

def Pre_ModGradKernel (m : (ℓ : Loc Cert.ModGradKernel.nD Cert.ModGradKernel.τ Cert.ModGradKernel.sig) → Buf (Elt Bits) ℓ) : Prop :=
  True

def Pre_ModGradKernelIdeal (m : (ℓ : Loc Cert.ModGradKernelIdeal.nD Cert.ModGradKernelIdeal.τ Cert.ModGradKernelIdeal.sig) → Buf (Elt Ideal) ℓ) : Prop :=
  True

def Pre_ModGradKernelIdeal_finite_modulation [hPre_finite_modulation : Cert.Pre_finite_modulation.Facts] (m : (ℓ : Loc Cert.ModGradKernelIdeal.nD Cert.ModGradKernelIdeal.τ Cert.ModGradKernelIdeal.sig) → Buf (Elt Ideal) ℓ) : Prop :=
  ∀ c : Dev Cert.ModGradKernelIdeal.nD,
    (Cert.Pre_finite_modulation.fn (F := Ideal) (m ((c.tc : Thread Cert.ModGradKernelIdeal.nD Cert.ModGradKernelIdeal.τ).loc Cert.ModGradKernelIdeal.main_arg0)) (m ((c.tc : Thread Cert.ModGradKernelIdeal.nD Cert.ModGradKernelIdeal.τ).loc Cert.ModGradKernelIdeal.main_arg1)) (m ((c.tc : Thread Cert.ModGradKernelIdeal.nD Cert.ModGradKernelIdeal.τ).loc Cert.ModGradKernelIdeal.main_arg2)) (m ((c.tc : Thread Cert.ModGradKernelIdeal.nD Cert.ModGradKernelIdeal.τ).loc Cert.ModGradKernelIdeal.main_arg3))) = (fun _ => 1#1)

def Pre_ModGradReferenceIdeal (m : (ℓ : Loc Cert.ModGradReferenceIdeal.nD Cert.ModGradReferenceIdeal.τ Cert.ModGradReferenceIdeal.sig) → Buf (Elt Ideal) ℓ) : Prop :=
  True

def Pre_ModGradReferenceIdeal_finite_modulation [hPre_finite_modulation : Cert.Pre_finite_modulation.Facts] (m : (ℓ : Loc Cert.ModGradReferenceIdeal.nD Cert.ModGradReferenceIdeal.τ Cert.ModGradReferenceIdeal.sig) → Buf (Elt Ideal) ℓ) : Prop :=
  ∀ c : Dev Cert.ModGradReferenceIdeal.nD,
    (Cert.Pre_finite_modulation.fn (F := Ideal) (m ((c.tc : Thread Cert.ModGradReferenceIdeal.nD Cert.ModGradReferenceIdeal.τ).loc Cert.ModGradReferenceIdeal.main_arg0)) (m ((c.tc : Thread Cert.ModGradReferenceIdeal.nD Cert.ModGradReferenceIdeal.τ).loc Cert.ModGradReferenceIdeal.main_arg1)) (m ((c.tc : Thread Cert.ModGradReferenceIdeal.nD Cert.ModGradReferenceIdeal.τ).loc Cert.ModGradReferenceIdeal.main_arg2)) (m ((c.tc : Thread Cert.ModGradReferenceIdeal.nD Cert.ModGradReferenceIdeal.τ).loc Cert.ModGradReferenceIdeal.main_arg3))) = (fun _ => 1#1)

def Pre_AttnInKernel (m : (ℓ : Loc Cert.AttnInKernel.nD Cert.AttnInKernel.τ Cert.AttnInKernel.sig) → Buf (Elt Bits) ℓ) : Prop :=
  True

def Pre_AttnInKernelIdeal (m : (ℓ : Loc Cert.AttnInKernelIdeal.nD Cert.AttnInKernelIdeal.τ Cert.AttnInKernelIdeal.sig) → Buf (Elt Ideal) ℓ) : Prop :=
  True

def Pre_AttnInReferenceIdeal (m : (ℓ : Loc Cert.AttnInReferenceIdeal.nD Cert.AttnInReferenceIdeal.τ Cert.AttnInReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_InputKernel [hInputKernel : Cert.InputKernel.Facts] : Prop :=
  ∀ (m : (ℓ : Loc Cert.InputKernel.nD Cert.InputKernel.τ Cert.InputKernel.sig) → Buf (Elt Bits) ℓ) (g : Dev Cert.InputKernel.nD → PrngReg), Pre_InputKernel m →
    θ_run (Cert.InputKernel.defs (F := Bits)) (onTc (τ := Cert.InputKernel.τ) (Cert.InputKernel.main (F := Bits))) ⟨m, fun _ => 0, g⟩ (fun r => (∀ c : Dev Cert.InputKernel.nD,
      r.2.mem ((c.tc : Thread Cert.InputKernel.nD Cert.InputKernel.τ).loc Cert.InputKernel.main_arg0) = m ((c.tc : Thread Cert.InputKernel.nD Cert.InputKernel.τ).loc Cert.InputKernel.main_arg0)
      ∧ r.2.mem ((c.tc : Thread Cert.InputKernel.nD Cert.InputKernel.τ).loc Cert.InputKernel.main_arg1) = m ((c.tc : Thread Cert.InputKernel.nD Cert.InputKernel.τ).loc Cert.InputKernel.main_arg1)
      ∧ r.2.mem ((c.tc : Thread Cert.InputKernel.nD Cert.InputKernel.τ).loc Cert.InputKernel.main_arg2) = m ((c.tc : Thread Cert.InputKernel.nD Cert.InputKernel.τ).loc Cert.InputKernel.main_arg2)
      ∧ r.2.mem ((c.tc : Thread Cert.InputKernel.nD Cert.InputKernel.τ).loc Cert.InputKernel.main_arg3) = m ((c.tc : Thread Cert.InputKernel.nD Cert.InputKernel.τ).loc Cert.InputKernel.main_arg3)
      ∧ r.2.mem ((c.tc : Thread Cert.InputKernel.nD Cert.InputKernel.τ).loc Cert.InputKernel.main_arg4) = m ((c.tc : Thread Cert.InputKernel.nD Cert.InputKernel.τ).loc Cert.InputKernel.main_arg4)
      ∧ r.2.mem ((c.tc : Thread Cert.InputKernel.nD Cert.InputKernel.τ).loc Cert.InputKernel.main_arg5) = m ((c.tc : Thread Cert.InputKernel.nD Cert.InputKernel.τ).loc Cert.InputKernel.main_arg5))
      ∧ r.2.sem = fun _ => 0)

def quiescent_InputKernelIdeal [hInputKernelIdeal : Cert.InputKernelIdeal.Facts] : Prop :=
  ∀ (m : (ℓ : Loc Cert.InputKernelIdeal.nD Cert.InputKernelIdeal.τ Cert.InputKernelIdeal.sig) → Buf (Elt Ideal) ℓ) (g : Dev Cert.InputKernelIdeal.nD → PrngReg), Pre_InputKernelIdeal m →
    θ_run (Cert.InputKernelIdeal.defs (F := Ideal)) (onTc (τ := Cert.InputKernelIdeal.τ) (Cert.InputKernelIdeal.main (F := Ideal))) ⟨m, fun _ => 0, g⟩ (fun r => (∀ c : Dev Cert.InputKernelIdeal.nD,
      r.2.mem ((c.tc : Thread Cert.InputKernelIdeal.nD Cert.InputKernelIdeal.τ).loc Cert.InputKernelIdeal.main_arg0) = m ((c.tc : Thread Cert.InputKernelIdeal.nD Cert.InputKernelIdeal.τ).loc Cert.InputKernelIdeal.main_arg0)
      ∧ r.2.mem ((c.tc : Thread Cert.InputKernelIdeal.nD Cert.InputKernelIdeal.τ).loc Cert.InputKernelIdeal.main_arg1) = m ((c.tc : Thread Cert.InputKernelIdeal.nD Cert.InputKernelIdeal.τ).loc Cert.InputKernelIdeal.main_arg1)
      ∧ r.2.mem ((c.tc : Thread Cert.InputKernelIdeal.nD Cert.InputKernelIdeal.τ).loc Cert.InputKernelIdeal.main_arg2) = m ((c.tc : Thread Cert.InputKernelIdeal.nD Cert.InputKernelIdeal.τ).loc Cert.InputKernelIdeal.main_arg2)
      ∧ r.2.mem ((c.tc : Thread Cert.InputKernelIdeal.nD Cert.InputKernelIdeal.τ).loc Cert.InputKernelIdeal.main_arg3) = m ((c.tc : Thread Cert.InputKernelIdeal.nD Cert.InputKernelIdeal.τ).loc Cert.InputKernelIdeal.main_arg3)
      ∧ r.2.mem ((c.tc : Thread Cert.InputKernelIdeal.nD Cert.InputKernelIdeal.τ).loc Cert.InputKernelIdeal.main_arg4) = m ((c.tc : Thread Cert.InputKernelIdeal.nD Cert.InputKernelIdeal.τ).loc Cert.InputKernelIdeal.main_arg4)
      ∧ r.2.mem ((c.tc : Thread Cert.InputKernelIdeal.nD Cert.InputKernelIdeal.τ).loc Cert.InputKernelIdeal.main_arg5) = m ((c.tc : Thread Cert.InputKernelIdeal.nD Cert.InputKernelIdeal.τ).loc Cert.InputKernelIdeal.main_arg5))
      ∧ r.2.sem = fun _ => 0)

def quiescent_InputReferenceIdeal [hInputReferenceIdeal : Cert.InputReferenceIdeal.Facts] : Prop :=
  ∀ (m : (ℓ : Loc Cert.InputReferenceIdeal.nD Cert.InputReferenceIdeal.τ Cert.InputReferenceIdeal.sig) → Buf (Elt Ideal) ℓ) (g : Dev Cert.InputReferenceIdeal.nD → PrngReg), Pre_InputReferenceIdeal m →
    θ_run (Cert.InputReferenceIdeal.defs (F := Ideal)) (onTc (τ := Cert.InputReferenceIdeal.τ) (Cert.InputReferenceIdeal.main (F := Ideal))) ⟨m, fun _ => 0, g⟩ (fun r => (∀ c : Dev Cert.InputReferenceIdeal.nD,
      r.2.mem ((c.tc : Thread Cert.InputReferenceIdeal.nD Cert.InputReferenceIdeal.τ).loc Cert.InputReferenceIdeal.main_arg0) = m ((c.tc : Thread Cert.InputReferenceIdeal.nD Cert.InputReferenceIdeal.τ).loc Cert.InputReferenceIdeal.main_arg0)
      ∧ r.2.mem ((c.tc : Thread Cert.InputReferenceIdeal.nD Cert.InputReferenceIdeal.τ).loc Cert.InputReferenceIdeal.main_arg1) = m ((c.tc : Thread Cert.InputReferenceIdeal.nD Cert.InputReferenceIdeal.τ).loc Cert.InputReferenceIdeal.main_arg1)
      ∧ r.2.mem ((c.tc : Thread Cert.InputReferenceIdeal.nD Cert.InputReferenceIdeal.τ).loc Cert.InputReferenceIdeal.main_arg2) = m ((c.tc : Thread Cert.InputReferenceIdeal.nD Cert.InputReferenceIdeal.τ).loc Cert.InputReferenceIdeal.main_arg2)
      ∧ r.2.mem ((c.tc : Thread Cert.InputReferenceIdeal.nD Cert.InputReferenceIdeal.τ).loc Cert.InputReferenceIdeal.main_arg3) = m ((c.tc : Thread Cert.InputReferenceIdeal.nD Cert.InputReferenceIdeal.τ).loc Cert.InputReferenceIdeal.main_arg3)
      ∧ r.2.mem ((c.tc : Thread Cert.InputReferenceIdeal.nD Cert.InputReferenceIdeal.τ).loc Cert.InputReferenceIdeal.main_arg4) = m ((c.tc : Thread Cert.InputReferenceIdeal.nD Cert.InputReferenceIdeal.τ).loc Cert.InputReferenceIdeal.main_arg4)
      ∧ r.2.mem ((c.tc : Thread Cert.InputReferenceIdeal.nD Cert.InputReferenceIdeal.τ).loc Cert.InputReferenceIdeal.main_arg5) = m ((c.tc : Thread Cert.InputReferenceIdeal.nD Cert.InputReferenceIdeal.τ).loc Cert.InputReferenceIdeal.main_arg5))
      ∧ r.2.sem = fun _ => 0)

def quiescent_PostKernel [hPostKernel : Cert.PostKernel.Facts] : Prop :=
  ∀ (m : (ℓ : Loc Cert.PostKernel.nD Cert.PostKernel.τ Cert.PostKernel.sig) → Buf (Elt Bits) ℓ) (g : Dev Cert.PostKernel.nD → PrngReg), Pre_PostKernel m →
    θ_run (Cert.PostKernel.defs (F := Bits)) (onTc (τ := Cert.PostKernel.τ) (Cert.PostKernel.main (F := Bits))) ⟨m, fun _ => 0, g⟩ (fun r => (∀ c : Dev Cert.PostKernel.nD,
      r.2.mem ((c.tc : Thread Cert.PostKernel.nD Cert.PostKernel.τ).loc Cert.PostKernel.main_arg0) = m ((c.tc : Thread Cert.PostKernel.nD Cert.PostKernel.τ).loc Cert.PostKernel.main_arg0)
      ∧ r.2.mem ((c.tc : Thread Cert.PostKernel.nD Cert.PostKernel.τ).loc Cert.PostKernel.main_arg1) = m ((c.tc : Thread Cert.PostKernel.nD Cert.PostKernel.τ).loc Cert.PostKernel.main_arg1)
      ∧ r.2.mem ((c.tc : Thread Cert.PostKernel.nD Cert.PostKernel.τ).loc Cert.PostKernel.main_arg2) = m ((c.tc : Thread Cert.PostKernel.nD Cert.PostKernel.τ).loc Cert.PostKernel.main_arg2)
      ∧ r.2.mem ((c.tc : Thread Cert.PostKernel.nD Cert.PostKernel.τ).loc Cert.PostKernel.main_arg3) = m ((c.tc : Thread Cert.PostKernel.nD Cert.PostKernel.τ).loc Cert.PostKernel.main_arg3)
      ∧ r.2.mem ((c.tc : Thread Cert.PostKernel.nD Cert.PostKernel.τ).loc Cert.PostKernel.main_arg4) = m ((c.tc : Thread Cert.PostKernel.nD Cert.PostKernel.τ).loc Cert.PostKernel.main_arg4)
      ∧ r.2.mem ((c.tc : Thread Cert.PostKernel.nD Cert.PostKernel.τ).loc Cert.PostKernel.main_arg5) = m ((c.tc : Thread Cert.PostKernel.nD Cert.PostKernel.τ).loc Cert.PostKernel.main_arg5)
      ∧ r.2.mem ((c.tc : Thread Cert.PostKernel.nD Cert.PostKernel.τ).loc Cert.PostKernel.main_arg6) = m ((c.tc : Thread Cert.PostKernel.nD Cert.PostKernel.τ).loc Cert.PostKernel.main_arg6)
      ∧ r.2.mem ((c.tc : Thread Cert.PostKernel.nD Cert.PostKernel.τ).loc Cert.PostKernel.main_arg7) = m ((c.tc : Thread Cert.PostKernel.nD Cert.PostKernel.τ).loc Cert.PostKernel.main_arg7)
      ∧ r.2.mem ((c.tc : Thread Cert.PostKernel.nD Cert.PostKernel.τ).loc Cert.PostKernel.main_arg8) = m ((c.tc : Thread Cert.PostKernel.nD Cert.PostKernel.τ).loc Cert.PostKernel.main_arg8))
      ∧ r.2.sem = fun _ => 0)

def quiescent_PostKernelIdeal [hPostKernelIdeal : Cert.PostKernelIdeal.Facts] : Prop :=
  ∀ (m : (ℓ : Loc Cert.PostKernelIdeal.nD Cert.PostKernelIdeal.τ Cert.PostKernelIdeal.sig) → Buf (Elt Ideal) ℓ) (g : Dev Cert.PostKernelIdeal.nD → PrngReg), Pre_PostKernelIdeal m →
    θ_run (Cert.PostKernelIdeal.defs (F := Ideal)) (onTc (τ := Cert.PostKernelIdeal.τ) (Cert.PostKernelIdeal.main (F := Ideal))) ⟨m, fun _ => 0, g⟩ (fun r => (∀ c : Dev Cert.PostKernelIdeal.nD,
      r.2.mem ((c.tc : Thread Cert.PostKernelIdeal.nD Cert.PostKernelIdeal.τ).loc Cert.PostKernelIdeal.main_arg0) = m ((c.tc : Thread Cert.PostKernelIdeal.nD Cert.PostKernelIdeal.τ).loc Cert.PostKernelIdeal.main_arg0)
      ∧ r.2.mem ((c.tc : Thread Cert.PostKernelIdeal.nD Cert.PostKernelIdeal.τ).loc Cert.PostKernelIdeal.main_arg1) = m ((c.tc : Thread Cert.PostKernelIdeal.nD Cert.PostKernelIdeal.τ).loc Cert.PostKernelIdeal.main_arg1)
      ∧ r.2.mem ((c.tc : Thread Cert.PostKernelIdeal.nD Cert.PostKernelIdeal.τ).loc Cert.PostKernelIdeal.main_arg2) = m ((c.tc : Thread Cert.PostKernelIdeal.nD Cert.PostKernelIdeal.τ).loc Cert.PostKernelIdeal.main_arg2)
      ∧ r.2.mem ((c.tc : Thread Cert.PostKernelIdeal.nD Cert.PostKernelIdeal.τ).loc Cert.PostKernelIdeal.main_arg3) = m ((c.tc : Thread Cert.PostKernelIdeal.nD Cert.PostKernelIdeal.τ).loc Cert.PostKernelIdeal.main_arg3)
      ∧ r.2.mem ((c.tc : Thread Cert.PostKernelIdeal.nD Cert.PostKernelIdeal.τ).loc Cert.PostKernelIdeal.main_arg4) = m ((c.tc : Thread Cert.PostKernelIdeal.nD Cert.PostKernelIdeal.τ).loc Cert.PostKernelIdeal.main_arg4)
      ∧ r.2.mem ((c.tc : Thread Cert.PostKernelIdeal.nD Cert.PostKernelIdeal.τ).loc Cert.PostKernelIdeal.main_arg5) = m ((c.tc : Thread Cert.PostKernelIdeal.nD Cert.PostKernelIdeal.τ).loc Cert.PostKernelIdeal.main_arg5)
      ∧ r.2.mem ((c.tc : Thread Cert.PostKernelIdeal.nD Cert.PostKernelIdeal.τ).loc Cert.PostKernelIdeal.main_arg6) = m ((c.tc : Thread Cert.PostKernelIdeal.nD Cert.PostKernelIdeal.τ).loc Cert.PostKernelIdeal.main_arg6)
      ∧ r.2.mem ((c.tc : Thread Cert.PostKernelIdeal.nD Cert.PostKernelIdeal.τ).loc Cert.PostKernelIdeal.main_arg7) = m ((c.tc : Thread Cert.PostKernelIdeal.nD Cert.PostKernelIdeal.τ).loc Cert.PostKernelIdeal.main_arg7)
      ∧ r.2.mem ((c.tc : Thread Cert.PostKernelIdeal.nD Cert.PostKernelIdeal.τ).loc Cert.PostKernelIdeal.main_arg8) = m ((c.tc : Thread Cert.PostKernelIdeal.nD Cert.PostKernelIdeal.τ).loc Cert.PostKernelIdeal.main_arg8))
      ∧ r.2.sem = fun _ => 0)

def quiescent_PostReferenceIdeal [hPostReferenceIdeal : Cert.PostReferenceIdeal.Facts] : Prop :=
  ∀ (m : (ℓ : Loc Cert.PostReferenceIdeal.nD Cert.PostReferenceIdeal.τ Cert.PostReferenceIdeal.sig) → Buf (Elt Ideal) ℓ) (g : Dev Cert.PostReferenceIdeal.nD → PrngReg), Pre_PostReferenceIdeal m →
    θ_run (Cert.PostReferenceIdeal.defs (F := Ideal)) (onTc (τ := Cert.PostReferenceIdeal.τ) (Cert.PostReferenceIdeal.main (F := Ideal))) ⟨m, fun _ => 0, g⟩ (fun r => (∀ c : Dev Cert.PostReferenceIdeal.nD,
      r.2.mem ((c.tc : Thread Cert.PostReferenceIdeal.nD Cert.PostReferenceIdeal.τ).loc Cert.PostReferenceIdeal.main_arg0) = m ((c.tc : Thread Cert.PostReferenceIdeal.nD Cert.PostReferenceIdeal.τ).loc Cert.PostReferenceIdeal.main_arg0)
      ∧ r.2.mem ((c.tc : Thread Cert.PostReferenceIdeal.nD Cert.PostReferenceIdeal.τ).loc Cert.PostReferenceIdeal.main_arg1) = m ((c.tc : Thread Cert.PostReferenceIdeal.nD Cert.PostReferenceIdeal.τ).loc Cert.PostReferenceIdeal.main_arg1)
      ∧ r.2.mem ((c.tc : Thread Cert.PostReferenceIdeal.nD Cert.PostReferenceIdeal.τ).loc Cert.PostReferenceIdeal.main_arg2) = m ((c.tc : Thread Cert.PostReferenceIdeal.nD Cert.PostReferenceIdeal.τ).loc Cert.PostReferenceIdeal.main_arg2)
      ∧ r.2.mem ((c.tc : Thread Cert.PostReferenceIdeal.nD Cert.PostReferenceIdeal.τ).loc Cert.PostReferenceIdeal.main_arg3) = m ((c.tc : Thread Cert.PostReferenceIdeal.nD Cert.PostReferenceIdeal.τ).loc Cert.PostReferenceIdeal.main_arg3)
      ∧ r.2.mem ((c.tc : Thread Cert.PostReferenceIdeal.nD Cert.PostReferenceIdeal.τ).loc Cert.PostReferenceIdeal.main_arg4) = m ((c.tc : Thread Cert.PostReferenceIdeal.nD Cert.PostReferenceIdeal.τ).loc Cert.PostReferenceIdeal.main_arg4)
      ∧ r.2.mem ((c.tc : Thread Cert.PostReferenceIdeal.nD Cert.PostReferenceIdeal.τ).loc Cert.PostReferenceIdeal.main_arg5) = m ((c.tc : Thread Cert.PostReferenceIdeal.nD Cert.PostReferenceIdeal.τ).loc Cert.PostReferenceIdeal.main_arg5)
      ∧ r.2.mem ((c.tc : Thread Cert.PostReferenceIdeal.nD Cert.PostReferenceIdeal.τ).loc Cert.PostReferenceIdeal.main_arg6) = m ((c.tc : Thread Cert.PostReferenceIdeal.nD Cert.PostReferenceIdeal.τ).loc Cert.PostReferenceIdeal.main_arg6)
      ∧ r.2.mem ((c.tc : Thread Cert.PostReferenceIdeal.nD Cert.PostReferenceIdeal.τ).loc Cert.PostReferenceIdeal.main_arg7) = m ((c.tc : Thread Cert.PostReferenceIdeal.nD Cert.PostReferenceIdeal.τ).loc Cert.PostReferenceIdeal.main_arg7)
      ∧ r.2.mem ((c.tc : Thread Cert.PostReferenceIdeal.nD Cert.PostReferenceIdeal.τ).loc Cert.PostReferenceIdeal.main_arg8) = m ((c.tc : Thread Cert.PostReferenceIdeal.nD Cert.PostReferenceIdeal.τ).loc Cert.PostReferenceIdeal.main_arg8))
      ∧ r.2.sem = fun _ => 0)

def quiescent_InWeightKernel [hInWeightKernel : Cert.InWeightKernel.Facts] : Prop :=
  ∀ (m : (ℓ : Loc Cert.InWeightKernel.nD Cert.InWeightKernel.τ Cert.InWeightKernel.sig) → Buf (Elt Bits) ℓ) (g : Dev Cert.InWeightKernel.nD → PrngReg), Pre_InWeightKernel m →
    θ_run (Cert.InWeightKernel.defs (F := Bits)) (onTc (τ := Cert.InWeightKernel.τ) (Cert.InWeightKernel.main (F := Bits))) ⟨m, fun _ => 0, g⟩ (fun r => (∀ c : Dev Cert.InWeightKernel.nD,
      r.2.mem ((c.tc : Thread Cert.InWeightKernel.nD Cert.InWeightKernel.τ).loc Cert.InWeightKernel.main_arg0) = m ((c.tc : Thread Cert.InWeightKernel.nD Cert.InWeightKernel.τ).loc Cert.InWeightKernel.main_arg0)
      ∧ r.2.mem ((c.tc : Thread Cert.InWeightKernel.nD Cert.InWeightKernel.τ).loc Cert.InWeightKernel.main_arg1) = m ((c.tc : Thread Cert.InWeightKernel.nD Cert.InWeightKernel.τ).loc Cert.InWeightKernel.main_arg1)
      ∧ r.2.mem ((c.tc : Thread Cert.InWeightKernel.nD Cert.InWeightKernel.τ).loc Cert.InWeightKernel.main_arg2) = m ((c.tc : Thread Cert.InWeightKernel.nD Cert.InWeightKernel.τ).loc Cert.InWeightKernel.main_arg2)
      ∧ r.2.mem ((c.tc : Thread Cert.InWeightKernel.nD Cert.InWeightKernel.τ).loc Cert.InWeightKernel.main_arg3) = m ((c.tc : Thread Cert.InWeightKernel.nD Cert.InWeightKernel.τ).loc Cert.InWeightKernel.main_arg3))
      ∧ r.2.sem = fun _ => 0)

def quiescent_InWeightKernelIdeal [hInWeightKernelIdeal : Cert.InWeightKernelIdeal.Facts] : Prop :=
  ∀ (m : (ℓ : Loc Cert.InWeightKernelIdeal.nD Cert.InWeightKernelIdeal.τ Cert.InWeightKernelIdeal.sig) → Buf (Elt Ideal) ℓ) (g : Dev Cert.InWeightKernelIdeal.nD → PrngReg), Pre_InWeightKernelIdeal m →
    θ_run (Cert.InWeightKernelIdeal.defs (F := Ideal)) (onTc (τ := Cert.InWeightKernelIdeal.τ) (Cert.InWeightKernelIdeal.main (F := Ideal))) ⟨m, fun _ => 0, g⟩ (fun r => (∀ c : Dev Cert.InWeightKernelIdeal.nD,
      r.2.mem ((c.tc : Thread Cert.InWeightKernelIdeal.nD Cert.InWeightKernelIdeal.τ).loc Cert.InWeightKernelIdeal.main_arg0) = m ((c.tc : Thread Cert.InWeightKernelIdeal.nD Cert.InWeightKernelIdeal.τ).loc Cert.InWeightKernelIdeal.main_arg0)
      ∧ r.2.mem ((c.tc : Thread Cert.InWeightKernelIdeal.nD Cert.InWeightKernelIdeal.τ).loc Cert.InWeightKernelIdeal.main_arg1) = m ((c.tc : Thread Cert.InWeightKernelIdeal.nD Cert.InWeightKernelIdeal.τ).loc Cert.InWeightKernelIdeal.main_arg1)
      ∧ r.2.mem ((c.tc : Thread Cert.InWeightKernelIdeal.nD Cert.InWeightKernelIdeal.τ).loc Cert.InWeightKernelIdeal.main_arg2) = m ((c.tc : Thread Cert.InWeightKernelIdeal.nD Cert.InWeightKernelIdeal.τ).loc Cert.InWeightKernelIdeal.main_arg2)
      ∧ r.2.mem ((c.tc : Thread Cert.InWeightKernelIdeal.nD Cert.InWeightKernelIdeal.τ).loc Cert.InWeightKernelIdeal.main_arg3) = m ((c.tc : Thread Cert.InWeightKernelIdeal.nD Cert.InWeightKernelIdeal.τ).loc Cert.InWeightKernelIdeal.main_arg3))
      ∧ r.2.sem = fun _ => 0)

def quiescent_InWeightReferenceIdeal [hInWeightReferenceIdeal : Cert.InWeightReferenceIdeal.Facts] : Prop :=
  ∀ (m : (ℓ : Loc Cert.InWeightReferenceIdeal.nD Cert.InWeightReferenceIdeal.τ Cert.InWeightReferenceIdeal.sig) → Buf (Elt Ideal) ℓ) (g : Dev Cert.InWeightReferenceIdeal.nD → PrngReg), Pre_InWeightReferenceIdeal m →
    θ_run (Cert.InWeightReferenceIdeal.defs (F := Ideal)) (onTc (τ := Cert.InWeightReferenceIdeal.τ) (Cert.InWeightReferenceIdeal.main (F := Ideal))) ⟨m, fun _ => 0, g⟩ (fun r => (∀ c : Dev Cert.InWeightReferenceIdeal.nD,
      r.2.mem ((c.tc : Thread Cert.InWeightReferenceIdeal.nD Cert.InWeightReferenceIdeal.τ).loc Cert.InWeightReferenceIdeal.main_arg0) = m ((c.tc : Thread Cert.InWeightReferenceIdeal.nD Cert.InWeightReferenceIdeal.τ).loc Cert.InWeightReferenceIdeal.main_arg0)
      ∧ r.2.mem ((c.tc : Thread Cert.InWeightReferenceIdeal.nD Cert.InWeightReferenceIdeal.τ).loc Cert.InWeightReferenceIdeal.main_arg1) = m ((c.tc : Thread Cert.InWeightReferenceIdeal.nD Cert.InWeightReferenceIdeal.τ).loc Cert.InWeightReferenceIdeal.main_arg1)
      ∧ r.2.mem ((c.tc : Thread Cert.InWeightReferenceIdeal.nD Cert.InWeightReferenceIdeal.τ).loc Cert.InWeightReferenceIdeal.main_arg2) = m ((c.tc : Thread Cert.InWeightReferenceIdeal.nD Cert.InWeightReferenceIdeal.τ).loc Cert.InWeightReferenceIdeal.main_arg2)
      ∧ r.2.mem ((c.tc : Thread Cert.InWeightReferenceIdeal.nD Cert.InWeightReferenceIdeal.τ).loc Cert.InWeightReferenceIdeal.main_arg3) = m ((c.tc : Thread Cert.InWeightReferenceIdeal.nD Cert.InWeightReferenceIdeal.τ).loc Cert.InWeightReferenceIdeal.main_arg3))
      ∧ r.2.sem = fun _ => 0)

def quiescent_SquareWeightKernel [hSquareWeightKernel : Cert.SquareWeightKernel.Facts] : Prop :=
  ∀ (m : (ℓ : Loc Cert.SquareWeightKernel.nD Cert.SquareWeightKernel.τ Cert.SquareWeightKernel.sig) → Buf (Elt Bits) ℓ) (g : Dev Cert.SquareWeightKernel.nD → PrngReg), Pre_SquareWeightKernel m →
    θ_run (Cert.SquareWeightKernel.defs (F := Bits)) (onTc (τ := Cert.SquareWeightKernel.τ) (Cert.SquareWeightKernel.main (F := Bits))) ⟨m, fun _ => 0, g⟩ (fun r => (∀ c : Dev Cert.SquareWeightKernel.nD,
      r.2.mem ((c.tc : Thread Cert.SquareWeightKernel.nD Cert.SquareWeightKernel.τ).loc Cert.SquareWeightKernel.main_arg0) = m ((c.tc : Thread Cert.SquareWeightKernel.nD Cert.SquareWeightKernel.τ).loc Cert.SquareWeightKernel.main_arg0)
      ∧ r.2.mem ((c.tc : Thread Cert.SquareWeightKernel.nD Cert.SquareWeightKernel.τ).loc Cert.SquareWeightKernel.main_arg1) = m ((c.tc : Thread Cert.SquareWeightKernel.nD Cert.SquareWeightKernel.τ).loc Cert.SquareWeightKernel.main_arg1)
      ∧ r.2.mem ((c.tc : Thread Cert.SquareWeightKernel.nD Cert.SquareWeightKernel.τ).loc Cert.SquareWeightKernel.main_arg2) = m ((c.tc : Thread Cert.SquareWeightKernel.nD Cert.SquareWeightKernel.τ).loc Cert.SquareWeightKernel.main_arg2)
      ∧ r.2.mem ((c.tc : Thread Cert.SquareWeightKernel.nD Cert.SquareWeightKernel.τ).loc Cert.SquareWeightKernel.main_arg3) = m ((c.tc : Thread Cert.SquareWeightKernel.nD Cert.SquareWeightKernel.τ).loc Cert.SquareWeightKernel.main_arg3))
      ∧ r.2.sem = fun _ => 0)

def quiescent_SquareWeightKernelIdeal [hSquareWeightKernelIdeal : Cert.SquareWeightKernelIdeal.Facts] : Prop :=
  ∀ (m : (ℓ : Loc Cert.SquareWeightKernelIdeal.nD Cert.SquareWeightKernelIdeal.τ Cert.SquareWeightKernelIdeal.sig) → Buf (Elt Ideal) ℓ) (g : Dev Cert.SquareWeightKernelIdeal.nD → PrngReg), Pre_SquareWeightKernelIdeal m →
    θ_run (Cert.SquareWeightKernelIdeal.defs (F := Ideal)) (onTc (τ := Cert.SquareWeightKernelIdeal.τ) (Cert.SquareWeightKernelIdeal.main (F := Ideal))) ⟨m, fun _ => 0, g⟩ (fun r => (∀ c : Dev Cert.SquareWeightKernelIdeal.nD,
      r.2.mem ((c.tc : Thread Cert.SquareWeightKernelIdeal.nD Cert.SquareWeightKernelIdeal.τ).loc Cert.SquareWeightKernelIdeal.main_arg0) = m ((c.tc : Thread Cert.SquareWeightKernelIdeal.nD Cert.SquareWeightKernelIdeal.τ).loc Cert.SquareWeightKernelIdeal.main_arg0)
      ∧ r.2.mem ((c.tc : Thread Cert.SquareWeightKernelIdeal.nD Cert.SquareWeightKernelIdeal.τ).loc Cert.SquareWeightKernelIdeal.main_arg1) = m ((c.tc : Thread Cert.SquareWeightKernelIdeal.nD Cert.SquareWeightKernelIdeal.τ).loc Cert.SquareWeightKernelIdeal.main_arg1)
      ∧ r.2.mem ((c.tc : Thread Cert.SquareWeightKernelIdeal.nD Cert.SquareWeightKernelIdeal.τ).loc Cert.SquareWeightKernelIdeal.main_arg2) = m ((c.tc : Thread Cert.SquareWeightKernelIdeal.nD Cert.SquareWeightKernelIdeal.τ).loc Cert.SquareWeightKernelIdeal.main_arg2)
      ∧ r.2.mem ((c.tc : Thread Cert.SquareWeightKernelIdeal.nD Cert.SquareWeightKernelIdeal.τ).loc Cert.SquareWeightKernelIdeal.main_arg3) = m ((c.tc : Thread Cert.SquareWeightKernelIdeal.nD Cert.SquareWeightKernelIdeal.τ).loc Cert.SquareWeightKernelIdeal.main_arg3))
      ∧ r.2.sem = fun _ => 0)

def quiescent_SquareWeightReferenceIdeal [hSquareWeightReferenceIdeal : Cert.SquareWeightReferenceIdeal.Facts] : Prop :=
  ∀ (m : (ℓ : Loc Cert.SquareWeightReferenceIdeal.nD Cert.SquareWeightReferenceIdeal.τ Cert.SquareWeightReferenceIdeal.sig) → Buf (Elt Ideal) ℓ) (g : Dev Cert.SquareWeightReferenceIdeal.nD → PrngReg), Pre_SquareWeightReferenceIdeal m →
    θ_run (Cert.SquareWeightReferenceIdeal.defs (F := Ideal)) (onTc (τ := Cert.SquareWeightReferenceIdeal.τ) (Cert.SquareWeightReferenceIdeal.main (F := Ideal))) ⟨m, fun _ => 0, g⟩ (fun r => (∀ c : Dev Cert.SquareWeightReferenceIdeal.nD,
      r.2.mem ((c.tc : Thread Cert.SquareWeightReferenceIdeal.nD Cert.SquareWeightReferenceIdeal.τ).loc Cert.SquareWeightReferenceIdeal.main_arg0) = m ((c.tc : Thread Cert.SquareWeightReferenceIdeal.nD Cert.SquareWeightReferenceIdeal.τ).loc Cert.SquareWeightReferenceIdeal.main_arg0)
      ∧ r.2.mem ((c.tc : Thread Cert.SquareWeightReferenceIdeal.nD Cert.SquareWeightReferenceIdeal.τ).loc Cert.SquareWeightReferenceIdeal.main_arg1) = m ((c.tc : Thread Cert.SquareWeightReferenceIdeal.nD Cert.SquareWeightReferenceIdeal.τ).loc Cert.SquareWeightReferenceIdeal.main_arg1)
      ∧ r.2.mem ((c.tc : Thread Cert.SquareWeightReferenceIdeal.nD Cert.SquareWeightReferenceIdeal.τ).loc Cert.SquareWeightReferenceIdeal.main_arg2) = m ((c.tc : Thread Cert.SquareWeightReferenceIdeal.nD Cert.SquareWeightReferenceIdeal.τ).loc Cert.SquareWeightReferenceIdeal.main_arg2)
      ∧ r.2.mem ((c.tc : Thread Cert.SquareWeightReferenceIdeal.nD Cert.SquareWeightReferenceIdeal.τ).loc Cert.SquareWeightReferenceIdeal.main_arg3) = m ((c.tc : Thread Cert.SquareWeightReferenceIdeal.nD Cert.SquareWeightReferenceIdeal.τ).loc Cert.SquareWeightReferenceIdeal.main_arg3))
      ∧ r.2.sem = fun _ => 0)

def quiescent_AttnWeightKernel [hAttnWeightKernel : Cert.AttnWeightKernel.Facts] : Prop :=
  ∀ (m : (ℓ : Loc Cert.AttnWeightKernel.nD Cert.AttnWeightKernel.τ Cert.AttnWeightKernel.sig) → Buf (Elt Bits) ℓ) (g : Dev Cert.AttnWeightKernel.nD → PrngReg), Pre_AttnWeightKernel m →
    θ_run (Cert.AttnWeightKernel.defs (F := Bits)) (onTc (τ := Cert.AttnWeightKernel.τ) (Cert.AttnWeightKernel.main (F := Bits))) ⟨m, fun _ => 0, g⟩ (fun r => (∀ c : Dev Cert.AttnWeightKernel.nD,
      r.2.mem ((c.tc : Thread Cert.AttnWeightKernel.nD Cert.AttnWeightKernel.τ).loc Cert.AttnWeightKernel.main_arg0) = m ((c.tc : Thread Cert.AttnWeightKernel.nD Cert.AttnWeightKernel.τ).loc Cert.AttnWeightKernel.main_arg0)
      ∧ r.2.mem ((c.tc : Thread Cert.AttnWeightKernel.nD Cert.AttnWeightKernel.τ).loc Cert.AttnWeightKernel.main_arg1) = m ((c.tc : Thread Cert.AttnWeightKernel.nD Cert.AttnWeightKernel.τ).loc Cert.AttnWeightKernel.main_arg1)
      ∧ r.2.mem ((c.tc : Thread Cert.AttnWeightKernel.nD Cert.AttnWeightKernel.τ).loc Cert.AttnWeightKernel.main_arg2) = m ((c.tc : Thread Cert.AttnWeightKernel.nD Cert.AttnWeightKernel.τ).loc Cert.AttnWeightKernel.main_arg2)
      ∧ r.2.mem ((c.tc : Thread Cert.AttnWeightKernel.nD Cert.AttnWeightKernel.τ).loc Cert.AttnWeightKernel.main_arg3) = m ((c.tc : Thread Cert.AttnWeightKernel.nD Cert.AttnWeightKernel.τ).loc Cert.AttnWeightKernel.main_arg3))
      ∧ r.2.sem = fun _ => 0)

def quiescent_AttnWeightKernelIdeal [hAttnWeightKernelIdeal : Cert.AttnWeightKernelIdeal.Facts] : Prop :=
  ∀ (m : (ℓ : Loc Cert.AttnWeightKernelIdeal.nD Cert.AttnWeightKernelIdeal.τ Cert.AttnWeightKernelIdeal.sig) → Buf (Elt Ideal) ℓ) (g : Dev Cert.AttnWeightKernelIdeal.nD → PrngReg), Pre_AttnWeightKernelIdeal m →
    θ_run (Cert.AttnWeightKernelIdeal.defs (F := Ideal)) (onTc (τ := Cert.AttnWeightKernelIdeal.τ) (Cert.AttnWeightKernelIdeal.main (F := Ideal))) ⟨m, fun _ => 0, g⟩ (fun r => (∀ c : Dev Cert.AttnWeightKernelIdeal.nD,
      r.2.mem ((c.tc : Thread Cert.AttnWeightKernelIdeal.nD Cert.AttnWeightKernelIdeal.τ).loc Cert.AttnWeightKernelIdeal.main_arg0) = m ((c.tc : Thread Cert.AttnWeightKernelIdeal.nD Cert.AttnWeightKernelIdeal.τ).loc Cert.AttnWeightKernelIdeal.main_arg0)
      ∧ r.2.mem ((c.tc : Thread Cert.AttnWeightKernelIdeal.nD Cert.AttnWeightKernelIdeal.τ).loc Cert.AttnWeightKernelIdeal.main_arg1) = m ((c.tc : Thread Cert.AttnWeightKernelIdeal.nD Cert.AttnWeightKernelIdeal.τ).loc Cert.AttnWeightKernelIdeal.main_arg1)
      ∧ r.2.mem ((c.tc : Thread Cert.AttnWeightKernelIdeal.nD Cert.AttnWeightKernelIdeal.τ).loc Cert.AttnWeightKernelIdeal.main_arg2) = m ((c.tc : Thread Cert.AttnWeightKernelIdeal.nD Cert.AttnWeightKernelIdeal.τ).loc Cert.AttnWeightKernelIdeal.main_arg2)
      ∧ r.2.mem ((c.tc : Thread Cert.AttnWeightKernelIdeal.nD Cert.AttnWeightKernelIdeal.τ).loc Cert.AttnWeightKernelIdeal.main_arg3) = m ((c.tc : Thread Cert.AttnWeightKernelIdeal.nD Cert.AttnWeightKernelIdeal.τ).loc Cert.AttnWeightKernelIdeal.main_arg3))
      ∧ r.2.sem = fun _ => 0)

def quiescent_AttnWeightReferenceIdeal [hAttnWeightReferenceIdeal : Cert.AttnWeightReferenceIdeal.Facts] : Prop :=
  ∀ (m : (ℓ : Loc Cert.AttnWeightReferenceIdeal.nD Cert.AttnWeightReferenceIdeal.τ Cert.AttnWeightReferenceIdeal.sig) → Buf (Elt Ideal) ℓ) (g : Dev Cert.AttnWeightReferenceIdeal.nD → PrngReg), Pre_AttnWeightReferenceIdeal m →
    θ_run (Cert.AttnWeightReferenceIdeal.defs (F := Ideal)) (onTc (τ := Cert.AttnWeightReferenceIdeal.τ) (Cert.AttnWeightReferenceIdeal.main (F := Ideal))) ⟨m, fun _ => 0, g⟩ (fun r => (∀ c : Dev Cert.AttnWeightReferenceIdeal.nD,
      r.2.mem ((c.tc : Thread Cert.AttnWeightReferenceIdeal.nD Cert.AttnWeightReferenceIdeal.τ).loc Cert.AttnWeightReferenceIdeal.main_arg0) = m ((c.tc : Thread Cert.AttnWeightReferenceIdeal.nD Cert.AttnWeightReferenceIdeal.τ).loc Cert.AttnWeightReferenceIdeal.main_arg0)
      ∧ r.2.mem ((c.tc : Thread Cert.AttnWeightReferenceIdeal.nD Cert.AttnWeightReferenceIdeal.τ).loc Cert.AttnWeightReferenceIdeal.main_arg1) = m ((c.tc : Thread Cert.AttnWeightReferenceIdeal.nD Cert.AttnWeightReferenceIdeal.τ).loc Cert.AttnWeightReferenceIdeal.main_arg1)
      ∧ r.2.mem ((c.tc : Thread Cert.AttnWeightReferenceIdeal.nD Cert.AttnWeightReferenceIdeal.τ).loc Cert.AttnWeightReferenceIdeal.main_arg2) = m ((c.tc : Thread Cert.AttnWeightReferenceIdeal.nD Cert.AttnWeightReferenceIdeal.τ).loc Cert.AttnWeightReferenceIdeal.main_arg2)
      ∧ r.2.mem ((c.tc : Thread Cert.AttnWeightReferenceIdeal.nD Cert.AttnWeightReferenceIdeal.τ).loc Cert.AttnWeightReferenceIdeal.main_arg3) = m ((c.tc : Thread Cert.AttnWeightReferenceIdeal.nD Cert.AttnWeightReferenceIdeal.τ).loc Cert.AttnWeightReferenceIdeal.main_arg3))
      ∧ r.2.sem = fun _ => 0)

def quiescent_ModWeightKernel [hModWeightKernel : Cert.ModWeightKernel.Facts] : Prop :=
  ∀ (m : (ℓ : Loc Cert.ModWeightKernel.nD Cert.ModWeightKernel.τ Cert.ModWeightKernel.sig) → Buf (Elt Bits) ℓ) (g : Dev Cert.ModWeightKernel.nD → PrngReg), Pre_ModWeightKernel m →
    θ_run (Cert.ModWeightKernel.defs (F := Bits)) (onTc (τ := Cert.ModWeightKernel.τ) (Cert.ModWeightKernel.main (F := Bits))) ⟨m, fun _ => 0, g⟩ (fun r => (∀ c : Dev Cert.ModWeightKernel.nD,
      r.2.mem ((c.tc : Thread Cert.ModWeightKernel.nD Cert.ModWeightKernel.τ).loc Cert.ModWeightKernel.main_arg0) = m ((c.tc : Thread Cert.ModWeightKernel.nD Cert.ModWeightKernel.τ).loc Cert.ModWeightKernel.main_arg0)
      ∧ r.2.mem ((c.tc : Thread Cert.ModWeightKernel.nD Cert.ModWeightKernel.τ).loc Cert.ModWeightKernel.main_arg1) = m ((c.tc : Thread Cert.ModWeightKernel.nD Cert.ModWeightKernel.τ).loc Cert.ModWeightKernel.main_arg1)
      ∧ r.2.mem ((c.tc : Thread Cert.ModWeightKernel.nD Cert.ModWeightKernel.τ).loc Cert.ModWeightKernel.main_arg2) = m ((c.tc : Thread Cert.ModWeightKernel.nD Cert.ModWeightKernel.τ).loc Cert.ModWeightKernel.main_arg2)
      ∧ r.2.mem ((c.tc : Thread Cert.ModWeightKernel.nD Cert.ModWeightKernel.τ).loc Cert.ModWeightKernel.main_arg3) = m ((c.tc : Thread Cert.ModWeightKernel.nD Cert.ModWeightKernel.τ).loc Cert.ModWeightKernel.main_arg3))
      ∧ r.2.sem = fun _ => 0)

def quiescent_ModWeightKernelIdeal [hModWeightKernelIdeal : Cert.ModWeightKernelIdeal.Facts] : Prop :=
  ∀ (m : (ℓ : Loc Cert.ModWeightKernelIdeal.nD Cert.ModWeightKernelIdeal.τ Cert.ModWeightKernelIdeal.sig) → Buf (Elt Ideal) ℓ) (g : Dev Cert.ModWeightKernelIdeal.nD → PrngReg), Pre_ModWeightKernelIdeal m →
    θ_run (Cert.ModWeightKernelIdeal.defs (F := Ideal)) (onTc (τ := Cert.ModWeightKernelIdeal.τ) (Cert.ModWeightKernelIdeal.main (F := Ideal))) ⟨m, fun _ => 0, g⟩ (fun r => (∀ c : Dev Cert.ModWeightKernelIdeal.nD,
      r.2.mem ((c.tc : Thread Cert.ModWeightKernelIdeal.nD Cert.ModWeightKernelIdeal.τ).loc Cert.ModWeightKernelIdeal.main_arg0) = m ((c.tc : Thread Cert.ModWeightKernelIdeal.nD Cert.ModWeightKernelIdeal.τ).loc Cert.ModWeightKernelIdeal.main_arg0)
      ∧ r.2.mem ((c.tc : Thread Cert.ModWeightKernelIdeal.nD Cert.ModWeightKernelIdeal.τ).loc Cert.ModWeightKernelIdeal.main_arg1) = m ((c.tc : Thread Cert.ModWeightKernelIdeal.nD Cert.ModWeightKernelIdeal.τ).loc Cert.ModWeightKernelIdeal.main_arg1)
      ∧ r.2.mem ((c.tc : Thread Cert.ModWeightKernelIdeal.nD Cert.ModWeightKernelIdeal.τ).loc Cert.ModWeightKernelIdeal.main_arg2) = m ((c.tc : Thread Cert.ModWeightKernelIdeal.nD Cert.ModWeightKernelIdeal.τ).loc Cert.ModWeightKernelIdeal.main_arg2)
      ∧ r.2.mem ((c.tc : Thread Cert.ModWeightKernelIdeal.nD Cert.ModWeightKernelIdeal.τ).loc Cert.ModWeightKernelIdeal.main_arg3) = m ((c.tc : Thread Cert.ModWeightKernelIdeal.nD Cert.ModWeightKernelIdeal.τ).loc Cert.ModWeightKernelIdeal.main_arg3))
      ∧ r.2.sem = fun _ => 0)

def quiescent_ModWeightReferenceIdeal [hModWeightReferenceIdeal : Cert.ModWeightReferenceIdeal.Facts] : Prop :=
  ∀ (m : (ℓ : Loc Cert.ModWeightReferenceIdeal.nD Cert.ModWeightReferenceIdeal.τ Cert.ModWeightReferenceIdeal.sig) → Buf (Elt Ideal) ℓ) (g : Dev Cert.ModWeightReferenceIdeal.nD → PrngReg), Pre_ModWeightReferenceIdeal m →
    θ_run (Cert.ModWeightReferenceIdeal.defs (F := Ideal)) (onTc (τ := Cert.ModWeightReferenceIdeal.τ) (Cert.ModWeightReferenceIdeal.main (F := Ideal))) ⟨m, fun _ => 0, g⟩ (fun r => (∀ c : Dev Cert.ModWeightReferenceIdeal.nD,
      r.2.mem ((c.tc : Thread Cert.ModWeightReferenceIdeal.nD Cert.ModWeightReferenceIdeal.τ).loc Cert.ModWeightReferenceIdeal.main_arg0) = m ((c.tc : Thread Cert.ModWeightReferenceIdeal.nD Cert.ModWeightReferenceIdeal.τ).loc Cert.ModWeightReferenceIdeal.main_arg0)
      ∧ r.2.mem ((c.tc : Thread Cert.ModWeightReferenceIdeal.nD Cert.ModWeightReferenceIdeal.τ).loc Cert.ModWeightReferenceIdeal.main_arg1) = m ((c.tc : Thread Cert.ModWeightReferenceIdeal.nD Cert.ModWeightReferenceIdeal.τ).loc Cert.ModWeightReferenceIdeal.main_arg1)
      ∧ r.2.mem ((c.tc : Thread Cert.ModWeightReferenceIdeal.nD Cert.ModWeightReferenceIdeal.τ).loc Cert.ModWeightReferenceIdeal.main_arg2) = m ((c.tc : Thread Cert.ModWeightReferenceIdeal.nD Cert.ModWeightReferenceIdeal.τ).loc Cert.ModWeightReferenceIdeal.main_arg2)
      ∧ r.2.mem ((c.tc : Thread Cert.ModWeightReferenceIdeal.nD Cert.ModWeightReferenceIdeal.τ).loc Cert.ModWeightReferenceIdeal.main_arg3) = m ((c.tc : Thread Cert.ModWeightReferenceIdeal.nD Cert.ModWeightReferenceIdeal.τ).loc Cert.ModWeightReferenceIdeal.main_arg3))
      ∧ r.2.sem = fun _ => 0)

def quiescent_SmallWeightKernel [hSmallWeightKernel : Cert.SmallWeightKernel.Facts] : Prop :=
  ∀ (m : (ℓ : Loc Cert.SmallWeightKernel.nD Cert.SmallWeightKernel.τ Cert.SmallWeightKernel.sig) → Buf (Elt Bits) ℓ) (g : Dev Cert.SmallWeightKernel.nD → PrngReg), Pre_SmallWeightKernel m →
    θ_run (Cert.SmallWeightKernel.defs (F := Bits)) (onTc (τ := Cert.SmallWeightKernel.τ) (Cert.SmallWeightKernel.main (F := Bits))) ⟨m, fun _ => 0, g⟩ (fun r => (∀ c : Dev Cert.SmallWeightKernel.nD,
      r.2.mem ((c.tc : Thread Cert.SmallWeightKernel.nD Cert.SmallWeightKernel.τ).loc Cert.SmallWeightKernel.main_arg0) = m ((c.tc : Thread Cert.SmallWeightKernel.nD Cert.SmallWeightKernel.τ).loc Cert.SmallWeightKernel.main_arg0)
      ∧ r.2.mem ((c.tc : Thread Cert.SmallWeightKernel.nD Cert.SmallWeightKernel.τ).loc Cert.SmallWeightKernel.main_arg1) = m ((c.tc : Thread Cert.SmallWeightKernel.nD Cert.SmallWeightKernel.τ).loc Cert.SmallWeightKernel.main_arg1)
      ∧ r.2.mem ((c.tc : Thread Cert.SmallWeightKernel.nD Cert.SmallWeightKernel.τ).loc Cert.SmallWeightKernel.main_arg2) = m ((c.tc : Thread Cert.SmallWeightKernel.nD Cert.SmallWeightKernel.τ).loc Cert.SmallWeightKernel.main_arg2)
      ∧ r.2.mem ((c.tc : Thread Cert.SmallWeightKernel.nD Cert.SmallWeightKernel.τ).loc Cert.SmallWeightKernel.main_arg3) = m ((c.tc : Thread Cert.SmallWeightKernel.nD Cert.SmallWeightKernel.τ).loc Cert.SmallWeightKernel.main_arg3))
      ∧ r.2.sem = fun _ => 0)

def quiescent_SmallWeightKernelIdeal [hSmallWeightKernelIdeal : Cert.SmallWeightKernelIdeal.Facts] : Prop :=
  ∀ (m : (ℓ : Loc Cert.SmallWeightKernelIdeal.nD Cert.SmallWeightKernelIdeal.τ Cert.SmallWeightKernelIdeal.sig) → Buf (Elt Ideal) ℓ) (g : Dev Cert.SmallWeightKernelIdeal.nD → PrngReg), Pre_SmallWeightKernelIdeal m →
    θ_run (Cert.SmallWeightKernelIdeal.defs (F := Ideal)) (onTc (τ := Cert.SmallWeightKernelIdeal.τ) (Cert.SmallWeightKernelIdeal.main (F := Ideal))) ⟨m, fun _ => 0, g⟩ (fun r => (∀ c : Dev Cert.SmallWeightKernelIdeal.nD,
      r.2.mem ((c.tc : Thread Cert.SmallWeightKernelIdeal.nD Cert.SmallWeightKernelIdeal.τ).loc Cert.SmallWeightKernelIdeal.main_arg0) = m ((c.tc : Thread Cert.SmallWeightKernelIdeal.nD Cert.SmallWeightKernelIdeal.τ).loc Cert.SmallWeightKernelIdeal.main_arg0)
      ∧ r.2.mem ((c.tc : Thread Cert.SmallWeightKernelIdeal.nD Cert.SmallWeightKernelIdeal.τ).loc Cert.SmallWeightKernelIdeal.main_arg1) = m ((c.tc : Thread Cert.SmallWeightKernelIdeal.nD Cert.SmallWeightKernelIdeal.τ).loc Cert.SmallWeightKernelIdeal.main_arg1)
      ∧ r.2.mem ((c.tc : Thread Cert.SmallWeightKernelIdeal.nD Cert.SmallWeightKernelIdeal.τ).loc Cert.SmallWeightKernelIdeal.main_arg2) = m ((c.tc : Thread Cert.SmallWeightKernelIdeal.nD Cert.SmallWeightKernelIdeal.τ).loc Cert.SmallWeightKernelIdeal.main_arg2)
      ∧ r.2.mem ((c.tc : Thread Cert.SmallWeightKernelIdeal.nD Cert.SmallWeightKernelIdeal.τ).loc Cert.SmallWeightKernelIdeal.main_arg3) = m ((c.tc : Thread Cert.SmallWeightKernelIdeal.nD Cert.SmallWeightKernelIdeal.τ).loc Cert.SmallWeightKernelIdeal.main_arg3))
      ∧ r.2.sem = fun _ => 0)

def quiescent_SmallWeightReferenceIdeal [hSmallWeightReferenceIdeal : Cert.SmallWeightReferenceIdeal.Facts] : Prop :=
  ∀ (m : (ℓ : Loc Cert.SmallWeightReferenceIdeal.nD Cert.SmallWeightReferenceIdeal.τ Cert.SmallWeightReferenceIdeal.sig) → Buf (Elt Ideal) ℓ) (g : Dev Cert.SmallWeightReferenceIdeal.nD → PrngReg), Pre_SmallWeightReferenceIdeal m →
    θ_run (Cert.SmallWeightReferenceIdeal.defs (F := Ideal)) (onTc (τ := Cert.SmallWeightReferenceIdeal.τ) (Cert.SmallWeightReferenceIdeal.main (F := Ideal))) ⟨m, fun _ => 0, g⟩ (fun r => (∀ c : Dev Cert.SmallWeightReferenceIdeal.nD,
      r.2.mem ((c.tc : Thread Cert.SmallWeightReferenceIdeal.nD Cert.SmallWeightReferenceIdeal.τ).loc Cert.SmallWeightReferenceIdeal.main_arg0) = m ((c.tc : Thread Cert.SmallWeightReferenceIdeal.nD Cert.SmallWeightReferenceIdeal.τ).loc Cert.SmallWeightReferenceIdeal.main_arg0)
      ∧ r.2.mem ((c.tc : Thread Cert.SmallWeightReferenceIdeal.nD Cert.SmallWeightReferenceIdeal.τ).loc Cert.SmallWeightReferenceIdeal.main_arg1) = m ((c.tc : Thread Cert.SmallWeightReferenceIdeal.nD Cert.SmallWeightReferenceIdeal.τ).loc Cert.SmallWeightReferenceIdeal.main_arg1)
      ∧ r.2.mem ((c.tc : Thread Cert.SmallWeightReferenceIdeal.nD Cert.SmallWeightReferenceIdeal.τ).loc Cert.SmallWeightReferenceIdeal.main_arg2) = m ((c.tc : Thread Cert.SmallWeightReferenceIdeal.nD Cert.SmallWeightReferenceIdeal.τ).loc Cert.SmallWeightReferenceIdeal.main_arg2)
      ∧ r.2.mem ((c.tc : Thread Cert.SmallWeightReferenceIdeal.nD Cert.SmallWeightReferenceIdeal.τ).loc Cert.SmallWeightReferenceIdeal.main_arg3) = m ((c.tc : Thread Cert.SmallWeightReferenceIdeal.nD Cert.SmallWeightReferenceIdeal.τ).loc Cert.SmallWeightReferenceIdeal.main_arg3))
      ∧ r.2.sem = fun _ => 0)

def quiescent_SumKernel [hSumKernel : Cert.SumKernel.Facts] : Prop :=
  ∀ (m : (ℓ : Loc Cert.SumKernel.nD Cert.SumKernel.τ Cert.SumKernel.sig) → Buf (Elt Bits) ℓ) (g : Dev Cert.SumKernel.nD → PrngReg), Pre_SumKernel m →
    θ_run (Cert.SumKernel.defs (F := Bits)) (onTc (τ := Cert.SumKernel.τ) (Cert.SumKernel.main (F := Bits))) ⟨m, fun _ => 0, g⟩ (fun r => (∀ c : Dev Cert.SumKernel.nD,
      r.2.mem ((c.tc : Thread Cert.SumKernel.nD Cert.SumKernel.τ).loc Cert.SumKernel.main_arg0) = m ((c.tc : Thread Cert.SumKernel.nD Cert.SumKernel.τ).loc Cert.SumKernel.main_arg0))
      ∧ r.2.sem = fun _ => 0)

def quiescent_SumKernelIdeal [hSumKernelIdeal : Cert.SumKernelIdeal.Facts] : Prop :=
  ∀ (m : (ℓ : Loc Cert.SumKernelIdeal.nD Cert.SumKernelIdeal.τ Cert.SumKernelIdeal.sig) → Buf (Elt Ideal) ℓ) (g : Dev Cert.SumKernelIdeal.nD → PrngReg), Pre_SumKernelIdeal m →
    θ_run (Cert.SumKernelIdeal.defs (F := Ideal)) (onTc (τ := Cert.SumKernelIdeal.τ) (Cert.SumKernelIdeal.main (F := Ideal))) ⟨m, fun _ => 0, g⟩ (fun r => (∀ c : Dev Cert.SumKernelIdeal.nD,
      r.2.mem ((c.tc : Thread Cert.SumKernelIdeal.nD Cert.SumKernelIdeal.τ).loc Cert.SumKernelIdeal.main_arg0) = m ((c.tc : Thread Cert.SumKernelIdeal.nD Cert.SumKernelIdeal.τ).loc Cert.SumKernelIdeal.main_arg0))
      ∧ r.2.sem = fun _ => 0)

def quiescent_SumReferenceIdeal [hSumReferenceIdeal : Cert.SumReferenceIdeal.Facts] : Prop :=
  ∀ (m : (ℓ : Loc Cert.SumReferenceIdeal.nD Cert.SumReferenceIdeal.τ Cert.SumReferenceIdeal.sig) → Buf (Elt Ideal) ℓ) (g : Dev Cert.SumReferenceIdeal.nD → PrngReg), Pre_SumReferenceIdeal m →
    θ_run (Cert.SumReferenceIdeal.defs (F := Ideal)) (onTc (τ := Cert.SumReferenceIdeal.τ) (Cert.SumReferenceIdeal.main (F := Ideal))) ⟨m, fun _ => 0, g⟩ (fun r => (∀ c : Dev Cert.SumReferenceIdeal.nD,
      r.2.mem ((c.tc : Thread Cert.SumReferenceIdeal.nD Cert.SumReferenceIdeal.τ).loc Cert.SumReferenceIdeal.main_arg0) = m ((c.tc : Thread Cert.SumReferenceIdeal.nD Cert.SumReferenceIdeal.τ).loc Cert.SumReferenceIdeal.main_arg0))
      ∧ r.2.sem = fun _ => 0)

def quiescent_ModKernel [hModKernel : Cert.ModKernel.Facts] : Prop :=
  ∀ (m : (ℓ : Loc Cert.ModKernel.nD Cert.ModKernel.τ Cert.ModKernel.sig) → Buf (Elt Bits) ℓ) (g : Dev Cert.ModKernel.nD → PrngReg), Pre_ModKernel m →
    θ_run (Cert.ModKernel.defs (F := Bits)) (onTc (τ := Cert.ModKernel.τ) (Cert.ModKernel.main (F := Bits))) ⟨m, fun _ => 0, g⟩ (fun r => (∀ c : Dev Cert.ModKernel.nD,
      r.2.mem ((c.tc : Thread Cert.ModKernel.nD Cert.ModKernel.τ).loc Cert.ModKernel.main_arg0) = m ((c.tc : Thread Cert.ModKernel.nD Cert.ModKernel.τ).loc Cert.ModKernel.main_arg0)
      ∧ r.2.mem ((c.tc : Thread Cert.ModKernel.nD Cert.ModKernel.τ).loc Cert.ModKernel.main_arg1) = m ((c.tc : Thread Cert.ModKernel.nD Cert.ModKernel.τ).loc Cert.ModKernel.main_arg1)
      ∧ r.2.mem ((c.tc : Thread Cert.ModKernel.nD Cert.ModKernel.τ).loc Cert.ModKernel.main_arg2) = m ((c.tc : Thread Cert.ModKernel.nD Cert.ModKernel.τ).loc Cert.ModKernel.main_arg2))
      ∧ r.2.sem = fun _ => 0)

def quiescent_ModKernelIdeal [hModKernelIdeal : Cert.ModKernelIdeal.Facts] : Prop :=
  ∀ (m : (ℓ : Loc Cert.ModKernelIdeal.nD Cert.ModKernelIdeal.τ Cert.ModKernelIdeal.sig) → Buf (Elt Ideal) ℓ) (g : Dev Cert.ModKernelIdeal.nD → PrngReg), Pre_ModKernelIdeal m →
    θ_run (Cert.ModKernelIdeal.defs (F := Ideal)) (onTc (τ := Cert.ModKernelIdeal.τ) (Cert.ModKernelIdeal.main (F := Ideal))) ⟨m, fun _ => 0, g⟩ (fun r => (∀ c : Dev Cert.ModKernelIdeal.nD,
      r.2.mem ((c.tc : Thread Cert.ModKernelIdeal.nD Cert.ModKernelIdeal.τ).loc Cert.ModKernelIdeal.main_arg0) = m ((c.tc : Thread Cert.ModKernelIdeal.nD Cert.ModKernelIdeal.τ).loc Cert.ModKernelIdeal.main_arg0)
      ∧ r.2.mem ((c.tc : Thread Cert.ModKernelIdeal.nD Cert.ModKernelIdeal.τ).loc Cert.ModKernelIdeal.main_arg1) = m ((c.tc : Thread Cert.ModKernelIdeal.nD Cert.ModKernelIdeal.τ).loc Cert.ModKernelIdeal.main_arg1)
      ∧ r.2.mem ((c.tc : Thread Cert.ModKernelIdeal.nD Cert.ModKernelIdeal.τ).loc Cert.ModKernelIdeal.main_arg2) = m ((c.tc : Thread Cert.ModKernelIdeal.nD Cert.ModKernelIdeal.τ).loc Cert.ModKernelIdeal.main_arg2))
      ∧ r.2.sem = fun _ => 0)

def quiescent_ModReferenceIdeal [hModReferenceIdeal : Cert.ModReferenceIdeal.Facts] : Prop :=
  ∀ (m : (ℓ : Loc Cert.ModReferenceIdeal.nD Cert.ModReferenceIdeal.τ Cert.ModReferenceIdeal.sig) → Buf (Elt Ideal) ℓ) (g : Dev Cert.ModReferenceIdeal.nD → PrngReg), Pre_ModReferenceIdeal m →
    θ_run (Cert.ModReferenceIdeal.defs (F := Ideal)) (onTc (τ := Cert.ModReferenceIdeal.τ) (Cert.ModReferenceIdeal.main (F := Ideal))) ⟨m, fun _ => 0, g⟩ (fun r => (∀ c : Dev Cert.ModReferenceIdeal.nD,
      r.2.mem ((c.tc : Thread Cert.ModReferenceIdeal.nD Cert.ModReferenceIdeal.τ).loc Cert.ModReferenceIdeal.main_arg0) = m ((c.tc : Thread Cert.ModReferenceIdeal.nD Cert.ModReferenceIdeal.τ).loc Cert.ModReferenceIdeal.main_arg0)
      ∧ r.2.mem ((c.tc : Thread Cert.ModReferenceIdeal.nD Cert.ModReferenceIdeal.τ).loc Cert.ModReferenceIdeal.main_arg1) = m ((c.tc : Thread Cert.ModReferenceIdeal.nD Cert.ModReferenceIdeal.τ).loc Cert.ModReferenceIdeal.main_arg1)
      ∧ r.2.mem ((c.tc : Thread Cert.ModReferenceIdeal.nD Cert.ModReferenceIdeal.τ).loc Cert.ModReferenceIdeal.main_arg2) = m ((c.tc : Thread Cert.ModReferenceIdeal.nD Cert.ModReferenceIdeal.τ).loc Cert.ModReferenceIdeal.main_arg2))
      ∧ r.2.sem = fun _ => 0)

def quiescent_ModGradKernel [hModGradKernel : Cert.ModGradKernel.Facts] : Prop :=
  ∀ (m : (ℓ : Loc Cert.ModGradKernel.nD Cert.ModGradKernel.τ Cert.ModGradKernel.sig) → Buf (Elt Bits) ℓ) (g : Dev Cert.ModGradKernel.nD → PrngReg), Pre_ModGradKernel m →
    θ_run (Cert.ModGradKernel.defs (F := Bits)) (onTc (τ := Cert.ModGradKernel.τ) (Cert.ModGradKernel.main (F := Bits))) ⟨m, fun _ => 0, g⟩ (fun r => (∀ c : Dev Cert.ModGradKernel.nD,
      r.2.mem ((c.tc : Thread Cert.ModGradKernel.nD Cert.ModGradKernel.τ).loc Cert.ModGradKernel.main_arg0) = m ((c.tc : Thread Cert.ModGradKernel.nD Cert.ModGradKernel.τ).loc Cert.ModGradKernel.main_arg0)
      ∧ r.2.mem ((c.tc : Thread Cert.ModGradKernel.nD Cert.ModGradKernel.τ).loc Cert.ModGradKernel.main_arg1) = m ((c.tc : Thread Cert.ModGradKernel.nD Cert.ModGradKernel.τ).loc Cert.ModGradKernel.main_arg1)
      ∧ r.2.mem ((c.tc : Thread Cert.ModGradKernel.nD Cert.ModGradKernel.τ).loc Cert.ModGradKernel.main_arg2) = m ((c.tc : Thread Cert.ModGradKernel.nD Cert.ModGradKernel.τ).loc Cert.ModGradKernel.main_arg2)
      ∧ r.2.mem ((c.tc : Thread Cert.ModGradKernel.nD Cert.ModGradKernel.τ).loc Cert.ModGradKernel.main_arg3) = m ((c.tc : Thread Cert.ModGradKernel.nD Cert.ModGradKernel.τ).loc Cert.ModGradKernel.main_arg3))
      ∧ r.2.sem = fun _ => 0)

def quiescent_ModGradKernelIdeal [hModGradKernelIdeal : Cert.ModGradKernelIdeal.Facts] : Prop :=
  ∀ (m : (ℓ : Loc Cert.ModGradKernelIdeal.nD Cert.ModGradKernelIdeal.τ Cert.ModGradKernelIdeal.sig) → Buf (Elt Ideal) ℓ) (g : Dev Cert.ModGradKernelIdeal.nD → PrngReg), Pre_ModGradKernelIdeal m →
    θ_run (Cert.ModGradKernelIdeal.defs (F := Ideal)) (onTc (τ := Cert.ModGradKernelIdeal.τ) (Cert.ModGradKernelIdeal.main (F := Ideal))) ⟨m, fun _ => 0, g⟩ (fun r => (∀ c : Dev Cert.ModGradKernelIdeal.nD,
      r.2.mem ((c.tc : Thread Cert.ModGradKernelIdeal.nD Cert.ModGradKernelIdeal.τ).loc Cert.ModGradKernelIdeal.main_arg0) = m ((c.tc : Thread Cert.ModGradKernelIdeal.nD Cert.ModGradKernelIdeal.τ).loc Cert.ModGradKernelIdeal.main_arg0)
      ∧ r.2.mem ((c.tc : Thread Cert.ModGradKernelIdeal.nD Cert.ModGradKernelIdeal.τ).loc Cert.ModGradKernelIdeal.main_arg1) = m ((c.tc : Thread Cert.ModGradKernelIdeal.nD Cert.ModGradKernelIdeal.τ).loc Cert.ModGradKernelIdeal.main_arg1)
      ∧ r.2.mem ((c.tc : Thread Cert.ModGradKernelIdeal.nD Cert.ModGradKernelIdeal.τ).loc Cert.ModGradKernelIdeal.main_arg2) = m ((c.tc : Thread Cert.ModGradKernelIdeal.nD Cert.ModGradKernelIdeal.τ).loc Cert.ModGradKernelIdeal.main_arg2)
      ∧ r.2.mem ((c.tc : Thread Cert.ModGradKernelIdeal.nD Cert.ModGradKernelIdeal.τ).loc Cert.ModGradKernelIdeal.main_arg3) = m ((c.tc : Thread Cert.ModGradKernelIdeal.nD Cert.ModGradKernelIdeal.τ).loc Cert.ModGradKernelIdeal.main_arg3))
      ∧ r.2.sem = fun _ => 0)

def quiescent_ModGradKernelIdeal_pre_finite_modulation [hModGradKernelIdeal : Cert.ModGradKernelIdeal.Facts] [hPre_finite_modulation : Cert.Pre_finite_modulation.Facts] : Prop :=
  ∀ (m : (ℓ : Loc Cert.ModGradKernelIdeal.nD Cert.ModGradKernelIdeal.τ Cert.ModGradKernelIdeal.sig) → Buf (Elt Ideal) ℓ) (g : Dev Cert.ModGradKernelIdeal.nD → PrngReg), Pre_ModGradKernelIdeal_finite_modulation m →
    θ_run (Cert.ModGradKernelIdeal.defs (F := Ideal)) (onTc (τ := Cert.ModGradKernelIdeal.τ) (Cert.ModGradKernelIdeal.main (F := Ideal))) ⟨m, fun _ => 0, g⟩ (fun r => (∀ c : Dev Cert.ModGradKernelIdeal.nD,
      r.2.mem ((c.tc : Thread Cert.ModGradKernelIdeal.nD Cert.ModGradKernelIdeal.τ).loc Cert.ModGradKernelIdeal.main_arg0) = m ((c.tc : Thread Cert.ModGradKernelIdeal.nD Cert.ModGradKernelIdeal.τ).loc Cert.ModGradKernelIdeal.main_arg0)
      ∧ r.2.mem ((c.tc : Thread Cert.ModGradKernelIdeal.nD Cert.ModGradKernelIdeal.τ).loc Cert.ModGradKernelIdeal.main_arg1) = m ((c.tc : Thread Cert.ModGradKernelIdeal.nD Cert.ModGradKernelIdeal.τ).loc Cert.ModGradKernelIdeal.main_arg1)
      ∧ r.2.mem ((c.tc : Thread Cert.ModGradKernelIdeal.nD Cert.ModGradKernelIdeal.τ).loc Cert.ModGradKernelIdeal.main_arg2) = m ((c.tc : Thread Cert.ModGradKernelIdeal.nD Cert.ModGradKernelIdeal.τ).loc Cert.ModGradKernelIdeal.main_arg2)
      ∧ r.2.mem ((c.tc : Thread Cert.ModGradKernelIdeal.nD Cert.ModGradKernelIdeal.τ).loc Cert.ModGradKernelIdeal.main_arg3) = m ((c.tc : Thread Cert.ModGradKernelIdeal.nD Cert.ModGradKernelIdeal.τ).loc Cert.ModGradKernelIdeal.main_arg3))
      ∧ r.2.sem = fun _ => 0)

def quiescent_ModGradReferenceIdeal [hModGradReferenceIdeal : Cert.ModGradReferenceIdeal.Facts] : Prop :=
  ∀ (m : (ℓ : Loc Cert.ModGradReferenceIdeal.nD Cert.ModGradReferenceIdeal.τ Cert.ModGradReferenceIdeal.sig) → Buf (Elt Ideal) ℓ) (g : Dev Cert.ModGradReferenceIdeal.nD → PrngReg), Pre_ModGradReferenceIdeal m →
    θ_run (Cert.ModGradReferenceIdeal.defs (F := Ideal)) (onTc (τ := Cert.ModGradReferenceIdeal.τ) (Cert.ModGradReferenceIdeal.main (F := Ideal))) ⟨m, fun _ => 0, g⟩ (fun r => (∀ c : Dev Cert.ModGradReferenceIdeal.nD,
      r.2.mem ((c.tc : Thread Cert.ModGradReferenceIdeal.nD Cert.ModGradReferenceIdeal.τ).loc Cert.ModGradReferenceIdeal.main_arg0) = m ((c.tc : Thread Cert.ModGradReferenceIdeal.nD Cert.ModGradReferenceIdeal.τ).loc Cert.ModGradReferenceIdeal.main_arg0)
      ∧ r.2.mem ((c.tc : Thread Cert.ModGradReferenceIdeal.nD Cert.ModGradReferenceIdeal.τ).loc Cert.ModGradReferenceIdeal.main_arg1) = m ((c.tc : Thread Cert.ModGradReferenceIdeal.nD Cert.ModGradReferenceIdeal.τ).loc Cert.ModGradReferenceIdeal.main_arg1)
      ∧ r.2.mem ((c.tc : Thread Cert.ModGradReferenceIdeal.nD Cert.ModGradReferenceIdeal.τ).loc Cert.ModGradReferenceIdeal.main_arg2) = m ((c.tc : Thread Cert.ModGradReferenceIdeal.nD Cert.ModGradReferenceIdeal.τ).loc Cert.ModGradReferenceIdeal.main_arg2)
      ∧ r.2.mem ((c.tc : Thread Cert.ModGradReferenceIdeal.nD Cert.ModGradReferenceIdeal.τ).loc Cert.ModGradReferenceIdeal.main_arg3) = m ((c.tc : Thread Cert.ModGradReferenceIdeal.nD Cert.ModGradReferenceIdeal.τ).loc Cert.ModGradReferenceIdeal.main_arg3))
      ∧ r.2.sem = fun _ => 0)

def quiescent_ModGradReferenceIdeal_pre_finite_modulation [hModGradReferenceIdeal : Cert.ModGradReferenceIdeal.Facts] [hPre_finite_modulation : Cert.Pre_finite_modulation.Facts] : Prop :=
  ∀ (m : (ℓ : Loc Cert.ModGradReferenceIdeal.nD Cert.ModGradReferenceIdeal.τ Cert.ModGradReferenceIdeal.sig) → Buf (Elt Ideal) ℓ) (g : Dev Cert.ModGradReferenceIdeal.nD → PrngReg), Pre_ModGradReferenceIdeal_finite_modulation m →
    θ_run (Cert.ModGradReferenceIdeal.defs (F := Ideal)) (onTc (τ := Cert.ModGradReferenceIdeal.τ) (Cert.ModGradReferenceIdeal.main (F := Ideal))) ⟨m, fun _ => 0, g⟩ (fun r => (∀ c : Dev Cert.ModGradReferenceIdeal.nD,
      r.2.mem ((c.tc : Thread Cert.ModGradReferenceIdeal.nD Cert.ModGradReferenceIdeal.τ).loc Cert.ModGradReferenceIdeal.main_arg0) = m ((c.tc : Thread Cert.ModGradReferenceIdeal.nD Cert.ModGradReferenceIdeal.τ).loc Cert.ModGradReferenceIdeal.main_arg0)
      ∧ r.2.mem ((c.tc : Thread Cert.ModGradReferenceIdeal.nD Cert.ModGradReferenceIdeal.τ).loc Cert.ModGradReferenceIdeal.main_arg1) = m ((c.tc : Thread Cert.ModGradReferenceIdeal.nD Cert.ModGradReferenceIdeal.τ).loc Cert.ModGradReferenceIdeal.main_arg1)
      ∧ r.2.mem ((c.tc : Thread Cert.ModGradReferenceIdeal.nD Cert.ModGradReferenceIdeal.τ).loc Cert.ModGradReferenceIdeal.main_arg2) = m ((c.tc : Thread Cert.ModGradReferenceIdeal.nD Cert.ModGradReferenceIdeal.τ).loc Cert.ModGradReferenceIdeal.main_arg2)
      ∧ r.2.mem ((c.tc : Thread Cert.ModGradReferenceIdeal.nD Cert.ModGradReferenceIdeal.τ).loc Cert.ModGradReferenceIdeal.main_arg3) = m ((c.tc : Thread Cert.ModGradReferenceIdeal.nD Cert.ModGradReferenceIdeal.τ).loc Cert.ModGradReferenceIdeal.main_arg3))
      ∧ r.2.sem = fun _ => 0)

def quiescent_AttnInKernel [hAttnInKernel : Cert.AttnInKernel.Facts] : Prop :=
  ∀ (m : (ℓ : Loc Cert.AttnInKernel.nD Cert.AttnInKernel.τ Cert.AttnInKernel.sig) → Buf (Elt Bits) ℓ) (g : Dev Cert.AttnInKernel.nD → PrngReg), Pre_AttnInKernel m →
    θ_run (Cert.AttnInKernel.defs (F := Bits)) (onTc (τ := Cert.AttnInKernel.τ) (Cert.AttnInKernel.main (F := Bits))) ⟨m, fun _ => 0, g⟩ (fun r => (∀ c : Dev Cert.AttnInKernel.nD,
      r.2.mem ((c.tc : Thread Cert.AttnInKernel.nD Cert.AttnInKernel.τ).loc Cert.AttnInKernel.main_arg0) = m ((c.tc : Thread Cert.AttnInKernel.nD Cert.AttnInKernel.τ).loc Cert.AttnInKernel.main_arg0)
      ∧ r.2.mem ((c.tc : Thread Cert.AttnInKernel.nD Cert.AttnInKernel.τ).loc Cert.AttnInKernel.main_arg1) = m ((c.tc : Thread Cert.AttnInKernel.nD Cert.AttnInKernel.τ).loc Cert.AttnInKernel.main_arg1)
      ∧ r.2.mem ((c.tc : Thread Cert.AttnInKernel.nD Cert.AttnInKernel.τ).loc Cert.AttnInKernel.main_arg2) = m ((c.tc : Thread Cert.AttnInKernel.nD Cert.AttnInKernel.τ).loc Cert.AttnInKernel.main_arg2)
      ∧ r.2.mem ((c.tc : Thread Cert.AttnInKernel.nD Cert.AttnInKernel.τ).loc Cert.AttnInKernel.main_arg3) = m ((c.tc : Thread Cert.AttnInKernel.nD Cert.AttnInKernel.τ).loc Cert.AttnInKernel.main_arg3)
      ∧ r.2.mem ((c.tc : Thread Cert.AttnInKernel.nD Cert.AttnInKernel.τ).loc Cert.AttnInKernel.main_arg4) = m ((c.tc : Thread Cert.AttnInKernel.nD Cert.AttnInKernel.τ).loc Cert.AttnInKernel.main_arg4)
      ∧ r.2.mem ((c.tc : Thread Cert.AttnInKernel.nD Cert.AttnInKernel.τ).loc Cert.AttnInKernel.main_arg5) = m ((c.tc : Thread Cert.AttnInKernel.nD Cert.AttnInKernel.τ).loc Cert.AttnInKernel.main_arg5)
      ∧ r.2.mem ((c.tc : Thread Cert.AttnInKernel.nD Cert.AttnInKernel.τ).loc Cert.AttnInKernel.main_arg6) = m ((c.tc : Thread Cert.AttnInKernel.nD Cert.AttnInKernel.τ).loc Cert.AttnInKernel.main_arg6)
      ∧ r.2.mem ((c.tc : Thread Cert.AttnInKernel.nD Cert.AttnInKernel.τ).loc Cert.AttnInKernel.main_arg7) = m ((c.tc : Thread Cert.AttnInKernel.nD Cert.AttnInKernel.τ).loc Cert.AttnInKernel.main_arg7)
      ∧ r.2.mem ((c.tc : Thread Cert.AttnInKernel.nD Cert.AttnInKernel.τ).loc Cert.AttnInKernel.main_arg8) = m ((c.tc : Thread Cert.AttnInKernel.nD Cert.AttnInKernel.τ).loc Cert.AttnInKernel.main_arg8))
      ∧ r.2.sem = fun _ => 0)

def quiescent_AttnInKernelIdeal [hAttnInKernelIdeal : Cert.AttnInKernelIdeal.Facts] : Prop :=
  ∀ (m : (ℓ : Loc Cert.AttnInKernelIdeal.nD Cert.AttnInKernelIdeal.τ Cert.AttnInKernelIdeal.sig) → Buf (Elt Ideal) ℓ) (g : Dev Cert.AttnInKernelIdeal.nD → PrngReg), Pre_AttnInKernelIdeal m →
    θ_run (Cert.AttnInKernelIdeal.defs (F := Ideal)) (onTc (τ := Cert.AttnInKernelIdeal.τ) (Cert.AttnInKernelIdeal.main (F := Ideal))) ⟨m, fun _ => 0, g⟩ (fun r => (∀ c : Dev Cert.AttnInKernelIdeal.nD,
      r.2.mem ((c.tc : Thread Cert.AttnInKernelIdeal.nD Cert.AttnInKernelIdeal.τ).loc Cert.AttnInKernelIdeal.main_arg0) = m ((c.tc : Thread Cert.AttnInKernelIdeal.nD Cert.AttnInKernelIdeal.τ).loc Cert.AttnInKernelIdeal.main_arg0)
      ∧ r.2.mem ((c.tc : Thread Cert.AttnInKernelIdeal.nD Cert.AttnInKernelIdeal.τ).loc Cert.AttnInKernelIdeal.main_arg1) = m ((c.tc : Thread Cert.AttnInKernelIdeal.nD Cert.AttnInKernelIdeal.τ).loc Cert.AttnInKernelIdeal.main_arg1)
      ∧ r.2.mem ((c.tc : Thread Cert.AttnInKernelIdeal.nD Cert.AttnInKernelIdeal.τ).loc Cert.AttnInKernelIdeal.main_arg2) = m ((c.tc : Thread Cert.AttnInKernelIdeal.nD Cert.AttnInKernelIdeal.τ).loc Cert.AttnInKernelIdeal.main_arg2)
      ∧ r.2.mem ((c.tc : Thread Cert.AttnInKernelIdeal.nD Cert.AttnInKernelIdeal.τ).loc Cert.AttnInKernelIdeal.main_arg3) = m ((c.tc : Thread Cert.AttnInKernelIdeal.nD Cert.AttnInKernelIdeal.τ).loc Cert.AttnInKernelIdeal.main_arg3)
      ∧ r.2.mem ((c.tc : Thread Cert.AttnInKernelIdeal.nD Cert.AttnInKernelIdeal.τ).loc Cert.AttnInKernelIdeal.main_arg4) = m ((c.tc : Thread Cert.AttnInKernelIdeal.nD Cert.AttnInKernelIdeal.τ).loc Cert.AttnInKernelIdeal.main_arg4)
      ∧ r.2.mem ((c.tc : Thread Cert.AttnInKernelIdeal.nD Cert.AttnInKernelIdeal.τ).loc Cert.AttnInKernelIdeal.main_arg5) = m ((c.tc : Thread Cert.AttnInKernelIdeal.nD Cert.AttnInKernelIdeal.τ).loc Cert.AttnInKernelIdeal.main_arg5)
      ∧ r.2.mem ((c.tc : Thread Cert.AttnInKernelIdeal.nD Cert.AttnInKernelIdeal.τ).loc Cert.AttnInKernelIdeal.main_arg6) = m ((c.tc : Thread Cert.AttnInKernelIdeal.nD Cert.AttnInKernelIdeal.τ).loc Cert.AttnInKernelIdeal.main_arg6)
      ∧ r.2.mem ((c.tc : Thread Cert.AttnInKernelIdeal.nD Cert.AttnInKernelIdeal.τ).loc Cert.AttnInKernelIdeal.main_arg7) = m ((c.tc : Thread Cert.AttnInKernelIdeal.nD Cert.AttnInKernelIdeal.τ).loc Cert.AttnInKernelIdeal.main_arg7)
      ∧ r.2.mem ((c.tc : Thread Cert.AttnInKernelIdeal.nD Cert.AttnInKernelIdeal.τ).loc Cert.AttnInKernelIdeal.main_arg8) = m ((c.tc : Thread Cert.AttnInKernelIdeal.nD Cert.AttnInKernelIdeal.τ).loc Cert.AttnInKernelIdeal.main_arg8))
      ∧ r.2.sem = fun _ => 0)

def quiescent_AttnInReferenceIdeal [hAttnInReferenceIdeal : Cert.AttnInReferenceIdeal.Facts] : Prop :=
  ∀ (m : (ℓ : Loc Cert.AttnInReferenceIdeal.nD Cert.AttnInReferenceIdeal.τ Cert.AttnInReferenceIdeal.sig) → Buf (Elt Ideal) ℓ) (g : Dev Cert.AttnInReferenceIdeal.nD → PrngReg), Pre_AttnInReferenceIdeal m →
    θ_run (Cert.AttnInReferenceIdeal.defs (F := Ideal)) (onTc (τ := Cert.AttnInReferenceIdeal.τ) (Cert.AttnInReferenceIdeal.main (F := Ideal))) ⟨m, fun _ => 0, g⟩ (fun r => (∀ c : Dev Cert.AttnInReferenceIdeal.nD,
      r.2.mem ((c.tc : Thread Cert.AttnInReferenceIdeal.nD Cert.AttnInReferenceIdeal.τ).loc Cert.AttnInReferenceIdeal.main_arg0) = m ((c.tc : Thread Cert.AttnInReferenceIdeal.nD Cert.AttnInReferenceIdeal.τ).loc Cert.AttnInReferenceIdeal.main_arg0)
      ∧ r.2.mem ((c.tc : Thread Cert.AttnInReferenceIdeal.nD Cert.AttnInReferenceIdeal.τ).loc Cert.AttnInReferenceIdeal.main_arg1) = m ((c.tc : Thread Cert.AttnInReferenceIdeal.nD Cert.AttnInReferenceIdeal.τ).loc Cert.AttnInReferenceIdeal.main_arg1)
      ∧ r.2.mem ((c.tc : Thread Cert.AttnInReferenceIdeal.nD Cert.AttnInReferenceIdeal.τ).loc Cert.AttnInReferenceIdeal.main_arg2) = m ((c.tc : Thread Cert.AttnInReferenceIdeal.nD Cert.AttnInReferenceIdeal.τ).loc Cert.AttnInReferenceIdeal.main_arg2)
      ∧ r.2.mem ((c.tc : Thread Cert.AttnInReferenceIdeal.nD Cert.AttnInReferenceIdeal.τ).loc Cert.AttnInReferenceIdeal.main_arg3) = m ((c.tc : Thread Cert.AttnInReferenceIdeal.nD Cert.AttnInReferenceIdeal.τ).loc Cert.AttnInReferenceIdeal.main_arg3)
      ∧ r.2.mem ((c.tc : Thread Cert.AttnInReferenceIdeal.nD Cert.AttnInReferenceIdeal.τ).loc Cert.AttnInReferenceIdeal.main_arg4) = m ((c.tc : Thread Cert.AttnInReferenceIdeal.nD Cert.AttnInReferenceIdeal.τ).loc Cert.AttnInReferenceIdeal.main_arg4)
      ∧ r.2.mem ((c.tc : Thread Cert.AttnInReferenceIdeal.nD Cert.AttnInReferenceIdeal.τ).loc Cert.AttnInReferenceIdeal.main_arg5) = m ((c.tc : Thread Cert.AttnInReferenceIdeal.nD Cert.AttnInReferenceIdeal.τ).loc Cert.AttnInReferenceIdeal.main_arg5)
      ∧ r.2.mem ((c.tc : Thread Cert.AttnInReferenceIdeal.nD Cert.AttnInReferenceIdeal.τ).loc Cert.AttnInReferenceIdeal.main_arg6) = m ((c.tc : Thread Cert.AttnInReferenceIdeal.nD Cert.AttnInReferenceIdeal.τ).loc Cert.AttnInReferenceIdeal.main_arg6)
      ∧ r.2.mem ((c.tc : Thread Cert.AttnInReferenceIdeal.nD Cert.AttnInReferenceIdeal.τ).loc Cert.AttnInReferenceIdeal.main_arg7) = m ((c.tc : Thread Cert.AttnInReferenceIdeal.nD Cert.AttnInReferenceIdeal.τ).loc Cert.AttnInReferenceIdeal.main_arg7)
      ∧ r.2.mem ((c.tc : Thread Cert.AttnInReferenceIdeal.nD Cert.AttnInReferenceIdeal.τ).loc Cert.AttnInReferenceIdeal.main_arg8) = m ((c.tc : Thread Cert.AttnInReferenceIdeal.nD Cert.AttnInReferenceIdeal.τ).loc Cert.AttnInReferenceIdeal.main_arg8))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v17_0)) (v1 : (c : Dev Cert.KernelIdeal.nD) → Buf (Elt Ideal) ((c.tc : Thread Cert.KernelIdeal.nD Cert.KernelIdeal.τ).loc Cert.KernelIdeal.main_v27)) (v2 : (c : Dev Cert.KernelIdeal.nD) → Buf (Elt Ideal) ((c.tc : Thread Cert.KernelIdeal.nD Cert.KernelIdeal.τ).loc Cert.KernelIdeal.main_v30)) (v3 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17_0) = v0 c
          ∧ r.2.mem ((c.tc : Thread Cert.KernelIdeal.nD Cert.KernelIdeal.τ).loc Cert.KernelIdeal.main_v27) = v1 c
          ∧ r.2.mem ((c.tc : Thread Cert.KernelIdeal.nD Cert.KernelIdeal.τ).loc Cert.KernelIdeal.main_v30) = v2 c
          ∧ r.2.mem ((c.tc : Thread Cert.KernelIdeal.nD Cert.KernelIdeal.τ).loc Cert.KernelIdeal.main_v33) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_v64) = v1 c
          ∧ r.2.mem ((c.tc : Thread Cert.ReferenceIdeal.nD Cert.ReferenceIdeal.τ).loc Cert.ReferenceIdeal.main_v63) = v2 c
          ∧ r.2.mem ((c.tc : Thread Cert.ReferenceIdeal.nD Cert.ReferenceIdeal.τ).loc Cert.ReferenceIdeal.main_v62) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_InputKernel_InputKernelIdeal : Prop :=
  True

def algebraic_InputKernelIdeal_InputReferenceIdeal [hInputKernelIdeal : Cert.InputKernelIdeal.Facts] [hInputReferenceIdeal : Cert.InputReferenceIdeal.Facts] : Prop :=
  ∀ (m : (ℓ : Loc Cert.InputKernelIdeal.nD Cert.InputKernelIdeal.τ Cert.InputKernelIdeal.sig) → Buf (Elt Ideal) ℓ) (g : Dev Cert.InputKernelIdeal.nD → PrngReg)
    (m' : (ℓ : Loc Cert.InputReferenceIdeal.nD Cert.InputReferenceIdeal.τ Cert.InputReferenceIdeal.sig) → Buf (Elt Ideal) ℓ) (g' : Dev Cert.InputReferenceIdeal.nD → PrngReg), Pre_InputKernelIdeal m →
    (∀ c : Dev Cert.InputKernelIdeal.nD,
      m' ((c.tc : Thread Cert.InputReferenceIdeal.nD Cert.InputReferenceIdeal.τ).loc Cert.InputReferenceIdeal.main_arg0) = m ((c.tc : Thread Cert.InputKernelIdeal.nD Cert.InputKernelIdeal.τ).loc Cert.InputKernelIdeal.main_arg0)
      ∧ m' ((c.tc : Thread Cert.InputReferenceIdeal.nD Cert.InputReferenceIdeal.τ).loc Cert.InputReferenceIdeal.main_arg1) = m ((c.tc : Thread Cert.InputKernelIdeal.nD Cert.InputKernelIdeal.τ).loc Cert.InputKernelIdeal.main_arg1)
      ∧ m' ((c.tc : Thread Cert.InputReferenceIdeal.nD Cert.InputReferenceIdeal.τ).loc Cert.InputReferenceIdeal.main_arg2) = m ((c.tc : Thread Cert.InputKernelIdeal.nD Cert.InputKernelIdeal.τ).loc Cert.InputKernelIdeal.main_arg2)
      ∧ m' ((c.tc : Thread Cert.InputReferenceIdeal.nD Cert.InputReferenceIdeal.τ).loc Cert.InputReferenceIdeal.main_arg3) = m ((c.tc : Thread Cert.InputKernelIdeal.nD Cert.InputKernelIdeal.τ).loc Cert.InputKernelIdeal.main_arg3)
      ∧ m' ((c.tc : Thread Cert.InputReferenceIdeal.nD Cert.InputReferenceIdeal.τ).loc Cert.InputReferenceIdeal.main_arg4) = m ((c.tc : Thread Cert.InputKernelIdeal.nD Cert.InputKernelIdeal.τ).loc Cert.InputKernelIdeal.main_arg4)
      ∧ m' ((c.tc : Thread Cert.InputReferenceIdeal.nD Cert.InputReferenceIdeal.τ).loc Cert.InputReferenceIdeal.main_arg5) = m ((c.tc : Thread Cert.InputKernelIdeal.nD Cert.InputKernelIdeal.τ).loc Cert.InputKernelIdeal.main_arg5)) →
    ∃ (v0 : (c : Dev Cert.InputKernelIdeal.nD) → Buf (Elt Ideal) ((c.tc : Thread Cert.InputKernelIdeal.nD Cert.InputKernelIdeal.τ).loc Cert.InputKernelIdeal.main_v0_0)) (v1 : (c : Dev Cert.InputKernelIdeal.nD) → Buf (Elt Ideal) ((c.tc : Thread Cert.InputKernelIdeal.nD Cert.InputKernelIdeal.τ).loc Cert.InputKernelIdeal.main_v0_1)),
      θ_run (Cert.InputKernelIdeal.defs (F := Ideal)) (onTc (τ := Cert.InputKernelIdeal.τ) (Cert.InputKernelIdeal.main (F := Ideal))) ⟨m, fun _ => 0, g⟩ (fun r => ∀ c : Dev Cert.InputKernelIdeal.nD,
          r.2.mem ((c.tc : Thread Cert.InputKernelIdeal.nD Cert.InputKernelIdeal.τ).loc Cert.InputKernelIdeal.main_v0_0) = v0 c
          ∧ r.2.mem ((c.tc : Thread Cert.InputKernelIdeal.nD Cert.InputKernelIdeal.τ).loc Cert.InputKernelIdeal.main_v0_1) = v1 c
          ∧ r.2.mem ((c.tc : Thread Cert.InputKernelIdeal.nD Cert.InputKernelIdeal.τ).loc Cert.InputKernelIdeal.main_arg0) = m ((c.tc : Thread Cert.InputKernelIdeal.nD Cert.InputKernelIdeal.τ).loc Cert.InputKernelIdeal.main_arg0)
          ∧ r.2.mem ((c.tc : Thread Cert.InputKernelIdeal.nD Cert.InputKernelIdeal.τ).loc Cert.InputKernelIdeal.main_arg1) = m ((c.tc : Thread Cert.InputKernelIdeal.nD Cert.InputKernelIdeal.τ).loc Cert.InputKernelIdeal.main_arg1)
          ∧ r.2.mem ((c.tc : Thread Cert.InputKernelIdeal.nD Cert.InputKernelIdeal.τ).loc Cert.InputKernelIdeal.main_arg2) = m ((c.tc : Thread Cert.InputKernelIdeal.nD Cert.InputKernelIdeal.τ).loc Cert.InputKernelIdeal.main_arg2)
          ∧ r.2.mem ((c.tc : Thread Cert.InputKernelIdeal.nD Cert.InputKernelIdeal.τ).loc Cert.InputKernelIdeal.main_arg3) = m ((c.tc : Thread Cert.InputKernelIdeal.nD Cert.InputKernelIdeal.τ).loc Cert.InputKernelIdeal.main_arg3)
          ∧ r.2.mem ((c.tc : Thread Cert.InputKernelIdeal.nD Cert.InputKernelIdeal.τ).loc Cert.InputKernelIdeal.main_arg4) = m ((c.tc : Thread Cert.InputKernelIdeal.nD Cert.InputKernelIdeal.τ).loc Cert.InputKernelIdeal.main_arg4)
          ∧ r.2.mem ((c.tc : Thread Cert.InputKernelIdeal.nD Cert.InputKernelIdeal.τ).loc Cert.InputKernelIdeal.main_arg5) = m ((c.tc : Thread Cert.InputKernelIdeal.nD Cert.InputKernelIdeal.τ).loc Cert.InputKernelIdeal.main_arg5))
      ∧ θ_run (Cert.InputReferenceIdeal.defs (F := Ideal)) (onTc (τ := Cert.InputReferenceIdeal.τ) (Cert.InputReferenceIdeal.main (F := Ideal))) ⟨m', fun _ => 0, g'⟩ (fun r => ∀ c : Dev Cert.InputReferenceIdeal.nD,
          r.2.mem ((c.tc : Thread Cert.InputReferenceIdeal.nD Cert.InputReferenceIdeal.τ).loc Cert.InputReferenceIdeal.main_v50) = v0 c
          ∧ r.2.mem ((c.tc : Thread Cert.InputReferenceIdeal.nD Cert.InputReferenceIdeal.τ).loc Cert.InputReferenceIdeal.main_v51) = v1 c
          ∧ r.2.mem ((c.tc : Thread Cert.InputReferenceIdeal.nD Cert.InputReferenceIdeal.τ).loc Cert.InputReferenceIdeal.main_arg0) = m' ((c.tc : Thread Cert.InputReferenceIdeal.nD Cert.InputReferenceIdeal.τ).loc Cert.InputReferenceIdeal.main_arg0)
          ∧ r.2.mem ((c.tc : Thread Cert.InputReferenceIdeal.nD Cert.InputReferenceIdeal.τ).loc Cert.InputReferenceIdeal.main_arg1) = m' ((c.tc : Thread Cert.InputReferenceIdeal.nD Cert.InputReferenceIdeal.τ).loc Cert.InputReferenceIdeal.main_arg1)
          ∧ r.2.mem ((c.tc : Thread Cert.InputReferenceIdeal.nD Cert.InputReferenceIdeal.τ).loc Cert.InputReferenceIdeal.main_arg2) = m' ((c.tc : Thread Cert.InputReferenceIdeal.nD Cert.InputReferenceIdeal.τ).loc Cert.InputReferenceIdeal.main_arg2)
          ∧ r.2.mem ((c.tc : Thread Cert.InputReferenceIdeal.nD Cert.InputReferenceIdeal.τ).loc Cert.InputReferenceIdeal.main_arg3) = m' ((c.tc : Thread Cert.InputReferenceIdeal.nD Cert.InputReferenceIdeal.τ).loc Cert.InputReferenceIdeal.main_arg3)
          ∧ r.2.mem ((c.tc : Thread Cert.InputReferenceIdeal.nD Cert.InputReferenceIdeal.τ).loc Cert.InputReferenceIdeal.main_arg4) = m' ((c.tc : Thread Cert.InputReferenceIdeal.nD Cert.InputReferenceIdeal.τ).loc Cert.InputReferenceIdeal.main_arg4)
          ∧ r.2.mem ((c.tc : Thread Cert.InputReferenceIdeal.nD Cert.InputReferenceIdeal.τ).loc Cert.InputReferenceIdeal.main_arg5) = m' ((c.tc : Thread Cert.InputReferenceIdeal.nD Cert.InputReferenceIdeal.τ).loc Cert.InputReferenceIdeal.main_arg5))

def preserves_PostKernel_PostKernelIdeal : Prop :=
  True

def algebraic_PostKernelIdeal_PostReferenceIdeal [hPostKernelIdeal : Cert.PostKernelIdeal.Facts] [hPostReferenceIdeal : Cert.PostReferenceIdeal.Facts] : Prop :=
  ∀ (m : (ℓ : Loc Cert.PostKernelIdeal.nD Cert.PostKernelIdeal.τ Cert.PostKernelIdeal.sig) → Buf (Elt Ideal) ℓ) (g : Dev Cert.PostKernelIdeal.nD → PrngReg)
    (m' : (ℓ : Loc Cert.PostReferenceIdeal.nD Cert.PostReferenceIdeal.τ Cert.PostReferenceIdeal.sig) → Buf (Elt Ideal) ℓ) (g' : Dev Cert.PostReferenceIdeal.nD → PrngReg), Pre_PostKernelIdeal m →
    (∀ c : Dev Cert.PostKernelIdeal.nD,
      m' ((c.tc : Thread Cert.PostReferenceIdeal.nD Cert.PostReferenceIdeal.τ).loc Cert.PostReferenceIdeal.main_arg0) = m ((c.tc : Thread Cert.PostKernelIdeal.nD Cert.PostKernelIdeal.τ).loc Cert.PostKernelIdeal.main_arg0)
      ∧ m' ((c.tc : Thread Cert.PostReferenceIdeal.nD Cert.PostReferenceIdeal.τ).loc Cert.PostReferenceIdeal.main_arg1) = m ((c.tc : Thread Cert.PostKernelIdeal.nD Cert.PostKernelIdeal.τ).loc Cert.PostKernelIdeal.main_arg1)
      ∧ m' ((c.tc : Thread Cert.PostReferenceIdeal.nD Cert.PostReferenceIdeal.τ).loc Cert.PostReferenceIdeal.main_arg2) = m ((c.tc : Thread Cert.PostKernelIdeal.nD Cert.PostKernelIdeal.τ).loc Cert.PostKernelIdeal.main_arg2)
      ∧ m' ((c.tc : Thread Cert.PostReferenceIdeal.nD Cert.PostReferenceIdeal.τ).loc Cert.PostReferenceIdeal.main_arg3) = m ((c.tc : Thread Cert.PostKernelIdeal.nD Cert.PostKernelIdeal.τ).loc Cert.PostKernelIdeal.main_arg3)
      ∧ m' ((c.tc : Thread Cert.PostReferenceIdeal.nD Cert.PostReferenceIdeal.τ).loc Cert.PostReferenceIdeal.main_arg4) = m ((c.tc : Thread Cert.PostKernelIdeal.nD Cert.PostKernelIdeal.τ).loc Cert.PostKernelIdeal.main_arg4)
      ∧ m' ((c.tc : Thread Cert.PostReferenceIdeal.nD Cert.PostReferenceIdeal.τ).loc Cert.PostReferenceIdeal.main_arg5) = m ((c.tc : Thread Cert.PostKernelIdeal.nD Cert.PostKernelIdeal.τ).loc Cert.PostKernelIdeal.main_arg5)
      ∧ m' ((c.tc : Thread Cert.PostReferenceIdeal.nD Cert.PostReferenceIdeal.τ).loc Cert.PostReferenceIdeal.main_arg6) = m ((c.tc : Thread Cert.PostKernelIdeal.nD Cert.PostKernelIdeal.τ).loc Cert.PostKernelIdeal.main_arg6)
      ∧ m' ((c.tc : Thread Cert.PostReferenceIdeal.nD Cert.PostReferenceIdeal.τ).loc Cert.PostReferenceIdeal.main_arg7) = m ((c.tc : Thread Cert.PostKernelIdeal.nD Cert.PostKernelIdeal.τ).loc Cert.PostKernelIdeal.main_arg7)
      ∧ m' ((c.tc : Thread Cert.PostReferenceIdeal.nD Cert.PostReferenceIdeal.τ).loc Cert.PostReferenceIdeal.main_arg8) = m ((c.tc : Thread Cert.PostKernelIdeal.nD Cert.PostKernelIdeal.τ).loc Cert.PostKernelIdeal.main_arg8)) →
    ∃ (v0 : (c : Dev Cert.PostKernelIdeal.nD) → Buf (Elt Ideal) ((c.tc : Thread Cert.PostKernelIdeal.nD Cert.PostKernelIdeal.τ).loc Cert.PostKernelIdeal.main_v0)),
      θ_run (Cert.PostKernelIdeal.defs (F := Ideal)) (onTc (τ := Cert.PostKernelIdeal.τ) (Cert.PostKernelIdeal.main (F := Ideal))) ⟨m, fun _ => 0, g⟩ (fun r => ∀ c : Dev Cert.PostKernelIdeal.nD,
          r.2.mem ((c.tc : Thread Cert.PostKernelIdeal.nD Cert.PostKernelIdeal.τ).loc Cert.PostKernelIdeal.main_v0) = v0 c
          ∧ r.2.mem ((c.tc : Thread Cert.PostKernelIdeal.nD Cert.PostKernelIdeal.τ).loc Cert.PostKernelIdeal.main_arg0) = m ((c.tc : Thread Cert.PostKernelIdeal.nD Cert.PostKernelIdeal.τ).loc Cert.PostKernelIdeal.main_arg0)
          ∧ r.2.mem ((c.tc : Thread Cert.PostKernelIdeal.nD Cert.PostKernelIdeal.τ).loc Cert.PostKernelIdeal.main_arg1) = m ((c.tc : Thread Cert.PostKernelIdeal.nD Cert.PostKernelIdeal.τ).loc Cert.PostKernelIdeal.main_arg1)
          ∧ r.2.mem ((c.tc : Thread Cert.PostKernelIdeal.nD Cert.PostKernelIdeal.τ).loc Cert.PostKernelIdeal.main_arg2) = m ((c.tc : Thread Cert.PostKernelIdeal.nD Cert.PostKernelIdeal.τ).loc Cert.PostKernelIdeal.main_arg2)
          ∧ r.2.mem ((c.tc : Thread Cert.PostKernelIdeal.nD Cert.PostKernelIdeal.τ).loc Cert.PostKernelIdeal.main_arg3) = m ((c.tc : Thread Cert.PostKernelIdeal.nD Cert.PostKernelIdeal.τ).loc Cert.PostKernelIdeal.main_arg3)
          ∧ r.2.mem ((c.tc : Thread Cert.PostKernelIdeal.nD Cert.PostKernelIdeal.τ).loc Cert.PostKernelIdeal.main_arg4) = m ((c.tc : Thread Cert.PostKernelIdeal.nD Cert.PostKernelIdeal.τ).loc Cert.PostKernelIdeal.main_arg4)
          ∧ r.2.mem ((c.tc : Thread Cert.PostKernelIdeal.nD Cert.PostKernelIdeal.τ).loc Cert.PostKernelIdeal.main_arg5) = m ((c.tc : Thread Cert.PostKernelIdeal.nD Cert.PostKernelIdeal.τ).loc Cert.PostKernelIdeal.main_arg5)
          ∧ r.2.mem ((c.tc : Thread Cert.PostKernelIdeal.nD Cert.PostKernelIdeal.τ).loc Cert.PostKernelIdeal.main_arg6) = m ((c.tc : Thread Cert.PostKernelIdeal.nD Cert.PostKernelIdeal.τ).loc Cert.PostKernelIdeal.main_arg6)
          ∧ r.2.mem ((c.tc : Thread Cert.PostKernelIdeal.nD Cert.PostKernelIdeal.τ).loc Cert.PostKernelIdeal.main_arg7) = m ((c.tc : Thread Cert.PostKernelIdeal.nD Cert.PostKernelIdeal.τ).loc Cert.PostKernelIdeal.main_arg7)
          ∧ r.2.mem ((c.tc : Thread Cert.PostKernelIdeal.nD Cert.PostKernelIdeal.τ).loc Cert.PostKernelIdeal.main_arg8) = m ((c.tc : Thread Cert.PostKernelIdeal.nD Cert.PostKernelIdeal.τ).loc Cert.PostKernelIdeal.main_arg8))
      ∧ θ_run (Cert.PostReferenceIdeal.defs (F := Ideal)) (onTc (τ := Cert.PostReferenceIdeal.τ) (Cert.PostReferenceIdeal.main (F := Ideal))) ⟨m', fun _ => 0, g'⟩ (fun r => ∀ c : Dev Cert.PostReferenceIdeal.nD,
          r.2.mem ((c.tc : Thread Cert.PostReferenceIdeal.nD Cert.PostReferenceIdeal.τ).loc Cert.PostReferenceIdeal.main_v55) = v0 c
          ∧ r.2.mem ((c.tc : Thread Cert.PostReferenceIdeal.nD Cert.PostReferenceIdeal.τ).loc Cert.PostReferenceIdeal.main_arg0) = m' ((c.tc : Thread Cert.PostReferenceIdeal.nD Cert.PostReferenceIdeal.τ).loc Cert.PostReferenceIdeal.main_arg0)
          ∧ r.2.mem ((c.tc : Thread Cert.PostReferenceIdeal.nD Cert.PostReferenceIdeal.τ).loc Cert.PostReferenceIdeal.main_arg1) = m' ((c.tc : Thread Cert.PostReferenceIdeal.nD Cert.PostReferenceIdeal.τ).loc Cert.PostReferenceIdeal.main_arg1)
          ∧ r.2.mem ((c.tc : Thread Cert.PostReferenceIdeal.nD Cert.PostReferenceIdeal.τ).loc Cert.PostReferenceIdeal.main_arg2) = m' ((c.tc : Thread Cert.PostReferenceIdeal.nD Cert.PostReferenceIdeal.τ).loc Cert.PostReferenceIdeal.main_arg2)
          ∧ r.2.mem ((c.tc : Thread Cert.PostReferenceIdeal.nD Cert.PostReferenceIdeal.τ).loc Cert.PostReferenceIdeal.main_arg3) = m' ((c.tc : Thread Cert.PostReferenceIdeal.nD Cert.PostReferenceIdeal.τ).loc Cert.PostReferenceIdeal.main_arg3)
          ∧ r.2.mem ((c.tc : Thread Cert.PostReferenceIdeal.nD Cert.PostReferenceIdeal.τ).loc Cert.PostReferenceIdeal.main_arg4) = m' ((c.tc : Thread Cert.PostReferenceIdeal.nD Cert.PostReferenceIdeal.τ).loc Cert.PostReferenceIdeal.main_arg4)
          ∧ r.2.mem ((c.tc : Thread Cert.PostReferenceIdeal.nD Cert.PostReferenceIdeal.τ).loc Cert.PostReferenceIdeal.main_arg5) = m' ((c.tc : Thread Cert.PostReferenceIdeal.nD Cert.PostReferenceIdeal.τ).loc Cert.PostReferenceIdeal.main_arg5)
          ∧ r.2.mem ((c.tc : Thread Cert.PostReferenceIdeal.nD Cert.PostReferenceIdeal.τ).loc Cert.PostReferenceIdeal.main_arg6) = m' ((c.tc : Thread Cert.PostReferenceIdeal.nD Cert.PostReferenceIdeal.τ).loc Cert.PostReferenceIdeal.main_arg6)
          ∧ r.2.mem ((c.tc : Thread Cert.PostReferenceIdeal.nD Cert.PostReferenceIdeal.τ).loc Cert.PostReferenceIdeal.main_arg7) = m' ((c.tc : Thread Cert.PostReferenceIdeal.nD Cert.PostReferenceIdeal.τ).loc Cert.PostReferenceIdeal.main_arg7)
          ∧ r.2.mem ((c.tc : Thread Cert.PostReferenceIdeal.nD Cert.PostReferenceIdeal.τ).loc Cert.PostReferenceIdeal.main_arg8) = m' ((c.tc : Thread Cert.PostReferenceIdeal.nD Cert.PostReferenceIdeal.τ).loc Cert.PostReferenceIdeal.main_arg8))

def preserves_InWeightKernel_InWeightKernelIdeal : Prop :=
  True

def algebraic_InWeightKernelIdeal_InWeightReferenceIdeal [hInWeightKernelIdeal : Cert.InWeightKernelIdeal.Facts] [hInWeightReferenceIdeal : Cert.InWeightReferenceIdeal.Facts] : Prop :=
  ∀ (m : (ℓ : Loc Cert.InWeightKernelIdeal.nD Cert.InWeightKernelIdeal.τ Cert.InWeightKernelIdeal.sig) → Buf (Elt Ideal) ℓ) (g : Dev Cert.InWeightKernelIdeal.nD → PrngReg)
    (m' : (ℓ : Loc Cert.InWeightReferenceIdeal.nD Cert.InWeightReferenceIdeal.τ Cert.InWeightReferenceIdeal.sig) → Buf (Elt Ideal) ℓ) (g' : Dev Cert.InWeightReferenceIdeal.nD → PrngReg), Pre_InWeightKernelIdeal m →
    (∀ c : Dev Cert.InWeightKernelIdeal.nD,
      m' ((c.tc : Thread Cert.InWeightReferenceIdeal.nD Cert.InWeightReferenceIdeal.τ).loc Cert.InWeightReferenceIdeal.main_arg0) = m ((c.tc : Thread Cert.InWeightKernelIdeal.nD Cert.InWeightKernelIdeal.τ).loc Cert.InWeightKernelIdeal.main_arg0)
      ∧ m' ((c.tc : Thread Cert.InWeightReferenceIdeal.nD Cert.InWeightReferenceIdeal.τ).loc Cert.InWeightReferenceIdeal.main_arg1) = m ((c.tc : Thread Cert.InWeightKernelIdeal.nD Cert.InWeightKernelIdeal.τ).loc Cert.InWeightKernelIdeal.main_arg1)
      ∧ m' ((c.tc : Thread Cert.InWeightReferenceIdeal.nD Cert.InWeightReferenceIdeal.τ).loc Cert.InWeightReferenceIdeal.main_arg2) = m ((c.tc : Thread Cert.InWeightKernelIdeal.nD Cert.InWeightKernelIdeal.τ).loc Cert.InWeightKernelIdeal.main_arg2)
      ∧ m' ((c.tc : Thread Cert.InWeightReferenceIdeal.nD Cert.InWeightReferenceIdeal.τ).loc Cert.InWeightReferenceIdeal.main_arg3) = m ((c.tc : Thread Cert.InWeightKernelIdeal.nD Cert.InWeightKernelIdeal.τ).loc Cert.InWeightKernelIdeal.main_arg3)) →
    ∃ (v0 : (c : Dev Cert.InWeightKernelIdeal.nD) → Buf (Elt Ideal) ((c.tc : Thread Cert.InWeightKernelIdeal.nD Cert.InWeightKernelIdeal.τ).loc Cert.InWeightKernelIdeal.main_v0_0)) (v1 : (c : Dev Cert.InWeightKernelIdeal.nD) → Buf (Elt Ideal) ((c.tc : Thread Cert.InWeightKernelIdeal.nD Cert.InWeightKernelIdeal.τ).loc Cert.InWeightKernelIdeal.main_v0_1)) (v2 : (c : Dev Cert.InWeightKernelIdeal.nD) → Buf (Elt Ideal) ((c.tc : Thread Cert.InWeightKernelIdeal.nD Cert.InWeightKernelIdeal.τ).loc Cert.InWeightKernelIdeal.main_v0_2)) (v3 : (c : Dev Cert.InWeightKernelIdeal.nD) → Buf (Elt Ideal) ((c.tc : Thread Cert.InWeightKernelIdeal.nD Cert.InWeightKernelIdeal.τ).loc Cert.InWeightKernelIdeal.main_v0_3)),
      θ_run (Cert.InWeightKernelIdeal.defs (F := Ideal)) (onTc (τ := Cert.InWeightKernelIdeal.τ) (Cert.InWeightKernelIdeal.main (F := Ideal))) ⟨m, fun _ => 0, g⟩ (fun r => ∀ c : Dev Cert.InWeightKernelIdeal.nD,
          r.2.mem ((c.tc : Thread Cert.InWeightKernelIdeal.nD Cert.InWeightKernelIdeal.τ).loc Cert.InWeightKernelIdeal.main_v0_0) = v0 c
          ∧ r.2.mem ((c.tc : Thread Cert.InWeightKernelIdeal.nD Cert.InWeightKernelIdeal.τ).loc Cert.InWeightKernelIdeal.main_v0_1) = v1 c
          ∧ r.2.mem ((c.tc : Thread Cert.InWeightKernelIdeal.nD Cert.InWeightKernelIdeal.τ).loc Cert.InWeightKernelIdeal.main_v0_2) = v2 c
          ∧ r.2.mem ((c.tc : Thread Cert.InWeightKernelIdeal.nD Cert.InWeightKernelIdeal.τ).loc Cert.InWeightKernelIdeal.main_v0_3) = v3 c
          ∧ r.2.mem ((c.tc : Thread Cert.InWeightKernelIdeal.nD Cert.InWeightKernelIdeal.τ).loc Cert.InWeightKernelIdeal.main_arg0) = m ((c.tc : Thread Cert.InWeightKernelIdeal.nD Cert.InWeightKernelIdeal.τ).loc Cert.InWeightKernelIdeal.main_arg0)
          ∧ r.2.mem ((c.tc : Thread Cert.InWeightKernelIdeal.nD Cert.InWeightKernelIdeal.τ).loc Cert.InWeightKernelIdeal.main_arg1) = m ((c.tc : Thread Cert.InWeightKernelIdeal.nD Cert.InWeightKernelIdeal.τ).loc Cert.InWeightKernelIdeal.main_arg1)
          ∧ r.2.mem ((c.tc : Thread Cert.InWeightKernelIdeal.nD Cert.InWeightKernelIdeal.τ).loc Cert.InWeightKernelIdeal.main_arg2) = m ((c.tc : Thread Cert.InWeightKernelIdeal.nD Cert.InWeightKernelIdeal.τ).loc Cert.InWeightKernelIdeal.main_arg2)
          ∧ r.2.mem ((c.tc : Thread Cert.InWeightKernelIdeal.nD Cert.InWeightKernelIdeal.τ).loc Cert.InWeightKernelIdeal.main_arg3) = m ((c.tc : Thread Cert.InWeightKernelIdeal.nD Cert.InWeightKernelIdeal.τ).loc Cert.InWeightKernelIdeal.main_arg3))
      ∧ θ_run (Cert.InWeightReferenceIdeal.defs (F := Ideal)) (onTc (τ := Cert.InWeightReferenceIdeal.τ) (Cert.InWeightReferenceIdeal.main (F := Ideal))) ⟨m', fun _ => 0, g'⟩ (fun r => ∀ c : Dev Cert.InWeightReferenceIdeal.nD,
          r.2.mem ((c.tc : Thread Cert.InWeightReferenceIdeal.nD Cert.InWeightReferenceIdeal.τ).loc Cert.InWeightReferenceIdeal.main_v1) = v0 c
          ∧ r.2.mem ((c.tc : Thread Cert.InWeightReferenceIdeal.nD Cert.InWeightReferenceIdeal.τ).loc Cert.InWeightReferenceIdeal.main_v25) = v1 c
          ∧ r.2.mem ((c.tc : Thread Cert.InWeightReferenceIdeal.nD Cert.InWeightReferenceIdeal.τ).loc Cert.InWeightReferenceIdeal.main_v6) = v2 c
          ∧ r.2.mem ((c.tc : Thread Cert.InWeightReferenceIdeal.nD Cert.InWeightReferenceIdeal.τ).loc Cert.InWeightReferenceIdeal.main_v12) = v3 c
          ∧ r.2.mem ((c.tc : Thread Cert.InWeightReferenceIdeal.nD Cert.InWeightReferenceIdeal.τ).loc Cert.InWeightReferenceIdeal.main_arg0) = m' ((c.tc : Thread Cert.InWeightReferenceIdeal.nD Cert.InWeightReferenceIdeal.τ).loc Cert.InWeightReferenceIdeal.main_arg0)
          ∧ r.2.mem ((c.tc : Thread Cert.InWeightReferenceIdeal.nD Cert.InWeightReferenceIdeal.τ).loc Cert.InWeightReferenceIdeal.main_arg1) = m' ((c.tc : Thread Cert.InWeightReferenceIdeal.nD Cert.InWeightReferenceIdeal.τ).loc Cert.InWeightReferenceIdeal.main_arg1)
          ∧ r.2.mem ((c.tc : Thread Cert.InWeightReferenceIdeal.nD Cert.InWeightReferenceIdeal.τ).loc Cert.InWeightReferenceIdeal.main_arg2) = m' ((c.tc : Thread Cert.InWeightReferenceIdeal.nD Cert.InWeightReferenceIdeal.τ).loc Cert.InWeightReferenceIdeal.main_arg2)
          ∧ r.2.mem ((c.tc : Thread Cert.InWeightReferenceIdeal.nD Cert.InWeightReferenceIdeal.τ).loc Cert.InWeightReferenceIdeal.main_arg3) = m' ((c.tc : Thread Cert.InWeightReferenceIdeal.nD Cert.InWeightReferenceIdeal.τ).loc Cert.InWeightReferenceIdeal.main_arg3))

def preserves_SquareWeightKernel_SquareWeightKernelIdeal : Prop :=
  True

def algebraic_SquareWeightKernelIdeal_SquareWeightReferenceIdeal [hSquareWeightKernelIdeal : Cert.SquareWeightKernelIdeal.Facts] [hSquareWeightReferenceIdeal : Cert.SquareWeightReferenceIdeal.Facts] : Prop :=
  ∀ (m : (ℓ : Loc Cert.SquareWeightKernelIdeal.nD Cert.SquareWeightKernelIdeal.τ Cert.SquareWeightKernelIdeal.sig) → Buf (Elt Ideal) ℓ) (g : Dev Cert.SquareWeightKernelIdeal.nD → PrngReg)
    (m' : (ℓ : Loc Cert.SquareWeightReferenceIdeal.nD Cert.SquareWeightReferenceIdeal.τ Cert.SquareWeightReferenceIdeal.sig) → Buf (Elt Ideal) ℓ) (g' : Dev Cert.SquareWeightReferenceIdeal.nD → PrngReg), Pre_SquareWeightKernelIdeal m →
    (∀ c : Dev Cert.SquareWeightKernelIdeal.nD,
      m' ((c.tc : Thread Cert.SquareWeightReferenceIdeal.nD Cert.SquareWeightReferenceIdeal.τ).loc Cert.SquareWeightReferenceIdeal.main_arg0) = m ((c.tc : Thread Cert.SquareWeightKernelIdeal.nD Cert.SquareWeightKernelIdeal.τ).loc Cert.SquareWeightKernelIdeal.main_arg0)
      ∧ m' ((c.tc : Thread Cert.SquareWeightReferenceIdeal.nD Cert.SquareWeightReferenceIdeal.τ).loc Cert.SquareWeightReferenceIdeal.main_arg1) = m ((c.tc : Thread Cert.SquareWeightKernelIdeal.nD Cert.SquareWeightKernelIdeal.τ).loc Cert.SquareWeightKernelIdeal.main_arg1)
      ∧ m' ((c.tc : Thread Cert.SquareWeightReferenceIdeal.nD Cert.SquareWeightReferenceIdeal.τ).loc Cert.SquareWeightReferenceIdeal.main_arg2) = m ((c.tc : Thread Cert.SquareWeightKernelIdeal.nD Cert.SquareWeightKernelIdeal.τ).loc Cert.SquareWeightKernelIdeal.main_arg2)
      ∧ m' ((c.tc : Thread Cert.SquareWeightReferenceIdeal.nD Cert.SquareWeightReferenceIdeal.τ).loc Cert.SquareWeightReferenceIdeal.main_arg3) = m ((c.tc : Thread Cert.SquareWeightKernelIdeal.nD Cert.SquareWeightKernelIdeal.τ).loc Cert.SquareWeightKernelIdeal.main_arg3)) →
    ∃ (v0 : (c : Dev Cert.SquareWeightKernelIdeal.nD) → Buf (Elt Ideal) ((c.tc : Thread Cert.SquareWeightKernelIdeal.nD Cert.SquareWeightKernelIdeal.τ).loc Cert.SquareWeightKernelIdeal.main_v0_0)) (v1 : (c : Dev Cert.SquareWeightKernelIdeal.nD) → Buf (Elt Ideal) ((c.tc : Thread Cert.SquareWeightKernelIdeal.nD Cert.SquareWeightKernelIdeal.τ).loc Cert.SquareWeightKernelIdeal.main_v0_1)) (v2 : (c : Dev Cert.SquareWeightKernelIdeal.nD) → Buf (Elt Ideal) ((c.tc : Thread Cert.SquareWeightKernelIdeal.nD Cert.SquareWeightKernelIdeal.τ).loc Cert.SquareWeightKernelIdeal.main_v0_2)) (v3 : (c : Dev Cert.SquareWeightKernelIdeal.nD) → Buf (Elt Ideal) ((c.tc : Thread Cert.SquareWeightKernelIdeal.nD Cert.SquareWeightKernelIdeal.τ).loc Cert.SquareWeightKernelIdeal.main_v0_3)),
      θ_run (Cert.SquareWeightKernelIdeal.defs (F := Ideal)) (onTc (τ := Cert.SquareWeightKernelIdeal.τ) (Cert.SquareWeightKernelIdeal.main (F := Ideal))) ⟨m, fun _ => 0, g⟩ (fun r => ∀ c : Dev Cert.SquareWeightKernelIdeal.nD,
          r.2.mem ((c.tc : Thread Cert.SquareWeightKernelIdeal.nD Cert.SquareWeightKernelIdeal.τ).loc Cert.SquareWeightKernelIdeal.main_v0_0) = v0 c
          ∧ r.2.mem ((c.tc : Thread Cert.SquareWeightKernelIdeal.nD Cert.SquareWeightKernelIdeal.τ).loc Cert.SquareWeightKernelIdeal.main_v0_1) = v1 c
          ∧ r.2.mem ((c.tc : Thread Cert.SquareWeightKernelIdeal.nD Cert.SquareWeightKernelIdeal.τ).loc Cert.SquareWeightKernelIdeal.main_v0_2) = v2 c
          ∧ r.2.mem ((c.tc : Thread Cert.SquareWeightKernelIdeal.nD Cert.SquareWeightKernelIdeal.τ).loc Cert.SquareWeightKernelIdeal.main_v0_3) = v3 c
          ∧ r.2.mem ((c.tc : Thread Cert.SquareWeightKernelIdeal.nD Cert.SquareWeightKernelIdeal.τ).loc Cert.SquareWeightKernelIdeal.main_arg0) = m ((c.tc : Thread Cert.SquareWeightKernelIdeal.nD Cert.SquareWeightKernelIdeal.τ).loc Cert.SquareWeightKernelIdeal.main_arg0)
          ∧ r.2.mem ((c.tc : Thread Cert.SquareWeightKernelIdeal.nD Cert.SquareWeightKernelIdeal.τ).loc Cert.SquareWeightKernelIdeal.main_arg1) = m ((c.tc : Thread Cert.SquareWeightKernelIdeal.nD Cert.SquareWeightKernelIdeal.τ).loc Cert.SquareWeightKernelIdeal.main_arg1)
          ∧ r.2.mem ((c.tc : Thread Cert.SquareWeightKernelIdeal.nD Cert.SquareWeightKernelIdeal.τ).loc Cert.SquareWeightKernelIdeal.main_arg2) = m ((c.tc : Thread Cert.SquareWeightKernelIdeal.nD Cert.SquareWeightKernelIdeal.τ).loc Cert.SquareWeightKernelIdeal.main_arg2)
          ∧ r.2.mem ((c.tc : Thread Cert.SquareWeightKernelIdeal.nD Cert.SquareWeightKernelIdeal.τ).loc Cert.SquareWeightKernelIdeal.main_arg3) = m ((c.tc : Thread Cert.SquareWeightKernelIdeal.nD Cert.SquareWeightKernelIdeal.τ).loc Cert.SquareWeightKernelIdeal.main_arg3))
      ∧ θ_run (Cert.SquareWeightReferenceIdeal.defs (F := Ideal)) (onTc (τ := Cert.SquareWeightReferenceIdeal.τ) (Cert.SquareWeightReferenceIdeal.main (F := Ideal))) ⟨m', fun _ => 0, g'⟩ (fun r => ∀ c : Dev Cert.SquareWeightReferenceIdeal.nD,
          r.2.mem ((c.tc : Thread Cert.SquareWeightReferenceIdeal.nD Cert.SquareWeightReferenceIdeal.τ).loc Cert.SquareWeightReferenceIdeal.main_v1) = v0 c
          ∧ r.2.mem ((c.tc : Thread Cert.SquareWeightReferenceIdeal.nD Cert.SquareWeightReferenceIdeal.τ).loc Cert.SquareWeightReferenceIdeal.main_v25) = v1 c
          ∧ r.2.mem ((c.tc : Thread Cert.SquareWeightReferenceIdeal.nD Cert.SquareWeightReferenceIdeal.τ).loc Cert.SquareWeightReferenceIdeal.main_v6) = v2 c
          ∧ r.2.mem ((c.tc : Thread Cert.SquareWeightReferenceIdeal.nD Cert.SquareWeightReferenceIdeal.τ).loc Cert.SquareWeightReferenceIdeal.main_v12) = v3 c
          ∧ r.2.mem ((c.tc : Thread Cert.SquareWeightReferenceIdeal.nD Cert.SquareWeightReferenceIdeal.τ).loc Cert.SquareWeightReferenceIdeal.main_arg0) = m' ((c.tc : Thread Cert.SquareWeightReferenceIdeal.nD Cert.SquareWeightReferenceIdeal.τ).loc Cert.SquareWeightReferenceIdeal.main_arg0)
          ∧ r.2.mem ((c.tc : Thread Cert.SquareWeightReferenceIdeal.nD Cert.SquareWeightReferenceIdeal.τ).loc Cert.SquareWeightReferenceIdeal.main_arg1) = m' ((c.tc : Thread Cert.SquareWeightReferenceIdeal.nD Cert.SquareWeightReferenceIdeal.τ).loc Cert.SquareWeightReferenceIdeal.main_arg1)
          ∧ r.2.mem ((c.tc : Thread Cert.SquareWeightReferenceIdeal.nD Cert.SquareWeightReferenceIdeal.τ).loc Cert.SquareWeightReferenceIdeal.main_arg2) = m' ((c.tc : Thread Cert.SquareWeightReferenceIdeal.nD Cert.SquareWeightReferenceIdeal.τ).loc Cert.SquareWeightReferenceIdeal.main_arg2)
          ∧ r.2.mem ((c.tc : Thread Cert.SquareWeightReferenceIdeal.nD Cert.SquareWeightReferenceIdeal.τ).loc Cert.SquareWeightReferenceIdeal.main_arg3) = m' ((c.tc : Thread Cert.SquareWeightReferenceIdeal.nD Cert.SquareWeightReferenceIdeal.τ).loc Cert.SquareWeightReferenceIdeal.main_arg3))

def preserves_AttnWeightKernel_AttnWeightKernelIdeal : Prop :=
  True

def algebraic_AttnWeightKernelIdeal_AttnWeightReferenceIdeal [hAttnWeightKernelIdeal : Cert.AttnWeightKernelIdeal.Facts] [hAttnWeightReferenceIdeal : Cert.AttnWeightReferenceIdeal.Facts] : Prop :=
  ∀ (m : (ℓ : Loc Cert.AttnWeightKernelIdeal.nD Cert.AttnWeightKernelIdeal.τ Cert.AttnWeightKernelIdeal.sig) → Buf (Elt Ideal) ℓ) (g : Dev Cert.AttnWeightKernelIdeal.nD → PrngReg)
    (m' : (ℓ : Loc Cert.AttnWeightReferenceIdeal.nD Cert.AttnWeightReferenceIdeal.τ Cert.AttnWeightReferenceIdeal.sig) → Buf (Elt Ideal) ℓ) (g' : Dev Cert.AttnWeightReferenceIdeal.nD → PrngReg), Pre_AttnWeightKernelIdeal m →
    (∀ c : Dev Cert.AttnWeightKernelIdeal.nD,
      m' ((c.tc : Thread Cert.AttnWeightReferenceIdeal.nD Cert.AttnWeightReferenceIdeal.τ).loc Cert.AttnWeightReferenceIdeal.main_arg0) = m ((c.tc : Thread Cert.AttnWeightKernelIdeal.nD Cert.AttnWeightKernelIdeal.τ).loc Cert.AttnWeightKernelIdeal.main_arg0)
      ∧ m' ((c.tc : Thread Cert.AttnWeightReferenceIdeal.nD Cert.AttnWeightReferenceIdeal.τ).loc Cert.AttnWeightReferenceIdeal.main_arg1) = m ((c.tc : Thread Cert.AttnWeightKernelIdeal.nD Cert.AttnWeightKernelIdeal.τ).loc Cert.AttnWeightKernelIdeal.main_arg1)
      ∧ m' ((c.tc : Thread Cert.AttnWeightReferenceIdeal.nD Cert.AttnWeightReferenceIdeal.τ).loc Cert.AttnWeightReferenceIdeal.main_arg2) = m ((c.tc : Thread Cert.AttnWeightKernelIdeal.nD Cert.AttnWeightKernelIdeal.τ).loc Cert.AttnWeightKernelIdeal.main_arg2)
      ∧ m' ((c.tc : Thread Cert.AttnWeightReferenceIdeal.nD Cert.AttnWeightReferenceIdeal.τ).loc Cert.AttnWeightReferenceIdeal.main_arg3) = m ((c.tc : Thread Cert.AttnWeightKernelIdeal.nD Cert.AttnWeightKernelIdeal.τ).loc Cert.AttnWeightKernelIdeal.main_arg3)) →
    ∃ (v0 : (c : Dev Cert.AttnWeightKernelIdeal.nD) → Buf (Elt Ideal) ((c.tc : Thread Cert.AttnWeightKernelIdeal.nD Cert.AttnWeightKernelIdeal.τ).loc Cert.AttnWeightKernelIdeal.main_v0_0)) (v1 : (c : Dev Cert.AttnWeightKernelIdeal.nD) → Buf (Elt Ideal) ((c.tc : Thread Cert.AttnWeightKernelIdeal.nD Cert.AttnWeightKernelIdeal.τ).loc Cert.AttnWeightKernelIdeal.main_v0_1)) (v2 : (c : Dev Cert.AttnWeightKernelIdeal.nD) → Buf (Elt Ideal) ((c.tc : Thread Cert.AttnWeightKernelIdeal.nD Cert.AttnWeightKernelIdeal.τ).loc Cert.AttnWeightKernelIdeal.main_v0_2)) (v3 : (c : Dev Cert.AttnWeightKernelIdeal.nD) → Buf (Elt Ideal) ((c.tc : Thread Cert.AttnWeightKernelIdeal.nD Cert.AttnWeightKernelIdeal.τ).loc Cert.AttnWeightKernelIdeal.main_v0_3)),
      θ_run (Cert.AttnWeightKernelIdeal.defs (F := Ideal)) (onTc (τ := Cert.AttnWeightKernelIdeal.τ) (Cert.AttnWeightKernelIdeal.main (F := Ideal))) ⟨m, fun _ => 0, g⟩ (fun r => ∀ c : Dev Cert.AttnWeightKernelIdeal.nD,
          r.2.mem ((c.tc : Thread Cert.AttnWeightKernelIdeal.nD Cert.AttnWeightKernelIdeal.τ).loc Cert.AttnWeightKernelIdeal.main_v0_0) = v0 c
          ∧ r.2.mem ((c.tc : Thread Cert.AttnWeightKernelIdeal.nD Cert.AttnWeightKernelIdeal.τ).loc Cert.AttnWeightKernelIdeal.main_v0_1) = v1 c
          ∧ r.2.mem ((c.tc : Thread Cert.AttnWeightKernelIdeal.nD Cert.AttnWeightKernelIdeal.τ).loc Cert.AttnWeightKernelIdeal.main_v0_2) = v2 c
          ∧ r.2.mem ((c.tc : Thread Cert.AttnWeightKernelIdeal.nD Cert.AttnWeightKernelIdeal.τ).loc Cert.AttnWeightKernelIdeal.main_v0_3) = v3 c
          ∧ r.2.mem ((c.tc : Thread Cert.AttnWeightKernelIdeal.nD Cert.AttnWeightKernelIdeal.τ).loc Cert.AttnWeightKernelIdeal.main_arg0) = m ((c.tc : Thread Cert.AttnWeightKernelIdeal.nD Cert.AttnWeightKernelIdeal.τ).loc Cert.AttnWeightKernelIdeal.main_arg0)
          ∧ r.2.mem ((c.tc : Thread Cert.AttnWeightKernelIdeal.nD Cert.AttnWeightKernelIdeal.τ).loc Cert.AttnWeightKernelIdeal.main_arg1) = m ((c.tc : Thread Cert.AttnWeightKernelIdeal.nD Cert.AttnWeightKernelIdeal.τ).loc Cert.AttnWeightKernelIdeal.main_arg1)
          ∧ r.2.mem ((c.tc : Thread Cert.AttnWeightKernelIdeal.nD Cert.AttnWeightKernelIdeal.τ).loc Cert.AttnWeightKernelIdeal.main_arg2) = m ((c.tc : Thread Cert.AttnWeightKernelIdeal.nD Cert.AttnWeightKernelIdeal.τ).loc Cert.AttnWeightKernelIdeal.main_arg2)
          ∧ r.2.mem ((c.tc : Thread Cert.AttnWeightKernelIdeal.nD Cert.AttnWeightKernelIdeal.τ).loc Cert.AttnWeightKernelIdeal.main_arg3) = m ((c.tc : Thread Cert.AttnWeightKernelIdeal.nD Cert.AttnWeightKernelIdeal.τ).loc Cert.AttnWeightKernelIdeal.main_arg3))
      ∧ θ_run (Cert.AttnWeightReferenceIdeal.defs (F := Ideal)) (onTc (τ := Cert.AttnWeightReferenceIdeal.τ) (Cert.AttnWeightReferenceIdeal.main (F := Ideal))) ⟨m', fun _ => 0, g'⟩ (fun r => ∀ c : Dev Cert.AttnWeightReferenceIdeal.nD,
          r.2.mem ((c.tc : Thread Cert.AttnWeightReferenceIdeal.nD Cert.AttnWeightReferenceIdeal.τ).loc Cert.AttnWeightReferenceIdeal.main_v1) = v0 c
          ∧ r.2.mem ((c.tc : Thread Cert.AttnWeightReferenceIdeal.nD Cert.AttnWeightReferenceIdeal.τ).loc Cert.AttnWeightReferenceIdeal.main_v25) = v1 c
          ∧ r.2.mem ((c.tc : Thread Cert.AttnWeightReferenceIdeal.nD Cert.AttnWeightReferenceIdeal.τ).loc Cert.AttnWeightReferenceIdeal.main_v6) = v2 c
          ∧ r.2.mem ((c.tc : Thread Cert.AttnWeightReferenceIdeal.nD Cert.AttnWeightReferenceIdeal.τ).loc Cert.AttnWeightReferenceIdeal.main_v12) = v3 c
          ∧ r.2.mem ((c.tc : Thread Cert.AttnWeightReferenceIdeal.nD Cert.AttnWeightReferenceIdeal.τ).loc Cert.AttnWeightReferenceIdeal.main_arg0) = m' ((c.tc : Thread Cert.AttnWeightReferenceIdeal.nD Cert.AttnWeightReferenceIdeal.τ).loc Cert.AttnWeightReferenceIdeal.main_arg0)
          ∧ r.2.mem ((c.tc : Thread Cert.AttnWeightReferenceIdeal.nD Cert.AttnWeightReferenceIdeal.τ).loc Cert.AttnWeightReferenceIdeal.main_arg1) = m' ((c.tc : Thread Cert.AttnWeightReferenceIdeal.nD Cert.AttnWeightReferenceIdeal.τ).loc Cert.AttnWeightReferenceIdeal.main_arg1)
          ∧ r.2.mem ((c.tc : Thread Cert.AttnWeightReferenceIdeal.nD Cert.AttnWeightReferenceIdeal.τ).loc Cert.AttnWeightReferenceIdeal.main_arg2) = m' ((c.tc : Thread Cert.AttnWeightReferenceIdeal.nD Cert.AttnWeightReferenceIdeal.τ).loc Cert.AttnWeightReferenceIdeal.main_arg2)
          ∧ r.2.mem ((c.tc : Thread Cert.AttnWeightReferenceIdeal.nD Cert.AttnWeightReferenceIdeal.τ).loc Cert.AttnWeightReferenceIdeal.main_arg3) = m' ((c.tc : Thread Cert.AttnWeightReferenceIdeal.nD Cert.AttnWeightReferenceIdeal.τ).loc Cert.AttnWeightReferenceIdeal.main_arg3))

def preserves_ModWeightKernel_ModWeightKernelIdeal : Prop :=
  True

def algebraic_ModWeightKernelIdeal_ModWeightReferenceIdeal [hModWeightKernelIdeal : Cert.ModWeightKernelIdeal.Facts] [hModWeightReferenceIdeal : Cert.ModWeightReferenceIdeal.Facts] : Prop :=
  ∀ (m : (ℓ : Loc Cert.ModWeightKernelIdeal.nD Cert.ModWeightKernelIdeal.τ Cert.ModWeightKernelIdeal.sig) → Buf (Elt Ideal) ℓ) (g : Dev Cert.ModWeightKernelIdeal.nD → PrngReg)
    (m' : (ℓ : Loc Cert.ModWeightReferenceIdeal.nD Cert.ModWeightReferenceIdeal.τ Cert.ModWeightReferenceIdeal.sig) → Buf (Elt Ideal) ℓ) (g' : Dev Cert.ModWeightReferenceIdeal.nD → PrngReg), Pre_ModWeightKernelIdeal m →
    (∀ c : Dev Cert.ModWeightKernelIdeal.nD,
      m' ((c.tc : Thread Cert.ModWeightReferenceIdeal.nD Cert.ModWeightReferenceIdeal.τ).loc Cert.ModWeightReferenceIdeal.main_arg0) = m ((c.tc : Thread Cert.ModWeightKernelIdeal.nD Cert.ModWeightKernelIdeal.τ).loc Cert.ModWeightKernelIdeal.main_arg0)
      ∧ m' ((c.tc : Thread Cert.ModWeightReferenceIdeal.nD Cert.ModWeightReferenceIdeal.τ).loc Cert.ModWeightReferenceIdeal.main_arg1) = m ((c.tc : Thread Cert.ModWeightKernelIdeal.nD Cert.ModWeightKernelIdeal.τ).loc Cert.ModWeightKernelIdeal.main_arg1)
      ∧ m' ((c.tc : Thread Cert.ModWeightReferenceIdeal.nD Cert.ModWeightReferenceIdeal.τ).loc Cert.ModWeightReferenceIdeal.main_arg2) = m ((c.tc : Thread Cert.ModWeightKernelIdeal.nD Cert.ModWeightKernelIdeal.τ).loc Cert.ModWeightKernelIdeal.main_arg2)
      ∧ m' ((c.tc : Thread Cert.ModWeightReferenceIdeal.nD Cert.ModWeightReferenceIdeal.τ).loc Cert.ModWeightReferenceIdeal.main_arg3) = m ((c.tc : Thread Cert.ModWeightKernelIdeal.nD Cert.ModWeightKernelIdeal.τ).loc Cert.ModWeightKernelIdeal.main_arg3)) →
    ∃ (v0 : (c : Dev Cert.ModWeightKernelIdeal.nD) → Buf (Elt Ideal) ((c.tc : Thread Cert.ModWeightKernelIdeal.nD Cert.ModWeightKernelIdeal.τ).loc Cert.ModWeightKernelIdeal.main_v0_0)) (v1 : (c : Dev Cert.ModWeightKernelIdeal.nD) → Buf (Elt Ideal) ((c.tc : Thread Cert.ModWeightKernelIdeal.nD Cert.ModWeightKernelIdeal.τ).loc Cert.ModWeightKernelIdeal.main_v0_1)) (v2 : (c : Dev Cert.ModWeightKernelIdeal.nD) → Buf (Elt Ideal) ((c.tc : Thread Cert.ModWeightKernelIdeal.nD Cert.ModWeightKernelIdeal.τ).loc Cert.ModWeightKernelIdeal.main_v0_2)) (v3 : (c : Dev Cert.ModWeightKernelIdeal.nD) → Buf (Elt Ideal) ((c.tc : Thread Cert.ModWeightKernelIdeal.nD Cert.ModWeightKernelIdeal.τ).loc Cert.ModWeightKernelIdeal.main_v0_3)),
      θ_run (Cert.ModWeightKernelIdeal.defs (F := Ideal)) (onTc (τ := Cert.ModWeightKernelIdeal.τ) (Cert.ModWeightKernelIdeal.main (F := Ideal))) ⟨m, fun _ => 0, g⟩ (fun r => ∀ c : Dev Cert.ModWeightKernelIdeal.nD,
          r.2.mem ((c.tc : Thread Cert.ModWeightKernelIdeal.nD Cert.ModWeightKernelIdeal.τ).loc Cert.ModWeightKernelIdeal.main_v0_0) = v0 c
          ∧ r.2.mem ((c.tc : Thread Cert.ModWeightKernelIdeal.nD Cert.ModWeightKernelIdeal.τ).loc Cert.ModWeightKernelIdeal.main_v0_1) = v1 c
          ∧ r.2.mem ((c.tc : Thread Cert.ModWeightKernelIdeal.nD Cert.ModWeightKernelIdeal.τ).loc Cert.ModWeightKernelIdeal.main_v0_2) = v2 c
          ∧ r.2.mem ((c.tc : Thread Cert.ModWeightKernelIdeal.nD Cert.ModWeightKernelIdeal.τ).loc Cert.ModWeightKernelIdeal.main_v0_3) = v3 c
          ∧ r.2.mem ((c.tc : Thread Cert.ModWeightKernelIdeal.nD Cert.ModWeightKernelIdeal.τ).loc Cert.ModWeightKernelIdeal.main_arg0) = m ((c.tc : Thread Cert.ModWeightKernelIdeal.nD Cert.ModWeightKernelIdeal.τ).loc Cert.ModWeightKernelIdeal.main_arg0)
          ∧ r.2.mem ((c.tc : Thread Cert.ModWeightKernelIdeal.nD Cert.ModWeightKernelIdeal.τ).loc Cert.ModWeightKernelIdeal.main_arg1) = m ((c.tc : Thread Cert.ModWeightKernelIdeal.nD Cert.ModWeightKernelIdeal.τ).loc Cert.ModWeightKernelIdeal.main_arg1)
          ∧ r.2.mem ((c.tc : Thread Cert.ModWeightKernelIdeal.nD Cert.ModWeightKernelIdeal.τ).loc Cert.ModWeightKernelIdeal.main_arg2) = m ((c.tc : Thread Cert.ModWeightKernelIdeal.nD Cert.ModWeightKernelIdeal.τ).loc Cert.ModWeightKernelIdeal.main_arg2)
          ∧ r.2.mem ((c.tc : Thread Cert.ModWeightKernelIdeal.nD Cert.ModWeightKernelIdeal.τ).loc Cert.ModWeightKernelIdeal.main_arg3) = m ((c.tc : Thread Cert.ModWeightKernelIdeal.nD Cert.ModWeightKernelIdeal.τ).loc Cert.ModWeightKernelIdeal.main_arg3))
      ∧ θ_run (Cert.ModWeightReferenceIdeal.defs (F := Ideal)) (onTc (τ := Cert.ModWeightReferenceIdeal.τ) (Cert.ModWeightReferenceIdeal.main (F := Ideal))) ⟨m', fun _ => 0, g'⟩ (fun r => ∀ c : Dev Cert.ModWeightReferenceIdeal.nD,
          r.2.mem ((c.tc : Thread Cert.ModWeightReferenceIdeal.nD Cert.ModWeightReferenceIdeal.τ).loc Cert.ModWeightReferenceIdeal.main_v0) = v0 c
          ∧ r.2.mem ((c.tc : Thread Cert.ModWeightReferenceIdeal.nD Cert.ModWeightReferenceIdeal.τ).loc Cert.ModWeightReferenceIdeal.main_v24) = v1 c
          ∧ r.2.mem ((c.tc : Thread Cert.ModWeightReferenceIdeal.nD Cert.ModWeightReferenceIdeal.τ).loc Cert.ModWeightReferenceIdeal.main_v5) = v2 c
          ∧ r.2.mem ((c.tc : Thread Cert.ModWeightReferenceIdeal.nD Cert.ModWeightReferenceIdeal.τ).loc Cert.ModWeightReferenceIdeal.main_v11) = v3 c
          ∧ r.2.mem ((c.tc : Thread Cert.ModWeightReferenceIdeal.nD Cert.ModWeightReferenceIdeal.τ).loc Cert.ModWeightReferenceIdeal.main_arg0) = m' ((c.tc : Thread Cert.ModWeightReferenceIdeal.nD Cert.ModWeightReferenceIdeal.τ).loc Cert.ModWeightReferenceIdeal.main_arg0)
          ∧ r.2.mem ((c.tc : Thread Cert.ModWeightReferenceIdeal.nD Cert.ModWeightReferenceIdeal.τ).loc Cert.ModWeightReferenceIdeal.main_arg1) = m' ((c.tc : Thread Cert.ModWeightReferenceIdeal.nD Cert.ModWeightReferenceIdeal.τ).loc Cert.ModWeightReferenceIdeal.main_arg1)
          ∧ r.2.mem ((c.tc : Thread Cert.ModWeightReferenceIdeal.nD Cert.ModWeightReferenceIdeal.τ).loc Cert.ModWeightReferenceIdeal.main_arg2) = m' ((c.tc : Thread Cert.ModWeightReferenceIdeal.nD Cert.ModWeightReferenceIdeal.τ).loc Cert.ModWeightReferenceIdeal.main_arg2)
          ∧ r.2.mem ((c.tc : Thread Cert.ModWeightReferenceIdeal.nD Cert.ModWeightReferenceIdeal.τ).loc Cert.ModWeightReferenceIdeal.main_arg3) = m' ((c.tc : Thread Cert.ModWeightReferenceIdeal.nD Cert.ModWeightReferenceIdeal.τ).loc Cert.ModWeightReferenceIdeal.main_arg3))

def preserves_SmallWeightKernel_SmallWeightKernelIdeal : Prop :=
  True

def algebraic_SmallWeightKernelIdeal_SmallWeightReferenceIdeal [hSmallWeightKernelIdeal : Cert.SmallWeightKernelIdeal.Facts] [hSmallWeightReferenceIdeal : Cert.SmallWeightReferenceIdeal.Facts] : Prop :=
  ∀ (m : (ℓ : Loc Cert.SmallWeightKernelIdeal.nD Cert.SmallWeightKernelIdeal.τ Cert.SmallWeightKernelIdeal.sig) → Buf (Elt Ideal) ℓ) (g : Dev Cert.SmallWeightKernelIdeal.nD → PrngReg)
    (m' : (ℓ : Loc Cert.SmallWeightReferenceIdeal.nD Cert.SmallWeightReferenceIdeal.τ Cert.SmallWeightReferenceIdeal.sig) → Buf (Elt Ideal) ℓ) (g' : Dev Cert.SmallWeightReferenceIdeal.nD → PrngReg), Pre_SmallWeightKernelIdeal m →
    (∀ c : Dev Cert.SmallWeightKernelIdeal.nD,
      m' ((c.tc : Thread Cert.SmallWeightReferenceIdeal.nD Cert.SmallWeightReferenceIdeal.τ).loc Cert.SmallWeightReferenceIdeal.main_arg0) = m ((c.tc : Thread Cert.SmallWeightKernelIdeal.nD Cert.SmallWeightKernelIdeal.τ).loc Cert.SmallWeightKernelIdeal.main_arg0)
      ∧ m' ((c.tc : Thread Cert.SmallWeightReferenceIdeal.nD Cert.SmallWeightReferenceIdeal.τ).loc Cert.SmallWeightReferenceIdeal.main_arg1) = m ((c.tc : Thread Cert.SmallWeightKernelIdeal.nD Cert.SmallWeightKernelIdeal.τ).loc Cert.SmallWeightKernelIdeal.main_arg1)
      ∧ m' ((c.tc : Thread Cert.SmallWeightReferenceIdeal.nD Cert.SmallWeightReferenceIdeal.τ).loc Cert.SmallWeightReferenceIdeal.main_arg2) = m ((c.tc : Thread Cert.SmallWeightKernelIdeal.nD Cert.SmallWeightKernelIdeal.τ).loc Cert.SmallWeightKernelIdeal.main_arg2)
      ∧ m' ((c.tc : Thread Cert.SmallWeightReferenceIdeal.nD Cert.SmallWeightReferenceIdeal.τ).loc Cert.SmallWeightReferenceIdeal.main_arg3) = m ((c.tc : Thread Cert.SmallWeightKernelIdeal.nD Cert.SmallWeightKernelIdeal.τ).loc Cert.SmallWeightKernelIdeal.main_arg3)) →
    ∃ (v0 : (c : Dev Cert.SmallWeightKernelIdeal.nD) → Buf (Elt Ideal) ((c.tc : Thread Cert.SmallWeightKernelIdeal.nD Cert.SmallWeightKernelIdeal.τ).loc Cert.SmallWeightKernelIdeal.main_v0_0)) (v1 : (c : Dev Cert.SmallWeightKernelIdeal.nD) → Buf (Elt Ideal) ((c.tc : Thread Cert.SmallWeightKernelIdeal.nD Cert.SmallWeightKernelIdeal.τ).loc Cert.SmallWeightKernelIdeal.main_v0_1)) (v2 : (c : Dev Cert.SmallWeightKernelIdeal.nD) → Buf (Elt Ideal) ((c.tc : Thread Cert.SmallWeightKernelIdeal.nD Cert.SmallWeightKernelIdeal.τ).loc Cert.SmallWeightKernelIdeal.main_v0_2)) (v3 : (c : Dev Cert.SmallWeightKernelIdeal.nD) → Buf (Elt Ideal) ((c.tc : Thread Cert.SmallWeightKernelIdeal.nD Cert.SmallWeightKernelIdeal.τ).loc Cert.SmallWeightKernelIdeal.main_v0_3)),
      θ_run (Cert.SmallWeightKernelIdeal.defs (F := Ideal)) (onTc (τ := Cert.SmallWeightKernelIdeal.τ) (Cert.SmallWeightKernelIdeal.main (F := Ideal))) ⟨m, fun _ => 0, g⟩ (fun r => ∀ c : Dev Cert.SmallWeightKernelIdeal.nD,
          r.2.mem ((c.tc : Thread Cert.SmallWeightKernelIdeal.nD Cert.SmallWeightKernelIdeal.τ).loc Cert.SmallWeightKernelIdeal.main_v0_0) = v0 c
          ∧ r.2.mem ((c.tc : Thread Cert.SmallWeightKernelIdeal.nD Cert.SmallWeightKernelIdeal.τ).loc Cert.SmallWeightKernelIdeal.main_v0_1) = v1 c
          ∧ r.2.mem ((c.tc : Thread Cert.SmallWeightKernelIdeal.nD Cert.SmallWeightKernelIdeal.τ).loc Cert.SmallWeightKernelIdeal.main_v0_2) = v2 c
          ∧ r.2.mem ((c.tc : Thread Cert.SmallWeightKernelIdeal.nD Cert.SmallWeightKernelIdeal.τ).loc Cert.SmallWeightKernelIdeal.main_v0_3) = v3 c
          ∧ r.2.mem ((c.tc : Thread Cert.SmallWeightKernelIdeal.nD Cert.SmallWeightKernelIdeal.τ).loc Cert.SmallWeightKernelIdeal.main_arg0) = m ((c.tc : Thread Cert.SmallWeightKernelIdeal.nD Cert.SmallWeightKernelIdeal.τ).loc Cert.SmallWeightKernelIdeal.main_arg0)
          ∧ r.2.mem ((c.tc : Thread Cert.SmallWeightKernelIdeal.nD Cert.SmallWeightKernelIdeal.τ).loc Cert.SmallWeightKernelIdeal.main_arg1) = m ((c.tc : Thread Cert.SmallWeightKernelIdeal.nD Cert.SmallWeightKernelIdeal.τ).loc Cert.SmallWeightKernelIdeal.main_arg1)
          ∧ r.2.mem ((c.tc : Thread Cert.SmallWeightKernelIdeal.nD Cert.SmallWeightKernelIdeal.τ).loc Cert.SmallWeightKernelIdeal.main_arg2) = m ((c.tc : Thread Cert.SmallWeightKernelIdeal.nD Cert.SmallWeightKernelIdeal.τ).loc Cert.SmallWeightKernelIdeal.main_arg2)
          ∧ r.2.mem ((c.tc : Thread Cert.SmallWeightKernelIdeal.nD Cert.SmallWeightKernelIdeal.τ).loc Cert.SmallWeightKernelIdeal.main_arg3) = m ((c.tc : Thread Cert.SmallWeightKernelIdeal.nD Cert.SmallWeightKernelIdeal.τ).loc Cert.SmallWeightKernelIdeal.main_arg3))
      ∧ θ_run (Cert.SmallWeightReferenceIdeal.defs (F := Ideal)) (onTc (τ := Cert.SmallWeightReferenceIdeal.τ) (Cert.SmallWeightReferenceIdeal.main (F := Ideal))) ⟨m', fun _ => 0, g'⟩ (fun r => ∀ c : Dev Cert.SmallWeightReferenceIdeal.nD,
          r.2.mem ((c.tc : Thread Cert.SmallWeightReferenceIdeal.nD Cert.SmallWeightReferenceIdeal.τ).loc Cert.SmallWeightReferenceIdeal.main_v0) = v0 c
          ∧ r.2.mem ((c.tc : Thread Cert.SmallWeightReferenceIdeal.nD Cert.SmallWeightReferenceIdeal.τ).loc Cert.SmallWeightReferenceIdeal.main_v24) = v1 c
          ∧ r.2.mem ((c.tc : Thread Cert.SmallWeightReferenceIdeal.nD Cert.SmallWeightReferenceIdeal.τ).loc Cert.SmallWeightReferenceIdeal.main_v5) = v2 c
          ∧ r.2.mem ((c.tc : Thread Cert.SmallWeightReferenceIdeal.nD Cert.SmallWeightReferenceIdeal.τ).loc Cert.SmallWeightReferenceIdeal.main_v11) = v3 c
          ∧ r.2.mem ((c.tc : Thread Cert.SmallWeightReferenceIdeal.nD Cert.SmallWeightReferenceIdeal.τ).loc Cert.SmallWeightReferenceIdeal.main_arg0) = m' ((c.tc : Thread Cert.SmallWeightReferenceIdeal.nD Cert.SmallWeightReferenceIdeal.τ).loc Cert.SmallWeightReferenceIdeal.main_arg0)
          ∧ r.2.mem ((c.tc : Thread Cert.SmallWeightReferenceIdeal.nD Cert.SmallWeightReferenceIdeal.τ).loc Cert.SmallWeightReferenceIdeal.main_arg1) = m' ((c.tc : Thread Cert.SmallWeightReferenceIdeal.nD Cert.SmallWeightReferenceIdeal.τ).loc Cert.SmallWeightReferenceIdeal.main_arg1)
          ∧ r.2.mem ((c.tc : Thread Cert.SmallWeightReferenceIdeal.nD Cert.SmallWeightReferenceIdeal.τ).loc Cert.SmallWeightReferenceIdeal.main_arg2) = m' ((c.tc : Thread Cert.SmallWeightReferenceIdeal.nD Cert.SmallWeightReferenceIdeal.τ).loc Cert.SmallWeightReferenceIdeal.main_arg2)
          ∧ r.2.mem ((c.tc : Thread Cert.SmallWeightReferenceIdeal.nD Cert.SmallWeightReferenceIdeal.τ).loc Cert.SmallWeightReferenceIdeal.main_arg3) = m' ((c.tc : Thread Cert.SmallWeightReferenceIdeal.nD Cert.SmallWeightReferenceIdeal.τ).loc Cert.SmallWeightReferenceIdeal.main_arg3))

def preserves_SumKernel_SumKernelIdeal : Prop :=
  True

def algebraic_SumKernelIdeal_SumReferenceIdeal [hSumKernelIdeal : Cert.SumKernelIdeal.Facts] [hSumReferenceIdeal : Cert.SumReferenceIdeal.Facts] : Prop :=
  ∀ (m : (ℓ : Loc Cert.SumKernelIdeal.nD Cert.SumKernelIdeal.τ Cert.SumKernelIdeal.sig) → Buf (Elt Ideal) ℓ) (g : Dev Cert.SumKernelIdeal.nD → PrngReg)
    (m' : (ℓ : Loc Cert.SumReferenceIdeal.nD Cert.SumReferenceIdeal.τ Cert.SumReferenceIdeal.sig) → Buf (Elt Ideal) ℓ) (g' : Dev Cert.SumReferenceIdeal.nD → PrngReg), Pre_SumKernelIdeal m →
    (∀ c : Dev Cert.SumKernelIdeal.nD,
      m' ((c.tc : Thread Cert.SumReferenceIdeal.nD Cert.SumReferenceIdeal.τ).loc Cert.SumReferenceIdeal.main_arg0) = m ((c.tc : Thread Cert.SumKernelIdeal.nD Cert.SumKernelIdeal.τ).loc Cert.SumKernelIdeal.main_arg0)) →
    ∃ (v0 : (c : Dev Cert.SumKernelIdeal.nD) → Buf (Elt Ideal) ((c.tc : Thread Cert.SumKernelIdeal.nD Cert.SumKernelIdeal.τ).loc Cert.SumKernelIdeal.main_v0)),
      θ_run (Cert.SumKernelIdeal.defs (F := Ideal)) (onTc (τ := Cert.SumKernelIdeal.τ) (Cert.SumKernelIdeal.main (F := Ideal))) ⟨m, fun _ => 0, g⟩ (fun r => ∀ c : Dev Cert.SumKernelIdeal.nD,
          r.2.mem ((c.tc : Thread Cert.SumKernelIdeal.nD Cert.SumKernelIdeal.τ).loc Cert.SumKernelIdeal.main_v0) = v0 c
          ∧ r.2.mem ((c.tc : Thread Cert.SumKernelIdeal.nD Cert.SumKernelIdeal.τ).loc Cert.SumKernelIdeal.main_arg0) = m ((c.tc : Thread Cert.SumKernelIdeal.nD Cert.SumKernelIdeal.τ).loc Cert.SumKernelIdeal.main_arg0))
      ∧ θ_run (Cert.SumReferenceIdeal.defs (F := Ideal)) (onTc (τ := Cert.SumReferenceIdeal.τ) (Cert.SumReferenceIdeal.main (F := Ideal))) ⟨m', fun _ => 0, g'⟩ (fun r => ∀ c : Dev Cert.SumReferenceIdeal.nD,
          r.2.mem ((c.tc : Thread Cert.SumReferenceIdeal.nD Cert.SumReferenceIdeal.τ).loc Cert.SumReferenceIdeal.main_v0) = v0 c
          ∧ r.2.mem ((c.tc : Thread Cert.SumReferenceIdeal.nD Cert.SumReferenceIdeal.τ).loc Cert.SumReferenceIdeal.main_arg0) = m' ((c.tc : Thread Cert.SumReferenceIdeal.nD Cert.SumReferenceIdeal.τ).loc Cert.SumReferenceIdeal.main_arg0))

def preserves_ModKernel_ModKernelIdeal : Prop :=
  True

def algebraic_ModKernelIdeal_ModReferenceIdeal [hModKernelIdeal : Cert.ModKernelIdeal.Facts] [hModReferenceIdeal : Cert.ModReferenceIdeal.Facts] : Prop :=
  ∀ (m : (ℓ : Loc Cert.ModKernelIdeal.nD Cert.ModKernelIdeal.τ Cert.ModKernelIdeal.sig) → Buf (Elt Ideal) ℓ) (g : Dev Cert.ModKernelIdeal.nD → PrngReg)
    (m' : (ℓ : Loc Cert.ModReferenceIdeal.nD Cert.ModReferenceIdeal.τ Cert.ModReferenceIdeal.sig) → Buf (Elt Ideal) ℓ) (g' : Dev Cert.ModReferenceIdeal.nD → PrngReg), Pre_ModKernelIdeal m →
    (∀ c : Dev Cert.ModKernelIdeal.nD,
      m' ((c.tc : Thread Cert.ModReferenceIdeal.nD Cert.ModReferenceIdeal.τ).loc Cert.ModReferenceIdeal.main_arg0) = m ((c.tc : Thread Cert.ModKernelIdeal.nD Cert.ModKernelIdeal.τ).loc Cert.ModKernelIdeal.main_arg0)
      ∧ m' ((c.tc : Thread Cert.ModReferenceIdeal.nD Cert.ModReferenceIdeal.τ).loc Cert.ModReferenceIdeal.main_arg1) = m ((c.tc : Thread Cert.ModKernelIdeal.nD Cert.ModKernelIdeal.τ).loc Cert.ModKernelIdeal.main_arg1)
      ∧ m' ((c.tc : Thread Cert.ModReferenceIdeal.nD Cert.ModReferenceIdeal.τ).loc Cert.ModReferenceIdeal.main_arg2) = m ((c.tc : Thread Cert.ModKernelIdeal.nD Cert.ModKernelIdeal.τ).loc Cert.ModKernelIdeal.main_arg2)) →
    ∃ (v0 : (c : Dev Cert.ModKernelIdeal.nD) → Buf (Elt Ideal) ((c.tc : Thread Cert.ModKernelIdeal.nD Cert.ModKernelIdeal.τ).loc Cert.ModKernelIdeal.main_v1)),
      θ_run (Cert.ModKernelIdeal.defs (F := Ideal)) (onTc (τ := Cert.ModKernelIdeal.τ) (Cert.ModKernelIdeal.main (F := Ideal))) ⟨m, fun _ => 0, g⟩ (fun r => ∀ c : Dev Cert.ModKernelIdeal.nD,
          r.2.mem ((c.tc : Thread Cert.ModKernelIdeal.nD Cert.ModKernelIdeal.τ).loc Cert.ModKernelIdeal.main_v1) = v0 c
          ∧ r.2.mem ((c.tc : Thread Cert.ModKernelIdeal.nD Cert.ModKernelIdeal.τ).loc Cert.ModKernelIdeal.main_arg0) = m ((c.tc : Thread Cert.ModKernelIdeal.nD Cert.ModKernelIdeal.τ).loc Cert.ModKernelIdeal.main_arg0)
          ∧ r.2.mem ((c.tc : Thread Cert.ModKernelIdeal.nD Cert.ModKernelIdeal.τ).loc Cert.ModKernelIdeal.main_arg1) = m ((c.tc : Thread Cert.ModKernelIdeal.nD Cert.ModKernelIdeal.τ).loc Cert.ModKernelIdeal.main_arg1)
          ∧ r.2.mem ((c.tc : Thread Cert.ModKernelIdeal.nD Cert.ModKernelIdeal.τ).loc Cert.ModKernelIdeal.main_arg2) = m ((c.tc : Thread Cert.ModKernelIdeal.nD Cert.ModKernelIdeal.τ).loc Cert.ModKernelIdeal.main_arg2))
      ∧ θ_run (Cert.ModReferenceIdeal.defs (F := Ideal)) (onTc (τ := Cert.ModReferenceIdeal.τ) (Cert.ModReferenceIdeal.main (F := Ideal))) ⟨m', fun _ => 0, g'⟩ (fun r => ∀ c : Dev Cert.ModReferenceIdeal.nD,
          r.2.mem ((c.tc : Thread Cert.ModReferenceIdeal.nD Cert.ModReferenceIdeal.τ).loc Cert.ModReferenceIdeal.main_v12) = v0 c
          ∧ r.2.mem ((c.tc : Thread Cert.ModReferenceIdeal.nD Cert.ModReferenceIdeal.τ).loc Cert.ModReferenceIdeal.main_arg0) = m' ((c.tc : Thread Cert.ModReferenceIdeal.nD Cert.ModReferenceIdeal.τ).loc Cert.ModReferenceIdeal.main_arg0)
          ∧ r.2.mem ((c.tc : Thread Cert.ModReferenceIdeal.nD Cert.ModReferenceIdeal.τ).loc Cert.ModReferenceIdeal.main_arg1) = m' ((c.tc : Thread Cert.ModReferenceIdeal.nD Cert.ModReferenceIdeal.τ).loc Cert.ModReferenceIdeal.main_arg1)
          ∧ r.2.mem ((c.tc : Thread Cert.ModReferenceIdeal.nD Cert.ModReferenceIdeal.τ).loc Cert.ModReferenceIdeal.main_arg2) = m' ((c.tc : Thread Cert.ModReferenceIdeal.nD Cert.ModReferenceIdeal.τ).loc Cert.ModReferenceIdeal.main_arg2))

def preserves_ModGradKernel_ModGradKernelIdeal : Prop :=
  True

def algebraic_ModGradKernelIdeal_ModGradReferenceIdeal_pre_finite_modulation [hModGradKernelIdeal : Cert.ModGradKernelIdeal.Facts] [hModGradReferenceIdeal : Cert.ModGradReferenceIdeal.Facts] [hPre_finite_modulation : Cert.Pre_finite_modulation.Facts] : Prop :=
  ∀ (m : (ℓ : Loc Cert.ModGradKernelIdeal.nD Cert.ModGradKernelIdeal.τ Cert.ModGradKernelIdeal.sig) → Buf (Elt Ideal) ℓ) (g : Dev Cert.ModGradKernelIdeal.nD → PrngReg)
    (m' : (ℓ : Loc Cert.ModGradReferenceIdeal.nD Cert.ModGradReferenceIdeal.τ Cert.ModGradReferenceIdeal.sig) → Buf (Elt Ideal) ℓ) (g' : Dev Cert.ModGradReferenceIdeal.nD → PrngReg), Pre_ModGradKernelIdeal_finite_modulation m →
    (∀ c : Dev Cert.ModGradKernelIdeal.nD,
      m' ((c.tc : Thread Cert.ModGradReferenceIdeal.nD Cert.ModGradReferenceIdeal.τ).loc Cert.ModGradReferenceIdeal.main_arg0) = m ((c.tc : Thread Cert.ModGradKernelIdeal.nD Cert.ModGradKernelIdeal.τ).loc Cert.ModGradKernelIdeal.main_arg0)
      ∧ m' ((c.tc : Thread Cert.ModGradReferenceIdeal.nD Cert.ModGradReferenceIdeal.τ).loc Cert.ModGradReferenceIdeal.main_arg1) = m ((c.tc : Thread Cert.ModGradKernelIdeal.nD Cert.ModGradKernelIdeal.τ).loc Cert.ModGradKernelIdeal.main_arg1)
      ∧ m' ((c.tc : Thread Cert.ModGradReferenceIdeal.nD Cert.ModGradReferenceIdeal.τ).loc Cert.ModGradReferenceIdeal.main_arg2) = m ((c.tc : Thread Cert.ModGradKernelIdeal.nD Cert.ModGradKernelIdeal.τ).loc Cert.ModGradKernelIdeal.main_arg2)
      ∧ m' ((c.tc : Thread Cert.ModGradReferenceIdeal.nD Cert.ModGradReferenceIdeal.τ).loc Cert.ModGradReferenceIdeal.main_arg3) = m ((c.tc : Thread Cert.ModGradKernelIdeal.nD Cert.ModGradKernelIdeal.τ).loc Cert.ModGradKernelIdeal.main_arg3)) →
    ∃ (v0 : (c : Dev Cert.ModGradKernelIdeal.nD) → Buf (Elt Ideal) ((c.tc : Thread Cert.ModGradKernelIdeal.nD Cert.ModGradKernelIdeal.τ).loc Cert.ModGradKernelIdeal.main_v0_0)) (v1 : (c : Dev Cert.ModGradKernelIdeal.nD) → Buf (Elt Ideal) ((c.tc : Thread Cert.ModGradKernelIdeal.nD Cert.ModGradKernelIdeal.τ).loc Cert.ModGradKernelIdeal.main_v0_1)),
      θ_run (Cert.ModGradKernelIdeal.defs (F := Ideal)) (onTc (τ := Cert.ModGradKernelIdeal.τ) (Cert.ModGradKernelIdeal.main (F := Ideal))) ⟨m, fun _ => 0, g⟩ (fun r => ∀ c : Dev Cert.ModGradKernelIdeal.nD,
          r.2.mem ((c.tc : Thread Cert.ModGradKernelIdeal.nD Cert.ModGradKernelIdeal.τ).loc Cert.ModGradKernelIdeal.main_v0_0) = v0 c
          ∧ r.2.mem ((c.tc : Thread Cert.ModGradKernelIdeal.nD Cert.ModGradKernelIdeal.τ).loc Cert.ModGradKernelIdeal.main_v0_1) = v1 c
          ∧ r.2.mem ((c.tc : Thread Cert.ModGradKernelIdeal.nD Cert.ModGradKernelIdeal.τ).loc Cert.ModGradKernelIdeal.main_arg0) = m ((c.tc : Thread Cert.ModGradKernelIdeal.nD Cert.ModGradKernelIdeal.τ).loc Cert.ModGradKernelIdeal.main_arg0)
          ∧ r.2.mem ((c.tc : Thread Cert.ModGradKernelIdeal.nD Cert.ModGradKernelIdeal.τ).loc Cert.ModGradKernelIdeal.main_arg1) = m ((c.tc : Thread Cert.ModGradKernelIdeal.nD Cert.ModGradKernelIdeal.τ).loc Cert.ModGradKernelIdeal.main_arg1)
          ∧ r.2.mem ((c.tc : Thread Cert.ModGradKernelIdeal.nD Cert.ModGradKernelIdeal.τ).loc Cert.ModGradKernelIdeal.main_arg2) = m ((c.tc : Thread Cert.ModGradKernelIdeal.nD Cert.ModGradKernelIdeal.τ).loc Cert.ModGradKernelIdeal.main_arg2)
          ∧ r.2.mem ((c.tc : Thread Cert.ModGradKernelIdeal.nD Cert.ModGradKernelIdeal.τ).loc Cert.ModGradKernelIdeal.main_arg3) = m ((c.tc : Thread Cert.ModGradKernelIdeal.nD Cert.ModGradKernelIdeal.τ).loc Cert.ModGradKernelIdeal.main_arg3))
      ∧ θ_run (Cert.ModGradReferenceIdeal.defs (F := Ideal)) (onTc (τ := Cert.ModGradReferenceIdeal.τ) (Cert.ModGradReferenceIdeal.main (F := Ideal))) ⟨m', fun _ => 0, g'⟩ (fun r => ∀ c : Dev Cert.ModGradReferenceIdeal.nD,
          r.2.mem ((c.tc : Thread Cert.ModGradReferenceIdeal.nD Cert.ModGradReferenceIdeal.τ).loc Cert.ModGradReferenceIdeal.main_v53) = v0 c
          ∧ r.2.mem ((c.tc : Thread Cert.ModGradReferenceIdeal.nD Cert.ModGradReferenceIdeal.τ).loc Cert.ModGradReferenceIdeal.main_v39) = v1 c
          ∧ r.2.mem ((c.tc : Thread Cert.ModGradReferenceIdeal.nD Cert.ModGradReferenceIdeal.τ).loc Cert.ModGradReferenceIdeal.main_arg0) = m' ((c.tc : Thread Cert.ModGradReferenceIdeal.nD Cert.ModGradReferenceIdeal.τ).loc Cert.ModGradReferenceIdeal.main_arg0)
          ∧ r.2.mem ((c.tc : Thread Cert.ModGradReferenceIdeal.nD Cert.ModGradReferenceIdeal.τ).loc Cert.ModGradReferenceIdeal.main_arg1) = m' ((c.tc : Thread Cert.ModGradReferenceIdeal.nD Cert.ModGradReferenceIdeal.τ).loc Cert.ModGradReferenceIdeal.main_arg1)
          ∧ r.2.mem ((c.tc : Thread Cert.ModGradReferenceIdeal.nD Cert.ModGradReferenceIdeal.τ).loc Cert.ModGradReferenceIdeal.main_arg2) = m' ((c.tc : Thread Cert.ModGradReferenceIdeal.nD Cert.ModGradReferenceIdeal.τ).loc Cert.ModGradReferenceIdeal.main_arg2)
          ∧ r.2.mem ((c.tc : Thread Cert.ModGradReferenceIdeal.nD Cert.ModGradReferenceIdeal.τ).loc Cert.ModGradReferenceIdeal.main_arg3) = m' ((c.tc : Thread Cert.ModGradReferenceIdeal.nD Cert.ModGradReferenceIdeal.τ).loc Cert.ModGradReferenceIdeal.main_arg3))

def preserves_AttnInKernel_AttnInKernelIdeal : Prop :=
  True

def algebraic_AttnInKernelIdeal_AttnInReferenceIdeal [hAttnInKernelIdeal : Cert.AttnInKernelIdeal.Facts] [hAttnInReferenceIdeal : Cert.AttnInReferenceIdeal.Facts] : Prop :=
  ∀ (m : (ℓ : Loc Cert.AttnInKernelIdeal.nD Cert.AttnInKernelIdeal.τ Cert.AttnInKernelIdeal.sig) → Buf (Elt Ideal) ℓ) (g : Dev Cert.AttnInKernelIdeal.nD → PrngReg)
    (m' : (ℓ : Loc Cert.AttnInReferenceIdeal.nD Cert.AttnInReferenceIdeal.τ Cert.AttnInReferenceIdeal.sig) → Buf (Elt Ideal) ℓ) (g' : Dev Cert.AttnInReferenceIdeal.nD → PrngReg), Pre_AttnInKernelIdeal m →
    (∀ c : Dev Cert.AttnInKernelIdeal.nD,
      m' ((c.tc : Thread Cert.AttnInReferenceIdeal.nD Cert.AttnInReferenceIdeal.τ).loc Cert.AttnInReferenceIdeal.main_arg0) = m ((c.tc : Thread Cert.AttnInKernelIdeal.nD Cert.AttnInKernelIdeal.τ).loc Cert.AttnInKernelIdeal.main_arg0)
      ∧ m' ((c.tc : Thread Cert.AttnInReferenceIdeal.nD Cert.AttnInReferenceIdeal.τ).loc Cert.AttnInReferenceIdeal.main_arg1) = m ((c.tc : Thread Cert.AttnInKernelIdeal.nD Cert.AttnInKernelIdeal.τ).loc Cert.AttnInKernelIdeal.main_arg1)
      ∧ m' ((c.tc : Thread Cert.AttnInReferenceIdeal.nD Cert.AttnInReferenceIdeal.τ).loc Cert.AttnInReferenceIdeal.main_arg2) = m ((c.tc : Thread Cert.AttnInKernelIdeal.nD Cert.AttnInKernelIdeal.τ).loc Cert.AttnInKernelIdeal.main_arg2)
      ∧ m' ((c.tc : Thread Cert.AttnInReferenceIdeal.nD Cert.AttnInReferenceIdeal.τ).loc Cert.AttnInReferenceIdeal.main_arg3) = m ((c.tc : Thread Cert.AttnInKernelIdeal.nD Cert.AttnInKernelIdeal.τ).loc Cert.AttnInKernelIdeal.main_arg3)
      ∧ m' ((c.tc : Thread Cert.AttnInReferenceIdeal.nD Cert.AttnInReferenceIdeal.τ).loc Cert.AttnInReferenceIdeal.main_arg4) = m ((c.tc : Thread Cert.AttnInKernelIdeal.nD Cert.AttnInKernelIdeal.τ).loc Cert.AttnInKernelIdeal.main_arg4)
      ∧ m' ((c.tc : Thread Cert.AttnInReferenceIdeal.nD Cert.AttnInReferenceIdeal.τ).loc Cert.AttnInReferenceIdeal.main_arg5) = m ((c.tc : Thread Cert.AttnInKernelIdeal.nD Cert.AttnInKernelIdeal.τ).loc Cert.AttnInKernelIdeal.main_arg5)
      ∧ m' ((c.tc : Thread Cert.AttnInReferenceIdeal.nD Cert.AttnInReferenceIdeal.τ).loc Cert.AttnInReferenceIdeal.main_arg6) = m ((c.tc : Thread Cert.AttnInKernelIdeal.nD Cert.AttnInKernelIdeal.τ).loc Cert.AttnInKernelIdeal.main_arg6)
      ∧ m' ((c.tc : Thread Cert.AttnInReferenceIdeal.nD Cert.AttnInReferenceIdeal.τ).loc Cert.AttnInReferenceIdeal.main_arg7) = m ((c.tc : Thread Cert.AttnInKernelIdeal.nD Cert.AttnInKernelIdeal.τ).loc Cert.AttnInKernelIdeal.main_arg7)
      ∧ m' ((c.tc : Thread Cert.AttnInReferenceIdeal.nD Cert.AttnInReferenceIdeal.τ).loc Cert.AttnInReferenceIdeal.main_arg8) = m ((c.tc : Thread Cert.AttnInKernelIdeal.nD Cert.AttnInKernelIdeal.τ).loc Cert.AttnInKernelIdeal.main_arg8)) →
    ∃ (v0 : (c : Dev Cert.AttnInKernelIdeal.nD) → Buf (Elt Ideal) ((c.tc : Thread Cert.AttnInKernelIdeal.nD Cert.AttnInKernelIdeal.τ).loc Cert.AttnInKernelIdeal.main_v18_2)) (v1 : (c : Dev Cert.AttnInKernelIdeal.nD) → Buf (Elt Ideal) ((c.tc : Thread Cert.AttnInKernelIdeal.nD Cert.AttnInKernelIdeal.τ).loc Cert.AttnInKernelIdeal.main_v18_3)) (v2 : (c : Dev Cert.AttnInKernelIdeal.nD) → Buf (Elt Ideal) ((c.tc : Thread Cert.AttnInKernelIdeal.nD Cert.AttnInKernelIdeal.τ).loc Cert.AttnInKernelIdeal.main_v18_4)),
      θ_run (Cert.AttnInKernelIdeal.defs (F := Ideal)) (onTc (τ := Cert.AttnInKernelIdeal.τ) (Cert.AttnInKernelIdeal.main (F := Ideal))) ⟨m, fun _ => 0, g⟩ (fun r => ∀ c : Dev Cert.AttnInKernelIdeal.nD,
          r.2.mem ((c.tc : Thread Cert.AttnInKernelIdeal.nD Cert.AttnInKernelIdeal.τ).loc Cert.AttnInKernelIdeal.main_v18_2) = v0 c
          ∧ r.2.mem ((c.tc : Thread Cert.AttnInKernelIdeal.nD Cert.AttnInKernelIdeal.τ).loc Cert.AttnInKernelIdeal.main_v18_3) = v1 c
          ∧ r.2.mem ((c.tc : Thread Cert.AttnInKernelIdeal.nD Cert.AttnInKernelIdeal.τ).loc Cert.AttnInKernelIdeal.main_v18_4) = v2 c
          ∧ r.2.mem ((c.tc : Thread Cert.AttnInKernelIdeal.nD Cert.AttnInKernelIdeal.τ).loc Cert.AttnInKernelIdeal.main_arg0) = m ((c.tc : Thread Cert.AttnInKernelIdeal.nD Cert.AttnInKernelIdeal.τ).loc Cert.AttnInKernelIdeal.main_arg0)
          ∧ r.2.mem ((c.tc : Thread Cert.AttnInKernelIdeal.nD Cert.AttnInKernelIdeal.τ).loc Cert.AttnInKernelIdeal.main_arg1) = m ((c.tc : Thread Cert.AttnInKernelIdeal.nD Cert.AttnInKernelIdeal.τ).loc Cert.AttnInKernelIdeal.main_arg1)
          ∧ r.2.mem ((c.tc : Thread Cert.AttnInKernelIdeal.nD Cert.AttnInKernelIdeal.τ).loc Cert.AttnInKernelIdeal.main_arg2) = m ((c.tc : Thread Cert.AttnInKernelIdeal.nD Cert.AttnInKernelIdeal.τ).loc Cert.AttnInKernelIdeal.main_arg2)
          ∧ r.2.mem ((c.tc : Thread Cert.AttnInKernelIdeal.nD Cert.AttnInKernelIdeal.τ).loc Cert.AttnInKernelIdeal.main_arg3) = m ((c.tc : Thread Cert.AttnInKernelIdeal.nD Cert.AttnInKernelIdeal.τ).loc Cert.AttnInKernelIdeal.main_arg3)
          ∧ r.2.mem ((c.tc : Thread Cert.AttnInKernelIdeal.nD Cert.AttnInKernelIdeal.τ).loc Cert.AttnInKernelIdeal.main_arg4) = m ((c.tc : Thread Cert.AttnInKernelIdeal.nD Cert.AttnInKernelIdeal.τ).loc Cert.AttnInKernelIdeal.main_arg4)
          ∧ r.2.mem ((c.tc : Thread Cert.AttnInKernelIdeal.nD Cert.AttnInKernelIdeal.τ).loc Cert.AttnInKernelIdeal.main_arg5) = m ((c.tc : Thread Cert.AttnInKernelIdeal.nD Cert.AttnInKernelIdeal.τ).loc Cert.AttnInKernelIdeal.main_arg5)
          ∧ r.2.mem ((c.tc : Thread Cert.AttnInKernelIdeal.nD Cert.AttnInKernelIdeal.τ).loc Cert.AttnInKernelIdeal.main_arg6) = m ((c.tc : Thread Cert.AttnInKernelIdeal.nD Cert.AttnInKernelIdeal.τ).loc Cert.AttnInKernelIdeal.main_arg6)
          ∧ r.2.mem ((c.tc : Thread Cert.AttnInKernelIdeal.nD Cert.AttnInKernelIdeal.τ).loc Cert.AttnInKernelIdeal.main_arg7) = m ((c.tc : Thread Cert.AttnInKernelIdeal.nD Cert.AttnInKernelIdeal.τ).loc Cert.AttnInKernelIdeal.main_arg7)
          ∧ r.2.mem ((c.tc : Thread Cert.AttnInKernelIdeal.nD Cert.AttnInKernelIdeal.τ).loc Cert.AttnInKernelIdeal.main_arg8) = m ((c.tc : Thread Cert.AttnInKernelIdeal.nD Cert.AttnInKernelIdeal.τ).loc Cert.AttnInKernelIdeal.main_arg8))
      ∧ θ_run (Cert.AttnInReferenceIdeal.defs (F := Ideal)) (onTc (τ := Cert.AttnInReferenceIdeal.τ) (Cert.AttnInReferenceIdeal.main (F := Ideal))) ⟨m', fun _ => 0, g'⟩ (fun r => ∀ c : Dev Cert.AttnInReferenceIdeal.nD,
          r.2.mem ((c.tc : Thread Cert.AttnInReferenceIdeal.nD Cert.AttnInReferenceIdeal.τ).loc Cert.AttnInReferenceIdeal.main_v50) = v0 c
          ∧ r.2.mem ((c.tc : Thread Cert.AttnInReferenceIdeal.nD Cert.AttnInReferenceIdeal.τ).loc Cert.AttnInReferenceIdeal.main_v51) = v1 c
          ∧ r.2.mem ((c.tc : Thread Cert.AttnInReferenceIdeal.nD Cert.AttnInReferenceIdeal.τ).loc Cert.AttnInReferenceIdeal.main_v52) = v2 c
          ∧ r.2.mem ((c.tc : Thread Cert.AttnInReferenceIdeal.nD Cert.AttnInReferenceIdeal.τ).loc Cert.AttnInReferenceIdeal.main_arg0) = m' ((c.tc : Thread Cert.AttnInReferenceIdeal.nD Cert.AttnInReferenceIdeal.τ).loc Cert.AttnInReferenceIdeal.main_arg0)
          ∧ r.2.mem ((c.tc : Thread Cert.AttnInReferenceIdeal.nD Cert.AttnInReferenceIdeal.τ).loc Cert.AttnInReferenceIdeal.main_arg1) = m' ((c.tc : Thread Cert.AttnInReferenceIdeal.nD Cert.AttnInReferenceIdeal.τ).loc Cert.AttnInReferenceIdeal.main_arg1)
          ∧ r.2.mem ((c.tc : Thread Cert.AttnInReferenceIdeal.nD Cert.AttnInReferenceIdeal.τ).loc Cert.AttnInReferenceIdeal.main_arg2) = m' ((c.tc : Thread Cert.AttnInReferenceIdeal.nD Cert.AttnInReferenceIdeal.τ).loc Cert.AttnInReferenceIdeal.main_arg2)
          ∧ r.2.mem ((c.tc : Thread Cert.AttnInReferenceIdeal.nD Cert.AttnInReferenceIdeal.τ).loc Cert.AttnInReferenceIdeal.main_arg3) = m' ((c.tc : Thread Cert.AttnInReferenceIdeal.nD Cert.AttnInReferenceIdeal.τ).loc Cert.AttnInReferenceIdeal.main_arg3)
          ∧ r.2.mem ((c.tc : Thread Cert.AttnInReferenceIdeal.nD Cert.AttnInReferenceIdeal.τ).loc Cert.AttnInReferenceIdeal.main_arg4) = m' ((c.tc : Thread Cert.AttnInReferenceIdeal.nD Cert.AttnInReferenceIdeal.τ).loc Cert.AttnInReferenceIdeal.main_arg4)
          ∧ r.2.mem ((c.tc : Thread Cert.AttnInReferenceIdeal.nD Cert.AttnInReferenceIdeal.τ).loc Cert.AttnInReferenceIdeal.main_arg5) = m' ((c.tc : Thread Cert.AttnInReferenceIdeal.nD Cert.AttnInReferenceIdeal.τ).loc Cert.AttnInReferenceIdeal.main_arg5)
          ∧ r.2.mem ((c.tc : Thread Cert.AttnInReferenceIdeal.nD Cert.AttnInReferenceIdeal.τ).loc Cert.AttnInReferenceIdeal.main_arg6) = m' ((c.tc : Thread Cert.AttnInReferenceIdeal.nD Cert.AttnInReferenceIdeal.τ).loc Cert.AttnInReferenceIdeal.main_arg6)
          ∧ r.2.mem ((c.tc : Thread Cert.AttnInReferenceIdeal.nD Cert.AttnInReferenceIdeal.τ).loc Cert.AttnInReferenceIdeal.main_arg7) = m' ((c.tc : Thread Cert.AttnInReferenceIdeal.nD Cert.AttnInReferenceIdeal.τ).loc Cert.AttnInReferenceIdeal.main_arg7)
          ∧ r.2.mem ((c.tc : Thread Cert.AttnInReferenceIdeal.nD Cert.AttnInReferenceIdeal.τ).loc Cert.AttnInReferenceIdeal.main_arg8) = m' ((c.tc : Thread Cert.AttnInReferenceIdeal.nD Cert.AttnInReferenceIdeal.τ).loc Cert.AttnInReferenceIdeal.main_arg8))

def Claim : Prop :=
  ∃ (hKernel : Cert.Kernel.Facts) (hKernelIdeal : Cert.KernelIdeal.Facts) (hReferenceIdeal : Cert.ReferenceIdeal.Facts) (hInputKernel : Cert.InputKernel.Facts) (hInputKernelIdeal : Cert.InputKernelIdeal.Facts) (hInputReferenceIdeal : Cert.InputReferenceIdeal.Facts) (hPostKernel : Cert.PostKernel.Facts) (hPostKernelIdeal : Cert.PostKernelIdeal.Facts) (hPostReferenceIdeal : Cert.PostReferenceIdeal.Facts) (hInWeightKernel : Cert.InWeightKernel.Facts) (hInWeightKernelIdeal : Cert.InWeightKernelIdeal.Facts) (hInWeightReferenceIdeal : Cert.InWeightReferenceIdeal.Facts) (hSquareWeightKernel : Cert.SquareWeightKernel.Facts) (hSquareWeightKernelIdeal : Cert.SquareWeightKernelIdeal.Facts) (hSquareWeightReferenceIdeal : Cert.SquareWeightReferenceIdeal.Facts) (hAttnWeightKernel : Cert.AttnWeightKernel.Facts) (hAttnWeightKernelIdeal : Cert.AttnWeightKernelIdeal.Facts) (hAttnWeightReferenceIdeal : Cert.AttnWeightReferenceIdeal.Facts) (hModWeightKernel : Cert.ModWeightKernel.Facts) (hModWeightKernelIdeal : Cert.ModWeightKernelIdeal.Facts) (hModWeightReferenceIdeal : Cert.ModWeightReferenceIdeal.Facts) (hSmallWeightKernel : Cert.SmallWeightKernel.Facts) (hSmallWeightKernelIdeal : Cert.SmallWeightKernelIdeal.Facts) (hSmallWeightReferenceIdeal : Cert.SmallWeightReferenceIdeal.Facts) (hSumKernel : Cert.SumKernel.Facts) (hSumKernelIdeal : Cert.SumKernelIdeal.Facts) (hSumReferenceIdeal : Cert.SumReferenceIdeal.Facts) (hModKernel : Cert.ModKernel.Facts) (hModKernelIdeal : Cert.ModKernelIdeal.Facts) (hModReferenceIdeal : Cert.ModReferenceIdeal.Facts) (hModGradKernel : Cert.ModGradKernel.Facts) (hModGradKernelIdeal : Cert.ModGradKernelIdeal.Facts) (hModGradReferenceIdeal : Cert.ModGradReferenceIdeal.Facts) (hAttnInKernel : Cert.AttnInKernel.Facts) (hAttnInKernelIdeal : Cert.AttnInKernelIdeal.Facts) (hAttnInReferenceIdeal : Cert.AttnInReferenceIdeal.Facts) (hPre_finite : Cert.Pre_finite.Facts) (hPre_finite_modulation : Cert.Pre_finite_modulation.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_InputKernel (hInputKernel := hInputKernel)
    ∧ quiescent_InputKernelIdeal (hInputKernelIdeal := hInputKernelIdeal)
    ∧ quiescent_InputReferenceIdeal (hInputReferenceIdeal := hInputReferenceIdeal)
    ∧ quiescent_PostKernel (hPostKernel := hPostKernel)
    ∧ quiescent_PostKernelIdeal (hPostKernelIdeal := hPostKernelIdeal)
    ∧ quiescent_PostReferenceIdeal (hPostReferenceIdeal := hPostReferenceIdeal)
    ∧ quiescent_InWeightKernel (hInWeightKernel := hInWeightKernel)
    ∧ quiescent_InWeightKernelIdeal (hInWeightKernelIdeal := hInWeightKernelIdeal)
    ∧ quiescent_InWeightReferenceIdeal (hInWeightReferenceIdeal := hInWeightReferenceIdeal)
    ∧ quiescent_SquareWeightKernel (hSquareWeightKernel := hSquareWeightKernel)
    ∧ quiescent_SquareWeightKernelIdeal (hSquareWeightKernelIdeal := hSquareWeightKernelIdeal)
    ∧ quiescent_SquareWeightReferenceIdeal (hSquareWeightReferenceIdeal := hSquareWeightReferenceIdeal)
    ∧ quiescent_AttnWeightKernel (hAttnWeightKernel := hAttnWeightKernel)
    ∧ quiescent_AttnWeightKernelIdeal (hAttnWeightKernelIdeal := hAttnWeightKernelIdeal)
    ∧ quiescent_AttnWeightReferenceIdeal (hAttnWeightReferenceIdeal := hAttnWeightReferenceIdeal)
    ∧ quiescent_ModWeightKernel (hModWeightKernel := hModWeightKernel)
    ∧ quiescent_ModWeightKernelIdeal (hModWeightKernelIdeal := hModWeightKernelIdeal)
    ∧ quiescent_ModWeightReferenceIdeal (hModWeightReferenceIdeal := hModWeightReferenceIdeal)
    ∧ quiescent_SmallWeightKernel (hSmallWeightKernel := hSmallWeightKernel)
    ∧ quiescent_SmallWeightKernelIdeal (hSmallWeightKernelIdeal := hSmallWeightKernelIdeal)
    ∧ quiescent_SmallWeightReferenceIdeal (hSmallWeightReferenceIdeal := hSmallWeightReferenceIdeal)
    ∧ quiescent_SumKernel (hSumKernel := hSumKernel)
    ∧ quiescent_SumKernelIdeal (hSumKernelIdeal := hSumKernelIdeal)
    ∧ quiescent_SumReferenceIdeal (hSumReferenceIdeal := hSumReferenceIdeal)
    ∧ quiescent_ModKernel (hModKernel := hModKernel)
    ∧ quiescent_ModKernelIdeal (hModKernelIdeal := hModKernelIdeal)
    ∧ quiescent_ModReferenceIdeal (hModReferenceIdeal := hModReferenceIdeal)
    ∧ quiescent_ModGradKernel (hModGradKernel := hModGradKernel)
    ∧ quiescent_ModGradKernelIdeal (hModGradKernelIdeal := hModGradKernelIdeal)
    ∧ quiescent_ModGradKernelIdeal_pre_finite_modulation (hModGradKernelIdeal := hModGradKernelIdeal) (hPre_finite_modulation := hPre_finite_modulation)
    ∧ quiescent_ModGradReferenceIdeal (hModGradReferenceIdeal := hModGradReferenceIdeal)
    ∧ quiescent_ModGradReferenceIdeal_pre_finite_modulation (hModGradReferenceIdeal := hModGradReferenceIdeal) (hPre_finite_modulation := hPre_finite_modulation)
    ∧ quiescent_AttnInKernel (hAttnInKernel := hAttnInKernel)
    ∧ quiescent_AttnInKernelIdeal (hAttnInKernelIdeal := hAttnInKernelIdeal)
    ∧ quiescent_AttnInReferenceIdeal (hAttnInReferenceIdeal := hAttnInReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_InputKernel_InputKernelIdeal
    ∧ algebraic_InputKernelIdeal_InputReferenceIdeal (hInputKernelIdeal := hInputKernelIdeal) (hInputReferenceIdeal := hInputReferenceIdeal)
    ∧ preserves_PostKernel_PostKernelIdeal
    ∧ algebraic_PostKernelIdeal_PostReferenceIdeal (hPostKernelIdeal := hPostKernelIdeal) (hPostReferenceIdeal := hPostReferenceIdeal)
    ∧ preserves_InWeightKernel_InWeightKernelIdeal
    ∧ algebraic_InWeightKernelIdeal_InWeightReferenceIdeal (hInWeightKernelIdeal := hInWeightKernelIdeal) (hInWeightReferenceIdeal := hInWeightReferenceIdeal)
    ∧ preserves_SquareWeightKernel_SquareWeightKernelIdeal
    ∧ algebraic_SquareWeightKernelIdeal_SquareWeightReferenceIdeal (hSquareWeightKernelIdeal := hSquareWeightKernelIdeal) (hSquareWeightReferenceIdeal := hSquareWeightReferenceIdeal)
    ∧ preserves_AttnWeightKernel_AttnWeightKernelIdeal
    ∧ algebraic_AttnWeightKernelIdeal_AttnWeightReferenceIdeal (hAttnWeightKernelIdeal := hAttnWeightKernelIdeal) (hAttnWeightReferenceIdeal := hAttnWeightReferenceIdeal)
    ∧ preserves_ModWeightKernel_ModWeightKernelIdeal
    ∧ algebraic_ModWeightKernelIdeal_ModWeightReferenceIdeal (hModWeightKernelIdeal := hModWeightKernelIdeal) (hModWeightReferenceIdeal := hModWeightReferenceIdeal)
    ∧ preserves_SmallWeightKernel_SmallWeightKernelIdeal
    ∧ algebraic_SmallWeightKernelIdeal_SmallWeightReferenceIdeal (hSmallWeightKernelIdeal := hSmallWeightKernelIdeal) (hSmallWeightReferenceIdeal := hSmallWeightReferenceIdeal)
    ∧ preserves_SumKernel_SumKernelIdeal
    ∧ algebraic_SumKernelIdeal_SumReferenceIdeal (hSumKernelIdeal := hSumKernelIdeal) (hSumReferenceIdeal := hSumReferenceIdeal)
    ∧ preserves_ModKernel_ModKernelIdeal
    ∧ algebraic_ModKernelIdeal_ModReferenceIdeal (hModKernelIdeal := hModKernelIdeal) (hModReferenceIdeal := hModReferenceIdeal)
    ∧ preserves_ModGradKernel_ModGradKernelIdeal
    ∧ algebraic_ModGradKernelIdeal_ModGradReferenceIdeal_pre_finite_modulation (hModGradKernelIdeal := hModGradKernelIdeal) (hModGradReferenceIdeal := hModGradReferenceIdeal) (hPre_finite_modulation := hPre_finite_modulation)
    ∧ preserves_AttnInKernel_AttnInKernelIdeal
    ∧ algebraic_AttnInKernelIdeal_AttnInReferenceIdeal (hAttnInKernelIdeal := hAttnInKernelIdeal) (hAttnInReferenceIdeal := hAttnInReferenceIdeal)
-- ==== Pre_finite.lean ====
abbrev S8192x1024 : Shape := ⟨2, ![8192, 1024]⟩
abbrev S8448x256 : Shape := ⟨2, ![8448, 256]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8448x256 : S_.BroadcastsInDim S8448x256 (![] : Fin 0 → Fin S8448x256.rank)
  reducesTo_S8448x256_S_d0_1 : S8448x256.ReducesTo [0, 1] S_

variable [Facts]

def fn_part1 {F : FTy → Type} [FloatOps F] (main_v13 : IVec S_ 1) (main_v16 : IVec S8192x1024 1) : IVec S_ 1 :=
  let main_c_5 : IVec S_ 1 := constantI S_ 1 1#1
  let main_v17 : IVec S_ 1 := (fun x v => Host.reduce IntOp.andi x v reducesTo_S8192x1024_S_d0_1 h_S_) main_v16 main_c_5
  let main_v18 : IVec S_ 1 := andi main_v13 main_v17
  main_v18

def fn {F : FTy → Type} [FloatOps F] (main_arg0 : FVec F S8192x1024 .f32) (main_arg1 : FVec F S8448x256 .f32) (main_arg2 : FVec F S8448x256 .f32) (main_arg3 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8448x256 .f32 := Host.absf main_arg1
  let main_cst_0 : FVec F S_ .f32 := constant S_ .f32 0x7F800000#32
  let main_v5 : FVec F S8448x256 .f32 := broadcastInDim S8448x256 ![] bcast_S_S8448x256 main_cst_0
  let main_v6 : IVec S8448x256 1 := cmpf .olt main_v4 main_v5
  let main_c_1 : IVec S_ 1 := constantI S_ 1 1#1
  let main_v7 : IVec S_ 1 := (fun x v => Host.reduce IntOp.andi x v reducesTo_S8448x256_S_d0_1 h_S_) main_v6 main_c_1
  let main_v8 : IVec S_ 1 := andi main_v3 main_v7
  let main_v9 : FVec F S8448x256 .f32 := Host.absf main_arg2
  let main_cst_2 : FVec F S_ .f32 := constant S_ .f32 0x7F800000#32
  let main_v10 : FVec F S8448x256 .f32 := broadcastInDim S8448x256 ![] bcast_S_S8448x256 main_cst_2
  let main_v11 : IVec S8448x256 1 := cmpf .olt main_v9 main_v10
  let main_c_3 : IVec S_ 1 := constantI S_ 1 1#1
  let main_v12 : IVec S_ 1 := (fun x v => Host.reduce IntOp.andi x v reducesTo_S8448x256_S_d0_1 h_S_) main_v11 main_c_3
  let main_v13 : IVec S_ 1 := andi main_v8 main_v12
  let main_v14 : FVec F S8192x1024 .f32 := Host.absf main_arg3
  let main_cst_4 : FVec F S_ .f32 := constant S_ .f32 0x7F800000#32
  let main_v15 : FVec F S8192x1024 .f32 := broadcastInDim S8192x1024 ![] bcast_S_S8192x1024 main_cst_4
  let main_v16 : IVec S8192x1024 1 := cmpf .olt main_v14 main_v15
  fn_part1 (F := F) main_v13 main_v16
-- ==== Pre_finite_modulation.lean ====
abbrev S16x1024 : Shape := ⟨2, ![16, 1024]⟩
abbrev S2x8x384 : Shape := ⟨3, ![2, 8, 384]⟩
abbrev S8x2x1x384 : Shape := ⟨4, ![8, 2, 1, 384]⟩
abbrev S2x1024x384 : Shape := ⟨3, ![2, 1024, 384]⟩
abbrev S1x1024 : Shape := ⟨2, ![1, 1024]⟩
abbrev S_ : Shape := ⟨0, ![]⟩

class Facts : Prop where
  slices_S16x1024_S1x1024_8_0 : S16x1024.Slices ![8, 0] S1x1024
  bcast_S_S1x1024 : S_.BroadcastsInDim S1x1024 (![] : Fin 0 → Fin S1x1024.rank)
  reducesTo_S1x1024_S_d0_1 : S1x1024.ReducesTo [0, 1] S_
  h_S_ : 0 < S_.numel
  bcast_S_S8x2x1x384 : S_.BroadcastsInDim S8x2x1x384 (![] : Fin 0 → Fin S8x2x1x384.rank)
  reducesTo_S8x2x1x384_S_d0_1_2_3 : S8x2x1x384.ReducesTo [0, 1, 2, 3] S_
  bcast_S_S2x1024x384 : S_.BroadcastsInDim S2x1024x384 (![] : Fin 0 → Fin S2x1024x384.rank)
  reducesTo_S2x1024x384_S_d0_1_2 : S2x1024x384.ReducesTo [0, 1, 2] S_

variable [Facts]

def fn {F : FTy → Type} [FloatOps F] (main_arg0 : FVec F S16x1024 .f32) (main_arg1 : FVec F S2x8x384 .f32) (main_arg2 : FVec F S8x2x1x384 .f32) (main_arg3 : FVec F S2x1024x384 .f32) : IVec S_ 1 :=
  let main_v0 : FVec F S1x1024 .f32 := (extractStridedSlice S1x1024 ![8, 0] · slices_S16x1024_S1x1024_8_0) main_arg0
  let main_v1 : FVec F S1x1024 .f32 := Host.absf main_v0
  let main_cst : FVec F S_ .f32 := constant S_ .f32 0x7F800000#32
  let main_v2 : FVec F S1x1024 .f32 := broadcastInDim S1x1024 ![] bcast_S_S1x1024 main_cst
  let main_v3 : IVec S1x1024 1 := cmpf .olt main_v1 main_v2
  let main_c : IVec S_ 1 := constantI S_ 1 1#1
  let main_v4 : IVec S_ 1 := (fun x v => Host.reduce IntOp.andi x v reducesTo_S1x1024_S_d0_1 h_S_) main_v3 main_c
  let main_v5 : FVec F S8x2x1x384 .f32 := Host.absf main_arg2
  let main_cst_0 : FVec F S_ .f32 := constant S_ .f32 0x7F800000#32
  let main_v6 : FVec F S8x2x1x384 .f32 := broadcastInDim S8x2x1x384 ![] bcast_S_S8x2x1x384 main_cst_0
  let main_v7 : IVec S8x2x1x384 1 := cmpf .olt main_v5 main_v6
  let main_c_1 : IVec S_ 1 := constantI S_ 1 1#1
  let main_v8 : IVec S_ 1 := (fun x v => Host.reduce IntOp.andi x v reducesTo_S8x2x1x384_S_d0_1_2_3 h_S_) main_v7 main_c_1
  let main_v9 : IVec S_ 1 := andi main_v4 main_v8
  let main_v10 : FVec F S2x1024x384 .f32 := Host.absf main_arg3
  let main_cst_2 : FVec F S_ .f32 := constant S_ .f32 0x7F800000#32
  let main_v11 : FVec F S2x1024x384 .f32 := broadcastInDim S2x1024x384 ![] bcast_S_S2x1024x384 main_cst_2
  let main_v12 : IVec S2x1024x384 1 := cmpf .olt main_v10 main_v11
  let main_c_3 : IVec S_ 1 := constantI S_ 1 1#1
  let main_v13 : IVec S_ 1 := (fun x v => Host.reduce IntOp.andi x v reducesTo_S2x1024x384_S_d0_1_2 h_S_) main_v12 main_c_3
  let main_v14 : IVec S_ 1 := andi main_v9 main_v13
  main_v14
-- ==== Kernel.lean ====
abbrev S8192x1024 : Shape := ⟨2, ![8192, 1024]⟩
abbrev S8448x256 : Shape := ⟨2, ![8448, 256]⟩
abbrev S_ : Shape := ⟨0, ![]⟩
abbrev S8448x4x64 : Shape := ⟨3, ![8448, 4, 64]⟩
abbrev S4x8448x64 : Shape := ⟨3, ![4, 8448, 64]⟩
abbrev S4x11x768x64 : Shape := ⟨4, ![4, 11, 768, 64]⟩
abbrev S4x6x1408x64 : Shape := ⟨4, ![4, 6, 1408, 64]⟩
abbrev S4x6x64x1408 : Shape := ⟨4, ![4, 6, 64, 1408]⟩
abbrev S4x6x16x1408 : Shape := ⟨4, ![4, 6, 16, 1408]⟩
abbrev S4x6x80x1408 : Shape := ⟨4, ![4, 6, 80, 1408]⟩
abbrev S4x16x1x2048 : Shape := ⟨4, ![4, 16, 1, 2048]⟩
abbrev S512x256 : Shape := ⟨2, ![512, 256]⟩
abbrev S1x6x1408x64 : Shape := ⟨4, ![1, 6, 1408, 64]⟩
abbrev S1x6x80x1408 : Shape := ⟨4, ![1, 6, 80, 1408]⟩
abbrev S1x1x1x2048 : Shape := ⟨4, ![1, 1, 1, 2048]⟩
abbrev S512x64 : Shape := ⟨2, ![512, 64]⟩
abbrev S2048x64 : Shape := ⟨2, ![2048, 64]⟩
abbrev S1x2048 : Shape := ⟨2, ![1, 2048]⟩
abbrev S80x2048 : Shape := ⟨2, ![80, 2048]⟩
abbrev S1x1x1408x64 : Shape := ⟨4, ![1, 1, 1408, 64]⟩
abbrev S1408x64 : Shape := ⟨2, ![1408, 64]⟩
abbrev S1408x2048 : Shape := ⟨2, ![1408, 2048]⟩
abbrev S2048 : Shape := ⟨1, ![2048]⟩
abbrev S1x1x80x1408 : Shape := ⟨4, ![1, 1, 80, 1408]⟩
abbrev S80x1408 : Shape := ⟨2, ![80, 1408]⟩
abbrev S64x2048 : Shape := ⟨2, ![64, 2048]⟩
abbrev S64x512 : Shape := ⟨2, ![64, 512]⟩
abbrev S8192x16x64 : Shape := ⟨3, ![8192, 16, 64]⟩
abbrev S8192x16 : Shape := ⟨2, ![8192, 16]⟩
abbrev S4x11x64x768 : Shape := ⟨4, ![4, 11, 64, 768]⟩
abbrev S16x512x4x4 : Shape := ⟨4, ![16, 512, 4, 4]⟩
abbrev S4x16x4x512 : Shape := ⟨4, ![4, 16, 4, 512]⟩
abbrev S1x11x768x64 : Shape := ⟨4, ![1, 11, 768, 64]⟩
abbrev S1x11x64x768 : Shape := ⟨4, ![1, 11, 64, 768]⟩
abbrev S1x1x768x64 : Shape := ⟨4, ![1, 1, 768, 64]⟩
abbrev S768x64 : Shape := ⟨2, ![768, 64]⟩
abbrev S768x2048 : Shape := ⟨2, ![768, 2048]⟩
abbrev S1x1x64x768 : Shape := ⟨4, ![1, 1, 64, 768]⟩
abbrev S64x768 : Shape := ⟨2, ![64, 768]⟩

abbrev nBuf : Space → Nat
  | .hbm => 45
  | .vmem => 30
  | .smem => 0
  | _ => 0

abbrev bufTy : (tb : Table) → Fin (tcTables nBuf tb) → BufTy
  | .hbm, ⟨0, _⟩ => ⟨S8192x1024, .f32⟩
  | .hbm, ⟨1, _⟩ => ⟨S8448x256, .f32⟩
  | .hbm, ⟨2, _⟩ => ⟨S8448x256, .f32⟩
  | .hbm, ⟨3, _⟩ => ⟨S8192x1024, .f32⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S8192x1024, .bf16⟩
  | .hbm, ⟨8, _⟩ => ⟨S8448x256, .bf16⟩
  | .hbm, ⟨9, _⟩ => ⟨S8448x256, .bf16⟩
  | .hbm, ⟨10, _⟩ => ⟨S8192x1024, .bf16⟩
  | .hbm, ⟨11, _⟩ => ⟨S8448x4x64, .bf16⟩
  | .hbm, ⟨12, _⟩ => ⟨S4x8448x64, .bf16⟩
  | .hbm, ⟨13, _⟩ => ⟨S8448x4x64, .bf16⟩
  | .hbm, ⟨14, _⟩ => ⟨S4x8448x64, .bf16⟩
  | .hbm, ⟨15, _⟩ => ⟨S4x11x768x64, .bf16⟩
  | .hbm, ⟨16, _⟩ => ⟨S4x11x768x64, .bf16⟩
  | .hbm, ⟨17, _⟩ => ⟨S4x6x1408x64, .bf16⟩
  | .hbm, ⟨18, _⟩ => ⟨S4x6x64x1408, .bf16⟩
  | .hbm, ⟨19, _⟩ => ⟨S_, .bf16⟩
  | .hbm, ⟨20, _⟩ => ⟨S4x6x16x1408, .bf16⟩
  | .hbm, ⟨21, _⟩ => ⟨S4x6x80x1408, .bf16⟩
  | .hbm, ⟨22, _⟩ => ⟨S4x6x1408x64, .bf16⟩
  | .hbm, ⟨23, _⟩ => ⟨S8192x1024, .f32⟩
  | .hbm, ⟨24, _⟩ => ⟨S4x16x1x2048, .f32⟩
  | .hbm, ⟨25, _⟩ => ⟨S8192x1024, .f32⟩
  | .hbm, ⟨26, _⟩ => ⟨S8192x16x64, .f32⟩
  | .hbm, ⟨27, _⟩ => ⟨S_, .f32⟩
  | .hbm, ⟨28, _⟩ => ⟨S8192x16, .f32⟩
  | .hbm, ⟨29, _⟩ => ⟨S4x11x64x768, .bf16⟩
  | .hbm, ⟨30, _⟩ => ⟨S16x512x4x4, .f32⟩
  | .hbm, ⟨31, _⟩ => ⟨S4x16x4x512, .f32⟩
  | .hbm, ⟨32, _⟩ => ⟨S4x16x1x2048, .f32⟩
  | .hbm, ⟨33, _⟩ => ⟨S8192x1024, .f32⟩
  | .hbm, ⟨34, _⟩ => ⟨S4x11x768x64, .f32⟩
  | .hbm, ⟨35, _⟩ => ⟨S4x11x768x64, .f32⟩
  | .hbm, ⟨36, _⟩ => ⟨S_, .f32⟩
  | .hbm, ⟨37, _⟩ => ⟨S8192x1024, .f32⟩
  | .hbm, ⟨38, _⟩ => ⟨S8192x1024, .f32⟩
  | .hbm, ⟨39, _⟩ => ⟨S4x8448x64, .f32⟩
  | .hbm, ⟨40, _⟩ => ⟨S8448x4x64, .f32⟩
  | .hbm, ⟨41, _⟩ => ⟨S8448x256, .f32⟩
  | .hbm, ⟨42, _⟩ => ⟨S4x8448x64, .f32⟩
  | .hbm, ⟨43, _⟩ => ⟨S8448x4x64, .f32⟩
  | .hbm, ⟨44, _⟩ => ⟨S8448x256, .f32⟩
  | .local _ .vmem, ⟨0, _⟩ => ⟨S512x256, .bf16⟩
  | .local _ .vmem, ⟨1, _⟩ => ⟨S512x256, .bf16⟩
  | .local _ .vmem, ⟨2, _⟩ => ⟨S1x6x1408x64, .bf16⟩
  | .local _ .vmem, ⟨3, _⟩ => ⟨S1x6x1408x64, .bf16⟩
  | .local _ .vmem, ⟨4, _⟩ => ⟨S1x6x80x1408, .bf16⟩
  | .local _ .vmem, ⟨5, _⟩ => ⟨S1x6x80x1408, .bf16⟩
  | .local _ .vmem, ⟨6, _⟩ => ⟨S512x256, .f32⟩
  | .local _ .vmem, ⟨7, _⟩ => ⟨S512x256, .f32⟩
  | .local _ .vmem, ⟨8, _⟩ => ⟨S1x1x1x2048, .f32⟩
  | .local _ .vmem, ⟨9, _⟩ => ⟨S1x1x1x2048, .f32⟩
  | .local _ .vmem, ⟨10, _⟩ => ⟨S512x256, .bf16⟩
  | .local _ .vmem, ⟨11, _⟩ => ⟨S512x256, .bf16⟩
  | .local _ .vmem, ⟨12, _⟩ => ⟨S1x11x768x64, .bf16⟩
  | .local _ .vmem, ⟨13, _⟩ => ⟨S1x11x768x64, .bf16⟩
  | .local _ .vmem, ⟨14, _⟩ => ⟨S1x11x64x768, .bf16⟩
  | .local _ .vmem, ⟨15, _⟩ => ⟨S1x11x64x768, .bf16⟩
  | .local _ .vmem, ⟨16, _⟩ => ⟨S1x11x768x64, .bf16⟩
  | .local _ .vmem, ⟨17, _⟩ => ⟨S1x11x768x64, .bf16⟩
  | .local _ .vmem, ⟨18, _⟩ => ⟨S512x256, .bf16⟩
  | .local _ .vmem, ⟨19, _⟩ => ⟨S512x256, .bf16⟩
  | .local _ .vmem, ⟨20, _⟩ => ⟨S1x1x1x2048, .f32⟩
  | .local _ .vmem, ⟨21, _⟩ => ⟨S1x1x1x2048, .f32⟩
  | .local _ .vmem, ⟨22, _⟩ => ⟨S1x1x1x2048, .f32⟩
  | .local _ .vmem, ⟨23, _⟩ => ⟨S1x1x1x2048, .f32⟩
  | .local _ .vmem, ⟨24, _⟩ => ⟨S512x256, .f32⟩
  | .local _ .vmem, ⟨25, _⟩ => ⟨S512x256, .f32⟩
  | .local _ .vmem, ⟨26, _⟩ => ⟨S1x11x768x64, .f32⟩
  | .local _ .vmem, ⟨27, _⟩ => ⟨S1x11x768x64, .f32⟩
  | .local _ .vmem, ⟨28, _⟩ => ⟨S1x11x768x64, .f32⟩
  | .local _ .vmem, ⟨29, _⟩ => ⟨S1x11x768x64, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17_0 : Ref sig .tc := ⟨.hbm, 23, rfl⟩
abbrev main_v17_1 : Ref sig .tc := ⟨.hbm, 24, rfl⟩
abbrev main_v18 : Ref sig .tc := ⟨.hbm, 25, rfl⟩
abbrev main_v19 : Ref sig .tc := ⟨.hbm, 26, rfl⟩
abbrev main_cst_1 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25_0 : Ref sig .tc := ⟨.hbm, 33, rfl⟩
abbrev main_v25_1 : Ref sig .tc := ⟨.hbm, 34, rfl⟩
abbrev main_v25_2 : Ref sig .tc := ⟨.hbm, 35, rfl⟩
abbrev main_cst_2 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc1_stg7_0 : Ref sig .tc := ⟨.vmem, 24, rfl⟩
abbrev cc1_stg7_1 : Ref sig .tc := ⟨.vmem, 25, rfl⟩
abbrev cc1_stg8_0 : Ref sig .tc := ⟨.vmem, 26, rfl⟩
abbrev cc1_stg8_1 : Ref sig .tc := ⟨.vmem, 27, rfl⟩
abbrev cc1_stg9_0 : Ref sig .tc := ⟨.vmem, 28, rfl⟩
abbrev cc1_stg9_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23
abbrev cc1_sem7_0 : DmaSem sig := 24
abbrev cc1_sem7_1 : DmaSem sig := 25
abbrev cc1_sem8_0 : DmaSem sig := 26
abbrev cc1_sem8_1 : DmaSem sig := 27
abbrev cc1_sem9_0 : DmaSem sig := 28
abbrev cc1_sem9_1 : DmaSem sig := 29

abbrev nD : Nat := 1
abbrev τ : Topo := Topo.v7x

variable {F : FTy → Type} [FloatOps F]

abbrev grid0 : Pipeline.Grid := ⟨2, ![4, 16], ![false, false]⟩

@[reducible] def k0_t1_loop : Scf.Loop 32 :=
  let c0_i32 : BitVec 32 := 0#32
  let c6_i32 : BitVec 32 := 6#32
  let v11 : BitVec 32 := Scalar.addi c0_i32 c6_i32
  let c1_i32 : BitVec 32 := 1#32
  ⟨c0_i32, v11, c1_i32⟩
def k0_off1 (k0_t1 : Fin k0_t1_loop.trips) : Fin 4 → Nat :=
  let c0_12 : Index := 0#32
  let c0_i32 : BitVec 32 := 0#32
  let c1_i32 : BitVec 32 := 1#32
  let arg7 : BitVec 32 := Scf.iv c0_i32 c1_i32 k0_t1
  let v32 : Index := Scalar.indexCast arg7
  let c0_13 : Index := 0#32
  let c0_14 : Index := 0#32
  ![0, v32.toNat, 0, 0]
def k0_off2 (k0_t1 : Fin k0_t1_loop.trips) : Fin 4 → Nat :=
  let c0_17 : Index := 0#32
  let c0_i32 : BitVec 32 := 0#32
  let c1_i32 : BitVec 32 := 1#32
  let arg7 : BitVec 32 := Scf.iv c0_i32 c1_i32 k0_t1
  let v46 : Index := Scalar.indexCast arg7
  let c0_18 : Index := 0#32
  let c0_19 : Index := 0#32
  ![0, v46.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x1408x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x6x80x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![4, 16], ![false, false]⟩

@[reducible] def k1_t1_loop : Scf.Loop 32 :=
  let c0_i32_21 : BitVec 32 := 0#32
  let c11_i32 : BitVec 32 := 11#32
  let v26 : BitVec 32 := Scalar.addi c0_i32_21 c11_i32
  let c1_i32 : BitVec 32 := 1#32
  ⟨c0_i32_21, v26, c1_i32⟩
def k1_off1 (k1_t1 : Fin k1_t1_loop.trips) : Fin 4 → Nat :=
  let c0_25 : Index := 0#32
  let c0_i32_21 : BitVec 32 := 0#32
  let c1_i32 : BitVec 32 := 1#32
  let arg12 : BitVec 32 := Scf.iv c0_i32_21 c1_i32 k1_t1
  let v38 : Index := Scalar.indexCast arg12
  let c0_26 : Index := 0#32
  let c0_27 : Index := 0#32
  ![0, v38.toNat, 0, 0]
def k1_off2 (k1_t1 : Fin k1_t1_loop.trips) : Fin 4 → Nat :=
  let c0_47 : Index := 0#32
  let c0_i32_21 : BitVec 32 := 0#32
  let c1_i32 : BitVec 32 := 1#32
  let arg12 : BitVec 32 := Scf.iv c0_i32_21 c1_i32 k1_t1
  let v72 : Index := Scalar.indexCast arg12
  let c0_48 : Index := 0#32
  let c0_49 : Index := 0#32
  ![0, v72.toNat, 0, 0]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_3 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_5 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_6 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_8 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_9 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 2 → Memref sig .tc .vmem S512x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x11x768x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x11x64x768 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x11x768x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S512x256 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x1x1x2048 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x1x1x2048 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S512x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S1x11x768x64 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]

abbrev stage1_9 : Fin 2 → Memref sig .tc .vmem S1x11x768x64 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, false]
-- ==== ReferenceIdeal.lean ====
abbrev S8192x1024 : Shape := ⟨2, ![8192, 1024]⟩
abbrev S8448x256 : Shape := ⟨2, ![8448, 256]⟩
abbrev S8192x4x4x64 : Shape := ⟨4, ![8192, 4, 4, 64]⟩
abbrev S8448x4x64 : Shape := ⟨3, ![8448, 4, 64]⟩
abbrev S4x8448x8192x4 : Shape := ⟨4, ![4, 8448, 8192, 4]⟩
abbrev S4x4x8192x8448 : Shape := ⟨4, ![4, 4, 8192, 8448]⟩
abbrev S_ : Shape := ⟨0, ![]⟩
abbrev S4x4x8192 : Shape := ⟨3, ![4, 4, 8192]⟩
abbrev S4x4x8192x1 : Shape := ⟨4, ![4, 4, 8192, 1]⟩
abbrev S4x64x4x8192 : Shape := ⟨4, ![4, 64, 4, 8192]⟩
abbrev S4x64x8448 : Shape := ⟨3, ![4, 64, 8448]⟩
abbrev S4x8192x4x64 : Shape := ⟨4, ![4, 8192, 4, 64]⟩
abbrev S4x8448x64 : Shape := ⟨3, ![4, 8448, 64]⟩

abbrev nBuf : Space → Nat
  | .hbm => 83
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8448x256, .f32⟩
  | .hbm, ⟨2, _⟩ => ⟨S8448x256, .f32⟩
  | .hbm, ⟨3, _⟩ => ⟨S8192x1024, .f32⟩
  | .hbm, ⟨4, _⟩ => ⟨S8192x4x4x64, .f32⟩
  | .hbm, ⟨5, _⟩ => ⟨S8448x4x64, .f32⟩
  | .hbm, ⟨6, _⟩ => ⟨S8448x4x64, .f32⟩
  | .hbm, ⟨7, _⟩ => ⟨S4x8448x8192x4, .f32⟩
  | .hbm, ⟨8, _⟩ => ⟨S4x4x8192x8448, .f32⟩
  | .hbm, ⟨9, _⟩ => ⟨S_, .f32⟩
  | .hbm, ⟨10, _⟩ => ⟨S4x4x8192x8448, .f32⟩
  | .hbm, ⟨11, _⟩ => ⟨S4x4x8192x8448, .f32⟩
  | .hbm, ⟨12, _⟩ => ⟨S_, .f32⟩
  | .hbm, ⟨13, _⟩ => ⟨S4x4x8192, .f32⟩
  | .hbm, ⟨14, _⟩ => ⟨S4x4x8192x1, .f32⟩
  | .hbm, ⟨15, _⟩ => ⟨S4x4x8192x8448, .f32⟩
  | .hbm, ⟨16, _⟩ => ⟨S4x4x8192x8448, .i1⟩
  | .hbm, ⟨17, _⟩ => ⟨S4x4x8192x8448, .f32⟩
  | .hbm, ⟨18, _⟩ => ⟨S_, .f32⟩
  | .hbm, ⟨19, _⟩ => ⟨S4x4x8192, .f32⟩
  | .hbm, ⟨20, _⟩ => ⟨S_, .f32⟩
  | .hbm, ⟨21, _⟩ => ⟨S4x4x8192, .f32⟩
  | .hbm, ⟨22, _⟩ => ⟨S4x4x8192, .f32⟩
  | .hbm, ⟨23, _⟩ => ⟨S_, .f32⟩
  | .hbm, ⟨24, _⟩ => ⟨S4x4x8192, .f32⟩
  | .hbm, ⟨25, _⟩ => ⟨S4x4x8192, .i1⟩
  | .hbm, ⟨26, _⟩ => ⟨S_, .f32⟩
  | .hbm, ⟨27, _⟩ => ⟨S4x4x8192, .f32⟩
  | .hbm, ⟨28, _⟩ => ⟨S4x4x8192, .i1⟩
  | .hbm, ⟨29, _⟩ => ⟨S_, .f32⟩
  | .hbm, ⟨30, _⟩ => ⟨S4x4x8192, .f32⟩
  | .hbm, ⟨31, _⟩ => ⟨S_, .f32⟩
  | .hbm, ⟨32, _⟩ => ⟨S4x4x8192, .f32⟩
  | .hbm, ⟨33, _⟩ => ⟨S_, .f32⟩
  | .hbm, ⟨34, _⟩ => ⟨S4x4x8192, .f32⟩
  | .hbm, ⟨35, _⟩ => ⟨S4x4x8192, .f32⟩
  | .hbm, ⟨36, _⟩ => ⟨S4x4x8192, .f32⟩
  | .hbm, ⟨37, _⟩ => ⟨S4x4x8192x1, .f32⟩
  | .hbm, ⟨38, _⟩ => ⟨S4x4x8192x8448, .f32⟩
  | .hbm, ⟨39, _⟩ => ⟨S4x4x8192x8448, .f32⟩
  | .hbm, ⟨40, _⟩ => ⟨S4x4x8192x8448, .f32⟩
  | .hbm, ⟨41, _⟩ => ⟨S_, .f32⟩
  | .hbm, ⟨42, _⟩ => ⟨S4x4x8192, .f32⟩
  | .hbm, ⟨43, _⟩ => ⟨S4x4x8192x1, .f32⟩
  | .hbm, ⟨44, _⟩ => ⟨S4x4x8192x8448, .f32⟩
  | .hbm, ⟨45, _⟩ => ⟨S4x4x8192x8448, .f32⟩
  | .hbm, ⟨46, _⟩ => ⟨S4x4x8192x1, .f32⟩
  | .hbm, ⟨47, _⟩ => ⟨S_, .f32⟩
  | .hbm, ⟨48, _⟩ => ⟨S4x4x8192x1, .f32⟩
  | .hbm, ⟨49, _⟩ => ⟨S4x4x8192x1, .f32⟩
  | .hbm, ⟨50, _⟩ => ⟨S4x64x4x8192, .f32⟩
  | .hbm, ⟨51, _⟩ => ⟨S8192x4x4x64, .f32⟩
  | .hbm, ⟨52, _⟩ => ⟨S8192x1024, .f32⟩
  | .hbm, ⟨53, _⟩ => ⟨S8192x4x4x64, .f32⟩
  | .hbm, ⟨54, _⟩ => ⟨S4x64x4x8192, .f32⟩
  | .hbm, ⟨55, _⟩ => ⟨S4x4x8192x8448, .f32⟩
  | .hbm, ⟨56, _⟩ => ⟨S4x64x8448, .f32⟩
  | .hbm, ⟨57, _⟩ => ⟨S8448x4x64, .f32⟩
  | .hbm, ⟨58, _⟩ => ⟨S4x4x8192x8448, .f32⟩
  | .hbm, ⟨59, _⟩ => ⟨S4x4x8192x8448, .f32⟩
  | .hbm, ⟨60, _⟩ => ⟨S4x4x8192x8448, .f32⟩
  | .hbm, ⟨61, _⟩ => ⟨S_, .f32⟩
  | .hbm, ⟨62, _⟩ => ⟨S4x4x8192, .f32⟩
  | .hbm, ⟨63, _⟩ => ⟨S4x4x8192x1, .f32⟩
  | .hbm, ⟨64, _⟩ => ⟨S4x4x8192x1, .f32⟩
  | .hbm, ⟨65, _⟩ => ⟨S4x4x8192x8448, .f32⟩
  | .hbm, ⟨66, _⟩ => ⟨S4x4x8192x8448, .f32⟩
  | .hbm, ⟨67, _⟩ => ⟨S_, .f32⟩
  | .hbm, ⟨68, _⟩ => ⟨S4x4x8192, .f32⟩
  | .hbm, ⟨69, _⟩ => ⟨S4x4x8192x8448, .f32⟩
  | .hbm, ⟨70, _⟩ => ⟨S4x4x8192x8448, .f32⟩
  | .hbm, ⟨71, _⟩ => ⟨S4x4x8192x8448, .f32⟩
  | .hbm, ⟨72, _⟩ => ⟨S_, .f32⟩
  | .hbm, ⟨73, _⟩ => ⟨S4x4x8192x8448, .f32⟩
  | .hbm, ⟨74, _⟩ => ⟨S4x4x8192x8448, .f32⟩
  | .hbm, ⟨75, _⟩ => ⟨S4x8448x8192x4, .f32⟩
  | .hbm, ⟨76, _⟩ => ⟨S4x8192x4x64, .f32⟩
  | .hbm, ⟨77, _⟩ => ⟨S8192x4x4x64, .f32⟩
  | .hbm, ⟨78, _⟩ => ⟨S4x8448x64, .f32⟩
  | .hbm, ⟨79, _⟩ => ⟨S8448x4x64, .f32⟩
  | .hbm, ⟨80, _⟩ => ⟨S8448x256, .f32⟩
  | .hbm, ⟨81, _⟩ => ⟨S8448x256, .f32⟩
  | .hbm, ⟨82, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_8 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_9 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_10 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_cst_11 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_cst_12 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩

abbrev nD : Nat := 1
abbrev τ : Topo := Topo.v7x

variable {F : FTy → Type} [FloatOps F]
-- ==== InputKernel.lean ====
abbrev S256x1024 : Shape := ⟨2, ![256, 1024]⟩
abbrev S8192x1024 : Shape := ⟨2, ![8192, 1024]⟩
abbrev S1x1024 : Shape := ⟨2, ![1, 1024]⟩
abbrev S2x1x1024 : Shape := ⟨3, ![2, 1, 1024]⟩
abbrev S1024x2048 : Shape := ⟨2, ![1024, 2048]⟩
abbrev S8448x1024 : Shape := ⟨2, ![8448, 1024]⟩
abbrev S1x1x1024 : Shape := ⟨3, ![1, 1, 1024]⟩
abbrev S256 : Shape := ⟨1, ![256]⟩
abbrev S256x1 : Shape := ⟨2, ![256, 1]⟩
abbrev S256x2048 : Shape := ⟨2, ![256, 2048]⟩

abbrev nBuf : Space → Nat
  | .hbm => 8
  | .vmem => 13
  | .smem => 0
  | _ => 0

abbrev bufTy : (tb : Table) → Fin (tcTables nBuf tb) → BufTy
  | .hbm, ⟨0, _⟩ => ⟨S256x1024, .f32⟩
  | .hbm, ⟨1, _⟩ => ⟨S8192x1024, .f32⟩
  | .hbm, ⟨2, _⟩ => ⟨S1x1024, .f32⟩
  | .hbm, ⟨3, _⟩ => ⟨S2x1x1024, .f32⟩
  | .hbm, ⟨4, _⟩ => ⟨S2x1x1024, .f32⟩
  | .hbm, ⟨5, _⟩ => ⟨S1024x2048, .f32⟩
  | .hbm, ⟨6, _⟩ => ⟨S8448x1024, .f32⟩
  | .hbm, ⟨7, _⟩ => ⟨S8448x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1024x2048, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c1_i32 : BitVec 32 := 1#32
  let v0 : BitVec 32 := Scalar.minsi arg0 c1_i32
  let c0_i32 : BitVec 32 := 0#32
  let c0_i32_0 : BitVec 32 := 0#32
  let c0_i32_1 : BitVec 32 := 0#32
  ![v0.toNat, c0_i32.toNat, c0_i32_0.toNat]

def cc0_transform_4 (i : grid0.Coords) : Fin 3 → Nat :=
  let arg0 : BitVec 32 := BitVec.ofNat 32 (i 0).val
  let c1_i32 : BitVec 32 := 1#32
  let v0 : BitVec 32 := Scalar.minsi arg0 c1_i32
  let c0_i32 : BitVec 32 := 0#32
  let c0_i32_0 : BitVec 32 := 0#32
  let c0_i32_1 : BitVec 32 := 0#32
  ![v0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== InputReferenceIdeal.lean ====
abbrev S256x1024 : Shape := ⟨2, ![256, 1024]⟩
abbrev S8192x1024 : Shape := ⟨2, ![8192, 1024]⟩
abbrev S1x1024 : Shape := ⟨2, ![1, 1024]⟩
abbrev S2x1x1024 : Shape := ⟨3, ![2, 1, 1024]⟩
abbrev S1024x2048 : Shape := ⟨2, ![1024, 2048]⟩
abbrev S_ : Shape := ⟨0, ![]⟩
abbrev S8192 : Shape := ⟨1, ![8192]⟩
abbrev S8192x1 : Shape := ⟨2, ![8192, 1]⟩
abbrev S1x1x1024 : Shape := ⟨3, ![1, 1, 1024]⟩
abbrev S256 : Shape := ⟨1, ![256]⟩
abbrev S256x1 : Shape := ⟨2, ![256, 1]⟩
abbrev S8192x2048 : Shape := ⟨2, ![8192, 2048]⟩
abbrev S256x2048 : Shape := ⟨2, ![256, 2048]⟩
abbrev S8448x1024 : Shape := ⟨2, ![8448, 1024]⟩

abbrev nBuf : Space → Nat
  | .hbm => 66
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S8192x1024, .f32⟩
  | .hbm, ⟨2, _⟩ => ⟨S1x1024, .f32⟩
  | .hbm, ⟨3, _⟩ => ⟨S2x1x1024, .f32⟩
  | .hbm, ⟨4, _⟩ => ⟨S2x1x1024, .f32⟩
  | .hbm, ⟨5, _⟩ => ⟨S1024x2048, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S1x1x1024, .f32⟩
  | .hbm, ⟨22, _⟩ => ⟨S1x1024, .f32⟩
  | .hbm, ⟨23, _⟩ => ⟨S_, .f32⟩
  | .hbm, ⟨24, _⟩ => ⟨S1x1024, .f32⟩
  | .hbm, ⟨25, _⟩ => ⟨S1x1024, .f32⟩
  | .hbm, ⟨26, _⟩ => ⟨S8192x1024, .f32⟩
  | .hbm, ⟨27, _⟩ => ⟨S8192x1024, .f32⟩
  | .hbm, ⟨28, _⟩ => ⟨S1x1x1024, .f32⟩
  | .hbm, ⟨29, _⟩ => ⟨S1x1024, .f32⟩
  | .hbm, ⟨30, _⟩ => ⟨S8192x1024, .f32⟩
  | .hbm, ⟨31, _⟩ => ⟨S8192x1024, .f32⟩
  | .hbm, ⟨32, _⟩ => ⟨S256x1024, .f32⟩
  | .hbm, ⟨33, _⟩ => ⟨S_, .f32⟩
  | .hbm, ⟨34, _⟩ => ⟨S256, .f32⟩
  | .hbm, ⟨35, _⟩ => ⟨S256x1, .f32⟩
  | .hbm, ⟨36, _⟩ => ⟨S_, .f32⟩
  | .hbm, ⟨37, _⟩ => ⟨S256x1, .f32⟩
  | .hbm, ⟨38, _⟩ => ⟨S256x1, .f32⟩
  | .hbm, ⟨39, _⟩ => ⟨S_, .f32⟩
  | .hbm, ⟨40, _⟩ => ⟨S256x1, .f32⟩
  | .hbm, ⟨41, _⟩ => ⟨S256x1, .f32⟩
  | .hbm, ⟨42, _⟩ => ⟨S256x1, .f32⟩
  | .hbm, ⟨43, _⟩ => ⟨S256x1024, .f32⟩
  | .hbm, ⟨44, _⟩ => ⟨S256x1024, .f32⟩
  | .hbm, ⟨45, _⟩ => ⟨S256x1024, .f32⟩
  | .hbm, ⟨46, _⟩ => ⟨S256x1024, .f32⟩
  | .hbm, ⟨47, _⟩ => ⟨S1x1x1024, .f32⟩
  | .hbm, ⟨48, _⟩ => ⟨S1x1024, .f32⟩
  | .hbm, ⟨49, _⟩ => ⟨S_, .f32⟩
  | .hbm, ⟨50, _⟩ => ⟨S1x1024, .f32⟩
  | .hbm, ⟨51, _⟩ => ⟨S1x1024, .f32⟩
  | .hbm, ⟨52, _⟩ => ⟨S256x1024, .f32⟩
  | .hbm, ⟨53, _⟩ => ⟨S256x1024, .f32⟩
  | .hbm, ⟨54, _⟩ => ⟨S1x1x1024, .f32⟩
  | .hbm, ⟨55, _⟩ => ⟨S1x1024, .f32⟩
  | .hbm, ⟨56, _⟩ => ⟨S256x1024, .f32⟩
  | .hbm, ⟨57, _⟩ => ⟨S256x1024, .f32⟩
  | .hbm, ⟨58, _⟩ => ⟨S8192x2048, .f32⟩
  | .hbm, ⟨59, _⟩ => ⟨S256x2048, .f32⟩
  | .hbm, ⟨60, _⟩ => ⟨S256x1024, .f32⟩
  | .hbm, ⟨61, _⟩ => ⟨S256x1024, .f32⟩
  | .hbm, ⟨62, _⟩ => ⟨S8192x1024, .f32⟩
  | .hbm, ⟨63, _⟩ => ⟨S8192x1024, .f32⟩
  | .hbm, ⟨64, _⟩ => ⟨S8448x1024, .f32⟩
  | .hbm, ⟨65, _⟩ => ⟨S8448x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_6 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩

abbrev nD : Nat := 1
abbrev τ : Topo := Topo.v7x

variable {F : FTy → Type} [FloatOps F]
-- ==== PostKernel.lean ====
abbrev S256x1024 : Shape := ⟨2, ![256, 1024]⟩
abbrev S8192x1024 : Shape := ⟨2, ![8192, 1024]⟩
abbrev S8448x1024 : Shape := ⟨2, ![8448, 1024]⟩
abbrev S2x1x1024 : Shape := ⟨3, ![2, 1, 1024]⟩
abbrev S1024x1024 : Shape := ⟨2, ![1024, 1024]⟩
abbrev S1x1024 : Shape := ⟨2, ![1, 1024]⟩
abbrev S1x1x1024 : Shape := ⟨3, ![1, 1, 1024]⟩

abbrev nBuf : Space → Nat
  | .hbm => 10
  | .vmem => 16
  | .smem => 0
  | _ => 0

abbrev bufTy : (tb : Table) → Fin (tcTables nBuf tb) → BufTy
  | .hbm, ⟨0, _⟩ => ⟨S256x1024, .f32⟩
  | .hbm, ⟨1, _⟩ => ⟨S8192x1024, .f32⟩
  | .hbm, ⟨2, _⟩ => ⟨S8448x1024, .f32⟩
  | .hbm, ⟨3, _⟩ => ⟨S8448x1024, .f32⟩
  | .hbm, ⟨4, _⟩ => ⟨S8448x1024, .f32⟩
  | .hbm, ⟨5, _⟩ => ⟨S2x1x1024, .f32⟩
  | .hbm, ⟨6, _⟩ => ⟨S1024x1024, .f32⟩
  | .hbm, ⟨7, _⟩ => ⟨S1x1024, .f32⟩
  | .hbm, ⟨8, _⟩ => ⟨S1024x1024, .f32⟩
  | .hbm, ⟨9, _⟩ => ⟨S8448x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S1x1x1024, .f32⟩
  | .local _ .vmem, ⟨10, _⟩ => ⟨S1x1x1024, .f32⟩
  | .local _ .vmem, ⟨11, _⟩ => ⟨S1024x1024, .f32⟩
  | .local _ .vmem, ⟨12, _⟩ => ⟨S1x1024, .f32⟩
  | .local _ .vmem, ⟨13, _⟩ => ⟨S1024x1024, .f32⟩
  | .local _ .vmem, ⟨14, _⟩ => ⟨S256x1024, .f32⟩
  | .local _ .vmem, ⟨15, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c1_i32 : BitVec 32 := 1#32
  let v0 : BitVec 32 := Scalar.minsi arg0 c1_i32
  let c0_i32 : BitVec 32 := 0#32
  let c0_i32_0 : BitVec 32 := 0#32
  let c0_i32_1 : BitVec 32 := 0#32
  ![v0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== PostReferenceIdeal.lean ====
abbrev S256x1024 : Shape := ⟨2, ![256, 1024]⟩
abbrev S8192x1024 : Shape := ⟨2, ![8192, 1024]⟩
abbrev S8448x1024 : Shape := ⟨2, ![8448, 1024]⟩
abbrev S2x1x1024 : Shape := ⟨3, ![2, 1, 1024]⟩
abbrev S1024x1024 : Shape := ⟨2, ![1024, 1024]⟩
abbrev S1x1024 : Shape := ⟨2, ![1, 1024]⟩
abbrev S_ : Shape := ⟨0, ![]⟩
abbrev S1x1x1024 : Shape := ⟨3, ![1, 1, 1024]⟩

abbrev nBuf : Space → Nat
  | .hbm => 89
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S8192x1024, .f32⟩
  | .hbm, ⟨2, _⟩ => ⟨S8448x1024, .f32⟩
  | .hbm, ⟨3, _⟩ => ⟨S8448x1024, .f32⟩
  | .hbm, ⟨4, _⟩ => ⟨S8448x1024, .f32⟩
  | .hbm, ⟨5, _⟩ => ⟨S2x1x1024, .f32⟩
  | .hbm, ⟨6, _⟩ => ⟨S1024x1024, .f32⟩
  | .hbm, ⟨7, _⟩ => ⟨S1x1024, .f32⟩
  | .hbm, ⟨8, _⟩ => ⟨S1024x1024, .f32⟩
  | .hbm, ⟨9, _⟩ => ⟨S8448x1024, .f32⟩
  | .hbm, ⟨10, _⟩ => ⟨S256x1024, .f32⟩
  | .hbm, ⟨11, _⟩ => ⟨S256x1024, .f32⟩
  | .hbm, ⟨12, _⟩ => ⟨S_, .f32⟩
  | .hbm, ⟨13, _⟩ => ⟨S256x1024, .f32⟩
  | .hbm, ⟨14, _⟩ => ⟨S256x1024, .f32⟩
  | .hbm, ⟨15, _⟩ => ⟨S256x1024, .f32⟩
  | .hbm, ⟨16, _⟩ => ⟨S_, .f32⟩
  | .hbm, ⟨17, _⟩ => ⟨S256x1024, .f32⟩
  | .hbm, ⟨18, _⟩ => ⟨S256x1024, .f32⟩
  | .hbm, ⟨19, _⟩ => ⟨S256x1024, .f32⟩
  | .hbm, ⟨20, _⟩ => ⟨S256x1024, .f32⟩
  | .hbm, ⟨21, _⟩ => ⟨S256x1024, .f32⟩
  | .hbm, ⟨22, _⟩ => ⟨S256x1024, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S_, .f32⟩
  | .hbm, ⟨30, _⟩ => ⟨S256x1024, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S256x1024, .f32⟩
  | .hbm, ⟨35, _⟩ => ⟨S_, .f32⟩
  | .hbm, ⟨36, _⟩ => ⟨S256x1024, .f32⟩
  | .hbm, ⟨37, _⟩ => ⟨S256x1024, .f32⟩
  | .hbm, ⟨38, _⟩ => ⟨S_, .f32⟩
  | .hbm, ⟨39, _⟩ => ⟨S256x1024, .f32⟩
  | .hbm, ⟨40, _⟩ => ⟨S256x1024, .f32⟩
  | .hbm, ⟨41, _⟩ => ⟨S256x1024, .f32⟩
  | .hbm, ⟨42, _⟩ => ⟨S256x1024, .f32⟩
  | .hbm, ⟨43, _⟩ => ⟨S256x1024, .f32⟩
  | .hbm, ⟨44, _⟩ => ⟨S8192x1024, .f32⟩
  | .hbm, ⟨45, _⟩ => ⟨S8192x1024, .f32⟩
  | .hbm, ⟨46, _⟩ => ⟨S_, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S_, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S_, .f32⟩
  | .hbm, ⟨61, _⟩ => ⟨S8192x1024, .f32⟩
  | .hbm, ⟨62, _⟩ => ⟨S8192x1024, .f32⟩
  | .hbm, ⟨63, _⟩ => ⟨S_, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S_, .f32⟩
  | .hbm, ⟨70, _⟩ => ⟨S8192x1024, .f32⟩
  | .hbm, ⟨71, _⟩ => ⟨S8192x1024, .f32⟩
  | .hbm, ⟨72, _⟩ => ⟨S_, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S8192x1024, .f32⟩
  | .hbm, ⟨78, _⟩ => ⟨S1x1x1024, .f32⟩
  | .hbm, ⟨79, _⟩ => ⟨S1x1024, .f32⟩
  | .hbm, ⟨80, _⟩ => ⟨S256x1024, .f32⟩
  | .hbm, ⟨81, _⟩ => ⟨S256x1024, .f32⟩
  | .hbm, ⟨82, _⟩ => ⟨S256x1024, .f32⟩
  | .hbm, ⟨83, _⟩ => ⟨S1x1x1024, .f32⟩
  | .hbm, ⟨84, _⟩ => ⟨S1x1024, .f32⟩
  | .hbm, ⟨85, _⟩ => ⟨S8192x1024, .f32⟩
  | .hbm, ⟨86, _⟩ => ⟨S8192x1024, .f32⟩
  | .hbm, ⟨87, _⟩ => ⟨S8192x1024, .f32⟩
  | .hbm, ⟨88, _⟩ => ⟨S8448x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_3 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_cst_4 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_5 : Ref sig .tc := ⟨.hbm, 60, rfl⟩
abbrev main_v37 : Ref sig .tc := ⟨.hbm, 61, rfl⟩
abbrev main_v38 : Ref sig .tc := ⟨.hbm, 62, rfl⟩
abbrev main_cst_6 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_call1_v0 : Ref sig .tc := ⟨.hbm, 67, rfl⟩
abbrev main_call1_v1 : Ref sig .tc := ⟨.hbm, 68, rfl⟩
abbrev main_call1_cst : Ref sig .tc := ⟨.hbm, 69, rfl⟩
abbrev main_call1_v2 : Ref sig .tc := ⟨.hbm, 70, rfl⟩
abbrev main_call1_v3 : Ref sig .tc := ⟨.hbm, 71, rfl⟩
abbrev main_call1_cst_0 : Ref sig .tc := ⟨.hbm, 72, rfl⟩
abbrev main_call1_v4 : Ref sig .tc := ⟨.hbm, 73, rfl⟩
abbrev main_call1_v5 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩

abbrev nD : Nat := 1
abbrev τ : Topo := Topo.v7x

variable {F : FTy → Type} [FloatOps F]
-- ==== InWeightKernel.lean ====
abbrev S1024x256 : Shape := ⟨2, ![1024, 256]⟩
abbrev S8x1024x256 : Shape := ⟨3, ![8, 1024, 256]⟩
abbrev S512x256 : Shape := ⟨2, ![512, 256]⟩
abbrev S8x512x256 : Shape := ⟨3, ![8, 512, 256]⟩
abbrev S1x512x256 : Shape := ⟨3, ![1, 512, 256]⟩

abbrev nBuf : Space → Nat
  | .hbm => 8
  | .vmem => 16
  | .smem => 0
  | _ => 0

abbrev bufTy : (tb : Table) → Fin (tcTables nBuf tb) → BufTy
  | .hbm, ⟨0, _⟩ => ⟨S1024x256, .f32⟩
  | .hbm, ⟨1, _⟩ => ⟨S8x1024x256, .bf16⟩
  | .hbm, ⟨2, _⟩ => ⟨S1024x256, .f32⟩
  | .hbm, ⟨3, _⟩ => ⟨S1024x256, .f32⟩
  | .hbm, ⟨4, _⟩ => ⟨S1024x256, .f32⟩
  | .hbm, ⟨5, _⟩ => ⟨S1024x256, .f32⟩
  | .hbm, ⟨6, _⟩ => ⟨S1024x256, .f32⟩
  | .hbm, ⟨7, _⟩ => ⟨S1024x256, .f32⟩
  | .local _ .vmem, ⟨0, _⟩ => ⟨S512x256, .f32⟩
  | .local _ .vmem, ⟨1, _⟩ => ⟨S512x256, .f32⟩
  | .local _ .vmem, ⟨2, _⟩ => ⟨S8x512x256, .bf16⟩
  | .local _ .vmem, ⟨3, _⟩ => ⟨S8x512x256, .bf16⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S512x256, .f32⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== InWeightKernelIdeal.lean ====
abbrev S1024x256 : Shape := ⟨2, ![1024, 256]⟩
abbrev S8x1024x256 : Shape := ⟨3, ![8, 1024, 256]⟩
abbrev S512x256 : Shape := ⟨2, ![512, 256]⟩
abbrev S8x512x256 : Shape := ⟨3, ![8, 512, 256]⟩
abbrev S1x512x256 : Shape := ⟨3, ![1, 512, 256]⟩

abbrev nBuf : Space → Nat
  | .hbm => 8
  | .vmem => 16
  | .smem => 0
  | _ => 0

abbrev bufTy : (tb : Table) → Fin (tcTables nBuf tb) → BufTy
  | .hbm, ⟨0, _⟩ => ⟨S1024x256, .f32⟩
  | .hbm, ⟨1, _⟩ => ⟨S8x1024x256, .bf16⟩
  | .hbm, ⟨2, _⟩ => ⟨S1024x256, .f32⟩
  | .hbm, ⟨3, _⟩ => ⟨S1024x256, .f32⟩
  | .hbm, ⟨4, _⟩ => ⟨S1024x256, .f32⟩
  | .hbm, ⟨5, _⟩ => ⟨S1024x256, .f32⟩
  | .hbm, ⟨6, _⟩ => ⟨S1024x256, .f32⟩
  | .hbm, ⟨7, _⟩ => ⟨S1024x256, .f32⟩
  | .local _ .vmem, ⟨0, _⟩ => ⟨S512x256, .f32⟩
  | .local _ .vmem, ⟨1, _⟩ => ⟨S512x256, .f32⟩
  | .local _ .vmem, ⟨2, _⟩ => ⟨S8x512x256, .bf16⟩
  | .local _ .vmem, ⟨3, _⟩ => ⟨S8x512x256, .bf16⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S512x256, .f32⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== InWeightReferenceIdeal.lean ====
abbrev S1024x256 : Shape := ⟨2, ![1024, 256]⟩
abbrev S8x1024x256 : Shape := ⟨3, ![8, 1024, 256]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S1024x256, .f32⟩
  | .hbm, ⟨1, _⟩ => ⟨S8x1024x256, .bf16⟩
  | .hbm, ⟨2, _⟩ => ⟨S1024x256, .f32⟩
  | .hbm, ⟨3, _⟩ => ⟨S1024x256, .f32⟩
  | .hbm, ⟨4, _⟩ => ⟨S8x1024x256, .f32⟩
  | .hbm, ⟨5, _⟩ => ⟨S_, .f32⟩
  | .hbm, ⟨6, _⟩ => ⟨S1024x256, .f32⟩
  | .hbm, ⟨7, _⟩ => ⟨S_, .f32⟩
  | .hbm, ⟨8, _⟩ => ⟨S1024x256, .f32⟩
  | .hbm, ⟨9, _⟩ => ⟨S1024x256, .f32⟩
  | .hbm, ⟨10, _⟩ => ⟨S_, .f32⟩
  | .hbm, ⟨11, _⟩ => ⟨S1024x256, .f32⟩
  | .hbm, ⟨12, _⟩ => ⟨S1024x256, .f32⟩
  | .hbm, ⟨13, _⟩ => ⟨S1024x256, .f32⟩
  | .hbm, ⟨14, _⟩ => ⟨S_, .f32⟩
  | .hbm, ⟨15, _⟩ => ⟨S1024x256, .f32⟩
  | .hbm, ⟨16, _⟩ => ⟨S1024x256, .f32⟩
  | .hbm, ⟨17, _⟩ => ⟨S1024x256, .f32⟩
  | .hbm, ⟨18, _⟩ => ⟨S_, .f32⟩
  | .hbm, ⟨19, _⟩ => ⟨S1024x256, .f32⟩
  | .hbm, ⟨20, _⟩ => ⟨S1024x256, .f32⟩
  | .hbm, ⟨21, _⟩ => ⟨S1024x256, .f32⟩
  | .hbm, ⟨22, _⟩ => ⟨S_, .f32⟩
  | .hbm, ⟨23, _⟩ => ⟨S1024x256, .f32⟩
  | .hbm, ⟨24, _⟩ => ⟨S1024x256, .f32⟩
  | .hbm, ⟨25, _⟩ => ⟨S_, .f32⟩
  | .hbm, ⟨26, _⟩ => ⟨S1024x256, .f32⟩
  | .hbm, ⟨27, _⟩ => ⟨S1024x256, .f32⟩
  | .hbm, ⟨28, _⟩ => ⟨S1024x256, .f32⟩
  | .hbm, ⟨29, _⟩ => ⟨S_, .f32⟩
  | .hbm, ⟨30, _⟩ => ⟨S1024x256, .f32⟩
  | .hbm, ⟨31, _⟩ => ⟨S1024x256, .f32⟩
  | .hbm, ⟨32, _⟩ => ⟨S1024x256, .f32⟩
  | .hbm, ⟨33, _⟩ => ⟨S_, .f32⟩
  | .hbm, ⟨34, _⟩ => ⟨S1024x256, .f32⟩
  | .hbm, ⟨35, _⟩ => ⟨S1024x256, .f32⟩
  | .hbm, ⟨36, _⟩ => ⟨S1024x256, .f32⟩
  | .hbm, ⟨37, _⟩ => ⟨S_, .f32⟩
  | .hbm, ⟨38, _⟩ => ⟨S1024x256, .f32⟩
  | .hbm, ⟨39, _⟩ => ⟨S1024x256, .f32⟩
  | _, _ => ⟨S1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== SquareWeightKernel.lean ====
abbrev S128x1024 : Shape := ⟨2, ![128, 1024]⟩
abbrev S8x128x1024 : Shape := ⟨3, ![8, 128, 1024]⟩
abbrev S1x128x1024 : Shape := ⟨3, ![1, 128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S128x1024, .f32⟩
  | .hbm, ⟨1, _⟩ => ⟨S8x128x1024, .bf16⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .local _ .vmem, ⟨0, _⟩ => ⟨S128x1024, .f32⟩
  | .local _ .vmem, ⟨1, _⟩ => ⟨S8x128x1024, .bf16⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== SquareWeightKernelIdeal.lean ====
abbrev S128x1024 : Shape := ⟨2, ![128, 1024]⟩
abbrev S8x128x1024 : Shape := ⟨3, ![8, 128, 1024]⟩
abbrev S1x128x1024 : Shape := ⟨3, ![1, 128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S128x1024, .f32⟩
  | .hbm, ⟨1, _⟩ => ⟨S8x128x1024, .bf16⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .local _ .vmem, ⟨0, _⟩ => ⟨S128x1024, .f32⟩
  | .local _ .vmem, ⟨1, _⟩ => ⟨S8x128x1024, .bf16⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== SquareWeightReferenceIdeal.lean ====
abbrev S128x1024 : Shape := ⟨2, ![128, 1024]⟩
abbrev S8x128x1024 : Shape := ⟨3, ![8, 128, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S8x128x1024, .bf16⟩
  | .hbm, ⟨2, _⟩ => ⟨S128x1024, .f32⟩
  | .hbm, ⟨3, _⟩ => ⟨S128x1024, .f32⟩
  | .hbm, ⟨4, _⟩ => ⟨S8x128x1024, .f32⟩
  | .hbm, ⟨5, _⟩ => ⟨S_, .f32⟩
  | .hbm, ⟨6, _⟩ => ⟨S128x1024, .f32⟩
  | .hbm, ⟨7, _⟩ => ⟨S_, .f32⟩
  | .hbm, ⟨8, _⟩ => ⟨S128x1024, .f32⟩
  | .hbm, ⟨9, _⟩ => ⟨S128x1024, .f32⟩
  | .hbm, ⟨10, _⟩ => ⟨S_, .f32⟩
  | .hbm, ⟨11, _⟩ => ⟨S128x1024, .f32⟩
  | .hbm, ⟨12, _⟩ => ⟨S128x1024, .f32⟩
  | .hbm, ⟨13, _⟩ => ⟨S128x1024, .f32⟩
  | .hbm, ⟨14, _⟩ => ⟨S_, .f32⟩
  | .hbm, ⟨15, _⟩ => ⟨S128x1024, .f32⟩
  | .hbm, ⟨16, _⟩ => ⟨S128x1024, .f32⟩
  | .hbm, ⟨17, _⟩ => ⟨S128x1024, .f32⟩
  | .hbm, ⟨18, _⟩ => ⟨S_, .f32⟩
  | .hbm, ⟨19, _⟩ => ⟨S128x1024, .f32⟩
  | .hbm, ⟨20, _⟩ => ⟨S128x1024, .f32⟩
  | .hbm, ⟨21, _⟩ => ⟨S128x1024, .f32⟩
  | .hbm, ⟨22, _⟩ => ⟨S_, .f32⟩
  | .hbm, ⟨23, _⟩ => ⟨S128x1024, .f32⟩
  | .hbm, ⟨24, _⟩ => ⟨S128x1024, .f32⟩
  | .hbm, ⟨25, _⟩ => ⟨S_, .f32⟩
  | .hbm, ⟨26, _⟩ => ⟨S128x1024, .f32⟩
  | .hbm, ⟨27, _⟩ => ⟨S128x1024, .f32⟩
  | .hbm, ⟨28, _⟩ => ⟨S128x1024, .f32⟩
  | .hbm, ⟨29, _⟩ => ⟨S_, .f32⟩
  | .hbm, ⟨30, _⟩ => ⟨S128x1024, .f32⟩
  | .hbm, ⟨31, _⟩ => ⟨S128x1024, .f32⟩
  | .hbm, ⟨32, _⟩ => ⟨S128x1024, .f32⟩
  | .hbm, ⟨33, _⟩ => ⟨S_, .f32⟩
  | .hbm, ⟨34, _⟩ => ⟨S128x1024, .f32⟩
  | .hbm, ⟨35, _⟩ => ⟨S128x1024, .f32⟩
  | .hbm, ⟨36, _⟩ => ⟨S128x1024, .f32⟩
  | .hbm, ⟨37, _⟩ => ⟨S_, .f32⟩
  | .hbm, ⟨38, _⟩ => ⟨S128x1024, .f32⟩
  | .hbm, ⟨39, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AttnWeightKernel.lean ====
abbrev S1024x320 : Shape := ⟨2, ![1024, 320]⟩
abbrev S8x1024x320 : Shape := ⟨3, ![8, 1024, 320]⟩
abbrev S512x320 : Shape := ⟨2, ![512, 320]⟩
abbrev S8x512x320 : Shape := ⟨3, ![8, 512, 320]⟩
abbrev S1x512x320 : Shape := ⟨3, ![1, 512, 320]⟩

abbrev nBuf : Space → Nat
  | .hbm => 8
  | .vmem => 16
  | .smem => 0
  | _ => 0

abbrev bufTy : (tb : Table) → Fin (tcTables nBuf tb) → BufTy
  | .hbm, ⟨0, _⟩ => ⟨S1024x320, .f32⟩
  | .hbm, ⟨1, _⟩ => ⟨S8x1024x320, .bf16⟩
  | .hbm, ⟨2, _⟩ => ⟨S1024x320, .f32⟩
  | .hbm, ⟨3, _⟩ => ⟨S1024x320, .f32⟩
  | .hbm, ⟨4, _⟩ => ⟨S1024x320, .f32⟩
  | .hbm, ⟨5, _⟩ => ⟨S1024x320, .f32⟩
  | .hbm, ⟨6, _⟩ => ⟨S1024x320, .f32⟩
  | .hbm, ⟨7, _⟩ => ⟨S1024x320, .f32⟩
  | .local _ .vmem, ⟨0, _⟩ => ⟨S512x320, .f32⟩
  | .local _ .vmem, ⟨1, _⟩ => ⟨S512x320, .f32⟩
  | .local _ .vmem, ⟨2, _⟩ => ⟨S8x512x320, .bf16⟩
  | .local _ .vmem, ⟨3, _⟩ => ⟨S8x512x320, .bf16⟩
  | .local _ .vmem, ⟨4, _⟩ => ⟨S512x320, .f32⟩
  | .local _ .vmem, ⟨5, _⟩ => ⟨S512x320, .f32⟩
  | .local _ .vmem, ⟨6, _⟩ => ⟨S512x320, .f32⟩
  | .local _ .vmem, ⟨7, _⟩ => ⟨S512x320, .f32⟩
  | .local _ .vmem, ⟨8, _⟩ => ⟨S512x320, .f32⟩
  | .local _ .vmem, ⟨9, _⟩ => ⟨S512x320, .f32⟩
  | .local _ .vmem, ⟨10, _⟩ => ⟨S512x320, .f32⟩
  | .local _ .vmem, ⟨11, _⟩ => ⟨S512x320, .f32⟩
  | .local _ .vmem, ⟨12, _⟩ => ⟨S512x320, .f32⟩
  | .local _ .vmem, ⟨13, _⟩ => ⟨S512x320, .f32⟩
  | .local _ .vmem, ⟨14, _⟩ => ⟨S512x320, .f32⟩
  | .local _ .vmem, ⟨15, _⟩ => ⟨S512x320, .f32⟩
  | _, _ => ⟨S1024x320, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x320 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512x320 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x320 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x320 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x320 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x320 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x320 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x320 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AttnWeightKernelIdeal.lean ====
abbrev S1024x320 : Shape := ⟨2, ![1024, 320]⟩
abbrev S8x1024x320 : Shape := ⟨3, ![8, 1024, 320]⟩
abbrev S512x320 : Shape := ⟨2, ![512, 320]⟩
abbrev S8x512x320 : Shape := ⟨3, ![8, 512, 320]⟩
abbrev S1x512x320 : Shape := ⟨3, ![1, 512, 320]⟩

abbrev nBuf : Space → Nat
  | .hbm => 8
  | .vmem => 16
  | .smem => 0
  | _ => 0

abbrev bufTy : (tb : Table) → Fin (tcTables nBuf tb) → BufTy
  | .hbm, ⟨0, _⟩ => ⟨S1024x320, .f32⟩
  | .hbm, ⟨1, _⟩ => ⟨S8x1024x320, .bf16⟩
  | .hbm, ⟨2, _⟩ => ⟨S1024x320, .f32⟩
  | .hbm, ⟨3, _⟩ => ⟨S1024x320, .f32⟩
  | .hbm, ⟨4, _⟩ => ⟨S1024x320, .f32⟩
  | .hbm, ⟨5, _⟩ => ⟨S1024x320, .f32⟩
  | .hbm, ⟨6, _⟩ => ⟨S1024x320, .f32⟩
  | .hbm, ⟨7, _⟩ => ⟨S1024x320, .f32⟩
  | .local _ .vmem, ⟨0, _⟩ => ⟨S512x320, .f32⟩
  | .local _ .vmem, ⟨1, _⟩ => ⟨S512x320, .f32⟩
  | .local _ .vmem, ⟨2, _⟩ => ⟨S8x512x320, .bf16⟩
  | .local _ .vmem, ⟨3, _⟩ => ⟨S8x512x320, .bf16⟩
  | .local _ .vmem, ⟨4, _⟩ => ⟨S512x320, .f32⟩
  | .local _ .vmem, ⟨5, _⟩ => ⟨S512x320, .f32⟩
  | .local _ .vmem, ⟨6, _⟩ => ⟨S512x320, .f32⟩
  | .local _ .vmem, ⟨7, _⟩ => ⟨S512x320, .f32⟩
  | .local _ .vmem, ⟨8, _⟩ => ⟨S512x320, .f32⟩
  | .local _ .vmem, ⟨9, _⟩ => ⟨S512x320, .f32⟩
  | .local _ .vmem, ⟨10, _⟩ => ⟨S512x320, .f32⟩
  | .local _ .vmem, ⟨11, _⟩ => ⟨S512x320, .f32⟩
  | .local _ .vmem, ⟨12, _⟩ => ⟨S512x320, .f32⟩
  | .local _ .vmem, ⟨13, _⟩ => ⟨S512x320, .f32⟩
  | .local _ .vmem, ⟨14, _⟩ => ⟨S512x320, .f32⟩
  | .local _ .vmem, ⟨15, _⟩ => ⟨S512x320, .f32⟩
  | _, _ => ⟨S1024x320, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x320 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512x320 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x320 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x320 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x320 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x320 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x320 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x320 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AttnWeightReferenceIdeal.lean ====
abbrev S1024x320 : Shape := ⟨2, ![1024, 320]⟩
abbrev S8x1024x320 : Shape := ⟨3, ![8, 1024, 320]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S1024x320, .f32⟩
  | .hbm, ⟨1, _⟩ => ⟨S8x1024x320, .bf16⟩
  | .hbm, ⟨2, _⟩ => ⟨S1024x320, .f32⟩
  | .hbm, ⟨3, _⟩ => ⟨S1024x320, .f32⟩
  | .hbm, ⟨4, _⟩ => ⟨S8x1024x320, .f32⟩
  | .hbm, ⟨5, _⟩ => ⟨S_, .f32⟩
  | .hbm, ⟨6, _⟩ => ⟨S1024x320, .f32⟩
  | .hbm, ⟨7, _⟩ => ⟨S_, .f32⟩
  | .hbm, ⟨8, _⟩ => ⟨S1024x320, .f32⟩
  | .hbm, ⟨9, _⟩ => ⟨S1024x320, .f32⟩
  | .hbm, ⟨10, _⟩ => ⟨S_, .f32⟩
  | .hbm, ⟨11, _⟩ => ⟨S1024x320, .f32⟩
  | .hbm, ⟨12, _⟩ => ⟨S1024x320, .f32⟩
  | .hbm, ⟨13, _⟩ => ⟨S1024x320, .f32⟩
  | .hbm, ⟨14, _⟩ => ⟨S_, .f32⟩
  | .hbm, ⟨15, _⟩ => ⟨S1024x320, .f32⟩
  | .hbm, ⟨16, _⟩ => ⟨S1024x320, .f32⟩
  | .hbm, ⟨17, _⟩ => ⟨S1024x320, .f32⟩
  | .hbm, ⟨18, _⟩ => ⟨S_, .f32⟩
  | .hbm, ⟨19, _⟩ => ⟨S1024x320, .f32⟩
  | .hbm, ⟨20, _⟩ => ⟨S1024x320, .f32⟩
  | .hbm, ⟨21, _⟩ => ⟨S1024x320, .f32⟩
  | .hbm, ⟨22, _⟩ => ⟨S_, .f32⟩
  | .hbm, ⟨23, _⟩ => ⟨S1024x320, .f32⟩
  | .hbm, ⟨24, _⟩ => ⟨S1024x320, .f32⟩
  | .hbm, ⟨25, _⟩ => ⟨S_, .f32⟩
  | .hbm, ⟨26, _⟩ => ⟨S1024x320, .f32⟩
  | .hbm, ⟨27, _⟩ => ⟨S1024x320, .f32⟩
  | .hbm, ⟨28, _⟩ => ⟨S1024x320, .f32⟩
  | .hbm, ⟨29, _⟩ => ⟨S_, .f32⟩
  | .hbm, ⟨30, _⟩ => ⟨S1024x320, .f32⟩
  | .hbm, ⟨31, _⟩ => ⟨S1024x320, .f32⟩
  | .hbm, ⟨32, _⟩ => ⟨S1024x320, .f32⟩
  | .hbm, ⟨33, _⟩ => ⟨S_, .f32⟩
  | .hbm, ⟨34, _⟩ => ⟨S1024x320, .f32⟩
  | .hbm, ⟨35, _⟩ => ⟨S1024x320, .f32⟩
  | .hbm, ⟨36, _⟩ => ⟨S1024x320, .f32⟩
  | .hbm, ⟨37, _⟩ => ⟨S_, .f32⟩
  | .hbm, ⟨38, _⟩ => ⟨S1024x320, .f32⟩
  | .hbm, ⟨39, _⟩ => ⟨S1024x320, .f32⟩
  | _, _ => ⟨S1024x320, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== ModWeightKernel.lean ====
abbrev S2048x384 : Shape := ⟨2, ![2048, 384]⟩
abbrev S1x2048x384 : Shape := ⟨3, ![1, 2048, 384]⟩
abbrev S512x384 : Shape := ⟨2, ![512, 384]⟩
abbrev S1x512x384 : Shape := ⟨3, ![1, 512, 384]⟩

abbrev nBuf : Space → Nat
  | .hbm => 8
  | .vmem => 16
  | .smem => 0
  | _ => 0

abbrev bufTy : (tb : Table) → Fin (tcTables nBuf tb) → BufTy
  | .hbm, ⟨0, _⟩ => ⟨S2048x384, .f32⟩
  | .hbm, ⟨1, _⟩ => ⟨S1x2048x384, .f32⟩
  | .hbm, ⟨2, _⟩ => ⟨S2048x384, .f32⟩
  | .hbm, ⟨3, _⟩ => ⟨S2048x384, .f32⟩
  | .hbm, ⟨4, _⟩ => ⟨S2048x384, .f32⟩
  | .hbm, ⟨5, _⟩ => ⟨S2048x384, .f32⟩
  | .hbm, ⟨6, _⟩ => ⟨S2048x384, .f32⟩
  | .hbm, ⟨7, _⟩ => ⟨S2048x384, .f32⟩
  | .local _ .vmem, ⟨0, _⟩ => ⟨S512x384, .f32⟩
  | .local _ .vmem, ⟨1, _⟩ => ⟨S512x384, .f32⟩
  | .local _ .vmem, ⟨2, _⟩ => ⟨S1x512x384, .f32⟩
  | .local _ .vmem, ⟨3, _⟩ => ⟨S1x512x384, .f32⟩
  | .local _ .vmem, ⟨4, _⟩ => ⟨S512x384, .f32⟩
  | .local _ .vmem, ⟨5, _⟩ => ⟨S512x384, .f32⟩
  | .local _ .vmem, ⟨6, _⟩ => ⟨S512x384, .f32⟩
  | .local _ .vmem, ⟨7, _⟩ => ⟨S512x384, .f32⟩
  | .local _ .vmem, ⟨8, _⟩ => ⟨S512x384, .f32⟩
  | .local _ .vmem, ⟨9, _⟩ => ⟨S512x384, .f32⟩
  | .local _ .vmem, ⟨10, _⟩ => ⟨S512x384, .f32⟩
  | .local _ .vmem, ⟨11, _⟩ => ⟨S512x384, .f32⟩
  | .local _ .vmem, ⟨12, _⟩ => ⟨S512x384, .f32⟩
  | .local _ .vmem, ⟨13, _⟩ => ⟨S512x384, .f32⟩
  | .local _ .vmem, ⟨14, _⟩ => ⟨S512x384, .f32⟩
  | .local _ .vmem, ⟨15, _⟩ => ⟨S512x384, .f32⟩
  | _, _ => ⟨S2048x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ModWeightKernelIdeal.lean ====
abbrev S2048x384 : Shape := ⟨2, ![2048, 384]⟩
abbrev S1x2048x384 : Shape := ⟨3, ![1, 2048, 384]⟩
abbrev S512x384 : Shape := ⟨2, ![512, 384]⟩
abbrev S1x512x384 : Shape := ⟨3, ![1, 512, 384]⟩

abbrev nBuf : Space → Nat
  | .hbm => 8
  | .vmem => 16
  | .smem => 0
  | _ => 0

abbrev bufTy : (tb : Table) → Fin (tcTables nBuf tb) → BufTy
  | .hbm, ⟨0, _⟩ => ⟨S2048x384, .f32⟩
  | .hbm, ⟨1, _⟩ => ⟨S1x2048x384, .f32⟩
  | .hbm, ⟨2, _⟩ => ⟨S2048x384, .f32⟩
  | .hbm, ⟨3, _⟩ => ⟨S2048x384, .f32⟩
  | .hbm, ⟨4, _⟩ => ⟨S2048x384, .f32⟩
  | .hbm, ⟨5, _⟩ => ⟨S2048x384, .f32⟩
  | .hbm, ⟨6, _⟩ => ⟨S2048x384, .f32⟩
  | .hbm, ⟨7, _⟩ => ⟨S2048x384, .f32⟩
  | .local _ .vmem, ⟨0, _⟩ => ⟨S512x384, .f32⟩
  | .local _ .vmem, ⟨1, _⟩ => ⟨S512x384, .f32⟩
  | .local _ .vmem, ⟨2, _⟩ => ⟨S1x512x384, .f32⟩
  | .local _ .vmem, ⟨3, _⟩ => ⟨S1x512x384, .f32⟩
  | .local _ .vmem, ⟨4, _⟩ => ⟨S512x384, .f32⟩
  | .local _ .vmem, ⟨5, _⟩ => ⟨S512x384, .f32⟩
  | .local _ .vmem, ⟨6, _⟩ => ⟨S512x384, .f32⟩
  | .local _ .vmem, ⟨7, _⟩ => ⟨S512x384, .f32⟩
  | .local _ .vmem, ⟨8, _⟩ => ⟨S512x384, .f32⟩
  | .local _ .vmem, ⟨9, _⟩ => ⟨S512x384, .f32⟩
  | .local _ .vmem, ⟨10, _⟩ => ⟨S512x384, .f32⟩
  | .local _ .vmem, ⟨11, _⟩ => ⟨S512x384, .f32⟩
  | .local _ .vmem, ⟨12, _⟩ => ⟨S512x384, .f32⟩
  | .local _ .vmem, ⟨13, _⟩ => ⟨S512x384, .f32⟩
  | .local _ .vmem, ⟨14, _⟩ => ⟨S512x384, .f32⟩
  | .local _ .vmem, ⟨15, _⟩ => ⟨S512x384, .f32⟩
  | _, _ => ⟨S2048x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ModWeightReferenceIdeal.lean ====
abbrev S2048x384 : Shape := ⟨2, ![2048, 384]⟩
abbrev S1x2048x384 : Shape := ⟨3, ![1, 2048, 384]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S2048x384, .f32⟩
  | .hbm, ⟨1, _⟩ => ⟨S1x2048x384, .f32⟩
  | .hbm, ⟨2, _⟩ => ⟨S2048x384, .f32⟩
  | .hbm, ⟨3, _⟩ => ⟨S2048x384, .f32⟩
  | .hbm, ⟨4, _⟩ => ⟨S_, .f32⟩
  | .hbm, ⟨5, _⟩ => ⟨S2048x384, .f32⟩
  | .hbm, ⟨6, _⟩ => ⟨S_, .f32⟩
  | .hbm, ⟨7, _⟩ => ⟨S2048x384, .f32⟩
  | .hbm, ⟨8, _⟩ => ⟨S2048x384, .f32⟩
  | .hbm, ⟨9, _⟩ => ⟨S_, .f32⟩
  | .hbm, ⟨10, _⟩ => ⟨S2048x384, .f32⟩
  | .hbm, ⟨11, _⟩ => ⟨S2048x384, .f32⟩
  | .hbm, ⟨12, _⟩ => ⟨S2048x384, .f32⟩
  | .hbm, ⟨13, _⟩ => ⟨S_, .f32⟩
  | .hbm, ⟨14, _⟩ => ⟨S2048x384, .f32⟩
  | .hbm, ⟨15, _⟩ => ⟨S2048x384, .f32⟩
  | .hbm, ⟨16, _⟩ => ⟨S2048x384, .f32⟩
  | .hbm, ⟨17, _⟩ => ⟨S_, .f32⟩
  | .hbm, ⟨18, _⟩ => ⟨S2048x384, .f32⟩
  | .hbm, ⟨19, _⟩ => ⟨S2048x384, .f32⟩
  | .hbm, ⟨20, _⟩ => ⟨S2048x384, .f32⟩
  | .hbm, ⟨21, _⟩ => ⟨S_, .f32⟩
  | .hbm, ⟨22, _⟩ => ⟨S2048x384, .f32⟩
  | .hbm, ⟨23, _⟩ => ⟨S2048x384, .f32⟩
  | .hbm, ⟨24, _⟩ => ⟨S_, .f32⟩
  | .hbm, ⟨25, _⟩ => ⟨S2048x384, .f32⟩
  | .hbm, ⟨26, _⟩ => ⟨S2048x384, .f32⟩
  | .hbm, ⟨27, _⟩ => ⟨S2048x384, .f32⟩
  | .hbm, ⟨28, _⟩ => ⟨S_, .f32⟩
  | .hbm, ⟨29, _⟩ => ⟨S2048x384, .f32⟩
  | .hbm, ⟨30, _⟩ => ⟨S2048x384, .f32⟩
  | .hbm, ⟨31, _⟩ => ⟨S2048x384, .f32⟩
  | .hbm, ⟨32, _⟩ => ⟨S_, .f32⟩
  | .hbm, ⟨33, _⟩ => ⟨S2048x384, .f32⟩
  | .hbm, ⟨34, _⟩ => ⟨S2048x384, .f32⟩
  | .hbm, ⟨35, _⟩ => ⟨S2048x384, .f32⟩
  | .hbm, ⟨36, _⟩ => ⟨S_, .f32⟩
  | .hbm, ⟨37, _⟩ => ⟨S2048x384, .f32⟩
  | .hbm, ⟨38, _⟩ => ⟨S2048x384, .f32⟩
  | _, _ => ⟨S2048x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== SmallWeightKernel.lean ====
abbrev S4608x128 : Shape := ⟨2, ![4608, 128]⟩
abbrev S1x4608x128 : Shape := ⟨3, ![1, 4608, 128]⟩
abbrev S512x128 : Shape := ⟨2, ![512, 128]⟩
abbrev S1x512x128 : Shape := ⟨3, ![1, 512, 128]⟩

abbrev nBuf : Space → Nat
  | .hbm => 8
  | .vmem => 16
  | .smem => 0
  | _ => 0

abbrev bufTy : (tb : Table) → Fin (tcTables nBuf tb) → BufTy
  | .hbm, ⟨0, _⟩ => ⟨S4608x128, .f32⟩
  | .hbm, ⟨1, _⟩ => ⟨S1x4608x128, .f32⟩
  | .hbm, ⟨2, _⟩ => ⟨S4608x128, .f32⟩
  | .hbm, ⟨3, _⟩ => ⟨S4608x128, .f32⟩
  | .hbm, ⟨4, _⟩ => ⟨S4608x128, .f32⟩
  | .hbm, ⟨5, _⟩ => ⟨S4608x128, .f32⟩
  | .hbm, ⟨6, _⟩ => ⟨S4608x128, .f32⟩
  | .hbm, ⟨7, _⟩ => ⟨S4608x128, .f32⟩
  | .local _ .vmem, ⟨0, _⟩ => ⟨S512x128, .f32⟩
  | .local _ .vmem, ⟨1, _⟩ => ⟨S512x128, .f32⟩
  | .local _ .vmem, ⟨2, _⟩ => ⟨S1x512x128, .f32⟩
  | .local _ .vmem, ⟨3, _⟩ => ⟨S1x512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | _, _ => ⟨S4608x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== SmallWeightReferenceIdeal.lean ====
abbrev S4608x128 : Shape := ⟨2, ![4608, 128]⟩
abbrev S1x4608x128 : Shape := ⟨3, ![1, 4608, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S4608x128, .f32⟩
  | .hbm, ⟨1, _⟩ => ⟨S1x4608x128, .f32⟩
  | .hbm, ⟨2, _⟩ => ⟨S4608x128, .f32⟩
  | .hbm, ⟨3, _⟩ => ⟨S4608x128, .f32⟩
  | .hbm, ⟨4, _⟩ => ⟨S_, .f32⟩
  | .hbm, ⟨5, _⟩ => ⟨S4608x128, .f32⟩
  | .hbm, ⟨6, _⟩ => ⟨S_, .f32⟩
  | .hbm, ⟨7, _⟩ => ⟨S4608x128, .f32⟩
  | .hbm, ⟨8, _⟩ => ⟨S4608x128, .f32⟩
  | .hbm, ⟨9, _⟩ => ⟨S_, .f32⟩
  | .hbm, ⟨10, _⟩ => ⟨S4608x128, .f32⟩
  | .hbm, ⟨11, _⟩ => ⟨S4608x128, .f32⟩
  | .hbm, ⟨12, _⟩ => ⟨S4608x128, .f32⟩
  | .hbm, ⟨13, _⟩ => ⟨S_, .f32⟩
  | .hbm, ⟨14, _⟩ => ⟨S4608x128, .f32⟩
  | .hbm, ⟨15, _⟩ => ⟨S4608x128, .f32⟩
  | .hbm, ⟨16, _⟩ => ⟨S4608x128, .f32⟩
  | .hbm, ⟨17, _⟩ => ⟨S_, .f32⟩
  | .hbm, ⟨18, _⟩ => ⟨S4608x128, .f32⟩
  | .hbm, ⟨19, _⟩ => ⟨S4608x128, .f32⟩
  | .hbm, ⟨20, _⟩ => ⟨S4608x128, .f32⟩
  | .hbm, ⟨21, _⟩ => ⟨S_, .f32⟩
  | .hbm, ⟨22, _⟩ => ⟨S4608x128, .f32⟩
  | .hbm, ⟨23, _⟩ => ⟨S4608x128, .f32⟩
  | .hbm, ⟨24, _⟩ => ⟨S_, .f32⟩
  | .hbm, ⟨25, _⟩ => ⟨S4608x128, .f32⟩
  | .hbm, ⟨26, _⟩ => ⟨S4608x128, .f32⟩
  | .hbm, ⟨27, _⟩ => ⟨S4608x128, .f32⟩
  | .hbm, ⟨28, _⟩ => ⟨S_, .f32⟩
  | .hbm, ⟨29, _⟩ => ⟨S4608x128, .f32⟩
  | .hbm, ⟨30, _⟩ => ⟨S4608x128, .f32⟩
  | .hbm, ⟨31, _⟩ => ⟨S4608x128, .f32⟩
  | .hbm, ⟨32, _⟩ => ⟨S_, .f32⟩
  | .hbm, ⟨33, _⟩ => ⟨S4608x128, .f32⟩
  | .hbm, ⟨34, _⟩ => ⟨S4608x128, .f32⟩
  | .hbm, ⟨35, _⟩ => ⟨S4608x128, .f32⟩
  | .hbm, ⟨36, _⟩ => ⟨S_, .f32⟩
  | .hbm, ⟨37, _⟩ => ⟨S4608x128, .f32⟩
  | .hbm, ⟨38, _⟩ => ⟨S4608x128, .f32⟩
  | _, _ => ⟨S4608x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== SumKernel.lean ====
abbrev S8x576x128 : Shape := ⟨3, ![8, 576, 128]⟩
abbrev S576x128 : Shape := ⟨2, ![576, 128]⟩
abbrev S1x576x128 : Shape := ⟨3, ![1, 576, 128]⟩

abbrev nBuf : Space → Nat
  | .hbm => 2
  | .vmem => 2
  | .smem => 0
  | _ => 0

abbrev bufTy : (tb : Table) → Fin (tcTables nBuf tb) → BufTy
  | .hbm, ⟨0, _⟩ => ⟨S8x576x128, .f32⟩
  | .hbm, ⟨1, _⟩ => ⟨S576x128, .f32⟩
  | .local _ .vmem, ⟨0, _⟩ => ⟨S8x576x128, .f32⟩
  | .local _ .vmem, ⟨1, _⟩ => ⟨S576x128, .f32⟩
  | _, _ => ⟨S8x576x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x576x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S576x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== SumReferenceIdeal.lean ====
abbrev S8x576x128 : Shape := ⟨3, ![8, 576, 128]⟩
abbrev S_ : Shape := ⟨0, ![]⟩
abbrev S576x128 : Shape := ⟨2, ![576, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x576x128, .f32⟩
  | .hbm, ⟨1, _⟩ => ⟨S_, .f32⟩
  | .hbm, ⟨2, _⟩ => ⟨S576x128, .f32⟩
  | _, _ => ⟨S8x576x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== ModKernel.lean ====
abbrev S16x1024 : Shape := ⟨2, ![16, 1024]⟩
abbrev S2x1024x384 : Shape := ⟨3, ![2, 1024, 384]⟩
abbrev S2x384 : Shape := ⟨2, ![2, 384]⟩
abbrev S2x1x384 : Shape := ⟨3, ![2, 1, 384]⟩
abbrev S2x16x384 : Shape := ⟨3, ![2, 16, 384]⟩
abbrev S1x1024x384 : Shape := ⟨3, ![1, 1024, 384]⟩
abbrev S1024x384 : Shape := ⟨2, ![1024, 384]⟩
abbrev S16x384 : Shape := ⟨2, ![16, 384]⟩
abbrev S1x1x384 : Shape := ⟨3, ![1, 1, 384]⟩
abbrev S1x384 : Shape := ⟨2, ![1, 384]⟩
abbrev S1x16x384 : Shape := ⟨3, ![1, 16, 384]⟩

abbrev nBuf : Space → Nat
  | .hbm => 5
  | .vmem => 4
  | .smem => 0
  | _ => 0

abbrev bufTy : (tb : Table) → Fin (tcTables nBuf tb) → BufTy
  | .hbm, ⟨0, _⟩ => ⟨S16x1024, .f32⟩
  | .hbm, ⟨1, _⟩ => ⟨S2x1024x384, .f32⟩
  | .hbm, ⟨2, _⟩ => ⟨S2x384, .f32⟩
  | .hbm, ⟨3, _⟩ => ⟨S2x1x384, .f32⟩
  | .hbm, ⟨4, _⟩ => ⟨S2x16x384, .f32⟩
  | .local _ .vmem, ⟨0, _⟩ => ⟨S16x1024, .f32⟩
  | .local _ .vmem, ⟨1, _⟩ => ⟨S2x1024x384, .f32⟩
  | .local _ .vmem, ⟨2, _⟩ => ⟨S2x1x384, .f32⟩
  | .local _ .vmem, ⟨3, _⟩ => ⟨S2x16x384, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x1024x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x1x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x16x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ModReferenceIdeal.lean ====
abbrev S16x1024 : Shape := ⟨2, ![16, 1024]⟩
abbrev S2x1024x384 : Shape := ⟨3, ![2, 1024, 384]⟩
abbrev S2x384 : Shape := ⟨2, ![2, 384]⟩
abbrev S_ : Shape := ⟨0, ![]⟩
abbrev S1x1024x384 : Shape := ⟨3, ![1, 1024, 384]⟩
abbrev S1024x384 : Shape := ⟨2, ![1024, 384]⟩
abbrev S16x384 : Shape := ⟨2, ![16, 384]⟩
abbrev S1x16x384 : Shape := ⟨3, ![1, 16, 384]⟩
abbrev S2x16x384 : Shape := ⟨3, ![2, 16, 384]⟩
abbrev S2x1x384 : Shape := ⟨3, ![2, 1, 384]⟩

abbrev nBuf : Space → Nat
  | .hbm => 24
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S2x1024x384, .f32⟩
  | .hbm, ⟨2, _⟩ => ⟨S2x384, .f32⟩
  | .hbm, ⟨3, _⟩ => ⟨S16x1024, .f32⟩
  | .hbm, ⟨4, _⟩ => ⟨S16x1024, .f32⟩
  | .hbm, ⟨5, _⟩ => ⟨S_, .f32⟩
  | .hbm, ⟨6, _⟩ => ⟨S16x1024, .f32⟩
  | .hbm, ⟨7, _⟩ => ⟨S16x1024, .f32⟩
  | .hbm, ⟨8, _⟩ => ⟨S_, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S1x1024x384, .f32⟩
  | .hbm, ⟨13, _⟩ => ⟨S1024x384, .f32⟩
  | .hbm, ⟨14, _⟩ => ⟨S16x384, .f32⟩
  | .hbm, ⟨15, _⟩ => ⟨S1x1024x384, .f32⟩
  | .hbm, ⟨16, _⟩ => ⟨S1024x384, .f32⟩
  | .hbm, ⟨17, _⟩ => ⟨S16x384, .f32⟩
  | .hbm, ⟨18, _⟩ => ⟨S1x16x384, .f32⟩
  | .hbm, ⟨19, _⟩ => ⟨S1x16x384, .f32⟩
  | .hbm, ⟨20, _⟩ => ⟨S2x16x384, .f32⟩
  | .hbm, ⟨21, _⟩ => ⟨S2x1x384, .f32⟩
  | .hbm, ⟨22, _⟩ => ⟨S2x16x384, .f32⟩
  | .hbm, ⟨23, _⟩ => ⟨S2x16x384, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩

abbrev nD : Nat := 1
abbrev τ : Topo := Topo.v7x

variable {F : FTy → Type} [FloatOps F]
-- ==== ModGradKernel.lean ====
abbrev S16x1024 : Shape := ⟨2, ![16, 1024]⟩
abbrev S2x8x384 : Shape := ⟨3, ![2, 8, 384]⟩
abbrev S8x2x1x384 : Shape := ⟨4, ![8, 2, 1, 384]⟩
abbrev S2x1024x384 : Shape := ⟨3, ![2, 1024, 384]⟩
abbrev S1x1024 : Shape := ⟨2, ![1, 1024]⟩
abbrev S1x1x1x384 : Shape := ⟨4, ![1, 1, 1, 384]⟩
abbrev S1x384 : Shape := ⟨2, ![1, 384]⟩
abbrev S1x8x384 : Shape := ⟨3, ![1, 8, 384]⟩
abbrev S8x384 : Shape := ⟨2, ![8, 384]⟩
abbrev S7x384 : Shape := ⟨2, ![7, 384]⟩
abbrev S16x384 : Shape := ⟨2, ![16, 384]⟩
abbrev S1024x384 : Shape := ⟨2, ![1024, 384]⟩
abbrev S1x1024x384 : Shape := ⟨3, ![1, 1024, 384]⟩

abbrev nBuf : Space → Nat
  | .hbm => 6
  | .vmem => 6
  | .smem => 0
  | _ => 0

abbrev bufTy : (tb : Table) → Fin (tcTables nBuf tb) → BufTy
  | .hbm, ⟨0, _⟩ => ⟨S16x1024, .f32⟩
  | .hbm, ⟨1, _⟩ => ⟨S2x8x384, .f32⟩
  | .hbm, ⟨2, _⟩ => ⟨S8x2x1x384, .f32⟩
  | .hbm, ⟨3, _⟩ => ⟨S2x1024x384, .f32⟩
  | .hbm, ⟨4, _⟩ => ⟨S2x1024x384, .f32⟩
  | .hbm, ⟨5, _⟩ => ⟨S1x1024, .f32⟩
  | .local _ .vmem, ⟨0, _⟩ => ⟨S16x1024, .f32⟩
  | .local _ .vmem, ⟨1, _⟩ => ⟨S2x8x384, .f32⟩
  | .local _ .vmem, ⟨2, _⟩ => ⟨S8x2x1x384, .f32⟩
  | .local _ .vmem, ⟨3, _⟩ => ⟨S2x1024x384, .f32⟩
  | .local _ .vmem, ⟨4, _⟩ => ⟨S2x1024x384, .f32⟩
  | .local _ .vmem, ⟨5, _⟩ => ⟨S1x1024, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x8x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x2x1x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x1024x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x1024x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ModGradReferenceIdeal.lean ====
abbrev S16x1024 : Shape := ⟨2, ![16, 1024]⟩
abbrev S2x8x384 : Shape := ⟨3, ![2, 8, 384]⟩
abbrev S8x2x1x384 : Shape := ⟨4, ![8, 2, 1, 384]⟩
abbrev S2x1024x384 : Shape := ⟨3, ![2, 1024, 384]⟩
abbrev S8x1024 : Shape := ⟨2, ![8, 1024]⟩
abbrev S1x1024 : Shape := ⟨2, ![1, 1024]⟩
abbrev S_ : Shape := ⟨0, ![]⟩
abbrev S1x1024x384 : Shape := ⟨3, ![1, 1024, 384]⟩
abbrev S1024x384 : Shape := ⟨2, ![1024, 384]⟩
abbrev S8x384 : Shape := ⟨2, ![8, 384]⟩
abbrev S1x8x384 : Shape := ⟨3, ![1, 8, 384]⟩
abbrev S1x384 : Shape := ⟨2, ![1, 384]⟩
abbrev S1x1x384 : Shape := ⟨3, ![1, 1, 384]⟩
abbrev S2x1x384 : Shape := ⟨3, ![2, 1, 384]⟩
abbrev S384x1024 : Shape := ⟨2, ![384, 1024]⟩

abbrev nBuf : Space → Nat
  | .hbm => 86
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S2x8x384, .f32⟩
  | .hbm, ⟨2, _⟩ => ⟨S8x2x1x384, .f32⟩
  | .hbm, ⟨3, _⟩ => ⟨S2x1024x384, .f32⟩
  | .hbm, ⟨4, _⟩ => ⟨S8x1024, .f32⟩
  | .hbm, ⟨5, _⟩ => ⟨S1x1024, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S_, .f32⟩
  | .hbm, ⟨12, _⟩ => ⟨S8x1024, .f32⟩
  | .hbm, ⟨13, _⟩ => ⟨S8x1024, .f32⟩
  | .hbm, ⟨14, _⟩ => ⟨S8x1024, .f32⟩
  | .hbm, ⟨15, _⟩ => ⟨S1x1024x384, .f32⟩
  | .hbm, ⟨16, _⟩ => ⟨S1024x384, .f32⟩
  | .hbm, ⟨17, _⟩ => ⟨S8x384, .f32⟩
  | .hbm, ⟨18, _⟩ => ⟨S1x1024x384, .f32⟩
  | .hbm, ⟨19, _⟩ => ⟨S1024x384, .f32⟩
  | .hbm, ⟨20, _⟩ => ⟨S8x384, .f32⟩
  | .hbm, ⟨21, _⟩ => ⟨S1x8x384, .f32⟩
  | .hbm, ⟨22, _⟩ => ⟨S1x8x384, .f32⟩
  | .hbm, ⟨23, _⟩ => ⟨S2x8x384, .f32⟩
  | .hbm, ⟨24, _⟩ => ⟨S1x1024, .f32⟩
  | .hbm, ⟨25, _⟩ => ⟨S1x1024, .f32⟩
  | .hbm, ⟨26, _⟩ => ⟨S_, .f32⟩
  | .hbm, ⟨27, _⟩ => ⟨S1x1024, .f32⟩
  | .hbm, ⟨28, _⟩ => ⟨S1x1024, .f32⟩
  | .hbm, ⟨29, _⟩ => ⟨S_, .f32⟩
  | .hbm, ⟨30, _⟩ => ⟨S1x1024, .f32⟩
  | .hbm, ⟨31, _⟩ => ⟨S1x1024, .f32⟩
  | .hbm, ⟨32, _⟩ => ⟨S_, .f32⟩
  | .hbm, ⟨33, _⟩ => ⟨S1x1024, .f32⟩
  | .hbm, ⟨34, _⟩ => ⟨S1x1024, .f32⟩
  | .hbm, ⟨35, _⟩ => ⟨S1x1024, .f32⟩
  | .hbm, ⟨36, _⟩ => ⟨S1x1024, .f32⟩
  | .hbm, ⟨37, _⟩ => ⟨S1x1024x384, .f32⟩
  | .hbm, ⟨38, _⟩ => ⟨S1024x384, .f32⟩
  | .hbm, ⟨39, _⟩ => ⟨S1x384, .f32⟩
  | .hbm, ⟨40, _⟩ => ⟨S1x1024x384, .f32⟩
  | .hbm, ⟨41, _⟩ => ⟨S1024x384, .f32⟩
  | .hbm, ⟨42, _⟩ => ⟨S1x384, .f32⟩
  | .hbm, ⟨43, _⟩ => ⟨S1x1x384, .f32⟩
  | .hbm, ⟨44, _⟩ => ⟨S1x1x384, .f32⟩
  | .hbm, ⟨45, _⟩ => ⟨S2x1x384, .f32⟩
  | .hbm, ⟨46, _⟩ => ⟨S_, .f32⟩
  | .hbm, ⟨47, _⟩ => ⟨S2x1x384, .f32⟩
  | .hbm, ⟨48, _⟩ => ⟨S1x1x384, .f32⟩
  | .hbm, ⟨49, _⟩ => ⟨S1x384, .f32⟩
  | .hbm, ⟨50, _⟩ => ⟨S1x1x384, .f32⟩
  | .hbm, ⟨51, _⟩ => ⟨S1x384, .f32⟩
  | .hbm, ⟨52, _⟩ => ⟨S384x1024, .f32⟩
  | .hbm, ⟨53, _⟩ => ⟨S1024x384, .f32⟩
  | .hbm, ⟨54, _⟩ => ⟨S1x1024, .f32⟩
  | .hbm, ⟨55, _⟩ => ⟨S1x1024x384, .f32⟩
  | .hbm, ⟨56, _⟩ => ⟨S_, .f32⟩
  | .hbm, ⟨57, _⟩ => ⟨S2x1024x384, .f32⟩
  | .hbm, ⟨58, _⟩ => ⟨S384x1024, .f32⟩
  | .hbm, ⟨59, _⟩ => ⟨S1024x384, .f32⟩
  | .hbm, ⟨60, _⟩ => ⟨S1x1024, .f32⟩
  | .hbm, ⟨61, _⟩ => ⟨S1x1024, .f32⟩
  | .hbm, ⟨62, _⟩ => ⟨S1x1024x384, .f32⟩
  | .hbm, ⟨63, _⟩ => ⟨S_, .f32⟩
  | .hbm, ⟨64, _⟩ => ⟨S2x1024x384, .f32⟩
  | .hbm, ⟨65, _⟩ => ⟨S2x1024x384, .f32⟩
  | .hbm, ⟨66, _⟩ => ⟨S1x1024, .f32⟩
  | .hbm, ⟨67, _⟩ => ⟨S1x1024, .f32⟩
  | .hbm, ⟨68, _⟩ => ⟨S1x1024, .f32⟩
  | .hbm, ⟨69, _⟩ => ⟨S1x1024, .f32⟩
  | .hbm, ⟨70, _⟩ => ⟨S1x8x384, .f32⟩
  | .hbm, ⟨71, _⟩ => ⟨S8x384, .f32⟩
  | .hbm, ⟨72, _⟩ => ⟨S1x8x384, .f32⟩
  | .hbm, ⟨73, _⟩ => ⟨S8x384, .f32⟩
  | .hbm, ⟨74, _⟩ => ⟨S384x1024, .f32⟩
  | .hbm, ⟨75, _⟩ => ⟨S1024x384, .f32⟩
  | .hbm, ⟨76, _⟩ => ⟨S1x1024x384, .f32⟩
  | .hbm, ⟨77, _⟩ => ⟨S_, .f32⟩
  | .hbm, ⟨78, _⟩ => ⟨S2x1024x384, .f32⟩
  | .hbm, ⟨79, _⟩ => ⟨S2x1024x384, .f32⟩
  | .hbm, ⟨80, _⟩ => ⟨S384x1024, .f32⟩
  | .hbm, ⟨81, _⟩ => ⟨S1024x384, .f32⟩
  | .hbm, ⟨82, _⟩ => ⟨S1x1024x384, .f32⟩
  | .hbm, ⟨83, _⟩ => ⟨S_, .f32⟩
  | .hbm, ⟨84, _⟩ => ⟨S2x1024x384, .f32⟩
  | .hbm, ⟨85, _⟩ => ⟨S2x1024x384, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_call1_v0 : Ref sig .tc := ⟨.hbm, 24, rfl⟩
abbrev main_call1_v1 : Ref sig .tc := ⟨.hbm, 25, rfl⟩
abbrev main_call1_cst : Ref sig .tc := ⟨.hbm, 26, rfl⟩
abbrev main_call1_v2 : Ref sig .tc := ⟨.hbm, 27, rfl⟩
abbrev main_call1_v3 : Ref sig .tc := ⟨.hbm, 28, rfl⟩
abbrev main_call1_cst_0 : Ref sig .tc := ⟨.hbm, 29, rfl⟩
abbrev main_call1_v4 : Ref sig .tc := ⟨.hbm, 30, rfl⟩
abbrev main_v12_2 : Ref sig .tc := ⟨.hbm, 31, rfl⟩
abbrev main_call1_cst_1 : Ref sig .tc := ⟨.hbm, 32, rfl⟩
abbrev main_call1_v6 : Ref sig .tc := ⟨.hbm, 33, rfl⟩
abbrev main_call1_v7 : Ref sig .tc := ⟨.hbm, 34, rfl⟩
abbrev main_v12_1 : Ref sig .tc := ⟨.hbm, 35, rfl⟩
abbrev main_v12_0 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_cst : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_cst_0 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_cst_1 : Ref sig .tc := ⟨.hbm, 63, rfl⟩
abbrev main_v37 : Ref sig .tc := ⟨.hbm, 64, rfl⟩
abbrev main_v38 : Ref sig .tc := ⟨.hbm, 65, rfl⟩
abbrev main_call2_v0 : Ref sig .tc := ⟨.hbm, 66, rfl⟩
abbrev main_call2_v1 : Ref sig .tc := ⟨.hbm, 67, rfl⟩
abbrev main_call2_v2 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_cst_2 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_cst_3 : Ref sig .tc := ⟨.hbm, 83, rfl⟩
abbrev main_v52 : Ref sig .tc := ⟨.hbm, 84, rfl⟩
abbrev main_v53 : Ref sig .tc := ⟨.hbm, 85, rfl⟩

abbrev nD : Nat := 1
abbrev τ : Topo := Topo.v7x

variable {F : FTy → Type} [FloatOps F]
-- ==== AttnInKernel.lean ====
abbrev S8448x1024 : Shape := ⟨2, ![8448, 1024]⟩
abbrev S1x1024 : Shape := ⟨2, ![1, 1024]⟩
abbrev S2x1x1024 : Shape := ⟨3, ![2, 1, 1024]⟩
abbrev S1024x2560 : Shape := ⟨2, ![1024, 2560]⟩
abbrev S1x256 : Shape := ⟨2, ![1, 256]⟩
abbrev S8448x128 : Shape := ⟨2, ![8448, 128]⟩
abbrev S1024 : Shape := ⟨1, ![1024]⟩
abbrev S1024x1 : Shape := ⟨2, ![1024, 1]⟩
abbrev S_ : Shape := ⟨0, ![]⟩
abbrev S128 : Shape := ⟨1, ![128]⟩
abbrev S1x128 : Shape := ⟨2, ![1, 128]⟩
abbrev S1024x128 : Shape := ⟨2, ![1024, 128]⟩
abbrev S256 : Shape := ⟨1, ![256]⟩
abbrev S256x1 : Shape := ⟨2, ![256, 1]⟩
abbrev S256x128 : Shape := ⟨2, ![256, 128]⟩
abbrev S8192x1024 : Shape := ⟨2, ![8192, 1024]⟩
abbrev S8448x256 : Shape := ⟨2, ![8448, 256]⟩
abbrev S8448x1280 : Shape := ⟨2, ![8448, 1280]⟩
abbrev S256x1024 : Shape := ⟨2, ![256, 1024]⟩
abbrev S1x1x1024 : Shape := ⟨3, ![1, 1, 1024]⟩
abbrev S256x256 : Shape := ⟨2, ![256, 256]⟩
abbrev S256x1280 : Shape := ⟨2, ![256, 1280]⟩
abbrev S256x2560 : Shape := ⟨2, ![256, 2560]⟩

abbrev nBuf : Space → Nat
  | .hbm => 66
  | .vmem => 26
  | .smem => 0
  | _ => 0

abbrev bufTy : (tb : Table) → Fin (tcTables nBuf tb) → BufTy
  | .hbm, ⟨0, _⟩ => ⟨S8448x1024, .f32⟩
  | .hbm, ⟨1, _⟩ => ⟨S1x1024, .f32⟩
  | .hbm, ⟨2, _⟩ => ⟨S2x1x1024, .f32⟩
  | .hbm, ⟨3, _⟩ => ⟨S2x1x1024, .f32⟩
  | .hbm, ⟨4, _⟩ => ⟨S1024x2560, .f32⟩
  | .hbm, ⟨5, _⟩ => ⟨S1x1024, .f32⟩
  | .hbm, ⟨6, _⟩ => ⟨S1x256, .f32⟩
  | .hbm, ⟨7, _⟩ => ⟨S8448x128, .f32⟩
  | .hbm, ⟨8, _⟩ => ⟨S8448x128, .f32⟩
  | .hbm, ⟨9, _⟩ => ⟨S1024, .i32⟩
  | .hbm, ⟨10, _⟩ => ⟨S1024x1, .i32⟩
  | .hbm, ⟨11, _⟩ => ⟨S_, .i32⟩
  | .hbm, ⟨12, _⟩ => ⟨S_, .i32⟩
  | .hbm, ⟨13, _⟩ => ⟨S1024x1, .i32⟩
  | .hbm, ⟨14, _⟩ => ⟨S1024x1, .i32⟩
  | .hbm, ⟨15, _⟩ => ⟨S1024x1, .i32⟩
  | .hbm, ⟨16, _⟩ => ⟨S_, .i32⟩
  | .hbm, ⟨17, _⟩ => ⟨S1024x1, .i32⟩
  | .hbm, ⟨18, _⟩ => ⟨S1024x1, .i1⟩
  | .hbm, ⟨19, _⟩ => ⟨S1024x1, .i32⟩
  | .hbm, ⟨20, _⟩ => ⟨S1024x1, .i32⟩
  | .hbm, ⟨21, _⟩ => ⟨S_, .i32⟩
  | .hbm, ⟨22, _⟩ => ⟨S1024x1, .i32⟩
  | .hbm, ⟨23, _⟩ => ⟨S1024x1, .i1⟩
  | .hbm, ⟨24, _⟩ => ⟨S1024x1, .i1⟩
  | .hbm, ⟨25, _⟩ => ⟨S_, .i32⟩
  | .hbm, ⟨26, _⟩ => ⟨S1024x1, .i32⟩
  | .hbm, ⟨27, _⟩ => ⟨S1024x1, .i32⟩
  | .hbm, ⟨28, _⟩ => ⟨S1024x1, .i32⟩
  | .hbm, ⟨29, _⟩ => ⟨S128, .i32⟩
  | .hbm, ⟨30, _⟩ => ⟨S1x128, .i32⟩
  | .hbm, ⟨31, _⟩ => ⟨S1024x128, .i32⟩
  | .hbm, ⟨32, _⟩ => ⟨S1024x128, .i32⟩
  | .hbm, ⟨33, _⟩ => ⟨S1024x128, .i1⟩
  | .hbm, ⟨34, _⟩ => ⟨S1024x128, .bf16⟩
  | .hbm, ⟨35, _⟩ => ⟨S256, .i32⟩
  | .hbm, ⟨36, _⟩ => ⟨S256x1, .i32⟩
  | .hbm, ⟨37, _⟩ => ⟨S_, .i32⟩
  | .hbm, ⟨38, _⟩ => ⟨S_, .i32⟩
  | .hbm, ⟨39, _⟩ => ⟨S256x1, .i32⟩
  | .hbm, ⟨40, _⟩ => ⟨S256x1, .i32⟩
  | .hbm, ⟨41, _⟩ => ⟨S256x1, .i32⟩
  | .hbm, ⟨42, _⟩ => ⟨S_, .i32⟩
  | .hbm, ⟨43, _⟩ => ⟨S256x1, .i32⟩
  | .hbm, ⟨44, _⟩ => ⟨S256x1, .i1⟩
  | .hbm, ⟨45, _⟩ => ⟨S256x1, .i32⟩
  | .hbm, ⟨46, _⟩ => ⟨S256x1, .i32⟩
  | .hbm, ⟨47, _⟩ => ⟨S_, .i32⟩
  | .hbm, ⟨48, _⟩ => ⟨S256x1, .i32⟩
  | .hbm, ⟨49, _⟩ => ⟨S256x1, .i1⟩
  | .hbm, ⟨50, _⟩ => ⟨S256x1, .i1⟩
  | .hbm, ⟨51, _⟩ => ⟨S_, .i32⟩
  | .hbm, ⟨52, _⟩ => ⟨S256x1, .i32⟩
  | .hbm, ⟨53, _⟩ => ⟨S256x1, .i32⟩
  | .hbm, ⟨54, _⟩ => ⟨S256x1, .i32⟩
  | .hbm, ⟨55, _⟩ => ⟨S128, .i32⟩
  | .hbm, ⟨56, _⟩ => ⟨S1x128, .i32⟩
  | .hbm, ⟨57, _⟩ => ⟨S256x128, .i32⟩
  | .hbm, ⟨58, _⟩ => ⟨S256x128, .i32⟩
  | .hbm, ⟨59, _⟩ => ⟨S256x128, .i1⟩
  | .hbm, ⟨60, _⟩ => ⟨S256x128, .bf16⟩
  | .hbm, ⟨61, _⟩ => ⟨S8192x1024, .bf16⟩
  | .hbm, ⟨62, _⟩ => ⟨S8448x256, .bf16⟩
  | .hbm, ⟨63, _⟩ => ⟨S8448x256, .bf16⟩
  | .hbm, ⟨64, _⟩ => ⟨S8448x1024, .f32⟩
  | .hbm, ⟨65, _⟩ => ⟨S8448x1280, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x2560, .f32⟩
  | .local _ .vmem, ⟨8, _⟩ => ⟨S1x1024, .f32⟩
  | .local _ .vmem, ⟨9, _⟩ => ⟨S1x256, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S1024x128, .bf16⟩
  | .local _ .vmem, ⟨15, _⟩ => ⟨S256x128, .bf16⟩
  | .local _ .vmem, ⟨16, _⟩ => ⟨S256x1024, .bf16⟩
  | .local _ .vmem, ⟨17, _⟩ => ⟨S256x1024, .bf16⟩
  | .local _ .vmem, ⟨18, _⟩ => ⟨S256x256, .bf16⟩
  | .local _ .vmem, ⟨19, _⟩ => ⟨S256x256, .bf16⟩
  | .local _ .vmem, ⟨20, _⟩ => ⟨S256x256, .bf16⟩
  | .local _ .vmem, ⟨21, _⟩ => ⟨S256x256, .bf16⟩
  | .local _ .vmem, ⟨22, _⟩ => ⟨S256x1024, .f32⟩
  | .local _ .vmem, ⟨23, _⟩ => ⟨S256x1024, .f32⟩
  | .local _ .vmem, ⟨24, _⟩ => ⟨S256x1280, .f32⟩
  | .local _ .vmem, ⟨25, _⟩ => ⟨S256x1280, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_c_0 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_v5 : Ref sig .tc := ⟨.hbm, 43, rfl⟩
abbrev main_call1_v6 : Ref sig .tc := ⟨.hbm, 44, rfl⟩
abbrev main_call1_v7 : Ref sig .tc := ⟨.hbm, 45, rfl⟩
abbrev main_call1_v8 : Ref sig .tc := ⟨.hbm, 46, rfl⟩
abbrev main_call1_c : Ref sig .tc := ⟨.hbm, 47, rfl⟩
abbrev main_call1_v9 : Ref sig .tc := ⟨.hbm, 48, rfl⟩
abbrev main_call1_v10 : Ref sig .tc := ⟨.hbm, 49, rfl⟩
abbrev main_call1_v11 : Ref sig .tc := ⟨.hbm, 50, rfl⟩
abbrev main_call1_c_0 : Ref sig .tc := ⟨.hbm, 51, rfl⟩
abbrev main_call1_v12 : Ref sig .tc := ⟨.hbm, 52, rfl⟩
abbrev main_call1_v13 : Ref sig .tc := ⟨.hbm, 53, rfl⟩
abbrev main_v11 : Ref sig .tc := ⟨.hbm, 54, rfl⟩
abbrev main_v12 : Ref sig .tc := ⟨.hbm, 55, rfl⟩
abbrev main_v13 : Ref sig .tc := ⟨.hbm, 56, rfl⟩
abbrev main_v14 : Ref sig .tc := ⟨.hbm, 57, rfl⟩
abbrev main_v15 : Ref sig .tc := ⟨.hbm, 58, rfl⟩
abbrev main_v16 : Ref sig .tc := ⟨.hbm, 59, rfl⟩
abbrev main_v17 : Ref sig .tc := ⟨.hbm, 60, rfl⟩
abbrev main_v18_0 : Ref sig .tc := ⟨.hbm, 61, rfl⟩
abbrev main_v18_1 : Ref sig .tc := ⟨.hbm, 62, rfl⟩
abbrev main_v18_2 : Ref sig .tc := ⟨.hbm, 63, rfl⟩
abbrev main_v18_3 : Ref sig .tc := ⟨.hbm, 64, rfl⟩
abbrev main_v18_4 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c1_i32 : BitVec 32 := 1#32
  let v0 : BitVec 32 := Scalar.minsi arg0 c1_i32
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 3 → Nat :=
  let arg0 : BitVec 32 := BitVec.ofNat 32 (i 0).val
  let c1_i32 : BitVec 32 := 1#32
  let v0 : BitVec 32 := Scalar.minsi arg0 c1_i32
  let c0_i32 : BitVec 32 := 0#32
  let c0_i32_0 : BitVec 32 := 0#32
  let c0_i32_1 : BitVec 32 := 0#32
  ![v0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x2560 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1024x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1280 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== AttnInReferenceIdeal.lean ====
abbrev S8448x1024 : Shape := ⟨2, ![8448, 1024]⟩
abbrev S1x1024 : Shape := ⟨2, ![1, 1024]⟩
abbrev S2x1x1024 : Shape := ⟨3, ![2, 1, 1024]⟩
abbrev S1024x2560 : Shape := ⟨2, ![1024, 2560]⟩
abbrev S1x256 : Shape := ⟨2, ![1, 256]⟩
abbrev S8448x128 : Shape := ⟨2, ![8448, 128]⟩
abbrev S256x1024 : Shape := ⟨2, ![256, 1024]⟩
abbrev S8192x1024 : Shape := ⟨2, ![8192, 1024]⟩
abbrev S_ : Shape := ⟨0, ![]⟩
abbrev S8192 : Shape := ⟨1, ![8192]⟩
abbrev S8192x1 : Shape := ⟨2, ![8192, 1]⟩
abbrev S1x1x1024 : Shape := ⟨3, ![1, 1, 1024]⟩
abbrev S256 : Shape := ⟨1, ![256]⟩
abbrev S256x1 : Shape := ⟨2, ![256, 1]⟩
abbrev S256x2560 : Shape := ⟨2, ![256, 2560]⟩
abbrev S8192x2560 : Shape := ⟨2, ![8192, 2560]⟩
abbrev S8448x2560 : Shape := ⟨2, ![8448, 2560]⟩
abbrev S8448x256 : Shape := ⟨2, ![8448, 256]⟩
abbrev S8448x1280 : Shape := ⟨2, ![8448, 1280]⟩

abbrev nBuf : Space → Nat
  | .hbm => 70
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S1x1024, .f32⟩
  | .hbm, ⟨2, _⟩ => ⟨S2x1x1024, .f32⟩
  | .hbm, ⟨3, _⟩ => ⟨S2x1x1024, .f32⟩
  | .hbm, ⟨4, _⟩ => ⟨S1024x2560, .f32⟩
  | .hbm, ⟨5, _⟩ => ⟨S1x1024, .f32⟩
  | .hbm, ⟨6, _⟩ => ⟨S1x256, .f32⟩
  | .hbm, ⟨7, _⟩ => ⟨S8448x128, .f32⟩
  | .hbm, ⟨8, _⟩ => ⟨S8448x128, .f32⟩
  | .hbm, ⟨9, _⟩ => ⟨S256x1024, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S1x1x1024, .f32⟩
  | .hbm, ⟨27, _⟩ => ⟨S1x1024, .f32⟩
  | .hbm, ⟨28, _⟩ => ⟨S_, .f32⟩
  | .hbm, ⟨29, _⟩ => ⟨S1x1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S1x1x1024, .f32⟩
  | .hbm, ⟨34, _⟩ => ⟨S1x1024, .f32⟩
  | .hbm, ⟨35, _⟩ => ⟨S8192x1024, .f32⟩
  | .hbm, ⟨36, _⟩ => ⟨S8192x1024, .f32⟩
  | .hbm, ⟨37, _⟩ => ⟨S256x1024, .f32⟩
  | .hbm, ⟨38, _⟩ => ⟨S_, .f32⟩
  | .hbm, ⟨39, _⟩ => ⟨S256, .f32⟩
  | .hbm, ⟨40, _⟩ => ⟨S256x1, .f32⟩
  | .hbm, ⟨41, _⟩ => ⟨S_, .f32⟩
  | .hbm, ⟨42, _⟩ => ⟨S256x1, .f32⟩
  | .hbm, ⟨43, _⟩ => ⟨S256x1, .f32⟩
  | .hbm, ⟨44, _⟩ => ⟨S_, .f32⟩
  | .hbm, ⟨45, _⟩ => ⟨S256x1, .f32⟩
  | .hbm, ⟨46, _⟩ => ⟨S256x1, .f32⟩
  | .hbm, ⟨47, _⟩ => ⟨S256x1, .f32⟩
  | .hbm, ⟨48, _⟩ => ⟨S256x1024, .f32⟩
  | .hbm, ⟨49, _⟩ => ⟨S256x1024, .f32⟩
  | .hbm, ⟨50, _⟩ => ⟨S256x1024, .f32⟩
  | .hbm, ⟨51, _⟩ => ⟨S256x1024, .f32⟩
  | .hbm, ⟨52, _⟩ => ⟨S1x1x1024, .f32⟩
  | .hbm, ⟨53, _⟩ => ⟨S1x1024, .f32⟩
  | .hbm, ⟨54, _⟩ => ⟨S_, .f32⟩
  | .hbm, ⟨55, _⟩ => ⟨S1x1024, .f32⟩
  | .hbm, ⟨56, _⟩ => ⟨S1x1024, .f32⟩
  | .hbm, ⟨57, _⟩ => ⟨S256x1024, .f32⟩
  | .hbm, ⟨58, _⟩ => ⟨S256x1024, .f32⟩
  | .hbm, ⟨59, _⟩ => ⟨S1x1x1024, .f32⟩
  | .hbm, ⟨60, _⟩ => ⟨S1x1024, .f32⟩
  | .hbm, ⟨61, _⟩ => ⟨S256x1024, .f32⟩
  | .hbm, ⟨62, _⟩ => ⟨S256x1024, .f32⟩
  | .hbm, ⟨63, _⟩ => ⟨S256x2560, .f32⟩
  | .hbm, ⟨64, _⟩ => ⟨S8192x2560, .f32⟩
  | .hbm, ⟨65, _⟩ => ⟨S8448x2560, .f32⟩
  | .hbm, ⟨66, _⟩ => ⟨S8448x256, .f32⟩
  | .hbm, ⟨67, _⟩ => ⟨S8448x256, .bf16⟩
  | .hbm, ⟨68, _⟩ => ⟨S8448x1024, .f32⟩
  | .hbm, ⟨69, _⟩ => ⟨S8448x1280, .f32⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_cst_4 : Ref sig .tc := ⟨.hbm, 41, rfl⟩
abbrev main_v27 : Ref sig .tc := ⟨.hbm, 42, rfl⟩
abbrev main_v28 : Ref sig .tc := ⟨.hbm, 43, rfl⟩
abbrev main_cst_5 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩

abbrev nD : Nat := 1
abbrev τ : Topo := Topo.v7x

variable {F : FTy → Type} [FloatOps F]
-- ==== Proof.Softmax.lean ====
/-
  The softmax of one row of scores over the real numbers, and how the two programs' ways of writing it meet it: the
  shift by any number (the row's maximum), the logarithm of the row's sum subtracted before the exponential, the running
  maximum with its rescaled sums, and the two spellings of the gradient.
-/
module

public import Idealize.ShloMosaic.PureOps.Ideal
public import Idealize.ShloMosaic.Lib.IdealHost

@[expose] public section

noncomputable section

namespace Cert.Attn

open Idealize.ShloMosaic
open scoped BigOperators

/-- A finite sum of real numbers, taken among the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The quotient of two real numbers with a nonzero divisor, taken among the extended reals. -/
theorem coe_div {y : ℝ} (h : y ≠ 0) (x : ℝ) : Ideal.div (x : EReal) (y : EReal) = ((x / y : ℝ) : EReal) := by
  rw [Ideal.div_coe h, ← EReal.coe_mul, mul_one_div]

/-- The binary word of one eighth. -/
theorem ofBits_eighth : Ideal.ofBits .f32 0x3E000000#32 = ((1 / 8 : ℝ) : EReal) := by
  simp [Ideal.ofBits, Ideal.ieee, -EReal.coe_mul]; norm_num

/-- The binary word of minus infinity. -/
theorem ofBits_bot : Ideal.ofBits .f32 0xFF800000#32 = ⊥ := by
  simp [Ideal.ofBits, Ideal.ieee, -EReal.coe_mul]

variable {ι : Type*} [Fintype ι]

/-- The largest of finitely many real numbers, at least one, is a real number. -/
theorem exists_max [Nonempty ι] (f : ι → ℝ) : ∃ r : ℝ, Finset.univ.fold max (⊥ : EReal) (fun k => (f k : EReal)) = r := by
  classical
  have h : ∀ s : Finset ι, s.Nonempty → ∃ r : ℝ, s.fold max (⊥ : EReal) (fun k => (f k : EReal)) = r := by
    intro s hs
    induction hs using Finset.Nonempty.cons_induction with
    | singleton a => exact ⟨f a, by simp⟩
    | cons a s ha hs ih =>
      obtain ⟨r, hr⟩ := ih
      exact ⟨max (f a) r, by rw [Finset.fold_cons, hr]; exact (EReal.coe_strictMono.monotone.map_max).symm⟩
  exact h _ Finset.univ_nonempty

/-- The largest of a real number and another. -/
theorem max_coe (a b : ℝ) : max (a : EReal) (b : EReal) = ((max a b : ℝ) : EReal) :=
  (EReal.coe_strictMono.monotone.map_max).symm

/-- The softmax of a row. -/
def softmax (s : ι → ℝ) (k : ι) : ℝ := Real.exp (s k) / ∑ j, Real.exp (s j)

/-- A row's sum of exponentials is positive. -/
theorem sum_exp_pos [Nonempty ι] (s : ι → ℝ) : 0 < ∑ j, Real.exp (s j) :=
  Finset.sum_pos (fun _ _ => Real.exp_pos _) Finset.univ_nonempty

theorem sum_exp_ne [Nonempty ι] (s : ι → ℝ) : ∑ j, Real.exp (s j) ≠ 0 := (sum_exp_pos s).ne'

/-- The sum of the exponentials of a shifted row. -/
theorem sum_exp_shift (s : ι → ℝ) (m : ℝ) : ∑ j, Real.exp (s j - m) = (∑ j, Real.exp (s j)) * Real.exp (-m) := by
  rw [Finset.sum_mul]; exact Finset.sum_congr rfl fun j _ => by rw [sub_eq_add_neg, Real.exp_add]

/-- The softmax of a row, from the row shifted by any number. -/
theorem softmax_shift [Nonempty ι] (s : ι → ℝ) (m : ℝ) (k : ι) :
    Real.exp (s k - m) / ∑ j, Real.exp (s j - m) = softmax s k := by
  rw [sum_exp_shift, sub_eq_add_neg, Real.exp_add, softmax, mul_div_mul_right _ _ (Real.exp_ne_zero _)]

/-- The softmax of a row, from the logarithm of the row's sum. -/
theorem softmax_log [Nonempty ι] (s : ι → ℝ) (m : ℝ) (k : ι) :
    Real.exp (s k - (m + Real.log (∑ j, Real.exp (s j - m)))) = softmax s k := by
  rw [← sub_sub, Real.exp_sub, Real.exp_log (sum_exp_pos fun j => s j - m), softmax_shift]

/-- A row's weighted mean, from the row shifted by any number. -/
theorem mean_shift [Nonempty ι] (s w : ι → ℝ) (m : ℝ) :
    (∑ k, w k * Real.exp (s k - m)) / ∑ j, Real.exp (s j - m) = ∑ k, softmax s k * w k := by
  rw [Finset.sum_div]
  exact Finset.sum_congr rfl fun k _ => by rw [mul_div_assoc, softmax_shift, mul_comm]

/-- The gradient of a row's softmax as differentiating the quotient writes it, `e` the exponentials and `l` their sum. -/
theorem grad_quotient [Nonempty ι] (s dp : ι → ℝ) (m : ℝ) (k : ι) :
    (dp k / (∑ j, Real.exp (s j - m))
        + -(∑ i, dp i * (1 / ((∑ j, Real.exp (s j - m)) * ∑ j, Real.exp (s j - m))) * Real.exp (s i - m)))
      * Real.exp (s k - m) = softmax s k * (dp k - ∑ i, softmax s i * dp i) := by
  have hl : ∑ j, Real.exp (s j - m) ≠ 0 := sum_exp_ne _
  have h1 : ∑ i, dp i * (1 / ((∑ j, Real.exp (s j - m)) * ∑ j, Real.exp (s j - m))) * Real.exp (s i - m)
      = (∑ i, softmax s i * dp i) / ∑ j, Real.exp (s j - m) := by
    rw [Finset.sum_div]
    refine Finset.sum_congr rfl fun i _ => ?_
    rw [← softmax_shift s m i]; field_simp
  rw [h1, ← softmax_shift s m k]; field_simp; ring

/-- The running sums of a row read tile after tile. Before the first tile the running maximum `m` is minus infinity and
    the sum `a` is zero; each tile replaces the maximum by a real number (`ν`, whichever) and rescales the sum to it.
    After one tile or more the sum is that of every entry so far, shifted by the maximum so far. -/
theorem running_sum (N : ℕ) (m a : ℕ → EReal) (ν : ℕ → ℝ) (S W : ℕ → ι → ℝ) (hm0 : m 0 = ⊥) (ha0 : a 0 = 0)
    (hm : ∀ n < N, m (n + 1) = (ν (n + 1) : EReal))
    (ha : ∀ n < N, a (n + 1) = Ideal.exp (m n - m (n + 1)) * a n
      + ∑ c, (W n c : EReal) * Ideal.exp ((S n c : EReal) - m (n + 1))) :
    ∀ n < N, a (n + 1) = ((∑ j ∈ Finset.range (n + 1), ∑ c, W j c * Real.exp (S j c - ν (n + 1)) : ℝ) : EReal) := by
  have hs : ∀ n < N, (∑ c, (W n c : EReal) * Ideal.exp ((S n c : EReal) - m (n + 1)))
      = ((∑ c, W n c * Real.exp (S n c - ν (n + 1)) : ℝ) : EReal) := by
    intro n hn
    rw [coe_sum, hm n hn]
    exact Finset.sum_congr rfl fun c _ => by rw [← EReal.coe_sub, Ideal.exp_coe, EReal.coe_mul]
  intro n
  induction n with
  | zero =>
    intro h0
    rw [ha 0 h0, hs 0 h0, ha0, mul_zero, zero_add, Finset.sum_range_one]
  | succ n ih =>
    intro h1
    rw [ha _ h1, hs _ h1, ih (by omega), hm n (by omega), hm _ h1, ← EReal.coe_sub, Ideal.exp_coe, ← EReal.coe_mul,
      ← EReal.coe_add, Finset.sum_range_succ _ (n + 1), Finset.mul_sum]
    congr 2
    refine Finset.sum_congr rfl fun j _ => ?_
    rw [Finset.mul_sum]
    refine Finset.sum_congr rfl fun c _ => ?_
    rw [mul_left_comm, ← Real.exp_add]
    congr 2; ring

end Cert.Attn

end
-- ==== Proof.Run.lean ====
/-
  The kernel's run with its results: the launch over the five segments of `main`, every buffer read at the end.
-/
module

public import proofs.«01_k».proof.Proof.Gen.KernelIdeal.Frame
public import proofs.«01_k».proof.Proof.Softmax

@[expose] public section

set_option maxRecDepth 16384

noncomputable section

namespace Cert.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every run of the kernel ends, its results holding what the segments leave and its arguments as launched. -/
theorem kernel_run : θ_run defs (onTc (τ := τ) (main (F := Ideal))) ⟨m, fun _ => 0, ρ⟩ (fun r => ∀ c : Dev nD,
      r.2.mem ((c.tc : Thread nD τ).loc main_v17_0) = W5 m ρ c (Proc.devRef .tc main_v17_0)
      ∧ r.2.mem ((c.tc : Thread nD τ).loc main_v27) = W5 m ρ c (Proc.devRef .tc main_v27)
      ∧ r.2.mem ((c.tc : Thread nD τ).loc main_v30) = W5 m ρ c (Proc.devRef .tc main_v30)
      ∧ r.2.mem ((c.tc : Thread nD τ).loc main_v33) = W5 m ρ c (Proc.devRef .tc main_v33)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ c =>
      ⟨h c _ (mem_uc main_v17_0 (by decide)), h c _ (mem_uc main_v27 (by decide)), h c _ (mem_uc main_v30 (by decide)),
       h c _ (mem_uc main_v33 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c)⟩)

end Cert.Attn

end
-- ==== Proof.Finite.lean ====
/-
  The precondition: every entry of the four arguments is a real.
-/
module

public import proofs.«01_k».proof.Pre_finite
public import proofs.«01_k».proof.Proof.Gen.Pre_finite
public import Idealize.ShloMosaic.Lib.Pointwise
public import Idealize.ShloMosaic.Lib.ReduceAll

@[expose] public section

noncomputable section

namespace Cert.Attn

open Idealize.ShloMosaic
open Cert.Pre_finite

/-- The binary word of infinity. -/
theorem ofBits_top : Ideal.ofBits .f32 0x7F800000#32 = ⊤ := by simp [Ideal.ofBits, Ideal.ieee]

/-- A value whose absolute value is below infinity is a real. -/
theorem real_of_abs_lt (x : EReal) (h : Ideal.cmp .olt (max x (-x)) (Ideal.ofBits .f32 0x7F800000#32) = 1#1) :
    ∃ r : ℝ, x = (r : EReal) := by
  rw [ofBits_top] at h
  unfold Ideal.cmp at h
  induction x using EReal.rec with
  | bot => simp at h
  | coe r => exact ⟨r, rfl⟩
  | top => simp at h

instance : Subsingleton S_.Idx := ⟨fun a b => funext fun d => d.elim0⟩

/-- An array whose entries all pass the test is an array of reals. -/
theorem reals_of_all {s : Shape} {axes} (x : FVec Ideal s .f32) (b : S_.BroadcastsInDim s (![] : Fin 0 → Fin s.rank))
    (init : IVec S_ 1) (hr : s.ReducesTo axes S_) (hu : 0 < S_.numel) (j : S_.Idx)
    (e : Host.reduce IntOp.andi (cmpf .olt (Host.absf x) (broadcastInDim s ![] b (constant S_ .f32 0x7F800000#32))) init hr hu j = 1#1)
    (i : s.Idx) : ∃ r : ℝ, x i = (r : EReal) :=
  real_of_abs_lt _ (Host.reduce_andi_all _ init hr hu j e i)

variable [Facts]

/-- The precondition gives four arrays of reals. -/
theorem finite_reals (x0 : FVec Ideal S8192x1024 .f32) (x1 x2 : FVec Ideal S8448x256 .f32) (x3 : FVec Ideal S8192x1024 .f32)
    (h : Cert.Pre_finite.fn (F := Ideal) x0 x1 x2 x3 = fun _ => 1#1) :
    (∀ i, ∃ r : ℝ, x0 i = (r : EReal)) ∧ (∀ i, ∃ r : ℝ, x1 i = (r : EReal)) ∧ (∀ i, ∃ r : ℝ, x2 i = (r : EReal))
      ∧ ∀ i, ∃ r : ℝ, x3 i = (r : EReal) := by
  unfold Cert.Pre_finite.fn fn_part1 at h
  dsimp only at h
  have h' := congrFun h (fun d => d.elim0)
  obtain ⟨h012, h3⟩ := IntOp.andi_eq_one.1 h'
  obtain ⟨h01, h2⟩ := IntOp.andi_eq_one.1 h012
  obtain ⟨h0, h1⟩ := IntOp.andi_eq_one.1 h01
  exact ⟨reals_of_all x0 _ _ _ _ _ h0, reals_of_all x1 _ _ _ _ _ h1, reals_of_all x2 _ _ _ _ _ h2, reals_of_all x3 _ _ _ _ _ h3⟩

end Cert.Attn

end
-- ==== Proof.Payloads.lean ====
/-
  What the two calls' bodies compute, entry by entry: each expression a body stores or carries, read at one index.
  A block of 512 queries holds four heads side by side; the bodies stack them, head `h` and query `a` in row (or lane)
  `h * 512 + a` of 2048.
-/
module

public import proofs.«01_k».proof.Proof.Gen.KernelIdeal.Loops
public import proofs.«01_k».proof.Proof.Softmax
public import Idealize.ShloMosaic.Lib.Pointwise

@[expose] public section

set_option maxRecDepth 16384

noncomputable section

namespace Cert.Attn

open Idealize.ShloMosaic Idealize.ShloMosaic.TcCoe
open Cert.KernelIdeal Cert.KernelIdeal.Gen
open scoped BigOperators

/-- The lane of head `h` and query `a` of a block. -/
def lane (h : Fin 4) (a : Fin 512) : Fin 2048 := ⟨h.val * 512 + a.val, by omega⟩

/-- The column of head `h` and feature `d` of a block. -/
def col (h : Fin 4) (d : Fin 64) : Fin 256 := ⟨h.val * 64 + d.val, by omega⟩

@[simp] theorem lane_val (h : Fin 4) (a : Fin 512) : (lane h a).val = h.val * 512 + a.val := rfl
@[simp] theorem col_val (h : Fin 4) (d : Fin 64) : (col h d).val = h.val * 64 + d.val := rfl

theorem lane_zero (a : Fin 512) : lane 0 a = ⟨a.val, by omega⟩ := by ext; simp
theorem lane_one (a : Fin 512) : lane 1 a = ⟨512 + a.val, by omega⟩ := by ext; simp
theorem lane_two (a : Fin 512) : lane 2 a = ⟨1024 + a.val, by omega⟩ := by ext; simp
theorem lane_three (a : Fin 512) : lane 3 a = ⟨1536 + a.val, by omega⟩ := by ext; simp

theorem exists_lane (r : Fin 2048) : ∃ h a, r = lane h a :=
  ⟨⟨r.val / 512, by omega⟩, ⟨r.val % 512, by omega⟩, by ext; simp only [lane_val]; omega⟩

theorem exists_col (r : Fin 256) : ∃ h d, r = col h d :=
  ⟨⟨r.val / 64, by omega⟩, ⟨r.val % 64, by omega⟩, by ext; simp only [col_val]; omega⟩

/-- Four pieces of 512 laid end to end, read at head `h` and query `a`. -/
theorem stacked_apply {α : Type} (f : Fin 4 → Fin 512 → α) (h : Fin 4) (a : Fin 512) :
    (if h1 : (lane h a).val < 512 then f 0 ⟨(lane h a).val, h1⟩ else
      if h2 : (lane h a).val - 512 < 512 then f 1 ⟨(lane h a).val - 512, h2⟩ else
        if h3 : (lane h a).val - 512 - 512 < 512 then f 2 ⟨(lane h a).val - 512 - 512, h3⟩ else
          f 3 ⟨(lane h a).val - 512 - 512 - 512, by have := (lane h a).isLt; omega⟩) = f h a := by
  have ha := a.isLt
  have hl := lane_val h a
  match h with
  | 0 => rw [dif_pos (by rw [hl]; simp)]; congr 2; rw [hl]; simp
  | 1 => rw [dif_neg (by rw [hl]; simp), dif_pos (by rw [hl]; simp)]; congr 2; rw [hl]; simp
  | 2 =>
    rw [dif_neg (by rw [hl]; simp; omega), dif_neg (by rw [hl]; simp; omega), dif_pos (by rw [hl]; simp; omega)]
    congr 2; rw [hl]; simp; omega
  | 3 =>
    rw [dif_neg (by rw [hl]; simp; omega), dif_neg (by rw [hl]; simp; omega), dif_neg (by rw [hl]; simp; omega)]
    congr 2; rw [hl]; simp; omega

/-- Four pieces of 64 columns laid side by side, read at head `h` and feature `d`. -/
theorem beside_apply {α : Type} (f : Fin 4 → Fin 64 → α) (h : Fin 4) (d : Fin 64) :
    (if h1 : (col h d).val < 64 then f 0 ⟨(col h d).val, h1⟩ else
      if h2 : (col h d).val - 64 < 64 then f 1 ⟨(col h d).val - 64, h2⟩ else
        if h3 : (col h d).val - 64 - 64 < 64 then f 2 ⟨(col h d).val - 64 - 64, h3⟩ else
          f 3 ⟨(col h d).val - 64 - 64 - 64, by have := (col h d).isLt; omega⟩) = f h d := by
  have ha := d.isLt
  have hl := col_val h d
  match h with
  | 0 => rw [dif_pos (by rw [hl]; simp)]; congr 2; rw [hl]; simp
  | 1 => rw [dif_neg (by rw [hl]; simp), dif_pos (by rw [hl]; simp)]; congr 2; rw [hl]; simp
  | 2 =>
    rw [dif_neg (by rw [hl]; simp; omega), dif_neg (by rw [hl]; simp; omega), dif_pos (by rw [hl]; simp; omega)]
    congr 2; rw [hl]; simp; omega
  | 3 =>
    rw [dif_neg (by rw [hl]; simp; omega), dif_neg (by rw [hl]; simp; omega), dif_neg (by rw [hl]; simp; omega)]
    congr 2; rw [hl]; simp; omega

/-- A sum over the stacked lanes is one over heads and queries. -/
theorem sum_lane {M : Type} [AddCommMonoid M] (f : Fin 2048 → M) : ∑ r, f r = ∑ h, ∑ a, f (lane h a) := by
  rw [Fin.sum_univ_tiles 4 512 rfl f]; rfl

/-! ### The forward call -/

theorem k0_pay1_apply (r : Fin 2048) : k0_pay1 (F := Ideal) (ix2 0 r) = Ideal.ofBits .f32 0xFF800000#32 := by
  pointwise [k0_pay1]

theorem k0_pay2_apply (d : Fin 80) (r : Fin 2048) : k0_pay2 (F := Ideal) (ix2 d r) = 0 := by
  pointwise [k0_pay2]

/-- The scores of one tile of keys. -/
theorem k0_pay3_apply (v : Fin 4 → FVec Ideal S512x64 .bf16) (x : FVec Ideal S1x1x1408x64 .bf16) (c : Fin 1408)
    (h : Fin 4) (a : Fin 512) :
    k0_pay3 (F := Ideal) (v 0) (v 1) (v 2) (v 3) x (ix2 c (lane h a)) = ∑ d : Fin 64, x (ix4 0 0 c d) * v h (ix2 a d) := by
  pointwise [k0_pay3]
  exact Finset.sum_congr rfl fun d _ => congrArg _ (stacked_apply (fun h a => v h (ix2 a d)) h a)

/-- The largest entry of a column of real numbers is a real number. -/
theorem colmax_real (X : FVec Ideal S1408x2048 .f32) (hX : ∀ j, ∃ x : ℝ, X j = (x : EReal)) (h h2 h3) (j : S2048.Idx) :
   ∃ x : ℝ, multiReduction (F := Ideal) .maximumf [0] S2048 X 0xFF800000#32 h h2 h3 j = (x : EReal) := by
  choose f hf using hX
  rw [Ideal.multiReduction_maximumf_single]
  have : FloatOps.ofBits (F := Ideal) .f32 0xFF800000#32 = (⊥ : EReal) := ofBits_bot
  rw [this]
  haveI : Nonempty (Fin (S1408x2048.size 0)) := ⟨⟨0, by decide⟩⟩
  obtain ⟨x, hx⟩ := exists_max fun k => f (h.lift j k)
  exact ⟨x, by rw [← hx]; exact Finset.fold_congr fun k _ => hf _⟩

/-- The larger of a row's entry and a column's largest entry. -/
theorem maxrow_apply (m : FVec Ideal S1x2048 .f32) (Y : FVec Ideal S2048 .f32) (h) (r : Fin 2048) :
    maximumf (F := Ideal) m (shapeCast S1x2048 Y h) (ix2 0 r) = max (m (ix2 0 r)) (Y (ix1 r)) := by
  pointwise

/-- The running maximum after one tile of keys is a real number. -/
theorem k0_pay4_real (v0 v2 v4 v6 : FVec Ideal S512x64 .bf16) (m : FVec Ideal S1x2048 .f32)
    (x : FVec Ideal S1x1x1408x64 .bf16) (hX : ∀ j, ∃ y : ℝ, k0_pay3 (F := Ideal) v0 v2 v4 v6 x j = (y : EReal)) (r : Fin 2048)
    (hm : m (ix2 0 r) = ⊥ ∨ ∃ y : ℝ, m (ix2 0 r) = (y : EReal)) :
    ∃ y : ℝ, k0_pay4 (F := Ideal) v0 v2 v4 v6 m x (ix2 0 r) = (y : EReal) := by
  obtain ⟨y, hy⟩ := colmax_real _ hX reduces_S1408x2048_S2048 (.inl rfl) rfl (ix1 r)
  obtain hm | ⟨z, hz⟩ := hm
  · exact ⟨y, (maxrow_apply m _ _ r).trans (by rw [hy, hm]; simp)⟩
  · exact ⟨max z y, (maxrow_apply m _ _ r).trans (by rw [hy, hz, max_coe])⟩

/-- The running sums after one tile of keys: rescaled to the new maximum, and the tile's own added. -/
theorem k0_pay5_apply (v0 v2 v4 v6 : FVec Ideal S512x64 .bf16) (m : FVec Ideal S1x2048 .f32)
    (acc : FVec Ideal S80x2048 .f32) (x : FVec Ideal S1x1x1408x64 .bf16) (y : FVec Ideal S1x1x80x1408 .bf16)
    (d : Fin 80) (r : Fin 2048) :
    k0_pay5 (F := Ideal) v0 v2 v4 v6 m acc x y (ix2 d r)
      = Ideal.exp (m (ix2 0 r) - k0_pay4 (F := Ideal) v0 v2 v4 v6 m x (ix2 0 r)) * acc (ix2 d r)
        + ∑ c : Fin 1408, y (ix4 0 0 d c) * Ideal.exp (k0_pay3 (F := Ideal) v0 v2 v4 v6 x (ix2 c r)
            - k0_pay4 (F := Ideal) v0 v2 v4 v6 m x (ix2 0 r)) := by
  pointwise [k0_pay5]

/-- The block of the output: the weighted sums over the sum of the weights. -/
theorem k0_pay7_apply (acc : FVec Ideal S80x2048 .f32) (h : Fin 4) (a : Fin 512) (d : Fin 64) :
    k0_pay7 (F := Ideal) acc (ix2 a (col h d))
      = Ideal.div (acc (ix2 ⟨d.val, by omega⟩ (lane h a))) (acc (ix2 64 (lane h a))) := by
  pointwise [k0_pay7, k0_pay6]
  refine Eq.trans ?_ (beside_apply (fun h (d : Fin 64) =>
    Ideal.div (acc (ix2 ⟨d.val, by omega⟩ (lane h a))) (acc (ix2 64 (lane h a)))) h d)
  simp only [lane_zero, lane_one, lane_two, lane_three]

/-- The block of the logarithms of the rows' sums. -/
theorem k0_pay8_apply (m : FVec Ideal S1x2048 .f32) (acc : FVec Ideal S80x2048 .f32) (r : Fin 2048) :
    k0_pay8 (F := Ideal) m acc (ix4 0 0 0 r) = m (ix2 0 r) + Ideal.log (acc (ix2 64 r)) := by
  pointwise [k0_pay8, k0_pay6]

/-! ### The backward call -/

/-- The probabilities of one tile of keys, from the scores and the saved logarithms of the rows' sums. -/
theorem k1_pay3_apply (q : FVec Ideal S2048x64 .bf16) (lse : FVec Ideal S1x2048 .f32)
    (x : FVec Ideal S1x1x768x64 .bf16) (c : Fin 768) (r : Fin 2048) :
    k1_pay3 (F := Ideal) q lse x (ix2 c r)
      = Ideal.exp ((∑ d : Fin 64, x (ix4 0 0 c d) * q (ix2 r d)) - lse (ix2 0 r)) := by
  pointwise [k1_pay3]

/-- The gradient of the scores of one tile of keys. -/
theorem k1_pay5_apply (q dO : FVec Ideal S2048x64 .bf16) (lse delta : FVec Ideal S1x2048 .f32)
    (x y : FVec Ideal S1x1x768x64 .bf16) (c : Fin 768) (r : Fin 2048) :
    k1_pay5 (F := Ideal) q dO lse delta x y (ix2 c r)
      = k1_pay3 (F := Ideal) q lse x (ix2 c r)
        * ((∑ d : Fin 64, y (ix4 0 0 c d) * dO (ix2 r d)) - delta (ix2 0 r)) := by
  pointwise [k1_pay5]

/-- What one tile of keys adds to the gradient of the queries. -/
theorem k1_pay1_apply (acc : FVec Ideal S64x2048 .f32) (ds : FVec Ideal S768x2048 .f32)
    (kt : FVec Ideal S1x1x64x768 .bf16) (d : Fin 64) (r : Fin 2048) :
    k1_pay1 (F := Ideal) acc ds kt (ix2 d r)
      = acc (ix2 d r) + ∑ c : Fin 768, kt (ix4 0 0 d c) * ds (ix2 c r) := by
  pointwise [k1_pay1]

/-- The block of the gradient of the queries. -/
theorem k1_pay2_apply (x : FVec Ideal S64x2048 .f32) (h : Fin 4) (a : Fin 512) (d : Fin 64) :
    k1_pay2 (F := Ideal) x (ix2 a (col h d)) = x (ix2 d (lane h a)) := by
  pointwise [k1_pay2]
  refine Eq.trans ?_ (beside_apply (fun h d => x (ix2 d (lane h a))) h d)
  simp only [lane_zero, lane_one, lane_two, lane_three]

/-- One tile of the gradient of the values, with what these 512 queries add. -/
theorem k1_pay4_apply (q dO : FVec Ideal S2048x64 .bf16) (lse : FVec Ideal S1x2048 .f32)
    (x : FVec Ideal S1x1x768x64 .bf16) (w : FVec Ideal S1x1x768x64 .f32) (c : Fin 768) (d : Fin 64) :
    k1_pay4 (F := Ideal) q dO lse x w (ix4 0 0 c d)
      = w (ix4 0 0 c d) + ∑ r : Fin 2048, k1_pay3 (F := Ideal) q lse x (ix2 c r) * dO (ix2 r d) := by
  pointwise [k1_pay4]

/-- One tile of the gradient of the keys, with what these 512 queries add. -/
theorem k1_pay6_apply (q dO : FVec Ideal S2048x64 .bf16) (lse delta : FVec Ideal S1x2048 .f32)
    (x y : FVec Ideal S1x1x768x64 .bf16) (w : FVec Ideal S1x1x768x64 .f32) (c : Fin 768) (d : Fin 64) :
    k1_pay6 (F := Ideal) q dO lse delta x y w (ix4 0 0 c d)
      = w (ix4 0 0 c d) + ∑ r : Fin 2048, k1_pay5 (F := Ideal) q dO lse delta x y (ix2 c r) * q (ix2 r d) := by
  pointwise [k1_pay6]

theorem k1_pay7_apply (j : S1x11x768x64.Idx) : k1_pay7 (F := Ideal) j = 0 := by
  pointwise [k1_pay7]

theorem k1_pay8_apply (j : S1x11x768x64.Idx) : k1_pay8 (F := Ideal) j = 0 := by
  pointwise [k1_pay8]

/-- The stacked queries. -/
theorem k1_pay9_apply (v : Fin 4 → FVec Ideal S512x64 .bf16) (h : Fin 4) (a : Fin 512) (d : Fin 64) :
    k1_pay9 (F := Ideal) (v 0) (v 1) (v 2) (v 3) (ix2 (lane h a) d) = v h (ix2 a d) := by
  pointwise [k1_pay9]
  exact stacked_apply (fun h a => v h (ix2 a d)) h a

/-- The stacked gradients of the output. -/
theorem k1_pay10_apply (v : Fin 4 → FVec Ideal S512x64 .bf16) (h : Fin 4) (a : Fin 512) (d : Fin 64) :
    k1_pay10 (F := Ideal) (v 0) (v 1) (v 2) (v 3) (ix2 (lane h a) d) = v h (ix2 a d) := by
  pointwise [k1_pay10]
  exact stacked_apply (fun h a => v h (ix2 a d)) h a

theorem k1_pay11_apply (x : FVec Ideal S1x1x1x2048 .f32) (r : Fin 2048) :
    k1_pay11 (F := Ideal) x (ix2 0 r) = x (ix4 0 0 0 r) := by
  pointwise [k1_pay11]

theorem k1_pay12_apply (x : FVec Ideal S1x1x1x2048 .f32) (r : Fin 2048) :
    k1_pay12 (F := Ideal) x (ix2 0 r) = x (ix4 0 0 0 r) := by
  pointwise [k1_pay12]

theorem k1_pay13_apply (d : Fin 64) (r : Fin 2048) : k1_pay13 (F := Ideal) (ix2 d r) = 0 := by
  pointwise [k1_pay13]

end Cert.Attn

end
-- ==== Proof.ForwardBlock.lean ====
/-
  What one grid point of the forward call computes, over the real numbers. A point holds 512 queries of four heads and
  all keys and values of their group, cut in 6 tiles of 1408; the body's loop reads one tile a trip and keeps, per lane,
  the maximum so far and the sums so far, rescaled to that maximum. When the block's entries are real numbers, the output
  is the weighted mean of the values under the softmax of the scores, and the saved row holds a number that turns a score
  into its probability.
-/
module

public import proofs.«01_k».proof.Proof.Gen.KernelIdeal.Frame
public import proofs.«01_k».proof.Proof.Payloads
public import Idealize.ShloMosaic.Lib.WholeRead

@[expose] public section

set_option maxRecDepth 16384

noncomputable section

namespace Cert.Attn

open Idealize.ShloMosaic Idealize.ShloMosaic.TcCoe
open Cert.KernelIdeal Cert.KernelIdeal.Gen
open scoped BigOperators

/-- A load of one tile of a block of tiles, read at an index. -/
theorem tile_idx {N A B : ℕ} {off : Fin 4 → ℕ} (k : ℕ) (hoff : off = ![0, k, 0, 0])
    (inb : ∀ a, off a + (![1, 1, A, B] : Fin 4 → ℕ) a ≤ (⟨4, ![1, N, A, B]⟩ : Shape).size a) (hk : k < N) (x : Fin A) (y : Fin B) :
    (Rect.unit (s := ⟨4, ![1, N, A, B]⟩) off ![1, 1, A, B] inb).toLoadRect.idx (ix4 0 0 x y) = ix4 0 ⟨k, hk⟩ x y := by
  subst hoff
  funext a
  apply Fin.ext
  match a with
  | ⟨0, _⟩ => simp [Rect.unit, Rect.toLoadRect, LoadRect.idx, ix4]
  | ⟨1, _⟩ => simp [Rect.unit, Rect.toLoadRect, LoadRect.idx, ix4]
  | ⟨2, _⟩ => simp [Rect.unit, Rect.toLoadRect, LoadRect.idx, ix4]
  | ⟨3, _⟩ => simp [Rect.unit, Rect.toLoadRect, LoadRect.idx, ix4]

/-- A load of one head's columns of a block of queries, read at an index. -/
theorem head_idx {off : Fin 2 → ℕ} (o : ℕ) (hoff : off = ![0, o])
    (inb : ∀ a, off a + (![512, 64] : Fin 2 → ℕ) a ≤ S512x256.size a) (a : Fin 512) (d : Fin 64) (ho : o + d.val < 256) :
    (Rect.unit (s := S512x256) off ![512, 64] inb).toLoadRect.idx (ix2 a d) = ix2 a ⟨o + d.val, ho⟩ := by
  subst hoff
  funext a
  apply Fin.ext
  match a with
  | ⟨0, _⟩ => simp [Rect.unit, Rect.toLoadRect, LoadRect.idx, ix2]
  | ⟨1, _⟩ => simp [Rect.unit, Rect.toLoadRect, LoadRect.idx, ix2]

/-- The four heads' columns of a block of queries, as the bodies load them. -/
def headCols (m : Memref sig .tc .vmem S512x256 .bf16) (hm : m.IsWhole) (x : Vec Ideal S512x256 .bf16) :
    Fin 4 → FVec Ideal S512x64 .bf16
  | 0 => View.readAt (Elt Ideal) m.view (Rect.unit (s := S512x256) ![0, 0] S512x64.size inb_S512x256_S512x64_0_0).toLoadRect (hm.unread x)
  | 1 => View.readAt (Elt Ideal) m.view (Rect.unit (s := S512x256) ![0, 64] S512x64.size inb_S512x256_S512x64_0_64).toLoadRect (hm.unread x)
  | 2 => View.readAt (Elt Ideal) m.view (Rect.unit (s := S512x256) ![0, 128] S512x64.size inb_S512x256_S512x64_0_128).toLoadRect (hm.unread x)
  | 3 => View.readAt (Elt Ideal) m.view (Rect.unit (s := S512x256) ![0, 192] S512x64.size inb_S512x256_S512x64_0_192).toLoadRect (hm.unread x)

theorem headCols_apply (m : Memref sig .tc .vmem S512x256 .bf16) (hm : m.IsWhole) (x : Vec Ideal S512x256 .bf16)
    (h : Fin 4) (a : Fin 512) (d : Fin 64) : headCols m hm x h (ix2 a d) = x (ix2 a (col h d)) := by
  match h with
  | 0 => exact (hm.readAt_unread x _ _).trans (congrArg x ((head_idx 0 rfl _ a d (by omega)).trans (by congr 1)))
  | 1 => exact (hm.readAt_unread x _ _).trans (congrArg x ((head_idx 64 rfl _ a d (by omega)).trans (by congr 1)))
  | 2 => exact (hm.readAt_unread x _ _).trans (congrArg x ((head_idx 128 rfl _ a d (by omega)).trans (by congr 1)))
  | 3 => exact (hm.readAt_unread x _ _).trans (congrArg x ((head_idx 192 rfl _ a d (by omega)).trans (by congr 1)))

section

variable (c : Dev nD) (i : grid0.Coords) (a2 : Memref sig .tc .vmem S512x256 .bf16) (h2 : a2.IsWhole)
  (a3 : Memref sig .tc .vmem S1x6x1408x64 .bf16) (h3 : a3.IsWhole) (a4 : Memref sig .tc .vmem S1x6x80x1408 .bf16)
  (h4 : a4.IsWhole) (a5 : Memref sig .tc .vmem S512x256 .f32) (h5 : a5.IsWhole)
  (a6 : Memref sig .tc .vmem S1x1x1x2048 .f32) (h6 : a6.IsWhole)
  (x0 : Vec Ideal S512x256 .bf16) (x1 : Vec Ideal S1x6x1408x64 .bf16) (x2 : Vec Ideal S1x6x80x1408 .bf16)

/-- The loop's state after `n` tiles: the maxima and the sums. -/
def fwdState (n : ℕ) : FVec Ideal S1x2048 .f32 × FVec Ideal S80x2048 .f32 :=
  st_k0_t1 (F := Ideal) Variants.none c none i a2 h2 a3 h3 a4 h4 a5 h5 a6 h6 (headCols a2 h2 x0 0) (headCols a2 h2 x0 1)
    (headCols a2 h2 x0 2) (headCols a2 h2 x0 3) (h3.unread x1) (h4.unread x2) (k0_pay1, k0_pay2) n

/-- Tile `k` of the keys. -/
def fwdKeys (k : Fin 6) : FVec Ideal S1x1x1408x64 .bf16 :=
  View.readAt (Elt Ideal) a3.view (Rect.unit (s := S1x6x1408x64) (k0_off1 k) S1x1x1408x64.size (k0_off1_inb k)).toLoadRect (h3.unread x1)

/-- Tile `k` of the values. -/
def fwdVals (k : Fin 6) : FVec Ideal S1x1x80x1408 .bf16 :=
  View.readAt (Elt Ideal) a4.view (Rect.unit (s := S1x6x80x1408) (k0_off2 k) S1x1x80x1408.size (k0_off2_inb k)).toLoadRect (h4.unread x2)

theorem fwdKeys_apply (k : Fin 6) (x : Fin 1408) (d : Fin 64) :
    fwdKeys a3 h3 x1 k (ix4 0 0 x d) = x1 (ix4 0 k x d) :=
  (h3.readAt_unread x1 _ _).trans (congrArg x1 (tile_idx k.val (k0_off1_eq k) _ k.isLt x d))

theorem fwdVals_apply (k : Fin 6) (d : Fin 80) (x : Fin 1408) :
    fwdVals a4 h4 x2 k (ix4 0 0 d x) = x2 (ix4 0 k d x) :=
  (h4.readAt_unread x2 _ _).trans (congrArg x2 (tile_idx k.val (k0_off2_eq k) _ k.isLt d x))

theorem fwdState_zero : fwdState c i a2 h2 a3 h3 a4 h4 a5 h5 a6 h6 x0 x1 x2 0 = (k0_pay1, k0_pay2) := rfl

theorem fwdState_succ (n : ℕ) (hn : n < 6) :
    fwdState c i a2 h2 a3 h3 a4 h4 a5 h5 a6 h6 x0 x1 x2 (n + 1)
      = (k0_pay4 (headCols a2 h2 x0 0) (headCols a2 h2 x0 1) (headCols a2 h2 x0 2) (headCols a2 h2 x0 3)
          (fwdState c i a2 h2 a3 h3 a4 h4 a5 h5 a6 h6 x0 x1 x2 n).1 (fwdKeys a3 h3 x1 ⟨n, hn⟩),
         k0_pay5 (headCols a2 h2 x0 0) (headCols a2 h2 x0 1) (headCols a2 h2 x0 2) (headCols a2 h2 x0 3)
          (fwdState c i a2 h2 a3 h3 a4 h4 a5 h5 a6 h6 x0 x1 x2 n).1
          (fwdState c i a2 h2 a3 h3 a4 h4 a5 h5 a6 h6 x0 x1 x2 n).2 (fwdKeys a3 h3 x1 ⟨n, hn⟩) (fwdVals a4 h4 x2 ⟨n, hn⟩)) := by
  unfold fwdState
  refine (st_k0_t1_succ (F := Ideal) Variants.none c none i a2 h2 a3 h3 a4 h4 a5 h5 a6 h6 _ _ _ _ _ _ _ ⟨n, hn⟩).trans ?_
  unfold tripR_k0_t1 trip_k0_t1
  dsimp only
  rfl

theorem out0_3_eq :
    out0_A_3 c i a2 h2 a3 h3 a4 h4 a5 h5 a6 h6 x0 x1 x2
      = k0_pay7 (fwdState c i a2 h2 a3 h3 a4 h4 a5 h5 a6 h6 x0 x1 x2 6).2 := by
  unfold out0_A_3
  rw [View.read_writes_eq_canon _ _ _ (cover0_A_3 c i a2 h2 a3 h3 a4 h4 a5 h5 a6 h6 x0 x1 x2)]
  unfold kernelRun0_A
  dsimp only
  exact View.canon_cons_unit_zero (funext fun a => by fin_cases a <;> rfl) _ _ _

theorem out0_4_eq :
    out0_A_4 c i a2 h2 a3 h3 a4 h4 a5 h5 a6 h6 x0 x1 x2
      = k0_pay8 (fwdState c i a2 h2 a3 h3 a4 h4 a5 h5 a6 h6 x0 x1 x2 6).1
          (fwdState c i a2 h2 a3 h3 a4 h4 a5 h5 a6 h6 x0 x1 x2 6).2 := by
  unfold out0_A_4
  rw [View.read_writes_eq_canon _ _ _ (cover0_A_4 c i a2 h2 a3 h3 a4 h4 a5 h5 a6 h6 x0 x1 x2)]
  unfold kernelRun0_A
  dsimp only
  exact View.canon_cons_unit_zero (funext fun a => by fin_cases a <;> rfl) _ _ _

/-! ### The block over the real numbers -/

variable (q : Fin 512 → Fin 256 → ℝ) (k : Fin 6 → Fin 1408 → Fin 64 → ℝ) (w : Fin 6 → Fin 80 → Fin 1408 → ℝ)

/-- The score of a query's head against the key in place `p.2` of tile `p.1`. -/
def fwdScore (h : Fin 4) (a : Fin 512) (p : Fin 6 × Fin 1408) : ℝ := ∑ d, k p.1 p.2 d * q a (col h d)

variable (hq : ∀ a j, x0 (ix2 a j) = (q a j : EReal)) (hk : ∀ n x d, x1 (ix4 0 n x d) = (k n x d : EReal))
  (hw : ∀ n d x, x2 (ix4 0 n d x) = (w n d x : EReal))

include hq hk in
theorem fwd_scores (n : Fin 6) (x : Fin 1408) (h : Fin 4) (a : Fin 512) :
    k0_pay3 (F := Ideal) (headCols a2 h2 x0 0) (headCols a2 h2 x0 1) (headCols a2 h2 x0 2) (headCols a2 h2 x0 3)
      (fwdKeys a3 h3 x1 n) (ix2 x (lane h a)) = (fwdScore q k h a (n, x) : EReal) := by
  rw [k0_pay3_apply, fwdScore, coe_sum]
  refine Finset.sum_congr rfl fun d _ => ?_
  rw [fwdKeys_apply, headCols_apply, hq, hk, EReal.coe_mul]

include hq hk in
/-- After one tile or more a lane's maximum is a real number. -/
theorem fwd_max (h : Fin 4) (a : Fin 512) (n : ℕ) (hn : n < 6) :
    ∃ y : ℝ, (fwdState c i a2 h2 a3 h3 a4 h4 a5 h5 a6 h6 x0 x1 x2 (n + 1)).1 (ix2 0 (lane h a)) = (y : EReal) := by
  have hX : ∀ n : Fin 6, ∀ j, ∃ y : ℝ, k0_pay3 (F := Ideal) (headCols a2 h2 x0 0) (headCols a2 h2 x0 1)
      (headCols a2 h2 x0 2) (headCols a2 h2 x0 3) (fwdKeys a3 h3 x1 n) j = (y : EReal) := by
    intro n j
    obtain ⟨h, a, hr⟩ := exists_lane (j 1)
    exact ⟨fwdScore q k h a (n, j 0), by
      rw [← fwd_scores a2 h2 a3 h3 x0 x1 q k hq hk n (j 0) h a, ← hr]; exact congrArg _ (eq_ix2 j)⟩
  induction n with
  | zero =>
    rw [fwdState_succ c i a2 h2 a3 h3 a4 h4 a5 h5 a6 h6 x0 x1 x2 0 (by omega)]
    refine k0_pay4_real _ _ _ _ _ _ (hX 0) _ (.inl ?_)
    exact (k0_pay1_apply (lane h a)).trans ofBits_bot
  | succ n ih =>
    rw [fwdState_succ c i a2 h2 a3 h3 a4 h4 a5 h5 a6 h6 x0 x1 x2 (n + 1) hn]
    exact k0_pay4_real _ _ _ _ _ _ (hX _) _ (.inr (ih (by omega)))

include hq hk hw in
/-- After all tiles a lane's sums are those of the whole row, shifted by the lane's maximum. -/
theorem fwd_sums (h : Fin 4) (a : Fin 512) :
    ∃ μ : ℝ, (fwdState c i a2 h2 a3 h3 a4 h4 a5 h5 a6 h6 x0 x1 x2 6).1 (ix2 0 (lane h a)) = (μ : EReal) ∧
      ∀ d, (fwdState c i a2 h2 a3 h3 a4 h4 a5 h5 a6 h6 x0 x1 x2 6).2 (ix2 d (lane h a))
        = ((∑ p : Fin 6 × Fin 1408, w p.1 d p.2 * Real.exp (fwdScore q k h a p - μ) : ℝ) : EReal) := by
  have hm : ∀ n : ℕ, ∃ y : ℝ, n < 6 →
      (fwdState c i a2 h2 a3 h3 a4 h4 a5 h5 a6 h6 x0 x1 x2 (n + 1)).1 (ix2 0 (lane h a)) = (y : EReal) := by
    intro n
    by_cases hn : n < 6
    · obtain ⟨y, hy⟩ := fwd_max c i a2 h2 a3 h3 a4 h4 a5 h5 a6 h6 x0 x1 x2 q k hq hk h a n hn
      exact ⟨y, fun _ => hy⟩
    · exact ⟨0, fun h => absurd h hn⟩
  choose ν hν using hm
  refine ⟨ν 5, hν 5 (by omega), fun d => ?_⟩
  have key := running_sum (ι := Fin 1408) 6
    (fun n => (fwdState c i a2 h2 a3 h3 a4 h4 a5 h5 a6 h6 x0 x1 x2 n).1 (ix2 0 (lane h a)))
    (fun n => (fwdState c i a2 h2 a3 h3 a4 h4 a5 h5 a6 h6 x0 x1 x2 n).2 (ix2 d (lane h a)))
    (fun n => ν (n - 1)) (fun n x => if hn : n < 6 then fwdScore q k h a (⟨n, hn⟩, x) else 0)
    (fun n x => if hn : n < 6 then w ⟨n, hn⟩ d x else 0)
    ((k0_pay1_apply (lane h a)).trans ofBits_bot) (k0_pay2_apply d (lane h a)) (fun n hn => hν n hn) ?_ 5 (by omega)
  · refine key.trans (congrArg _ ?_)
    rw [Finset.sum_range, Fintype.sum_prod_type]
    refine Finset.sum_congr rfl fun n _ => Finset.sum_congr rfl fun x _ => ?_
    have hn : n.val < 6 := n.isLt
    simp only [dif_pos hn]
  · intro n hn
    have hs := fwdState_succ c i a2 h2 a3 h3 a4 h4 a5 h5 a6 h6 x0 x1 x2 n hn
    simp only [dif_pos hn]
    rw [hs]
    dsimp only
    refine (k0_pay5_apply _ _ _ _ _ _ _ _ _ _).trans ?_
    refine congrArg _ (Finset.sum_congr rfl fun x _ => ?_)
    rw [fwd_scores a2 h2 a3 h3 x0 x1 q k hq hk ⟨n, hn⟩ x h a, fwdVals_apply, hw]

include hq hk hw in
/-- The output's block: the mean of the values under the softmax of the scores. -/
theorem fwd_out (hone : ∀ n x, w n 64 x = 1) (h : Fin 4) (a : Fin 512) (d : Fin 64) :
    out0_A_3 c i a2 h2 a3 h3 a4 h4 a5 h5 a6 h6 x0 x1 x2 (ix2 a (col h d))
      = ((∑ p : Fin 6 × Fin 1408, softmax (fwdScore q k h a) p * w p.1 ⟨d.val, by omega⟩ p.2 : ℝ) : EReal) := by
  obtain ⟨μ, -, hs⟩ := fwd_sums c i a2 h2 a3 h3 a4 h4 a5 h5 a6 h6 x0 x1 x2 q k w hq hk hw h a
  rw [out0_3_eq, k0_pay7_apply, hs, hs]
  simp only [hone, one_mul]
  rw [coe_div (sum_exp_ne _), mean_shift]

include hq hk hw in
/-- The saved row's block: a number that turns each score into its probability. -/
theorem fwd_lse (hone : ∀ n x, w n 64 x = 1) (h : Fin 4) (a : Fin 512) :
    ∃ l : ℝ, out0_A_4 c i a2 h2 a3 h3 a4 h4 a5 h5 a6 h6 x0 x1 x2 (ix4 0 0 0 (lane h a)) = (l : EReal) ∧
      ∀ p, Real.exp (fwdScore q k h a p - l) = softmax (fwdScore q k h a) p := by
  obtain ⟨μ, hμ, hs⟩ := fwd_sums c i a2 h2 a3 h3 a4 h4 a5 h5 a6 h6 x0 x1 x2 q k w hq hk hw h a
  refine ⟨μ + Real.log (∑ p, Real.exp (fwdScore q k h a p - μ)), ?_, fun p => softmax_log _ _ _⟩
  rw [out0_4_eq, k0_pay8_apply, hμ, hs]
  simp only [hone, one_mul]
  rw [Ideal.log_coe, if_neg (not_le.mpr (sum_exp_pos _)), EReal.coe_add]

end

end Cert.Attn

end
-- ==== Proof.ForwardArray.lean ====
/-
  The forward call's arrays. Grid point `g * 16 + i` holds the queries `i * 512 .. i * 512 + 511` of group `g`; each point
  writes its own block of both results, so an entry of a result is the entry of one point's block.
-/
module

public import proofs.«01_k».proof.Proof.ForwardBlock
public import Idealize.ShloMosaic.Lib.Pipeline.ValueKit

@[expose] public section

set_option maxRecDepth 16384

noncomputable section

namespace Cert.Attn

open Idealize.ShloMosaic Idealize.ShloMosaic.TcCoe
open Cert.KernelIdeal Cert.KernelIdeal.Gen
open Idealize.ShloMosaic.Pipeline (Dat)
open scoped BigOperators

/-- Query `a` of block `i`. -/
def qrow (i : Fin 16) (a : Fin 512) : Fin 8192 := ⟨i.val * 512 + a.val, by omega⟩

/-- Column `j` of group `g`. -/
def gcol (g : Fin 4) (j : Fin 256) : Fin 1024 := ⟨g.val * 256 + j.val, by omega⟩

/-- The grid point of group `g` and query block `i`. -/
def pt (g : Fin 4) (i : Fin 16) : Fin cfg0.N := ⟨g.val * 16 + i.val, by rw [show cfg0.N = 64 from N_0]; omega⟩

theorem idx0 : ∀ (g : Fin 4) (i : Fin 16),
    win0_0.index (pt g i) = ![i.val, g.val] ∧ win0_1.index (pt g i) = ![g.val, 0, 0, 0]
      ∧ win0_2.index (pt g i) = ![g.val, 0, 0, 0] ∧ win0_3.index (pt g i) = ![i.val, g.val]
      ∧ win0_4.index (pt g i) = ![g.val, i.val, 0, 0] := by
  decide +kernel

variable (V : (c : Dev nD) → (b : Ref sig .tc) → Buf (Elt Ideal) ((c : Thread nD τ).loc b)) (c : Dev nD)

theorem iblk0_q (g : Fin 4) (i : Fin 16) (a : Fin 512) (j : Fin 256) :
    iblk0 V c 0 (pt g i) (ix2 a j) = V c main_v2 (ix2 (qrow i a) (gcol g j)) := by
  have h := (idx0 g i).1
  blk_ext [iblk0, h, qrow, gcol]

theorem iblk0_k (g : Fin 4) (i : Fin 16) (n : Fin 6) (x : Fin 1408) (d : Fin 64) :
    iblk0 V c 1 (pt g i) (ix4 0 n x d) = V c main_v16 (ix4 g n x d) := by
  have h := (idx0 g i).2.1
  blk_ext [iblk0, h]

theorem iblk0_v (g : Fin 4) (i : Fin 16) (n : Fin 6) (d : Fin 80) (x : Fin 1408) :
    iblk0 V c 2 (pt g i) (ix4 0 n d x) = V c main_v15 (ix4 g n d x) := by
  have h := (idx0 g i).2.2.1
  blk_ext [iblk0, h]

theorem arr0_out (g : Fin 4) (i : Fin 16) (a : Fin 512) (j : Fin 256) :
    (dat0 V c).arrAt 3 cfg0.N (ix2 (qrow i a) (gcol g j)) = (outsAt0 V c (pt g i)).1 (ix2 a j) := by
  have h := (idx0 g i).2.2.2.1
  have e := (dat0 V c).arrAt_emb_eq_flushed 3 (Pipeline.Window.hdisj_of_index_inj _ (by decide +kernel)) (pt g i) (flush0_3 _)
    (ix2 a j)
  refine Eq.trans ?_ (e.trans ?_)
  · blk_ext [h, qrow, gcol]
  · exact congrFun (after0_3 V c (pt g i)) (ix2 a j)

theorem arr0_lse (g : Fin 4) (i : Fin 16) (r : Fin 2048) :
    (dat0 V c).arrAt 4 cfg0.N (ix4 g i 0 r) = (outsAt0 V c (pt g i)).2 (ix4 0 0 0 r) := by
  have h := (idx0 g i).2.2.2.2
  have e := (dat0 V c).arrAt_emb_eq_flushed 4 (Pipeline.Window.hdisj_of_index_inj _ (by decide +kernel)) (pt g i) (flush0_4 _)
    (ix4 0 0 0 r)
  refine Eq.trans ?_ (e.trans ?_)
  · blk_ext [h]
  · exact congrFun (after0_4 V c (pt g i)) (ix4 0 0 0 r)

variable (q : Fin 8192 → Fin 1024 → ℝ) (k : Fin 4 → Fin 6 → Fin 1408 → Fin 64 → ℝ)
  (w : Fin 4 → Fin 6 → Fin 80 → Fin 1408 → ℝ)

/-- The scores of one query's head, over the tiles of its group's keys. -/
def rowScore (g : Fin 4) (i : Fin 16) (h : Fin 4) (a : Fin 512) : Fin 6 × Fin 1408 → ℝ :=
  fwdScore (fun a j => q (qrow i a) (gcol g j)) (k g) h a

variable (hq : ∀ r j, V c main_v2 (ix2 r j) = (q r j : EReal)) (hk : ∀ g n x d, V c main_v16 (ix4 g n x d) = (k g n x d : EReal))
  (hw : ∀ g n d x, V c main_v15 (ix4 g n d x) = (w g n d x : EReal)) (hone : ∀ g n x, w g n 64 x = 1)

include hq hk hw hone in
/-- The forward call's output. -/
theorem fwd_array (g : Fin 4) (i : Fin 16) (h : Fin 4) (a : Fin 512) (d : Fin 64) :
    (dat0 V c).arrAt 3 cfg0.N (ix2 (qrow i a) (gcol g (col h d)))
      = ((∑ p : Fin 6 × Fin 1408, softmax (rowScore q k g i h a) p * w g p.1 ⟨d.val, by omega⟩ p.2 : ℝ) : EReal) := by
  rw [arr0_out]
  have h1 : ∀ a j, iblk0 V c 0 (pt g i) (ix2 a j) = (q (qrow i a) (gcol g j) : EReal) :=
    fun a j => (iblk0_q V c g i a j).trans (hq _ _)
  have h2 : ∀ n x d, iblk0 V c 1 (pt g i) (ix4 0 n x d) = (k g n x d : EReal) :=
    fun n x d => (iblk0_k V c g i n x d).trans (hk _ _ _ _)
  have h3 : ∀ n d x, iblk0 V c 2 (pt g i) (ix4 0 n d x) = (w g n d x : EReal) :=
    fun n d x => (iblk0_v V c g i n d x).trans (hw _ _ _ _)
  have := fwd_out c (grid0.coords (pt g i)) (ms0_0 (pt g i)) (hs0_0 (pt g i)) (ms0_1 (pt g i)) (hs0_1 (pt g i)) (ms0_2 (pt g i))
    (hs0_2 (pt g i)) (ms0_3 (pt g i)) (hs0_3 (pt g i)) (ms0_4 (pt g i)) (hs0_4 (pt g i))
    (iblk0 V c 0 (pt g i)) (iblk0 V c 1 (pt g i)) (iblk0 V c 2 (pt g i)) (fun a j => q (qrow i a) (gcol g j)) (k g) (w g)
    h1 h2 h3 (hone g) h a d
  rw [rowScore]
  unfold outsAt0
  dsimp only
  exact this

include hq hk hw hone in
/-- The forward call's saved numbers. -/
theorem lse_array (g : Fin 4) (i : Fin 16) (h : Fin 4) (a : Fin 512) :
    ∃ l : ℝ, (dat0 V c).arrAt 4 cfg0.N (ix4 g i 0 (lane h a)) = (l : EReal) ∧
      ∀ p, Real.exp (rowScore q k g i h a p - l) = softmax (rowScore q k g i h a) p := by
  rw [arr0_lse]
  have h1 : ∀ a j, iblk0 V c 0 (pt g i) (ix2 a j) = (q (qrow i a) (gcol g j) : EReal) :=
    fun a j => (iblk0_q V c g i a j).trans (hq _ _)
  have h2 : ∀ n x d, iblk0 V c 1 (pt g i) (ix4 0 n x d) = (k g n x d : EReal) :=
    fun n x d => (iblk0_k V c g i n x d).trans (hk _ _ _ _)
  have h3 : ∀ n d x, iblk0 V c 2 (pt g i) (ix4 0 n d x) = (w g n d x : EReal) :=
    fun n d x => (iblk0_v V c g i n d x).trans (hw _ _ _ _)
  have := fwd_lse c (grid0.coords (pt g i)) (ms0_0 (pt g i)) (hs0_0 (pt g i)) (ms0_1 (pt g i)) (hs0_1 (pt g i)) (ms0_2 (pt g i))
    (hs0_2 (pt g i)) (ms0_3 (pt g i)) (hs0_3 (pt g i)) (ms0_4 (pt g i)) (hs0_4 (pt g i))
    (iblk0 V c 0 (pt g i)) (iblk0 V c 1 (pt g i)) (iblk0 V c 2 (pt g i)) (fun a j => q (qrow i a) (gcol g j)) (k g) (w g)
    h1 h2 h3 (hone g) h a
  rw [rowScore]
  unfold outsAt0
  dsimp only
  exact this

end Cert.Attn

end
-- ==== Proof.BackwardBlock.lean ====
/-
  What one grid point of the backward call computes, over the real numbers. A point holds 512 queries of four heads, with
  the gradient of their outputs, and all keys and values of their group, cut in 11 tiles of 768; the body's loop reads one
  tile a trip, adds the tile's part to the gradient of the queries, and adds to the tile of the gradients of the keys and
  of the values what these queries give. The blocks of those two stay over the 16 points of a group: the first point
  starts them at zero, each later one adds to what the point before left.
-/
module

public import proofs.«01_k».proof.Proof.ForwardBlock
public import Idealize.ShloMosaic.Lib.WritesUnit

@[expose] public section

set_option maxRecDepth 16384

noncomputable section

namespace Cert.Attn

open Idealize.ShloMosaic Idealize.ShloMosaic.TcCoe
open Cert.KernelIdeal Cert.KernelIdeal.Gen
open scoped BigOperators

section

variable (c : Dev nD) (i : grid1.Coords) (a2 : Memref sig .tc .vmem S512x256 .bf16) (h2 : a2.IsWhole)
  (a3 : Memref sig .tc .vmem S1x11x768x64 .bf16) (h3 : a3.IsWhole) (a4 : Memref sig .tc .vmem S1x11x64x768 .bf16)
  (h4 : a4.IsWhole) (a5 : Memref sig .tc .vmem S1x11x768x64 .bf16) (h5 : a5.IsWhole)
  (a6 : Memref sig .tc .vmem S512x256 .bf16) (h6 : a6.IsWhole) (a7 : Memref sig .tc .vmem S1x1x1x2048 .f32)
  (h7 : a7.IsWhole) (a8 : Memref sig .tc .vmem S1x1x1x2048 .f32) (h8 : a8.IsWhole)
  (a9 : Memref sig .tc .vmem S512x256 .f32) (h9 : a9.IsWhole) (a10 : Memref sig .tc .vmem S1x11x768x64 .f32)
  (h10 : a10.IsWhole) (a11 : Memref sig .tc .vmem S1x11x768x64 .f32) (h11 : a11.IsWhole)
  (x0 : Vec Ideal S512x256 .bf16) (x1 : Vec Ideal S1x11x768x64 .bf16) (x2 : Vec Ideal S1x11x64x768 .bf16)
  (x3 : Vec Ideal S1x11x768x64 .bf16) (x4 : Vec Ideal S512x256 .bf16) (x5 : Vec Ideal S1x1x1x2048 .f32)
  (x6 : Vec Ideal S1x1x1x2048 .f32)

/-- The stacked queries of the block. -/
def bwdQ : FVec Ideal S2048x64 .bf16 :=
  k1_pay9 (headCols a2 h2 x0 0) (headCols a2 h2 x0 1) (headCols a2 h2 x0 2) (headCols a2 h2 x0 3)

/-- The stacked gradients of the block's outputs. -/
def bwdDo : FVec Ideal S2048x64 .bf16 :=
  k1_pay10 (headCols a6 h6 x4 0) (headCols a6 h6 x4 1) (headCols a6 h6 x4 2) (headCols a6 h6 x4 3)

/-- The row of saved numbers. -/
def bwdLse : FVec Ideal S1x2048 .f32 :=
  k1_pay11 (View.readAt (Elt Ideal) a7.view (Rect.unit (s := S1x1x1x2048) ![0, 0, 0, 0] S1x1x1x2048.size inb_S1x1x1x2048_S1x1x1x2048_0_0_0_0).toLoadRect (h7.unread x5))

/-- The row of means to be taken off. -/
def bwdDelta : FVec Ideal S1x2048 .f32 :=
  k1_pay12 (View.readAt (Elt Ideal) a8.view (Rect.unit (s := S1x1x1x2048) ![0, 0, 0, 0] S1x1x1x2048.size inb_S1x1x1x2048_S1x1x1x2048_0_0_0_0).toLoadRect (h8.unread x6))

/-- Tile `k` of the keys, or of the values. -/
def bwdTile (k : Fin 11) : FVec Ideal S1x1x768x64 .bf16 :=
  View.readAt (Elt Ideal) a3.view (Rect.unit (s := S1x11x768x64) (k1_off1 k) S1x1x768x64.size (k1_off1_inb k)).toLoadRect (h3.unread x1)

/-- Tile `k` of the transposed keys. -/
def bwdTileT (k : Fin 11) : FVec Ideal S1x1x64x768 .bf16 :=
  View.readAt (Elt Ideal) a4.view (Rect.unit (s := S1x11x64x768) (k1_off2 k) S1x1x64x768.size (k1_off2_inb k)).toLoadRect (h4.unread x2)

/-- Tile `k` of a gradient, as the pieces written so far leave it. -/
def gradTile (G : BufTy.Contents (Elt Ideal) a10.view.ty) (L : List (View.Piece (Elt Ideal) S1x11x768x64 .f32)) (k : Fin 11) :
    FVec Ideal S1x1x768x64 .f32 :=
  View.readAt (Elt Ideal) a10.view (Rect.unit (s := S1x11x768x64) (k1_off1 k) S1x1x768x64.size (k1_off1_inb k)).toLoadRect (a10.view.writes (Elt Ideal) G L)

theorem bwdTile_apply (k : Fin 11) (x : Fin 768) (d : Fin 64) : bwdTile a3 h3 x1 k (ix4 0 0 x d) = x1 (ix4 0 k x d) :=
  (h3.readAt_unread x1 _ _).trans (congrArg x1 (tile_idx k.val (k1_off1_eq k) _ k.isLt x d))

theorem bwdTileT_apply (k : Fin 11) (d : Fin 64) (x : Fin 768) : bwdTileT a4 h4 x2 k (ix4 0 0 d x) = x2 (ix4 0 k d x) :=
  (h4.readAt_unread x2 _ _).trans (congrArg x2 (tile_idx k.val (k1_off2_eq k) _ k.isLt d x))

theorem gradTile_apply (G : BufTy.Contents (Elt Ideal) a10.view.ty) (L : List (View.Piece (Elt Ideal) S1x11x768x64 .f32))
    (k : Fin 11) (x : Fin 768) (d : Fin 64) :
    gradTile a10 G L k (ix4 0 0 x d) = View.read (Elt Ideal) a10.view (a10.view.writes (Elt Ideal) G L) (ix4 0 k x d) :=
  congrArg (View.read (Elt Ideal) a10.view (a10.view.writes (Elt Ideal) G L)) (tile_idx k.val (k1_off1_eq k) _ k.isLt x d)

variable (G10 : BufTy.Contents (Elt Ideal) a10.view.ty) (G11 : BufTy.Contents (Elt Ideal) a11.view.ty)

/-- The loop's state after `n` tiles: the gradient of the queries and the tiles written. -/
def bwdState (n : ℕ) : FVec Ideal S64x2048 .f32 × List (View.Piece (Elt Ideal) S1x11x768x64 .f32)
    × List (View.Piece (Elt Ideal) S1x11x768x64 .f32) :=
  st_k1_t1 (F := Ideal) Variants.none c none i a2 h2 a3 h3 a4 h4 a5 h5 a6 h6 a7 h7 a8 h8 a9 h9 a10 h10 a11 h11
    (bwdQ a2 h2 x0) (bwdDo a6 h6 x4) (bwdLse a7 h7 x5) (bwdDelta a8 h8 x6) (0#32) (1#32) (h3.unread x1) (h4.unread x2)
    (h5.unread x3) G10 G11 k1_pay13 n

/-- A store of tile `k`. -/
def tilePiece (k : Fin 11) (w : FVec Ideal S1x1x768x64 .f32) : View.Piece (Elt Ideal) S1x11x768x64 .f32 :=
  ⟨Rect.unit (k1_off1 k) S1x1x768x64.size (k1_off1_inb k), w⟩

/-- A tile just written reads what was written. -/
theorem tile_written (m : Memref sig .tc .vmem S1x11x768x64 .f32) (G : BufTy.Contents (Elt Ideal) m.view.ty)
    (L : List (View.Piece (Elt Ideal) S1x11x768x64 .f32)) (k : Fin 11) (w : FVec Ideal S1x1x768x64 .f32) (x : Fin 768) (d : Fin 64) :
    View.read (Elt Ideal) m.view (m.view.writes (Elt Ideal) G
      (tilePiece k w :: L)) (ix4 0 k x d)
      = w (ix4 0 0 x d) :=
  View.read_writes_cons_unit_of_mem m.view G (k1_off1_inb k) w L (ix4 0 k x d) (ix4 0 0 x d) (k1_off1_eq k) (by
    intro a
    match a with
    | ⟨0, _⟩ => simp [ix4]
    | ⟨1, _⟩ => simp [ix4]
    | ⟨2, _⟩ => simp [ix4]
    | ⟨3, _⟩ => simp [ix4])

/-- Writing a tile leaves the others. -/
theorem tile_other (m : Memref sig .tc .vmem S1x11x768x64 .f32) (G : BufTy.Contents (Elt Ideal) m.view.ty)
    (L : List (View.Piece (Elt Ideal) S1x11x768x64 .f32)) (k j : Fin 11) (hne : j ≠ k) (w : FVec Ideal S1x1x768x64 .f32)
    (x : Fin 768) (d : Fin 64) :
    View.read (Elt Ideal) m.view (m.view.writes (Elt Ideal) G
      (tilePiece k w :: L)) (ix4 0 j x d)
      = View.read (Elt Ideal) m.view (m.view.writes (Elt Ideal) G L) (ix4 0 j x d) :=
  View.read_writes_cons_unit_of_not_mem m.view G (k1_off1_inb k) w L (ix4 0 j x d) (k1_off1_eq k) (1 : Fin 4) (by
    have h : j.val ≠ k.val := fun h => hne (Fin.ext h)
    show j.val < k.val ∨ k.val + 1 ≤ j.val
    omega)

theorem bwdState_zero :
    bwdState c i a2 h2 a3 h3 a4 h4 a5 h5 a6 h6 a7 h7 a8 h8 a9 h9 a10 h10 a11 h11 x0 x1 x2 x3 x4 x5 x6 G10 G11 0
      = (k1_pay13, [], []) := rfl

theorem bwdState_succ (n : ℕ) (hn : n < 11) (st : FVec Ideal S64x2048 .f32 × List (View.Piece (Elt Ideal) S1x11x768x64 .f32)
    × List (View.Piece (Elt Ideal) S1x11x768x64 .f32))
    (hst : bwdState c i a2 h2 a3 h3 a4 h4 a5 h5 a6 h6 a7 h7 a8 h8 a9 h9 a10 h10 a11 h11 x0 x1 x2 x3 x4 x5 x6 G10 G11 n = st) :
    bwdState c i a2 h2 a3 h3 a4 h4 a5 h5 a6 h6 a7 h7 a8 h8 a9 h9 a10 h10 a11 h11 x0 x1 x2 x3 x4 x5 x6 G10 G11 (n + 1)
      = (k1_pay1 st.1 (k1_pay5 (bwdQ a2 h2 x0) (bwdDo a6 h6 x4) (bwdLse a7 h7 x5) (bwdDelta a8 h8 x6)
            (bwdTile a3 h3 x1 ⟨n, hn⟩) (bwdTile a5 h5 x3 ⟨n, hn⟩)) (bwdTileT a4 h4 x2 ⟨n, hn⟩),
         tilePiece ⟨n, hn⟩
            (k1_pay6 (bwdQ a2 h2 x0) (bwdDo a6 h6 x4) (bwdLse a7 h7 x5) (bwdDelta a8 h8 x6)
              (bwdTile a3 h3 x1 ⟨n, hn⟩) (bwdTile a5 h5 x3 ⟨n, hn⟩) (gradTile a10 G10 st.2.1 ⟨n, hn⟩)) :: st.2.1,
         tilePiece ⟨n, hn⟩
            (k1_pay4 (bwdQ a2 h2 x0) (bwdDo a6 h6 x4) (bwdLse a7 h7 x5)
              (bwdTile a3 h3 x1 ⟨n, hn⟩) (gradTile a11 G11 st.2.2 ⟨n, hn⟩)) :: st.2.2) := by
  subst hst
  unfold bwdState
  refine (st_k1_t1_succ (F := Ideal) Variants.none c none i a2 h2 a3 h3 a4 h4 a5 h5 a6 h6 a7 h7 a8 h8 a9 h9 a10 h10 a11 h11
    _ _ _ _ _ _ _ _ _ _ _ _ ⟨n, hn⟩).trans ?_
  unfold tripR_k1_t1 tripL_k1_t1 trip_k1_t1
  dsimp only
  rfl

/-- The gradient of the scores of tile `n`. -/
def bwdDs (n : Fin 11) : FVec Ideal S768x2048 .f32 :=
  k1_pay5 (bwdQ a2 h2 x0) (bwdDo a6 h6 x4) (bwdLse a7 h7 x5) (bwdDelta a8 h8 x6) (bwdTile a3 h3 x1 n) (bwdTile a5 h5 x3 n)

/-- The probabilities of tile `n`. -/
def bwdProbs (n : Fin 11) : FVec Ideal S768x2048 .f32 :=
  k1_pay3 (bwdQ a2 h2 x0) (bwdLse a7 h7 x5) (bwdTile a3 h3 x1 n)

/-- The carried value after `n` tiles is the sum of the tiles' parts. -/
theorem bwdState_carried (d : Fin 64) (r : Fin 2048) (n : ℕ) (hn : n ≤ 11) :
    (bwdState c i a2 h2 a3 h3 a4 h4 a5 h5 a6 h6 a7 h7 a8 h8 a9 h9 a10 h10 a11 h11 x0 x1 x2 x3 x4 x5 x6 G10 G11 n).1 (ix2 d r)
      = ∑ m ∈ Finset.range n, if hm : m < 11 then
          ∑ x : Fin 768, x2 (ix4 0 ⟨m, hm⟩ d x) * bwdDs a2 h2 a3 h3 a5 h5 a6 h6 a7 h7 a8 h8 x0 x1 x3 x4 x5 x6 ⟨m, hm⟩ (ix2 x r)
        else 0 := by
  induction n with
  | zero => rw [bwdState_zero, Finset.sum_range_zero]; exact k1_pay13_apply d r
  | succ n ih =>
    rw [bwdState_succ c i a2 h2 a3 h3 a4 h4 a5 h5 a6 h6 a7 h7 a8 h8 a9 h9 a10 h10 a11 h11 x0 x1 x2 x3 x4 x5 x6 G10 G11 n hn _ rfl, Finset.sum_range_succ, dif_pos (show n < 11 from hn), ← ih (Nat.le_of_succ_le hn)]
    dsimp only
    rw [k1_pay1_apply]
    simp only [bwdTileT_apply]
    rfl

/-- A tile of the gradient of the keys after `n` tiles. -/
theorem bwdState_keys (j : Fin 11) (x : Fin 768) (d : Fin 64) (n : ℕ) (hn : n ≤ 11) :
    View.read (Elt Ideal) a10.view (a10.view.writes (Elt Ideal) G10 (bwdState c i a2 h2 a3 h3 a4 h4 a5 h5 a6 h6 a7 h7 a8 h8 a9 h9 a10 h10 a11 h11 x0 x1 x2 x3 x4 x5 x6 G10 G11 n).2.1) (ix4 0 j x d)
      = View.read (Elt Ideal) a10.view G10 (ix4 0 j x d) + if j.val < n then
          ∑ r : Fin 2048, bwdDs a2 h2 a3 h3 a5 h5 a6 h6 a7 h7 a8 h8 x0 x1 x3 x4 x5 x6 j (ix2 x r) * bwdQ a2 h2 x0 (ix2 r d)
        else 0 := by
  induction n with
  | zero => rw [bwdState_zero, if_neg (Nat.not_lt_zero _), add_zero]; rfl
  | succ n ih =>
    rw [bwdState_succ c i a2 h2 a3 h3 a4 h4 a5 h5 a6 h6 a7 h7 a8 h8 a9 h9 a10 h10 a11 h11 x0 x1 x2 x3 x4 x5 x6 G10 G11 n hn _ rfl]
    dsimp only
    by_cases hj : j.val = n
    · obtain rfl : j = ⟨n, hn⟩ := Fin.ext hj
      rw [tile_written, k1_pay6_apply, gradTile_apply, ih (Nat.le_of_succ_le hn), if_neg (lt_irrefl _), add_zero,
        if_pos (Nat.lt_succ_self _)]
      rfl
    · rw [tile_other _ _ _ _ _ (fun h => hj (congrArg Fin.val h)), ih (Nat.le_of_succ_le hn)]
      congr 1
      exact if_congr (by omega) rfl rfl

/-- A tile of the gradient of the values after `n` tiles. -/
theorem bwdState_vals (j : Fin 11) (x : Fin 768) (d : Fin 64) (n : ℕ) (hn : n ≤ 11) :
    View.read (Elt Ideal) a11.view (a11.view.writes (Elt Ideal) G11 (bwdState c i a2 h2 a3 h3 a4 h4 a5 h5 a6 h6 a7 h7 a8 h8 a9 h9 a10 h10 a11 h11 x0 x1 x2 x3 x4 x5 x6 G10 G11 n).2.2) (ix4 0 j x d)
      = View.read (Elt Ideal) a11.view G11 (ix4 0 j x d) + if j.val < n then
          ∑ r : Fin 2048, bwdProbs a2 h2 a3 h3 a7 h7 x0 x1 x5 j (ix2 x r) * bwdDo a6 h6 x4 (ix2 r d)
        else 0 := by
  induction n with
  | zero => rw [bwdState_zero, if_neg (Nat.not_lt_zero _), add_zero]; rfl
  | succ n ih =>
    rw [bwdState_succ c i a2 h2 a3 h3 a4 h4 a5 h5 a6 h6 a7 h7 a8 h8 a9 h9 a10 h10 a11 h11 x0 x1 x2 x3 x4 x5 x6 G10 G11 n hn _ rfl]
    dsimp only
    by_cases hj : j.val = n
    · obtain rfl : j = ⟨n, hn⟩ := Fin.ext hj
      rw [tile_written, k1_pay4_apply, gradTile_apply, ih (Nat.le_of_succ_le hn), if_neg (lt_irrefl _), add_zero,
        if_pos (Nat.lt_succ_self _)]
      rfl
    · rw [tile_other _ _ _ _ _ (fun h => hj (congrArg Fin.val h)), ih (Nat.le_of_succ_le hn)]
      congr 1
      exact if_congr (by omega) rfl rfl

/-! ### The outputs of a point -/

/-- A store of the whole block. -/
def wholePiece (w : FVec Ideal S1x11x768x64 .f32) : View.Piece (Elt Ideal) S1x11x768x64 .f32 :=
  ⟨Rect.unit (s := S1x11x768x64) ![0, 0, 0, 0] S1x11x768x64.size inb_S1x11x768x64_S1x11x768x64_0_0_0_0, w⟩

theorem whole_written (G : BufTy.Contents (Elt Ideal) a10.view.ty) (w : FVec Ideal S1x11x768x64 .f32) (j : Fin 11) (x : Fin 768)
    (d : Fin 64) :
    View.read (Elt Ideal) a10.view (a10.view.writes (Elt Ideal) G [wholePiece w]) (ix4 0 j x d) = w (ix4 0 j x d) :=
  View.read_writes_cons_unit_of_mem (off' := (![0, 0, 0, 0] : Fin 4 → ℕ)) a10.view G
    inb_S1x11x768x64_S1x11x768x64_0_0_0_0 w [] (ix4 0 j x d) (ix4 0 j x d) rfl (by
    intro a
    match a with
    | ⟨0, _⟩ => simp [ix4]
    | ⟨1, _⟩ => simp [ix4]
    | ⟨2, _⟩ => simp [ix4]
    | ⟨3, _⟩ => simp [ix4])

/-- The block of zeros a group's first point stores over the gradient of the keys. -/
def zeroKeys : BufTy.Contents (Elt Ideal) a10.view.ty :=
  a10.view.writes (Elt Ideal) a10.view.junk [wholePiece (k1_pay7 (F := Ideal))]

/-- The block of zeros a group's first point stores over the gradient of the values. -/
def zeroVals : BufTy.Contents (Elt Ideal) a10.view.ty :=
  a10.view.writes (Elt Ideal) a10.view.junk [wholePiece (k1_pay8 (F := Ideal))]

theorem zeroKeys_read (j : Fin 11) (x : Fin 768) (d : Fin 64) :
    View.read (Elt Ideal) a10.view (zeroKeys a10) (ix4 0 j x d) = 0 :=
  (whole_written a10 _ _ j x d).trans (k1_pay7_apply _)

theorem zeroVals_read (j : Fin 11) (x : Fin 768) (d : Fin 64) :
    View.read (Elt Ideal) a10.view (zeroVals a10) (ix4 0 j x d) = 0 :=
  (whole_written a10 _ _ j x d).trans (k1_pay8_apply _)

theorem out1_A_7_eq (hc : cond1_0 i) :
    out1_A_7 c i a2 h2 a3 h3 a4 h4 a5 h5 a6 h6 a7 h7 a8 h8 a9 h9 a10 h10 a11 h11 hc x0 x1 x2 x3 x4 x5 x6 = k1_pay2 (bwdState c i a2 h2 a3 h3 a4 h4 a5 h5 a6 h6 a7 h7 a8 h8 a9 h9 a10 h10 a11 h11 x0 x1 x2 x3 x4 x5 x6 (zeroKeys a10) (zeroVals a11) 11).1 := by
  unfold out1_A_7
  rw [View.read_writes_eq_canon _ _ _ (cover1_A_7 c i a2 h2 a3 h3 a4 h4 a5 h5 a6 h6 a7 h7 a8 h8 a9 h9 a10 h10 a11 h11 hc x0 x1 x2 x3 x4 x5 x6)]
  unfold kernelRun1_A
  dsimp only
  exact View.canon_cons_unit_zero (funext fun a => by fin_cases a <;> rfl) _ _ _

theorem out1_B_7_eq (hc : ¬ cond1_0 i) (y8 y9 : Vec Ideal S1x11x768x64 .f32) :
    out1_B_7 c i a2 h2 a3 h3 a4 h4 a5 h5 a6 h6 a7 h7 a8 h8 a9 h9 a10 h10 a11 h11 hc x0 x1 x2 x3 x4 x5 x6 y8 y9 = k1_pay2 (bwdState c i a2 h2 a3 h3 a4 h4 a5 h5 a6 h6 a7 h7 a8 h8 a9 h9 a10 h10 a11 h11 x0 x1 x2 x3 x4 x5 x6 (h10.unread y8) (h11.unread y9) 11).1 := by
  unfold out1_B_7
  rw [View.read_writes_eq_canon _ _ _ (cover1_B_7 c i a2 h2 a3 h3 a4 h4 a5 h5 a6 h6 a7 h7 a8 h8 a9 h9 a10 h10 a11 h11 hc x0 x1 x2 x3 x4 x5 x6 y8 y9)]
  unfold kernelRun1_B
  dsimp only
  exact View.canon_cons_unit_zero (funext fun a => by fin_cases a <;> rfl) _ _ _

theorem out1_A_8_eq (hc : cond1_0 i) :
    out1_A_8 c i a2 h2 a3 h3 a4 h4 a5 h5 a6 h6 a7 h7 a8 h8 a9 h9 a10 h10 a11 h11 hc x0 x1 x2 x3 x4 x5 x6 = View.read (Elt Ideal) a10.view (a10.view.writes (Elt Ideal) (zeroKeys a10)
      (bwdState c i a2 h2 a3 h3 a4 h4 a5 h5 a6 h6 a7 h7 a8 h8 a9 h9 a10 h10 a11 h11 x0 x1 x2 x3 x4 x5 x6 (zeroKeys a10) (zeroVals a11) 11).2.1) := by
  unfold out1_A_8
  rw [View.read_writes_eq_canon _ _ _ (cover1_A_8 c i a2 h2 a3 h3 a4 h4 a5 h5 a6 h6 a7 h7 a8 h8 a9 h9 a10 h10 a11 h11 hc x0 x1 x2 x3 x4 x5 x6)]
  refine (View.read_writes_eq_canon a10.view a10.view.junk _ (cover1_A_8 c i a2 h2 a3 h3 a4 h4 a5 h5 a6 h6 a7 h7 a8 h8 a9 h9 a10 h10 a11 h11 hc x0 x1 x2 x3 x4 x5 x6)).symm.trans ?_
  unfold kernelRun1_A
  dsimp only
  rw [View.writes_append]
  rfl

theorem out1_A_9_eq (hc : cond1_0 i) :
    out1_A_9 c i a2 h2 a3 h3 a4 h4 a5 h5 a6 h6 a7 h7 a8 h8 a9 h9 a10 h10 a11 h11 hc x0 x1 x2 x3 x4 x5 x6 = View.read (Elt Ideal) a11.view (a11.view.writes (Elt Ideal) (zeroVals a11)
      (bwdState c i a2 h2 a3 h3 a4 h4 a5 h5 a6 h6 a7 h7 a8 h8 a9 h9 a10 h10 a11 h11 x0 x1 x2 x3 x4 x5 x6 (zeroKeys a10) (zeroVals a11) 11).2.2) := by
  unfold out1_A_9
  rw [View.read_writes_eq_canon _ _ _ (cover1_A_9 c i a2 h2 a3 h3 a4 h4 a5 h5 a6 h6 a7 h7 a8 h8 a9 h9 a10 h10 a11 h11 hc x0 x1 x2 x3 x4 x5 x6)]
  refine (View.read_writes_eq_canon a11.view a11.view.junk _ (cover1_A_9 c i a2 h2 a3 h3 a4 h4 a5 h5 a6 h6 a7 h7 a8 h8 a9 h9 a10 h10 a11 h11 hc x0 x1 x2 x3 x4 x5 x6)).symm.trans ?_
  unfold kernelRun1_A
  dsimp only
  rw [View.writes_append]
  rfl

theorem out1_B_8_eq (hc : ¬ cond1_0 i) (y8 y9 : Vec Ideal S1x11x768x64 .f32) :
    out1_B_8 c i a2 h2 a3 h3 a4 h4 a5 h5 a6 h6 a7 h7 a8 h8 a9 h9 a10 h10 a11 h11 hc x0 x1 x2 x3 x4 x5 x6 y8 y9 = View.read (Elt Ideal) a10.view (a10.view.writes (Elt Ideal) (h10.unread y8)
      (bwdState c i a2 h2 a3 h3 a4 h4 a5 h5 a6 h6 a7 h7 a8 h8 a9 h9 a10 h10 a11 h11 x0 x1 x2 x3 x4 x5 x6 (h10.unread y8) (h11.unread y9) 11).2.1) := by
  unfold out1_B_8
  rw [View.read_writes_eq_canon _ _ _ (cover1_B_8 c i a2 h2 a3 h3 a4 h4 a5 h5 a6 h6 a7 h7 a8 h8 a9 h9 a10 h10 a11 h11 hc x0 x1 x2 x3 x4 x5 x6 y8 y9)]
  refine (View.read_writes_eq_canon a10.view (h10.unread y8) _ (cover1_B_8 c i a2 h2 a3 h3 a4 h4 a5 h5 a6 h6 a7 h7 a8 h8 a9 h9 a10 h10 a11 h11 hc x0 x1 x2 x3 x4 x5 x6 y8 y9)).symm.trans ?_
  unfold kernelRun1_B
  dsimp only
  rfl

theorem out1_B_9_eq (hc : ¬ cond1_0 i) (y8 y9 : Vec Ideal S1x11x768x64 .f32) :
    out1_B_9 c i a2 h2 a3 h3 a4 h4 a5 h5 a6 h6 a7 h7 a8 h8 a9 h9 a10 h10 a11 h11 hc x0 x1 x2 x3 x4 x5 x6 y8 y9 = View.read (Elt Ideal) a11.view (a11.view.writes (Elt Ideal) (h11.unread y9)
      (bwdState c i a2 h2 a3 h3 a4 h4 a5 h5 a6 h6 a7 h7 a8 h8 a9 h9 a10 h10 a11 h11 x0 x1 x2 x3 x4 x5 x6 (h10.unread y8) (h11.unread y9) 11).2.2) := by
  unfold out1_B_9
  rw [View.read_writes_eq_canon _ _ _ (cover1_B_9 c i a2 h2 a3 h3 a4 h4 a5 h5 a6 h6 a7 h7 a8 h8 a9 h9 a10 h10 a11 h11 hc x0 x1 x2 x3 x4 x5 x6 y8 y9)]
  refine (View.read_writes_eq_canon a11.view (h11.unread y9) _ (cover1_B_9 c i a2 h2 a3 h3 a4 h4 a5 h5 a6 h6 a7 h7 a8 h8 a9 h9 a10 h10 a11 h11 hc x0 x1 x2 x3 x4 x5 x6 y8 y9)).symm.trans ?_
  unfold kernelRun1_B
  dsimp only
  rfl

/-! ### The block over the real numbers -/

variable (q : Fin 512 → Fin 256 → ℝ) (k w : Fin 11 → Fin 768 → Fin 64 → ℝ) (dO : Fin 512 → Fin 256 → ℝ)
  (lse delta : Fin 4 → Fin 512 → ℝ)

/-- The probability of the key in place `p.2` of tile `p.1`, from the score and the saved number. -/
def bwdProb (h : Fin 4) (a : Fin 512) (p : Fin 11 × Fin 768) : ℝ :=
  Real.exp ((∑ d, k p.1 p.2 d * q a (col h d)) - lse h a)

/-- The gradient of the score of that key. -/
def bwdGrad (h : Fin 4) (a : Fin 512) (p : Fin 11 × Fin 768) : ℝ :=
  bwdProb q k lse h a p * ((∑ d, w p.1 p.2 d * dO a (col h d)) - delta h a)

variable (hq : ∀ a j, x0 (ix2 a j) = (q a j : EReal)) (hk : ∀ n x d, x1 (ix4 0 n x d) = (k n x d : EReal))
  (hkt : ∀ n x d, x2 (ix4 0 n d x) = (k n x d : EReal)) (hw : ∀ n x d, x3 (ix4 0 n x d) = (w n x d : EReal))
  (hdo : ∀ a j, x4 (ix2 a j) = (dO a j : EReal)) (hlse : ∀ h a, x5 (ix4 0 0 0 (lane h a)) = (lse h a : EReal))
  (hdelta : ∀ h a, x6 (ix4 0 0 0 (lane h a)) = (delta h a : EReal))

theorem bwdQ_apply (h : Fin 4) (a : Fin 512) (d : Fin 64) : bwdQ a2 h2 x0 (ix2 (lane h a) d) = x0 (ix2 a (col h d)) :=
  (k1_pay9_apply (headCols a2 h2 x0) h a d).trans (headCols_apply _ _ _ _ _ _)

theorem bwdDo_apply (h : Fin 4) (a : Fin 512) (d : Fin 64) : bwdDo a6 h6 x4 (ix2 (lane h a) d) = x4 (ix2 a (col h d)) :=
  (k1_pay10_apply (headCols a6 h6 x4) h a d).trans (headCols_apply _ _ _ _ _ _)

theorem row_idx (inb : ∀ a, (![0, 0, 0, 0] : Fin 4 → ℕ) a + S1x1x1x2048.size a ≤ S1x1x1x2048.size a) (r : Fin 2048) :
    (Rect.unit (s := S1x1x1x2048) ![0, 0, 0, 0] S1x1x1x2048.size inb).toLoadRect.idx (ix4 0 0 0 r) = ix4 0 0 0 r := by
  funext a
  apply Fin.ext
  match a with
  | ⟨0, _⟩ => simp [Rect.unit, Rect.toLoadRect, LoadRect.idx, ix4]
  | ⟨1, _⟩ => simp [Rect.unit, Rect.toLoadRect, LoadRect.idx, ix4]
  | ⟨2, _⟩ => simp [Rect.unit, Rect.toLoadRect, LoadRect.idx, ix4]
  | ⟨3, _⟩ => simp [Rect.unit, Rect.toLoadRect, LoadRect.idx, ix4]

theorem bwdLse_apply (r : Fin 2048) : bwdLse a7 h7 x5 (ix2 0 r) = x5 (ix4 0 0 0 r) :=
  (k1_pay11_apply _ r).trans ((h7.readAt_unread x5 _ _).trans (congrArg x5 (row_idx _ r)))

theorem bwdDelta_apply (r : Fin 2048) : bwdDelta a8 h8 x6 (ix2 0 r) = x6 (ix4 0 0 0 r) :=
  (k1_pay12_apply _ r).trans ((h8.readAt_unread x6 _ _).trans (congrArg x6 (row_idx _ r)))

include hq hk hlse in
theorem bwdProbs_real (n : Fin 11) (x : Fin 768) (h : Fin 4) (a : Fin 512) :
    bwdProbs a2 h2 a3 h3 a7 h7 x0 x1 x5 n (ix2 x (lane h a)) = (bwdProb q k lse h a (n, x) : EReal) := by
  unfold bwdProbs
  rw [k1_pay3_apply, bwdLse_apply, hlse]
  simp only [bwdTile_apply, bwdQ_apply, hq, hk, ← EReal.coe_mul]
  rw [← coe_sum, ← EReal.coe_sub, Ideal.exp_coe]
  rfl

include hq hk hw hdo hlse hdelta in
theorem bwdDs_real (n : Fin 11) (x : Fin 768) (h : Fin 4) (a : Fin 512) :
    bwdDs a2 h2 a3 h3 a5 h5 a6 h6 a7 h7 a8 h8 x0 x1 x3 x4 x5 x6 n (ix2 x (lane h a))
      = (bwdGrad q k w dO lse delta h a (n, x) : EReal) := by
  unfold bwdDs
  rw [k1_pay5_apply, bwdDelta_apply, hdelta]
  have := bwdProbs_real a2 h2 a3 h3 a7 h7 x0 x1 x5 q k lse hq hk hlse n x h a
  unfold bwdProbs at this
  rw [this]
  simp only [bwdTile_apply, bwdDo_apply, hdo, hw, ← EReal.coe_mul]
  rw [← coe_sum, ← EReal.coe_sub, ← EReal.coe_mul]
  rfl

include hq hk hkt hw hdo hlse hdelta in
/-- The block of the gradient of the queries. -/
theorem bwd_carried (h : Fin 4) (a : Fin 512) (d : Fin 64) :
    k1_pay2 (bwdState c i a2 h2 a3 h3 a4 h4 a5 h5 a6 h6 a7 h7 a8 h8 a9 h9 a10 h10 a11 h11 x0 x1 x2 x3 x4 x5 x6 G10 G11 11).1 (ix2 a (col h d))
      = ((∑ p : Fin 11 × Fin 768, k p.1 p.2 d * bwdGrad q k w dO lse delta h a p : ℝ) : EReal) := by
  rw [k1_pay2_apply, bwdState_carried c i a2 h2 a3 h3 a4 h4 a5 h5 a6 h6 a7 h7 a8 h8 a9 h9 a10 h10 a11 h11 x0 x1 x2 x3 x4 x5 x6 G10 G11 d (lane h a) 11 le_rfl, Finset.sum_range, Fintype.sum_prod_type, coe_sum]
  refine Finset.sum_congr rfl fun n _ => ?_
  rw [dif_pos n.isLt, coe_sum]
  refine Finset.sum_congr rfl fun x _ => ?_
  rw [bwdDs_real a2 h2 a3 h3 a5 h5 a6 h6 a7 h7 a8 h8 x0 x1 x3 x4 x5 x6 q k w dO lse delta hq hk hw hdo hlse hdelta, hkt,
    EReal.coe_mul]

include hq hk hw hdo hlse hdelta in
/-- What a point adds to a tile of the gradient of the keys. -/
theorem bwd_keys (j : Fin 11) (x : Fin 768) (d : Fin 64) :
    View.read (Elt Ideal) a10.view (a10.view.writes (Elt Ideal) G10 (bwdState c i a2 h2 a3 h3 a4 h4 a5 h5 a6 h6 a7 h7 a8 h8 a9 h9 a10 h10 a11 h11 x0 x1 x2 x3 x4 x5 x6 G10 G11 11).2.1) (ix4 0 j x d)
      = View.read (Elt Ideal) a10.view G10 (ix4 0 j x d)
        + ((∑ h, ∑ a, bwdGrad q k w dO lse delta h a (j, x) * q a (col h d) : ℝ) : EReal) := by
  rw [bwdState_keys c i a2 h2 a3 h3 a4 h4 a5 h5 a6 h6 a7 h7 a8 h8 a9 h9 a10 h10 a11 h11 x0 x1 x2 x3 x4 x5 x6 G10 G11 j x d 11 le_rfl, if_pos j.isLt, sum_lane, coe_sum]
  congr 1
  refine Finset.sum_congr rfl fun h _ => ?_
  rw [coe_sum]
  refine Finset.sum_congr rfl fun a _ => ?_
  rw [bwdDs_real a2 h2 a3 h3 a5 h5 a6 h6 a7 h7 a8 h8 x0 x1 x3 x4 x5 x6 q k w dO lse delta hq hk hw hdo hlse hdelta,
    bwdQ_apply, hq, EReal.coe_mul]

include hq hk hdo hlse in
/-- What a point adds to a tile of the gradient of the values. -/
theorem bwd_vals (j : Fin 11) (x : Fin 768) (d : Fin 64) :
    View.read (Elt Ideal) a11.view (a11.view.writes (Elt Ideal) G11 (bwdState c i a2 h2 a3 h3 a4 h4 a5 h5 a6 h6 a7 h7 a8 h8 a9 h9 a10 h10 a11 h11 x0 x1 x2 x3 x4 x5 x6 G10 G11 11).2.2) (ix4 0 j x d)
      = View.read (Elt Ideal) a11.view G11 (ix4 0 j x d)
        + ((∑ h, ∑ a, bwdProb q k lse h a (j, x) * dO a (col h d) : ℝ) : EReal) := by
  rw [bwdState_vals c i a2 h2 a3 h3 a4 h4 a5 h5 a6 h6 a7 h7 a8 h8 a9 h9 a10 h10 a11 h11 x0 x1 x2 x3 x4 x5 x6 G10 G11 j x d 11 le_rfl, if_pos j.isLt, sum_lane, coe_sum]
  congr 1
  refine Finset.sum_congr rfl fun h _ => ?_
  rw [coe_sum]
  refine Finset.sum_congr rfl fun a _ => ?_
  rw [bwdProbs_real a2 h2 a3 h3 a7 h7 x0 x1 x5 q k lse hq hk hlse, bwdDo_apply, hdo, EReal.coe_mul]

end

end Cert.Attn

end
-- ==== Proof.BackwardArray.lean ====
/-
  The backward call's arrays. The gradient of the queries is written block by block like the forward call's output. The
  gradients of a group's keys and values are one block per group: the group's first point clears it, each of its 16 points
  adds its queries' part, and the last one's block is what the array ends up holding.
-/
module

public import proofs.«01_k».proof.Proof.ForwardArray
public import proofs.«01_k».proof.Proof.BackwardBlock

@[expose] public section

set_option maxRecDepth 16384

noncomputable section

namespace Cert.Attn

open Idealize.ShloMosaic Idealize.ShloMosaic.TcCoe
open Cert.KernelIdeal Cert.KernelIdeal.Gen
open Idealize.ShloMosaic.Pipeline (Dat)
open scoped BigOperators

/-- The backward call's grid point of group `g` and query block `i`. -/
def qt (g : Fin 4) (i : Fin 16) : Fin cfg1.N := ⟨g.val * 16 + i.val, by rw [show cfg1.N = 64 from N_1]; omega⟩

theorem idx1 : ∀ (g : Fin 4) (i : Fin 16),
    win1_0.index (qt g i) = ![i.val, g.val] ∧ win1_1.index (qt g i) = ![g.val, 0, 0, 0]
      ∧ win1_2.index (qt g i) = ![g.val, 0, 0, 0] ∧ win1_3.index (qt g i) = ![g.val, 0, 0, 0]
      ∧ win1_4.index (qt g i) = ![i.val, g.val] ∧ win1_5.index (qt g i) = ![g.val, i.val, 0, 0]
      ∧ win1_6.index (qt g i) = ![g.val, i.val, 0, 0] ∧ win1_7.index (qt g i) = ![i.val, g.val]
      ∧ win1_8.index (qt g i) = ![g.val, 0, 0, 0] ∧ win1_9.index (qt g i) = ![g.val, 0, 0, 0] := by
  decide +kernel

variable (V : (c : Dev nD) → (b : Ref sig .tc) → Buf (Elt Ideal) ((c : Thread nD τ).loc b)) (c : Dev nD)

theorem iblk1_q (g : Fin 4) (i : Fin 16) (a : Fin 512) (j : Fin 256) :
    iblk1 V c 0 (qt g i) (ix2 a j) = V c main_v2 (ix2 (qrow i a) (gcol g j)) := by
  have h := (idx1 g i).1
  blk_ext [iblk1, h, qrow, gcol]

theorem iblk1_k (g : Fin 4) (i : Fin 16) (n : Fin 11) (x : Fin 768) (d : Fin 64) :
    iblk1 V c 1 (qt g i) (ix4 0 n x d) = V c main_v10 (ix4 g n x d) := by
  have h := (idx1 g i).2.1
  blk_ext [iblk1, h]

theorem iblk1_kt (g : Fin 4) (i : Fin 16) (n : Fin 11) (d : Fin 64) (x : Fin 768) :
    iblk1 V c 2 (qt g i) (ix4 0 n d x) = V c main_v21 (ix4 g n d x) := by
  have h := (idx1 g i).2.2.1
  blk_ext [iblk1, h]

theorem iblk1_v (g : Fin 4) (i : Fin 16) (n : Fin 11) (x : Fin 768) (d : Fin 64) :
    iblk1 V c 3 (qt g i) (ix4 0 n x d) = V c main_v11 (ix4 g n x d) := by
  have h := (idx1 g i).2.2.2.1
  blk_ext [iblk1, h]

theorem iblk1_do (g : Fin 4) (i : Fin 16) (a : Fin 512) (j : Fin 256) :
    iblk1 V c 4 (qt g i) (ix2 a j) = V c main_v5 (ix2 (qrow i a) (gcol g j)) := by
  have h := (idx1 g i).2.2.2.2.1
  blk_ext [iblk1, h, qrow, gcol]

theorem iblk1_lse (g : Fin 4) (i : Fin 16) (r : Fin 2048) :
    iblk1 V c 5 (qt g i) (ix4 0 0 0 r) = V c main_v17_1 (ix4 g i 0 r) := by
  have h := (idx1 g i).2.2.2.2.2.1
  blk_ext [iblk1, h]

theorem iblk1_delta (g : Fin 4) (i : Fin 16) (r : Fin 2048) :
    iblk1 V c 6 (qt g i) (ix4 0 0 0 r) = V c main_v24 (ix4 g i 0 r) := by
  have h := (idx1 g i).2.2.2.2.2.2.1
  blk_ext [iblk1, h]

theorem arr1_dq (g : Fin 4) (i : Fin 16) (a : Fin 512) (j : Fin 256) :
    (dat1 V c).arrAt 7 cfg1.N (ix2 (qrow i a) (gcol g j)) = (outsAt1 V c (qt g i).val (qt g i).isLt).1 (ix2 a j) := by
  have h := (idx1 g i).2.2.2.2.2.2.2.1
  have e := (dat1 V c).arrAt_emb_eq_flushed 7 (Pipeline.Window.hdisj_of_index_inj _ (by decide +kernel)) (qt g i) (flush1_7 _)
    (ix2 a j)
  refine Eq.trans ?_ (e.trans ?_)
  · blk_ext [h, qrow, gcol]
  · exact congrFun (after1_7 V c (qt g i)) (ix2 a j)

theorem last_point (g : Fin 4) : (qt g 15).val % 16 = 15 := by
  show (g.val * 16 + 15) % 16 = 15
  omega

theorem arr1_dk (g : Fin 4) (n : Fin 11) (x : Fin 768) (d : Fin 64) :
    (dat1 V c).arrAt 8 cfg1.N (ix4 g n x d) = (outsAt1 V c (qt g 15).val (qt g 15).isLt).2.1 (ix4 0 n x d) := by
  have h := (idx1 g 15).2.2.2.2.2.2.2.2.1
  have e := (dat1 V c).arrAt_emb_eq_flushed 8 (Pipeline.Window.hdisj_of_index_inj _ (by decide +kernel)) (qt g 15)
    ((flush1_8 _).mpr (last_point g)) (ix4 0 n x d)
  refine Eq.trans ?_ (e.trans ?_)
  · blk_ext [h]
  · exact congrFun (after1_8 V c (qt g 15)) (ix4 0 n x d)

theorem arr1_dv (g : Fin 4) (n : Fin 11) (x : Fin 768) (d : Fin 64) :
    (dat1 V c).arrAt 9 cfg1.N (ix4 g n x d) = (outsAt1 V c (qt g 15).val (qt g 15).isLt).2.2 (ix4 0 n x d) := by
  have h := (idx1 g 15).2.2.2.2.2.2.2.2.2
  have e := (dat1 V c).arrAt_emb_eq_flushed 9 (Pipeline.Window.hdisj_of_index_inj _ (by decide +kernel)) (qt g 15)
    ((flush1_9 _).mpr (last_point g)) (ix4 0 n x d)
  refine Eq.trans ?_ (e.trans ?_)
  · blk_ext [h]
  · exact congrFun (after1_9 V c (qt g 15)) (ix4 0 n x d)

variable (q dO : Fin 8192 → Fin 1024 → ℝ) (k w : Fin 4 → Fin 11 → Fin 768 → Fin 64 → ℝ)
  (lse delta : Fin 4 → Fin 16 → Fin 4 → Fin 512 → ℝ)

/-- The probabilities of one query's head, over the tiles of its group's keys, from the saved number. -/
def rowProb (g : Fin 4) (i : Fin 16) (h : Fin 4) (a : Fin 512) : Fin 11 × Fin 768 → ℝ :=
  bwdProb (fun a j => q (qrow i a) (gcol g j)) (k g) (lse g i) h a

/-- The gradient of the scores of one query's head. -/
def rowGrad (g : Fin 4) (i : Fin 16) (h : Fin 4) (a : Fin 512) : Fin 11 × Fin 768 → ℝ :=
  bwdGrad (fun a j => q (qrow i a) (gcol g j)) (k g) (w g) (fun a j => dO (qrow i a) (gcol g j)) (lse g i) (delta g i) h a

/-- What query block `i` adds to a gradient of a group's keys or values: `m` weighs query `a`'s head `h`, `u` is the query's
    feature. -/
def blockSum (m : Fin 4 → Fin 512 → ℝ) (u : Fin 8192 → Fin 1024 → ℝ) (g : Fin 4) (i : Fin 16) (d : Fin 64) : ℝ :=
  ∑ h, ∑ a, m h a * u (qrow i a) (gcol g (col h d))

variable (hq : ∀ r j, V c main_v2 (ix2 r j) = (q r j : EReal)) (hk : ∀ g n x d, V c main_v10 (ix4 g n x d) = (k g n x d : EReal))
  (hkt : ∀ g n x d, V c main_v21 (ix4 g n d x) = (k g n x d : EReal)) (hw : ∀ g n x d, V c main_v11 (ix4 g n x d) = (w g n x d : EReal))
  (hdo : ∀ r j, V c main_v5 (ix2 r j) = (dO r j : EReal))
  (hlse : ∀ g i h a, V c main_v17_1 (ix4 g i 0 (lane h a)) = (lse g i h a : EReal))
  (hdelta : ∀ g i h a, V c main_v24 (ix4 g i 0 (lane h a)) = (delta g i h a : EReal))

include hq hk hkt hw hdo hlse hdelta in
/-- The backward call's gradient of the queries. -/
theorem bwd_dq_array (g : Fin 4) (i : Fin 16) (h : Fin 4) (a : Fin 512) (d : Fin 64) :
    (dat1 V c).arrAt 7 cfg1.N (ix2 (qrow i a) (gcol g (col h d)))
      = ((∑ p : Fin 11 × Fin 768, k g p.1 p.2 d * rowGrad q dO k w lse delta g i h a p : ℝ) : EReal) := by
  rw [arr1_dq]
  have h0 : ∀ a j, iblk1 V c 0 (qt g i) (ix2 a j) = (q (qrow i a) (gcol g j) : EReal) := fun a j => (iblk1_q V c g i a j).trans (hq _ _)
  have h1 : ∀ n x d, iblk1 V c 1 (qt g i) (ix4 0 n x d) = (k g n x d : EReal) := fun n x d => (iblk1_k V c g i n x d).trans (hk _ _ _ _)
  have h2 : ∀ n x d, iblk1 V c 2 (qt g i) (ix4 0 n d x) = (k g n x d : EReal) := fun n x d => (iblk1_kt V c g i n d x).trans (hkt _ _ _ _)
  have h3 : ∀ n x d, iblk1 V c 3 (qt g i) (ix4 0 n x d) = (w g n x d : EReal) := fun n x d => (iblk1_v V c g i n x d).trans (hw _ _ _ _)
  have h4 : ∀ a j, iblk1 V c 4 (qt g i) (ix2 a j) = (dO (qrow i a) (gcol g j) : EReal) := fun a j => (iblk1_do V c g i a j).trans (hdo _ _)
  have h5 : ∀ h a, iblk1 V c 5 (qt g i) (ix4 0 0 0 (lane h a)) = (lse g i h a : EReal) := fun h a => (iblk1_lse V c g i _).trans (hlse _ _ _ _)
  have h6 : ∀ h a, iblk1 V c 6 (qt g i) (ix4 0 0 0 (lane h a)) = (delta g i h a : EReal) := fun h a => (iblk1_delta V c g i _).trans (hdelta _ _ _ _)
  by_cases hm : (qt g i).val % 16 = 0
  · refine (congrFun (congrArg Prod.fst (outsAt1_A V c (qt g i) hm)) _).trans ?_
    dsimp only
    rw [out1_A_7_eq]
    exact bwd_carried _ _ _ _ _ _ _ _ _ _ _ _ _ _ _ _ _ _ _ _ _ _ _ _ _ _ _ _ _ _ _ _ _ _ _ _ _ h0 h1 h2 h3 h4 h5 h6 h a d
  · refine (congrFun (congrArg Prod.fst (outsAt1_B V c (qt g i) hm)) _).trans ?_
    dsimp only
    rw [out1_B_7_eq]
    exact bwd_carried _ _ _ _ _ _ _ _ _ _ _ _ _ _ _ _ _ _ _ _ _ _ _ _ _ _ _ _ _ _ _ _ _ _ _ _ _ h0 h1 h2 h3 h4 h5 h6 h a d

include hq hk hw hdo hlse hdelta in
/-- What the gradient of the keys holds after a point: the point before's, or zero at a group's first, and this block's part. -/
theorem keys_point (g : Fin 4) (i : Fin 16) (n : Fin 11) (x : Fin 768) (d : Fin 64) :
    (outsAt1 V c (qt g i).val (qt g i).isLt).2.1 (ix4 0 n x d)
      = (if i.val = 0 then 0 else
          (outsAt1 V c ((qt g i).val - 1) (Nat.lt_of_le_of_lt (Nat.sub_le _ _) (qt g i).isLt)).2.1 (ix4 0 n x d))
        + (blockSum (fun h a => rowGrad q dO k w lse delta g i h a (n, x)) q g i d : EReal) := by
  have h0 : ∀ a j, iblk1 V c 0 (qt g i) (ix2 a j) = (q (qrow i a) (gcol g j) : EReal) := fun a j => (iblk1_q V c g i a j).trans (hq _ _)
  have h1 : ∀ n x d, iblk1 V c 1 (qt g i) (ix4 0 n x d) = (k g n x d : EReal) := fun n x d => (iblk1_k V c g i n x d).trans (hk _ _ _ _)
  have h3 : ∀ n x d, iblk1 V c 3 (qt g i) (ix4 0 n x d) = (w g n x d : EReal) := fun n x d => (iblk1_v V c g i n x d).trans (hw _ _ _ _)
  have h4 : ∀ a j, iblk1 V c 4 (qt g i) (ix2 a j) = (dO (qrow i a) (gcol g j) : EReal) := fun a j => (iblk1_do V c g i a j).trans (hdo _ _)
  have h5 : ∀ h a, iblk1 V c 5 (qt g i) (ix4 0 0 0 (lane h a)) = (lse g i h a : EReal) := fun h a => (iblk1_lse V c g i _).trans (hlse _ _ _ _)
  have h6 : ∀ h a, iblk1 V c 6 (qt g i) (ix4 0 0 0 (lane h a)) = (delta g i h a : EReal) := fun h a => (iblk1_delta V c g i _).trans (hdelta _ _ _ _)
  have hi : (qt g i).val % 16 = i.val := by
    show (g.val * 16 + i.val) % 16 = i.val
    omega
  by_cases hm : (qt g i).val % 16 = 0
  · rw [if_pos (hi ▸ hm)]
    refine (congrArg (fun o => o.2.1 (ix4 0 n x d)) (outsAt1_A V c (qt g i) hm)).trans ?_
    dsimp only
    rw [out1_A_8_eq]
    refine (bwd_keys _ _ _ _ _ _ _ _ _ _ _ _ _ _ _ _ _ _ _ _ _ _ _ _ _ _ _ _ _ _ _ _ _ _ _ _ _ h0 h1 h3 h4 h5 h6 n x d).trans ?_
    exact congrArg (· + _) (zeroKeys_read _ _ _ _)
  · rw [if_neg (fun h => hm (hi.trans h))]
    refine (congrArg (fun o => o.2.1 (ix4 0 n x d)) (outsAt1_B V c (qt g i) hm)).trans ?_
    dsimp only
    rw [out1_B_8_eq]
    refine (bwd_keys _ _ _ _ _ _ _ _ _ _ _ _ _ _ _ _ _ _ _ _ _ _ _ _ _ _ _ _ _ _ _ _ _ _ _ _ _ h0 h1 h3 h4 h5 h6 n x d).trans ?_
    exact congrArg (· + _) (congrFun ((hs1_8 (qt g i)).read_unread _) _)

include hq hk hw hdo hlse hdelta in
theorem keys_upto (g : Fin 4) (n : Fin 11) (x : Fin 768) (d : Fin 64) (b : ℕ) (hb : b < 16) :
    (outsAt1 V c (qt g ⟨b, hb⟩).val (qt g ⟨b, hb⟩).isLt).2.1 (ix4 0 n x d)
      = ((∑ s ∈ Finset.range (b + 1), if hs : s < 16 then blockSum (fun h a => rowGrad q dO k w lse delta g ⟨s, hs⟩ h a (n, x)) q g ⟨s, hs⟩ d else 0 : ℝ) : EReal) := by
  induction b with
  | zero =>
    rw [keys_point V c q dO k w lse delta hq hk hw hdo hlse hdelta, if_pos rfl, zero_add, Finset.sum_range_one, dif_pos hb]
  | succ b ih =>
    rw [keys_point V c q dO k w lse delta hq hk hw hdo hlse hdelta, if_neg (Nat.succ_ne_zero b), Finset.sum_range_succ, dif_pos hb, EReal.coe_add]
    exact congrArg (· + _) (ih (by omega))

include hq hk hw hdo hlse hdelta in
/-- The backward call's gradient of the keys. -/
theorem bwd_dk_array (g : Fin 4) (n : Fin 11) (x : Fin 768) (d : Fin 64) :
    (dat1 V c).arrAt 8 cfg1.N (ix4 g n x d)
      = ((∑ i : Fin 16, blockSum (fun h a => rowGrad q dO k w lse delta g i h a (n, x)) q g i d : ℝ) : EReal) := by
  rw [arr1_dk]
  refine (keys_upto V c q dO k w lse delta hq hk hw hdo hlse hdelta g n x d 15 (by omega)).trans ?_
  rw [Finset.sum_range]
  refine congrArg _ (Finset.sum_congr rfl fun s _ => ?_)
  rw [dif_pos s.isLt]

include hq hk hdo hlse in
/-- What the gradient of the values holds after a point: the point before's, or zero at a group's first, and this block's part. -/
theorem vals_point (g : Fin 4) (i : Fin 16) (n : Fin 11) (x : Fin 768) (d : Fin 64) :
    (outsAt1 V c (qt g i).val (qt g i).isLt).2.2 (ix4 0 n x d)
      = (if i.val = 0 then 0 else
          (outsAt1 V c ((qt g i).val - 1) (Nat.lt_of_le_of_lt (Nat.sub_le _ _) (qt g i).isLt)).2.2 (ix4 0 n x d))
        + (blockSum (fun h a => rowProb q k lse g i h a (n, x)) dO g i d : EReal) := by
  have h0 : ∀ a j, iblk1 V c 0 (qt g i) (ix2 a j) = (q (qrow i a) (gcol g j) : EReal) := fun a j => (iblk1_q V c g i a j).trans (hq _ _)
  have h1 : ∀ n x d, iblk1 V c 1 (qt g i) (ix4 0 n x d) = (k g n x d : EReal) := fun n x d => (iblk1_k V c g i n x d).trans (hk _ _ _ _)
  have h4 : ∀ a j, iblk1 V c 4 (qt g i) (ix2 a j) = (dO (qrow i a) (gcol g j) : EReal) := fun a j => (iblk1_do V c g i a j).trans (hdo _ _)
  have h5 : ∀ h a, iblk1 V c 5 (qt g i) (ix4 0 0 0 (lane h a)) = (lse g i h a : EReal) := fun h a => (iblk1_lse V c g i _).trans (hlse _ _ _ _)
  have hi : (qt g i).val % 16 = i.val := by
    show (g.val * 16 + i.val) % 16 = i.val
    omega
  by_cases hm : (qt g i).val % 16 = 0
  · rw [if_pos (hi ▸ hm)]
    refine (congrArg (fun o => o.2.2 (ix4 0 n x d)) (outsAt1_A V c (qt g i) hm)).trans ?_
    dsimp only
    rw [out1_A_9_eq]
    refine (bwd_vals _ _ _ _ _ _ _ _ _ _ _ _ _ _ _ _ _ _ _ _ _ _ _ _ _ _ _ _ _ _ _ _ _ _ _ h0 h1 h4 h5 n x d).trans ?_
    exact congrArg (· + _) (zeroVals_read _ _ _ _)
  · rw [if_neg (fun h => hm (hi.trans h))]
    refine (congrArg (fun o => o.2.2 (ix4 0 n x d)) (outsAt1_B V c (qt g i) hm)).trans ?_
    dsimp only
    rw [out1_B_9_eq]
    refine (bwd_vals _ _ _ _ _ _ _ _ _ _ _ _ _ _ _ _ _ _ _ _ _ _ _ _ _ _ _ _ _ _ _ _ _ _ _ h0 h1 h4 h5 n x d).trans ?_
    exact congrArg (· + _) (congrFun ((hs1_9 (qt g i)).read_unread _) _)

include hq hk hdo hlse in
theorem vals_upto (g : Fin 4) (n : Fin 11) (x : Fin 768) (d : Fin 64) (b : ℕ) (hb : b < 16) :
    (outsAt1 V c (qt g ⟨b, hb⟩).val (qt g ⟨b, hb⟩).isLt).2.2 (ix4 0 n x d)
      = ((∑ s ∈ Finset.range (b + 1), if hs : s < 16 then blockSum (fun h a => rowProb q k lse g ⟨s, hs⟩ h a (n, x)) dO g ⟨s, hs⟩ d else 0 : ℝ) : EReal) := by
  induction b with
  | zero =>
    rw [vals_point V c q dO k lse hq hk hdo hlse, if_pos rfl, zero_add, Finset.sum_range_one, dif_pos hb]
  | succ b ih =>
    rw [vals_point V c q dO k lse hq hk hdo hlse, if_neg (Nat.succ_ne_zero b), Finset.sum_range_succ, dif_pos hb, EReal.coe_add]
    exact congrArg (· + _) (ih (by omega))

include hq hk hdo hlse in
/-- The backward call's gradient of the values. -/
theorem bwd_dv_array (g : Fin 4) (n : Fin 11) (x : Fin 768) (d : Fin 64) :
    (dat1 V c).arrAt 9 cfg1.N (ix4 g n x d)
      = ((∑ i : Fin 16, blockSum (fun h a => rowProb q k lse g i h a (n, x)) dO g i d : ℝ) : EReal) := by
  rw [arr1_dv]
  refine (vals_upto V c q dO k lse hq hk hdo hlse g n x d 15 (by omega)).trans ?_
  rw [Finset.sum_range]
  refine congrArg _ (Finset.sum_congr rfl fun s _ => ?_)
  rw [dif_pos s.isLt]

end Cert.Attn

end
-- ==== Proof.Model.lean ====
/-
  Attention with grouped keys, as a function of real arrays: four groups of four query heads, each group reading one key and
  value head, features 64 wide. The output, and the gradients of the queries, keys and values for a given gradient of the
  output.
-/
module

public import proofs.«01_k».proof.Proof.ForwardArray

@[expose] public section

noncomputable section

namespace Cert.Attn

open scoped BigOperators

/-- The column of feature `d` of head `r` of group `g` in the queries. -/
def qcol (g r : Fin 4) (d : Fin 64) : Fin 1024 := gcol g (col r d)

variable (Q D : Fin 8192 → Fin 1024 → ℝ) (K V : Fin 8448 → Fin 256 → ℝ)

/-- The score of key `x` for head `r` of group `g` of query `i`. -/
def score (g r : Fin 4) (i : Fin 8192) (x : Fin 8448) : ℝ := (∑ d, K x (col g d) * Q i (qcol g r d)) * (1 / 8)

/-- The weight of key `x`. -/
def prob (g r : Fin 4) (i : Fin 8192) (x : Fin 8448) : ℝ := softmax (score Q K g r i) x

/-- The gradient of the weight of key `x`. -/
def dprob (g r : Fin 4) (i : Fin 8192) (x : Fin 8448) : ℝ := ∑ d, D i (qcol g r d) * V x (col g d)

/-- The gradient of the score of key `x`. -/
def dscore (g r : Fin 4) (i : Fin 8192) (x : Fin 8448) : ℝ :=
  prob Q K g r i x * (dprob D V g r i x - ∑ y, prob Q K g r i y * dprob D V g r i y)

/-- The output. -/
def attnOut (i : Fin 8192) (g r : Fin 4) (d : Fin 64) : ℝ := ∑ x, prob Q K g r i x * V x (col g d)

/-- The gradient of the queries. -/
def attnDq (i : Fin 8192) (g r : Fin 4) (d : Fin 64) : ℝ := (∑ x, K x (col g d) * dscore Q D K V g r i x) * (1 / 8)

/-- The gradient of the keys. -/
def attnDk (x : Fin 8448) (g : Fin 4) (d : Fin 64) : ℝ := (∑ r, ∑ i, dscore Q D K V g r i x * Q i (qcol g r d)) * (1 / 8)

/-- The gradient of the values. -/
def attnDv (x : Fin 8448) (g : Fin 4) (d : Fin 64) : ℝ := ∑ r, ∑ i, prob Q K g r i x * D i (qcol g r d)

end Cert.Attn

end
-- ==== Proof.HostReads.lean ====
/-
  The kernel's host code, read at an index: the operands laid out for the two calls, the sums between them, and the results
  laid out again.
-/
module

public import proofs.«01_k».proof.Proof.Model
public import Idealize.ShloMosaic.Lib.StableHlo.RunRead

@[expose] public section

set_option maxRecDepth 16384

noncomputable section

namespace Cert.Attn

open Idealize.ShloMosaic Idealize.ShloMosaic.TcCoe
open Cert.KernelIdeal Cert.KernelIdeal.Gen
open scoped BigOperators

/-- Key `x` of block `n` where the forward call cuts the keys into six blocks. -/
def key6 (n : Fin 6) (x : Fin 1408) : Fin 8448 := ⟨n.val * 1408 + x.val, by omega⟩

/-- Key `x` of block `n` where the backward call cuts the keys into eleven blocks. -/
def key11 (n : Fin 11) (x : Fin 768) : Fin 8448 := ⟨n.val * 768 + x.val, by omega⟩

/-- The values as the forward call takes them: a key group's features, then rows of ones that sum the weights. -/
def valuesOnes (V : Fin 8448 → Fin 256 → ℝ) (g : Fin 4) (n : Fin 6) (d : Fin 80) (x : Fin 1408) : ℝ :=
  if h : d.val < 64 then V (key6 n x) (col g ⟨d.val, h⟩) else 1

/-- A sum of products of two real arrays' entries, at equal indices. -/
theorem sum_mul_at (D O : Fin 8192 → Fin 1024 → ℝ) (r r' : Fin 8192) (j j' : Fin 64 → Fin 1024) (hr : r.val = r'.val)
    (hj : ∀ d, (j d).val = (j' d).val) :
    ∑ d, ((D r (j d) : ℝ) : EReal) * ((O r (j d) : ℝ) : EReal) = ((∑ d, D r' (j' d) * O r' (j' d) : ℝ) : EReal) := by
  obtain rfl := Fin.ext hr
  obtain rfl : j = j' := funext fun d => Fin.ext (hj d)
  rw [coe_sum]
  exact Finset.sum_congr rfl fun d _ => (EReal.coe_mul _ _).symm

section Before

variable (X : Valuation τ sig (Elt Ideal)) (Q D : Fin 8192 → Fin 1024 → ℝ) (K V : Fin 8448 → Fin 256 → ℝ)
  (h0 : ∀ i j, X (Proc.devRef .tc main_arg0) (ix2 i j) = ((Q i j : ℝ) : EReal))
  (h1 : ∀ i j, X (Proc.devRef .tc main_arg1) (ix2 i j) = ((K i j : ℝ) : EReal))
  (h2 : ∀ i j, X (Proc.devRef .tc main_arg2) (ix2 i j) = ((V i j : ℝ) : EReal))
  (h3 : ∀ i j, X (Proc.devRef .tc main_arg3) (ix2 i j) = ((D i j : ℝ) : EReal))

include h0 in
theorem entry_q (i : Fin 8192) (j : Fin 1024) :
    StableHlo.after (hostOps0 (F := Ideal)) X (Proc.devRef .tc main_v2) (ix2 i j) = ((Q i j * (1 / 8) : ℝ) : EReal) := by
  unfold_abbrev_sides
  after_results
  pointwise [h0]
  rw [ofBits_eighth, ← EReal.coe_mul]

include h3 in
theorem entry_do (i : Fin 8192) (j : Fin 1024) :
    StableHlo.after (hostOps0 (F := Ideal)) X (Proc.devRef .tc main_v5) (ix2 i j) = ((D i j : ℝ) : EReal) := by
  unfold_abbrev_sides
  after_results
  pointwise [h3]

include h1 in
theorem entry_keys6 (g : Fin 4) (n : Fin 6) (x : Fin 1408) (d : Fin 64) :
    StableHlo.after (hostOps0 (F := Ideal)) X (Proc.devRef .tc main_v16) (ix4 g n x d)
      = ((K (key6 n x) (col g d) : ℝ) : EReal) := by
  unfold_abbrev_sides
  after_results
  pointwise [h1]
  simp only [key6, col]

include h1 in
theorem entry_keys11 (g : Fin 4) (n : Fin 11) (x : Fin 768) (d : Fin 64) :
    StableHlo.after (hostOps0 (F := Ideal)) X (Proc.devRef .tc main_v10) (ix4 g n x d)
      = ((K (key11 n x) (col g d) : ℝ) : EReal) := by
  unfold_abbrev_sides
  after_results
  pointwise [h1]
  simp only [key11, col]

include h2 in
theorem entry_values11 (g : Fin 4) (n : Fin 11) (x : Fin 768) (d : Fin 64) :
    StableHlo.after (hostOps0 (F := Ideal)) X (Proc.devRef .tc main_v11) (ix4 g n x d)
      = ((V (key11 n x) (col g d) : ℝ) : EReal) := by
  unfold_abbrev_sides
  after_results
  pointwise [h2]
  simp only [key11, col]

include h2 in
theorem entry_values6 (g : Fin 4) (n : Fin 6) (d : Fin 80) (x : Fin 1408) :
    StableHlo.after (hostOps0 (F := Ideal)) X (Proc.devRef .tc main_v15) (ix4 g n d x)
      = ((valuesOnes V g n d x : ℝ) : EReal) := by
  unfold_abbrev_sides
  after_results
  pointwise [h2]
  unfold valuesOnes key6 col
  by_cases h : d.val < 64
  · simp only [h, dite_true]
  · simp only [h, dite_false, EReal.coe_one]

end Before

section Between

variable (X : Valuation τ sig (Elt Ideal)) (D O : Fin 8192 → Fin 1024 → ℝ) (k : Fin 4 → Fin 11 → Fin 768 → Fin 64 → ℝ)

theorem between_keys
    (hk : ∀ g n x d, X (Proc.devRef .tc main_v10) (ix4 g n x d) = ((k g n x d : ℝ) : EReal))
    (g : Fin 4) (n : Fin 11) (d : Fin 64) (x : Fin 768) :
    StableHlo.after (hostOps1 (F := Ideal)) X (Proc.devRef .tc main_v21) (ix4 g n d x) = ((k g n x d : ℝ) : EReal) := by
  unfold_abbrev_sides
  after_results
  pointwise [hk]

theorem between_delta
    (hd : ∀ i j, X (Proc.devRef .tc main_arg3) (ix2 i j) = ((D i j : ℝ) : EReal))
    (ho : ∀ i j, X (Proc.devRef .tc main_v17_0) (ix2 i j) = ((O i j : ℝ) : EReal))
    (g : Fin 4) (i : Fin 16) (h : Fin 4) (a : Fin 512) :
    StableHlo.after (hostOps1 (F := Ideal)) X (Proc.devRef .tc main_v24) (ix4 g i 0 (lane h a))
      = ((∑ d, D (qrow i a) (gcol g (col h d)) * O (qrow i a) (gcol g (col h d)) : ℝ) : EReal) := by
  unfold_abbrev_sides
  after_results
  pointwise [hd, ho]
  exact sum_mul_at D O ⟨i.val * 512 + (lane h a).val % 512, by omega⟩ (qrow i a)
    (fun d => ⟨(g.val * 4 + (lane h a).val / 512) * 64 + d.val, by omega⟩) (fun d => gcol g (col h d))
    (by simp only [qrow, lane_val]; omega) (fun d => by simp only [gcol, lane_val, col_val]; omega)

end Between

section After

variable (X : Valuation τ sig (Elt Ideal))

theorem after_dq (f : Fin 8192 → Fin 1024 → ℝ)
    (hf : ∀ i j, X (Proc.devRef .tc main_v25_0) (ix2 i j) = ((f i j : ℝ) : EReal)) (i : Fin 8192) (j : Fin 1024) :
    StableHlo.after (hostOps2 (F := Ideal)) X (Proc.devRef .tc main_v27) (ix2 i j) = ((f i j * (1 / 8) : ℝ) : EReal) := by
  unfold_abbrev_sides
  after_results
  pointwise [hf]
  rw [ofBits_eighth, ← EReal.coe_mul]

theorem after_dk (f : Fin 4 → Fin 11 → Fin 768 → Fin 64 → ℝ)
    (hf : ∀ g n x d, X (Proc.devRef .tc main_v25_1) (ix4 g n x d) = ((f g n x d : ℝ) : EReal))
    (g : Fin 4) (n : Fin 11) (x : Fin 768) (d : Fin 64) :
    StableHlo.after (hostOps2 (F := Ideal)) X (Proc.devRef .tc main_v30) (ix2 (key11 n x) (col g d))
      = ((f g n x d : ℝ) : EReal) := by
  unfold_abbrev_sides
  after_results
  pointwise [hf]
  have e1 : (⟨(col g d).val / 64, by omega⟩ : Fin 4) = g := Fin.ext (by simp only [col_val]; omega)
  have e2 : (⟨(key11 n x).val / 768, by omega⟩ : Fin 11) = n := Fin.ext (by simp only [key11]; omega)
  have e3 : (⟨(key11 n x).val % 768, by omega⟩ : Fin 768) = x := Fin.ext (by simp only [key11]; omega)
  have e4 : (⟨(col g d).val % 64, by omega⟩ : Fin 64) = d := Fin.ext (by simp only [col_val]; omega)
  rw [e1, e2, e3, e4]

theorem after_dv (f : Fin 4 → Fin 11 → Fin 768 → Fin 64 → ℝ)
    (hf : ∀ g n x d, X (Proc.devRef .tc main_v25_2) (ix4 g n x d) = ((f g n x d : ℝ) : EReal))
    (g : Fin 4) (n : Fin 11) (x : Fin 768) (d : Fin 64) :
    StableHlo.after (hostOps2 (F := Ideal)) X (Proc.devRef .tc main_v33) (ix2 (key11 n x) (col g d))
      = ((f g n x d : ℝ) : EReal) := by
  unfold_abbrev_sides
  after_results
  pointwise [hf]
  have e1 : (⟨(col g d).val / 64, by omega⟩ : Fin 4) = g := Fin.ext (by simp only [col_val]; omega)
  have e2 : (⟨(key11 n x).val / 768, by omega⟩ : Fin 11) = n := Fin.ext (by simp only [key11]; omega)
  have e3 : (⟨(key11 n x).val % 768, by omega⟩ : Fin 768) = x := Fin.ext (by simp only [key11]; omega)
  have e4 : (⟨(col g d).val % 64, by omega⟩ : Fin 64) = d := Fin.ext (by simp only [col_val]; omega)
  rw [e1, e2, e3, e4]

end After

end Cert.Attn

end
-- ==== Proof.ModelTiles.lean ====
/-
  The two calls' numbers are the model's: the calls take the queries already scaled and cut the keys into blocks, and a sum
  over blocks is the sum over all keys.
-/
module

public import proofs.«01_k».proof.Proof.BackwardArray
public import proofs.«01_k».proof.Proof.HostReads
public import Idealize.ShloMosaic.Lib.Pointwise.Sums

@[expose] public section

noncomputable section

namespace Cert.Attn

open Idealize.ShloMosaic
open scoped BigOperators

/-! Sums over blocks. -/

theorem sum_keys6 (f : Fin 8448 → ℝ) : ∑ x, f x = ∑ p : Fin 6 × Fin 1408, f (key6 p.1 p.2) := by
  rw [Fintype.sum_prod_type]
  exact Fin.sum_univ_tiles 6 1408 (by norm_num) f

theorem sum_keys11 (f : Fin 8448 → ℝ) : ∑ x, f x = ∑ p : Fin 11 × Fin 768, f (key11 p.1 p.2) := by
  rw [Fintype.sum_prod_type]
  exact Fin.sum_univ_tiles 11 768 (by norm_num) f

theorem sum_rows (f : Fin 8192 → ℝ) : ∑ r, f r = ∑ i : Fin 16, ∑ a : Fin 512, f (qrow i a) :=
  Fin.sum_univ_tiles 16 512 (by norm_num) f

/-! Every index lies in a block. -/

theorem exists_key6 (x : Fin 8448) : ∃ p : Fin 6 × Fin 1408, x = key6 p.1 p.2 :=
  ⟨(⟨x.val / 1408, by omega⟩, ⟨x.val % 1408, by omega⟩), Fin.ext (by simp only [key6]; omega)⟩

theorem exists_key11 (x : Fin 8448) : ∃ (n : Fin 11) (y : Fin 768), x = key11 n y :=
  ⟨⟨x.val / 768, by omega⟩, ⟨x.val % 768, by omega⟩, Fin.ext (by simp only [key11]; omega)⟩

theorem exists_qrow (r : Fin 8192) : ∃ (i : Fin 16) (a : Fin 512), r = qrow i a :=
  ⟨⟨r.val / 512, by omega⟩, ⟨r.val % 512, by omega⟩, Fin.ext (by simp only [qrow]; omega)⟩

theorem exists_qcol (j : Fin 1024) : ∃ (g r : Fin 4) (d : Fin 64), j = qcol g r d :=
  ⟨⟨j.val / 256, by omega⟩, ⟨j.val / 64 % 4, by omega⟩, ⟨j.val % 64, by omega⟩, Fin.ext (by simp only [qcol, gcol, col]; omega)⟩

/-! The arrays the calls take. -/

variable (Q D : Fin 8192 → Fin 1024 → ℝ) (K V : Fin 8448 → Fin 256 → ℝ)

/-- The queries as both calls take them. -/
def scaled (i : Fin 8192) (j : Fin 1024) : ℝ := Q i j * (1 / 8)

/-- The keys by group, in the forward call's blocks. -/
def blocks6 (g : Fin 4) (n : Fin 6) (x : Fin 1408) (d : Fin 64) : ℝ := K (key6 n x) (col g d)

/-- The keys or values by group, in the backward call's blocks. -/
def blocks11 (g : Fin 4) (n : Fin 11) (x : Fin 768) (d : Fin 64) : ℝ := K (key11 n x) (col g d)

theorem scaled_score (f : Fin 64 → ℝ) (i : Fin 8192) (g r : Fin 4) :
    ∑ d, f d * scaled Q i (gcol g (col r d)) = (∑ d, f d * Q i (qcol g r d)) * (1 / 8) := by
  rw [Finset.sum_mul]
  refine Finset.sum_congr rfl fun d _ => ?_
  rw [scaled, qcol, mul_assoc]

theorem rowScore_model (g : Fin 4) (i : Fin 16) (h : Fin 4) (a : Fin 512) (p : Fin 6 × Fin 1408) :
    rowScore (scaled Q) (blocks6 K) g i h a p = score Q K g h (qrow i a) (key6 p.1 p.2) :=
  scaled_score Q (fun d => K (key6 p.1 p.2) (col g d)) (qrow i a) g h

theorem softmax_keys6 (s : Fin 8448 → ℝ) (t : Fin 6 × Fin 1408 → ℝ) (hs : ∀ p, t p = s (key6 p.1 p.2)) (p : Fin 6 × Fin 1408) :
    softmax t p = softmax s (key6 p.1 p.2) := by
  rw [softmax, softmax, sum_keys6 fun x => Real.exp (s x), hs]
  congr 1
  exact Finset.sum_congr rfl fun q _ => by rw [hs]

theorem rowSoftmax_model (g : Fin 4) (i : Fin 16) (h : Fin 4) (a : Fin 512) (p : Fin 6 × Fin 1408) :
    softmax (rowScore (scaled Q) (blocks6 K) g i h a) p = prob Q K g h (qrow i a) (key6 p.1 p.2) :=
  softmax_keys6 _ _ (rowScore_model Q K g i h a) p

theorem valuesOnes_feature (g : Fin 4) (n : Fin 6) (d : Fin 64) (x : Fin 1408) (hd : d.val < 80) :
    valuesOnes V g n ⟨d.val, hd⟩ x = V (key6 n x) (col g d) := by
  rw [valuesOnes, dif_pos (show (⟨d.val, hd⟩ : Fin 80).val < 64 from d.isLt)]

theorem valuesOnes_one (g : Fin 4) (n : Fin 6) (x : Fin 1408) : valuesOnes V g n 64 x = 1 := by
  rw [valuesOnes, dif_neg (by decide)]

/-- The forward call's output is the model's. -/
theorem out_model (g : Fin 4) (i : Fin 16) (h : Fin 4) (a : Fin 512) (d : Fin 64) (hd : d.val < 80) :
    ∑ p : Fin 6 × Fin 1408, softmax (rowScore (scaled Q) (blocks6 K) g i h a) p * valuesOnes V g p.1 ⟨d.val, hd⟩ p.2
      = attnOut Q K V (qrow i a) g h d := by
  rw [attnOut, sum_keys6]
  refine Finset.sum_congr rfl fun p _ => ?_
  rw [rowSoftmax_model, valuesOnes_feature]

/-- The numbers the forward call saves give the weight of every key back. -/
theorem lse_model (g : Fin 4) (i : Fin 16) (h : Fin 4) (a : Fin 512) (l : ℝ)
    (hl : ∀ p, Real.exp (rowScore (scaled Q) (blocks6 K) g i h a p - l) = softmax (rowScore (scaled Q) (blocks6 K) g i h a) p)
    (x : Fin 8448) : Real.exp (score Q K g h (qrow i a) x - l) = prob Q K g h (qrow i a) x := by
  obtain ⟨p, rfl⟩ := exists_key6 x
  rw [← rowScore_model, hl, rowSoftmax_model]

/-! The backward call. -/

variable (lse delta : Fin 4 → Fin 16 → Fin 4 → Fin 512 → ℝ)
  (hlse : ∀ g i h a x, Real.exp (score Q K g h (qrow i a) x - lse g i h a) = prob Q K g h (qrow i a) x)
  (hdelta : ∀ g i h a, delta g i h a = ∑ d, D (qrow i a) (gcol g (col h d)) * attnOut Q K V (qrow i a) g h d)

include hlse in
theorem rowProb_model (g : Fin 4) (i : Fin 16) (h : Fin 4) (a : Fin 512) (n : Fin 11) (x : Fin 768) :
    rowProb (scaled Q) (blocks11 K) lse g i h a (n, x) = prob Q K g h (qrow i a) (key11 n x) := by
  rw [← hlse]
  exact congrArg (fun s => Real.exp (s - lse g i h a)) (scaled_score Q (fun d => K (key11 n x) (col g d)) (qrow i a) g h)

/-- The mean gradient of a query's weights is the product of the output with its gradient. -/
theorem mean_dprob (g h : Fin 4) (r : Fin 8192) :
    ∑ d, D r (gcol g (col h d)) * attnOut Q K V r g h d = ∑ y, prob Q K g h r y * dprob D V g h r y := by
  simp only [attnOut, dprob, Finset.mul_sum]
  rw [Finset.sum_comm]
  refine Finset.sum_congr rfl fun y _ => Finset.sum_congr rfl fun d _ => ?_
  rw [qcol]
  ring

include hlse hdelta in
theorem rowGrad_model (g : Fin 4) (i : Fin 16) (h : Fin 4) (a : Fin 512) (n : Fin 11) (x : Fin 768) :
    rowGrad (scaled Q) D (blocks11 K) (blocks11 V) lse delta g i h a (n, x) = dscore Q D K V g h (qrow i a) (key11 n x) := by
  have e : ∑ d, blocks11 V g n x d * D (qrow i a) (gcol g (col h d)) = dprob D V g h (qrow i a) (key11 n x) :=
    Finset.sum_congr rfl fun d _ => mul_comm _ _
  rw [dscore, ← rowProb_model Q K lse hlse, ← mean_dprob, ← hdelta, ← e]
  rfl

include hlse hdelta in
theorem dq_sum (g : Fin 4) (i : Fin 16) (h : Fin 4) (a : Fin 512) (d : Fin 64) :
    ∑ p : Fin 11 × Fin 768, blocks11 K g p.1 p.2 d * rowGrad (scaled Q) D (blocks11 K) (blocks11 V) lse delta g i h a p
      = ∑ x, K x (col g d) * dscore Q D K V g h (qrow i a) x := by
  rw [sum_keys11]
  refine Finset.sum_congr rfl fun p _ => ?_
  rw [← rowGrad_model Q D K V lse delta hlse hdelta]
  rfl

/-- A sum over query blocks of the blocks' sums over heads. -/
theorem sum_blocks (f : Fin 4 → Fin 8192 → ℝ) :
    ∑ i : Fin 16, ∑ h, ∑ a, f h (qrow i a) = ∑ h, ∑ r, f h r := by
  rw [Finset.sum_comm]
  exact Finset.sum_congr rfl fun h _ => (sum_rows (f h)).symm

include hlse hdelta in
theorem dk_model (g : Fin 4) (n : Fin 11) (x : Fin 768) (d : Fin 64) :
    ∑ i : Fin 16, blockSum (fun h a => rowGrad (scaled Q) D (blocks11 K) (blocks11 V) lse delta g i h a (n, x)) (scaled Q) g i d
      = attnDk Q D K V (key11 n x) g d := by
  rw [attnDk, ← sum_blocks, Finset.sum_mul]
  refine Finset.sum_congr rfl fun i _ => ?_
  rw [blockSum, Finset.sum_mul]
  refine Finset.sum_congr rfl fun h _ => ?_
  rw [Finset.sum_mul]
  refine Finset.sum_congr rfl fun a _ => ?_
  rw [rowGrad_model Q D K V lse delta hlse hdelta, scaled, qcol, mul_assoc]

include hlse in
theorem dv_model (g : Fin 4) (n : Fin 11) (x : Fin 768) (d : Fin 64) :
    ∑ i : Fin 16, blockSum (fun h a => rowProb (scaled Q) (blocks11 K) lse g i h a (n, x)) D g i d = attnDv Q D K (key11 n x) g d := by
  rw [attnDv, ← sum_blocks]
  refine Finset.sum_congr rfl fun i _ => ?_
  rw [blockSum]
  refine Finset.sum_congr rfl fun h _ => Finset.sum_congr rfl fun a _ => ?_
  rw [rowProb_model Q K lse hlse, qcol]

end Cert.Attn

end
-- ==== Proof.KernelValue.lean ====
/-
  What the kernel's run leaves in its four results, from real arguments: the model's output and gradients. The host code and
  the two calls are followed one after the other.
-/
module

public import proofs.«01_k».proof.Proof.ModelTiles

@[expose] public section

set_option maxRecDepth 16384

noncomputable section

namespace Cert.Attn

open Idealize.ShloMosaic Idealize.ShloMosaic.TcCoe
open Cert.KernelIdeal Cert.KernelIdeal.Gen
open scoped BigOperators

variable (m : (ℓ : Loc nD τ sig) → Buf (Elt Ideal) ℓ) (ρ : Dev nD → PrngReg) (c : Dev nD)
  (Q D : Fin 8192 → Fin 1024 → ℝ) (K V : Fin 8448 → Fin 256 → ℝ)
  (h0 : ∀ i j, W0 m ρ c (Proc.devRef .tc main_arg0) (ix2 i j) = ((Q i j : ℝ) : EReal))
  (h1 : ∀ i j, W0 m ρ c (Proc.devRef .tc main_arg1) (ix2 i j) = ((K i j : ℝ) : EReal))
  (h2 : ∀ i j, W0 m ρ c (Proc.devRef .tc main_arg2) (ix2 i j) = ((V i j : ℝ) : EReal))
  (h3 : ∀ i j, W0 m ρ c (Proc.devRef .tc main_arg3) (ix2 i j) = ((D i j : ℝ) : EReal))

/-! A buffer that neither the first call nor the host code after it writes. -/

theorem keep (r : Ref sig .tc) (h : r ∉ hostOps1_W)
    (h' : ∀ w : Fin cfg0.W, Pipeline.arrRef spec0 w = r → (cfg0.win w).isOut = false) :
    W3 m ρ c (Proc.devRef .tc r) = W1 m ρ c (Proc.devRef .tc r) :=
  (W3_of m ρ c r h).trans (W2_of m ρ c r h')

/-! The forward call. -/

include h0 h1 h2 in
theorem fwd_result (g : Fin 4) (i : Fin 16) (h : Fin 4) (a : Fin 512) (d : Fin 64) :
    W2 m ρ c (Proc.devRef .tc main_v17_0) (ix2 (qrow i a) (gcol g (col h d))) = ((attnOut Q K V (qrow i a) g h d : ℝ) : EReal) := by
  refine (congrFun (W2_arr m ρ c 3) _).trans ?_
  refine (fwd_array (V1 m ρ) c (scaled Q) (blocks6 K) (valuesOnes V) (entry_q _ Q h0) (entry_keys6 _ K h1) (entry_values6 _ V h2)
    (valuesOnes_one V) g i h a d).trans ?_
  rw [out_model]

include h0 h1 h2 in
theorem fwd_saved (g : Fin 4) (i : Fin 16) (h : Fin 4) (a : Fin 512) :
    ∃ l : ℝ, W2 m ρ c (Proc.devRef .tc main_v17_1) (ix4 g i 0 (lane h a)) = (l : EReal) ∧
      ∀ x, Real.exp (score Q K g h (qrow i a) x - l) = prob Q K g h (qrow i a) x := by
  obtain ⟨l, e, hl⟩ := lse_array (V1 m ρ) c (scaled Q) (blocks6 K) (valuesOnes V) (entry_q _ Q h0) (entry_keys6 _ K h1)
    (entry_values6 _ V h2) (valuesOnes_one V) g i h a
  exact ⟨l, (congrFun (W2_arr m ρ c 4) _).trans e, lse_model Q K g i h a l hl⟩

/-! The output, by an index. -/

/-- The model's output as an array. -/
def outArray (i : Fin 8192) (j : Fin 1024) : ℝ :=
  attnOut Q K V i ⟨j.val / 256, by omega⟩ ⟨j.val / 64 % 4, by omega⟩ ⟨j.val % 64, by omega⟩

theorem outArray_qcol (i : Fin 8192) (g r : Fin 4) (d : Fin 64) : outArray Q K V i (gcol g (col r d)) = attnOut Q K V i g r d := by
  have e1 : (⟨(gcol g (col r d)).val / 256, by omega⟩ : Fin 4) = g := Fin.ext (by simp only [gcol, col_val]; omega)
  have e2 : (⟨(gcol g (col r d)).val / 64 % 4, by omega⟩ : Fin 4) = r := Fin.ext (by simp only [gcol, col_val]; omega)
  have e3 : (⟨(gcol g (col r d)).val % 64, by omega⟩ : Fin 64) = d := Fin.ext (by simp only [gcol, col_val]; omega)
  rw [outArray, e1, e2, e3]

include h0 h1 h2 in
theorem fwd_result_index (i : Fin 8192) (j : Fin 1024) :
    W2 m ρ c (Proc.devRef .tc main_v17_0) (ix2 i j) = ((outArray Q K V i j : ℝ) : EReal) := by
  obtain ⟨b, a, rfl⟩ := exists_qrow i
  obtain ⟨g, r, d, rfl⟩ := exists_qcol j
  refine (fwd_result m ρ c Q K V h0 h1 h2 g b r a d).trans ?_
  rw [qcol, outArray_qcol]

/-! What the backward call finds. -/

/-- The product of each query's output with its gradient, head by head. -/
def deltaOf (g : Fin 4) (i : Fin 16) (h : Fin 4) (a : Fin 512) : ℝ :=
  ∑ d, D (qrow i a) (gcol g (col h d)) * attnOut Q K V (qrow i a) g h d

include h0 in
theorem bwd_entry_q (r : Fin 8192) (j : Fin 1024) : V3 m ρ c main_v2 (ix2 r j) = ((scaled Q r j : ℝ) : EReal) :=
  (congrFun (keep m ρ c main_v2 (by decide) (by decide)) _).trans (entry_q _ Q h0 r j)

include h1 in
theorem bwd_entry_k (g : Fin 4) (n : Fin 11) (x : Fin 768) (d : Fin 64) :
    V3 m ρ c main_v10 (ix4 g n x d) = ((blocks11 K g n x d : ℝ) : EReal) :=
  (congrFun (keep m ρ c main_v10 (by decide) (by decide)) _).trans (entry_keys11 _ K h1 g n x d)

include h2 in
theorem bwd_entry_v (g : Fin 4) (n : Fin 11) (x : Fin 768) (d : Fin 64) :
    V3 m ρ c main_v11 (ix4 g n x d) = ((blocks11 V g n x d : ℝ) : EReal) :=
  (congrFun (keep m ρ c main_v11 (by decide) (by decide)) _).trans (entry_values11 _ V h2 g n x d)

include h3 in
theorem bwd_entry_do (r : Fin 8192) (j : Fin 1024) : V3 m ρ c main_v5 (ix2 r j) = ((D r j : ℝ) : EReal) :=
  (congrFun (keep m ρ c main_v5 (by decide) (by decide)) _).trans (entry_do _ D h3 r j)

include h1 in
theorem bwd_entry_kt (g : Fin 4) (n : Fin 11) (x : Fin 768) (d : Fin 64) :
    V3 m ρ c main_v21 (ix4 g n d x) = ((blocks11 K g n x d : ℝ) : EReal) :=
  between_keys _ (blocks11 K)
    (fun g n x d => (congrFun (W2_of m ρ c main_v10 (by decide)) _).trans (entry_keys11 _ K h1 g n x d)) g n d x

include h0 h1 h2 h3 in
theorem bwd_entry_delta (g : Fin 4) (i : Fin 16) (h : Fin 4) (a : Fin 512) :
    V3 m ρ c main_v24 (ix4 g i 0 (lane h a)) = ((deltaOf Q D K V g i h a : ℝ) : EReal) := by
  refine (between_delta _ D (outArray Q K V) (fun i j => (congrFun (W2_args m ρ c main_arg3 (by decide)) _).trans (h3 i j))
    (fwd_result_index m ρ c Q K V h0 h1 h2) g i h a).trans ?_
  refine congrArg _ (Finset.sum_congr rfl fun d _ => ?_)
  rw [outArray_qcol]

include h0 h1 h2 in
theorem bwd_entry_lse : ∃ lse : Fin 4 → Fin 16 → Fin 4 → Fin 512 → ℝ,
    (∀ g i h a, V3 m ρ c main_v17_1 (ix4 g i 0 (lane h a)) = ((lse g i h a : ℝ) : EReal)) ∧
      ∀ g i h a x, Real.exp (score Q K g h (qrow i a) x - lse g i h a) = prob Q K g h (qrow i a) x := by
  choose lse e hl using fwd_saved m ρ c Q K V h0 h1 h2
  exact ⟨lse, fun g i h a => (congrFun (W3_of m ρ c main_v17_1 (by decide)) _).trans (e g i h a), hl⟩

/-! The four results. -/

include h0 h1 h2 in
theorem result_out (i : Fin 8192) (g r : Fin 4) (d : Fin 64) :
    W5 m ρ c (Proc.devRef .tc main_v17_0) (ix2 i (qcol g r d)) = ((attnOut Q K V i g r d : ℝ) : EReal) := by
  obtain ⟨b, a, rfl⟩ := exists_qrow i
  refine (congrFun (W5_of m ρ c main_v17_0 (by decide)) _).trans ?_
  refine (congrFun (W4_of m ρ c main_v17_0 (by decide)) _).trans ?_
  exact (congrFun (W3_of m ρ c main_v17_0 (by decide)) _).trans (fwd_result m ρ c Q K V h0 h1 h2 g b r a d)

/-- The backward call's gradient of the scaled queries, as an array. -/
def dqArray (i : Fin 8192) (j : Fin 1024) : ℝ :=
  ∑ x, K x (col ⟨j.val / 256, by omega⟩ ⟨j.val % 64, by omega⟩)
    * dscore Q D K V ⟨j.val / 256, by omega⟩ ⟨j.val / 64 % 4, by omega⟩ i x

theorem dqArray_qcol (i : Fin 8192) (g r : Fin 4) (d : Fin 64) :
    dqArray Q D K V i (qcol g r d) = ∑ x, K x (col g d) * dscore Q D K V g r i x := by
  have e1 : (⟨(qcol g r d).val / 256, by omega⟩ : Fin 4) = g := Fin.ext (by simp only [qcol, gcol, col_val]; omega)
  have e2 : (⟨(qcol g r d).val / 64 % 4, by omega⟩ : Fin 4) = r := Fin.ext (by simp only [qcol, gcol, col_val]; omega)
  have e3 : (⟨(qcol g r d).val % 64, by omega⟩ : Fin 64) = d := Fin.ext (by simp only [qcol, gcol, col_val]; omega)
  rw [dqArray, e1, e2, e3]

include h0 h1 h2 h3 in
theorem result_dq (i : Fin 8192) (g r : Fin 4) (d : Fin 64) :
    W5 m ρ c (Proc.devRef .tc main_v27) (ix2 i (qcol g r d)) = ((attnDq Q D K V i g r d : ℝ) : EReal) := by
  obtain ⟨lse, hl, hlse⟩ := bwd_entry_lse m ρ c Q K V h0 h1 h2
  have e : ∀ i j, W4 m ρ c (Proc.devRef .tc main_v25_0) (ix2 i j) = ((dqArray Q D K V i j : ℝ) : EReal) := by
    intro i j
    obtain ⟨b, a, rfl⟩ := exists_qrow i
    obtain ⟨g, r, d, rfl⟩ := exists_qcol j
    refine (congrFun (W4_arr m ρ c 7) _).trans ?_
    refine (bwd_dq_array (V3 m ρ) c (scaled Q) D (blocks11 K) (blocks11 V) lse (deltaOf Q D K V) (bwd_entry_q m ρ c Q h0)
      (bwd_entry_k m ρ c K h1) (bwd_entry_kt m ρ c K h1) (bwd_entry_v m ρ c V h2) (bwd_entry_do m ρ c D h3) hl
      (bwd_entry_delta m ρ c Q D K V h0 h1 h2 h3) g b r a d).trans ?_
    rw [dqArray_qcol, dq_sum Q D K V lse (deltaOf Q D K V) hlse fun _ _ _ _ => rfl]
  refine (after_dq _ (dqArray Q D K V) e i (qcol g r d)).trans ?_
  rw [dqArray_qcol, attnDq]

include h0 h1 h2 h3 in
theorem result_dk (x : Fin 8448) (g : Fin 4) (d : Fin 64) :
    W5 m ρ c (Proc.devRef .tc main_v30) (ix2 x (col g d)) = ((attnDk Q D K V x g d : ℝ) : EReal) := by
  obtain ⟨lse, hl, hlse⟩ := bwd_entry_lse m ρ c Q K V h0 h1 h2
  obtain ⟨n, y, rfl⟩ := exists_key11 x
  refine after_dk _ (fun g n y d => attnDk Q D K V (key11 n y) g d) (fun g n y d => ?_) g n y d
  refine (congrFun (W4_arr m ρ c 8) _).trans ?_
  refine (bwd_dk_array (V3 m ρ) c (scaled Q) D (blocks11 K) (blocks11 V) lse (deltaOf Q D K V) (bwd_entry_q m ρ c Q h0)
    (bwd_entry_k m ρ c K h1) (bwd_entry_v m ρ c V h2) (bwd_entry_do m ρ c D h3) hl
    (bwd_entry_delta m ρ c Q D K V h0 h1 h2 h3) g n y d).trans ?_
  rw [dk_model Q D K V lse (deltaOf Q D K V) hlse fun _ _ _ _ => rfl]

include h0 h1 h2 h3 in
theorem result_dv (x : Fin 8448) (g : Fin 4) (d : Fin 64) :
    W5 m ρ c (Proc.devRef .tc main_v33) (ix2 x (col g d)) = ((attnDv Q D K x g d : ℝ) : EReal) := by
  obtain ⟨lse, hl, hlse⟩ := bwd_entry_lse m ρ c Q K V h0 h1 h2
  obtain ⟨n, y, rfl⟩ := exists_key11 x
  refine after_dv _ (fun g n y d => attnDv Q D K (key11 n y) g d) (fun g n y d => ?_) g n y d
  refine (congrFun (W4_arr m ρ c 9) _).trans ?_
  refine (bwd_dv_array (V3 m ρ) c (scaled Q) D (blocks11 K) lse (bwd_entry_q m ρ c Q h0)
    (bwd_entry_k m ρ c K h1) (bwd_entry_do m ρ c D h3) hl g n y d).trans ?_
  rw [dv_model Q D K lse hlse]

end Cert.Attn

end
-- ==== Proof.Reference.lean ====
/-
  The reference's results. Its operations are read one at a time at an index, from real operands: the scores, the weights
  (whose largest score is only known to be a number, and drops out), and the derivative's terms for the queries, keys and
  values.
-/
module

public import proofs.«01_k».proof.Proof.Model
public import proofs.«01_k».proof.Proof.Gen.ReferenceIdeal.Read
public import Idealize.ShloMosaic.Lib.KernelVsHost

@[expose] public section

set_option maxRecDepth 16384

noncomputable section

namespace Cert.Attn

open Idealize.ShloMosaic Idealize.ShloMosaic.TcCoe
open Cert.ReferenceIdeal Cert.ReferenceIdeal.Gen Cert.ReferenceIdeal.Read
open scoped BigOperators

variable (Q D : Fin 8192 → Fin 1024 → ℝ) (K V : Fin 8448 → Fin 256 → ℝ)
  (x0 : (⟨S8192x1024, .f32⟩ : BufTy).Contents (Elt Ideal)) (x1 x2 : (⟨S8448x256, .f32⟩ : BufTy).Contents (Elt Ideal))
  (x3 : (⟨S8192x1024, .f32⟩ : BufTy).Contents (Elt Ideal))

variable (h0 : ∀ i j, x0 (ix2 i j) = (Q i j : EReal)) (h1 : ∀ i j, x1 (ix2 i j) = (K i j : EReal))
  (h2 : ∀ i j, x2 (ix2 i j) = (V i j : EReal)) (h3 : ∀ i j, x3 (ix2 i j) = (D i j : EReal))

/-! Group, head and feature of a column. -/

theorem qcol_group (g r : Fin 4) (d : Fin 64) (h : (qcol g r d).val / 256 < 4) : (⟨(qcol g r d).val / 256, h⟩ : Fin 4) = g :=
  Fin.ext (by simp only [qcol, gcol, col]; omega)

theorem qcol_head (g r : Fin 4) (d : Fin 64) (h : (qcol g r d).val / 64 % 4 < 4) :
    (⟨(qcol g r d).val / 64 % 4, h⟩ : Fin 4) = r :=
  Fin.ext (by simp only [qcol, gcol, col]; omega)

theorem qcol_feature (g r : Fin 4) (d : Fin 64) (h : (qcol g r d).val % 64 < 64) : (⟨(qcol g r d).val % 64, h⟩ : Fin 64) = d :=
  Fin.ext (by simp only [qcol, gcol, col]; omega)

theorem kcol_group (g : Fin 4) (d : Fin 64) (h : (col g d).val / 64 < 4) : (⟨(col g d).val / 64, h⟩ : Fin 4) = g :=
  Fin.ext (by simp only [col]; omega)

theorem kcol_feature (g : Fin 4) (d : Fin 64) (h : (col g d).val % 64 < 64) : (⟨(col g d).val % 64, h⟩ : Fin 64) = d :=
  Fin.ext (by simp only [col]; omega)

/-! The operands by group, head and feature. -/

theorem ref_q (i : Fin 8192) (g r : Fin 4) (d : Fin 64) : val_main_v0 (F := Ideal) x0 (ix4 i g r d) = x0 (ix2 i (qcol g r d)) := by
  pointwise [val_main_v0]
  exact congrArg x0 (congrArg (ix2 i) (Fin.ext (by simp only [qcol, gcol, col]; omega)))

theorem ref_do (i : Fin 8192) (g r : Fin 4) (d : Fin 64) : val_main_v38 (F := Ideal) x3 (ix4 i g r d) = x3 (ix2 i (qcol g r d)) := by
  pointwise [val_main_v38]
  exact congrArg x3 (congrArg (ix2 i) (Fin.ext (by simp only [qcol, gcol, col]; omega)))

theorem ref_k (x : Fin 8448) (g : Fin 4) (d : Fin 64) : val_main_v1 (F := Ideal) x1 (ix3 x g d) = x1 (ix2 x (col g d)) := by
  pointwise [val_main_v1]
  rfl

theorem ref_v (x : Fin 8448) (g : Fin 4) (d : Fin 64) : val_main_v2 (F := Ideal) x2 (ix3 x g d) = x2 (ix2 x (col g d)) := by
  pointwise [val_main_v2]
  rfl

include h0 h1 in
theorem ref_score (g r : Fin 4) (i : Fin 8192) (x : Fin 8448) :
    val_main_v6 (F := Ideal) x0 x1 (ix4 g r i x) = ((score Q K g r i x : ℝ) : EReal) := by
  pointwise [val_main_v6, val_main_v5, val_main_cst, val_main_v4, val_main_v3]
  rw [ofBits_eighth, score, EReal.coe_mul, coe_sum]
  refine congrArg (· * _) (Finset.sum_congr rfl fun d _ => ?_)
  rw [ref_k, ref_q, h0, h1, EReal.coe_mul]

include h0 h1 in
/-- The row's largest score is a number. -/
theorem ref_max (g r : Fin 4) (i : Fin 8192) : ∃ m : ℝ, val_main_v7 (F := Ideal) x0 x1 (ix3 g r i) = (m : EReal) := by
  have hs : ∀ j : S4x4x8192x8448.Idx, ∃ s : ℝ, val_main_v6 (F := Ideal) x0 x1 j = (s : EReal) := by
    intro j
    idx_vars j
    exact ⟨_, ref_score Q K x0 x1 h0 h1 _ _ _ _⟩
  choose s hs using hs
  have hr : S4x4x8192x8448.Reduces [3] S4x4x8192 := by decide
  unfold val_main_v7 val_main_cst_0
  rw [hostReduce_maximumf_eq_multiReduction _ _ _ _ hr (by decide) (by decide), Ideal.multiReduction_maximumf_single]
  rw [show (val_main_v6 (F := Ideal) x0 x1 ∘ hr.lift (ix3 g r i)) = fun k => ((s (hr.lift (ix3 g r i) k) : ℝ) : EReal) from
    funext fun k => hs _]
  rw [show (FloatOps.ofBits FTy.f32 0xFF800000#32 : Ideal FTy.f32) = (⊥ : EReal) from ofBits_bot]
  haveI : Nonempty (Fin (S4x4x8192x8448.size 3)) := ⟨⟨0, by decide⟩⟩
  exact exists_max _

section Row

variable (g r : Fin 4) (i : Fin 8192) (m : ℝ) (hm : val_main_v7 (F := Ideal) x0 x1 (ix3 g r i) = (m : EReal))

include hm in
theorem ref_max_bot : val_main_v14 (F := Ideal) x0 x1 (ix3 g r i) = (m : EReal) := by
  rw [val_main_v14_apply, val_main_v13_apply, val_main_cst_2_apply, hm, Ideal.maximumf_eq_max]
  exact (congrArg (max · _) ofBits_bot).trans (max_eq_right bot_le)

include h0 h1 hm in
theorem ref_exp (x : Fin 8448) :
    val_main_v27 (F := Ideal) x0 x1 (ix4 g r i x) = ((Real.exp (score Q K g r i x - m) : ℝ) : EReal) := by
  pointwise [val_main_v27, val_main_v26, val_main_v25, val_main_v24]
  rw [ref_score Q K x0 x1 h0 h1, ref_max_bot x0 x1 g r i m hm, ← EReal.coe_sub, Ideal.exp_coe]

include h0 h1 hm in
theorem ref_total :
    val_main_v28 (F := Ideal) x0 x1 (ix3 g r i) = ((∑ x, Real.exp (score Q K g r i x - m) : ℝ) : EReal) := by
  pointwise [val_main_v28, val_main_cst_8]
  rw [coe_sum]
  exact Finset.sum_congr rfl fun x _ => ref_exp Q K x0 x1 h0 h1 g r i m hm x

theorem total_ne : (∑ x, Real.exp (score Q K g r i x - m)) ≠ 0 :=
  (Finset.sum_pos (fun _ _ => Real.exp_pos _) Finset.univ_nonempty).ne'

end Row

include h0 h1 in
/-- The weights. -/
theorem ref_prob (g r : Fin 4) (i : Fin 8192) (x : Fin 8448) :
    val_main_v31 (F := Ideal) x0 x1 (ix4 g r i x) = ((prob Q K g r i x : ℝ) : EReal) := by
  obtain ⟨m, hm⟩ := ref_max Q K x0 x1 h0 h1 g r i
  pointwise [val_main_v31, val_main_v30, val_main_v29]
  rw [ref_exp Q K x0 x1 h0 h1 g r i m hm, ref_total Q K x0 x1 h0 h1 g r i m hm, coe_div (total_ne Q K g r i m), softmax_shift]
  rfl

include h2 h3 in
/-- The gradient of the weights. -/
theorem ref_dprob (g r : Fin 4) (i : Fin 8192) (x : Fin 8448) :
    val_main_v40 (F := Ideal) x2 x3 (ix4 g r i x) = ((dprob D V g r i x : ℝ) : EReal) := by
  pointwise [val_main_v40, val_main_v39]
  rw [dprob, coe_sum]
  refine Finset.sum_congr rfl fun d _ => ?_
  rw [ref_do, ref_v, h3, h2, EReal.coe_mul]

include h0 h1 h2 h3 in
/-- The gradient of the scores. -/
theorem ref_dscore (g r : Fin 4) (i : Fin 8192) (x : Fin 8448) :
    val_main_v54 (F := Ideal) x0 x1 x2 x3 (ix4 g r i x) = ((dscore Q D K V g r i x : ℝ) : EReal) := by
  obtain ⟨m, hm⟩ := ref_max Q K x0 x1 h0 h1 g r i
  have ht := ref_total Q K x0 x1 h0 h1 g r i m hm
  have hne := total_ne Q K g r i m
  have hinv : val_main_v34 (F := Ideal) x0 x1 (ix4 g r i 0)
      = ((1 / ((∑ x, Real.exp (score Q K g r i x - m)) * ∑ x, Real.exp (score Q K g r i x - m)) : ℝ) : EReal) := by
    pointwise [val_main_v34, val_main_v33, val_main_v32, val_main_v29, val_main_cst_9]
    rw [ht, ← EReal.coe_mul, ← EReal.coe_one, coe_div (mul_ne_zero hne hne)]
  have hsum : val_main_v51 (F := Ideal) x0 x1 x2 x3 (ix3 g r i)
      = ((-∑ y, dprob D V g r i y * (1 / ((∑ x, Real.exp (score Q K g r i x - m)) * ∑ x, Real.exp (score Q K g r i x - m)))
          * Real.exp (score Q K g r i y - m) : ℝ) : EReal) := by
    pointwise [val_main_v51, val_main_cst_11]
    rw [Fin.sum_univ_one]
    pointwise [val_main_v48, val_main_v47, val_main_v46, val_main_cst_10]
    rw [EReal.coe_neg, coe_sum]
    refine congrArg (- ·) (Finset.sum_congr rfl fun y _ => ?_)
    pointwise [val_main_v45, val_main_v44, val_main_v43]
    rw [ref_dprob D V x2 x3 h2 h3, hinv, ref_exp Q K x0 x1 h0 h1 g r i m hm, ← EReal.coe_mul, ← EReal.coe_mul]
  pointwise [val_main_v54, val_main_v53, val_main_v52, val_main_v50, val_main_v49, val_main_v29]
  rw [hsum, ref_dprob D V x2 x3 h2 h3, ht, ref_exp Q K x0 x1 h0 h1 g r i m hm, coe_div hne, ← EReal.coe_add, ← EReal.coe_mul,
    grad_quotient]
  rfl

include h0 h1 h2 in
/-- The output. -/
theorem ref_out (i : Fin 8192) (g r : Fin 4) (d : Fin 64) :
    val_main_v37 (F := Ideal) x0 x1 x2 (ix2 i (qcol g r d)) = ((attnOut Q K V i g r d : ℝ) : EReal) := by
  have e : val_main_v37 (F := Ideal) x0 x1 x2 (ix2 i (qcol g r d)) = val_main_v36 (F := Ideal) x0 x1 x2 (ix4 i g r d) := by
    pointwise [val_main_v37]
    rw [qcol_group, qcol_head, qcol_feature]
  rw [e]
  pointwise [val_main_v36, val_main_v35]
  rw [attnOut, coe_sum]
  refine Finset.sum_congr rfl fun x _ => ?_
  rw [ref_v, ref_prob Q K x0 x1 h0 h1, h2, ← EReal.coe_mul, mul_comm]

include h0 h1 h3 in
/-- The gradient of the values. -/
theorem ref_dv (x : Fin 8448) (g : Fin 4) (d : Fin 64) :
    val_main_v62 (F := Ideal) x0 x1 x3 (ix2 x (col g d)) = ((attnDv Q D K x g d : ℝ) : EReal) := by
  have e : val_main_v62 (F := Ideal) x0 x1 x3 (ix2 x (col g d)) = val_main_v42 (F := Ideal) x0 x1 x3 (ix3 x g d) := by
    pointwise [val_main_v62]
    rw [kcol_group, kcol_feature]
  rw [e]
  pointwise [val_main_v42, val_main_v41]
  rw [attnDv, coe_sum]
  refine Finset.sum_congr rfl fun r _ => ?_
  rw [coe_sum]
  refine Finset.sum_congr rfl fun i _ => ?_
  pointwise [val_main_v39]
  rw [ref_do, ref_prob Q K x0 x1 h0 h1, h3, ← EReal.coe_mul, mul_comm]

include h0 h1 h2 h3 in
theorem ref_scaled (g r : Fin 4) (i : Fin 8192) (x : Fin 8448) :
    val_main_v57 (F := Ideal) x0 x1 x2 x3 (ix4 g x i r) = ((dscore Q D K V g r i x * (1 / 8) : ℝ) : EReal) := by
  pointwise [val_main_v57, val_main_v56, val_main_v55, val_main_cst_12]
  rw [ref_dscore Q D K V x0 x1 x2 x3 h0 h1 h2 h3, ofBits_eighth, ← EReal.coe_mul]

include h0 h1 h2 h3 in
/-- The gradient of the keys. -/
theorem ref_dk (x : Fin 8448) (g : Fin 4) (d : Fin 64) :
    val_main_v63 (F := Ideal) x0 x1 x2 x3 (ix2 x (col g d)) = ((attnDk Q D K V x g d : ℝ) : EReal) := by
  have e : val_main_v63 (F := Ideal) x0 x1 x2 x3 (ix2 x (col g d)) = val_main_v61 (F := Ideal) x0 x1 x2 x3 (ix3 x g d) := by
    pointwise [val_main_v63]
    rw [kcol_group, kcol_feature]
  rw [e]
  pointwise [val_main_v61, val_main_v60]
  rw [attnDk, Finset.sum_mul, coe_sum, Finset.sum_comm]
  refine Finset.sum_congr rfl fun r _ => ?_
  rw [Finset.sum_mul, coe_sum]
  refine Finset.sum_congr rfl fun i _ => ?_
  rw [ref_scaled Q D K V x0 x1 x2 x3 h0 h1 h2 h3, ref_q, h0, ← EReal.coe_mul]
  congr 1
  ring

include h0 h1 h2 h3 in
/-- The gradient of the queries. -/
theorem ref_dq (i : Fin 8192) (g r : Fin 4) (d : Fin 64) :
    val_main_v64 (F := Ideal) x0 x1 x2 x3 (ix2 i (qcol g r d)) = ((attnDq Q D K V i g r d : ℝ) : EReal) := by
  have e : val_main_v64 (F := Ideal) x0 x1 x2 x3 (ix2 i (qcol g r d)) = val_main_v59 (F := Ideal) x0 x1 x2 x3 (ix4 i g r d) := by
    pointwise [val_main_v64]
    rw [qcol_group, qcol_head, qcol_feature]
  rw [e]
  pointwise [val_main_v59, val_main_v58]
  rw [attnDq, Finset.sum_mul, coe_sum]
  refine Finset.sum_congr rfl fun x _ => ?_
  rw [ref_scaled Q D K V x0 x1 x2 x3 h0 h1 h2 h3, ref_k, h1, ← EReal.coe_mul]
  congr 1
  ring

end Cert.Attn

end
-- ==== Proof.Results.lean ====
/-
  The two programs' results agree: from real arguments, what the kernel's run leaves in each result is what the reference
  computes.
-/
module

public import proofs.«01_k».proof.Proof.KernelValue
public import proofs.«01_k».proof.Proof.Reference

@[expose] public section

set_option maxRecDepth 16384

noncomputable section

namespace Cert.Attn

open Idealize.ShloMosaic Idealize.ShloMosaic.TcCoe
open Cert.KernelIdeal Cert.KernelIdeal.Gen
open Cert.ReferenceIdeal.Read (val_main_v37 val_main_v62 val_main_v63 val_main_v64)

/-- Two arrays over the queries that agree at every row, group, head and feature. -/
theorem query_ext {x y : S8192x1024.Idx → EReal} (h : ∀ i g r d, x (ix2 i (qcol g r d)) = y (ix2 i (qcol g r d))) : x = y := by
  funext j
  idx_vars j
  obtain ⟨g, r, d, e⟩ := exists_qcol j1
  rw [e]
  exact h _ _ _ _

/-- Two arrays over the keys that agree at every row, group and feature. -/
theorem key_ext {x y : S8448x256.Idx → EReal} (h : ∀ i g d, x (ix2 i (col g d)) = y (ix2 i (col g d))) : x = y := by
  funext j
  idx_vars j
  obtain ⟨g, d, e⟩ := exists_col j1
  rw [e]
  exact h _ _ _

/-- A family of reals behind an array whose entries are reals. -/
theorem reals_of {a b : ℕ} (x : (⟨2, ![a, b]⟩ : Shape).Idx → EReal) (h : ∀ i, ∃ r : ℝ, x i = (r : EReal)) :
    ∃ f : Fin a → Fin b → ℝ, ∀ i j, x (ix2 i j) = ((f i j : ℝ) : EReal) := by
  choose f hf using h
  exact ⟨fun i j => f (ix2 i j), fun i j => hf _⟩

variable (m : (ℓ : Loc nD τ sig) → Buf (Elt Ideal) ℓ) (ρ : Dev nD → PrngReg) (c : Dev nD)
  (x0 x3 : S8192x1024.Idx → EReal) (x1 x2 : S8448x256.Idx → EReal)

theorem results_agree
    (h0 : m ((c.tc : Thread nD τ).loc main_arg0) = x0) (h1 : m ((c.tc : Thread nD τ).loc main_arg1) = x1)
    (h2 : m ((c.tc : Thread nD τ).loc main_arg2) = x2) (h3 : m ((c.tc : Thread nD τ).loc main_arg3) = x3)
    (r0 : ∀ i, ∃ r : ℝ, x0 i = (r : EReal)) (r1 : ∀ i, ∃ r : ℝ, x1 i = (r : EReal))
    (r2 : ∀ i, ∃ r : ℝ, x2 i = (r : EReal)) (r3 : ∀ i, ∃ r : ℝ, x3 i = (r : EReal)) :
    W5 m ρ c (Proc.devRef .tc main_v17_0) = val_main_v37 (F := Ideal) x0 x1 x2
      ∧ W5 m ρ c (Proc.devRef .tc main_v27) = val_main_v64 (F := Ideal) x0 x1 x2 x3
      ∧ W5 m ρ c (Proc.devRef .tc main_v30) = val_main_v63 (F := Ideal) x0 x1 x2 x3
      ∧ W5 m ρ c (Proc.devRef .tc main_v33) = val_main_v62 (F := Ideal) x0 x1 x3 := by
  obtain ⟨Q, hQ⟩ := reals_of x0 r0
  obtain ⟨K, hK⟩ := reals_of x1 r1
  obtain ⟨V, hV⟩ := reals_of x2 r2
  obtain ⟨D, hD⟩ := reals_of x3 r3
  have e0 : ∀ i j, W0 m ρ c (Proc.devRef .tc main_arg0) (ix2 i j) = ((Q i j : ℝ) : EReal) := fun i j => (congrFun h0 _).trans (hQ i j)
  have e1 : ∀ i j, W0 m ρ c (Proc.devRef .tc main_arg1) (ix2 i j) = ((K i j : ℝ) : EReal) := fun i j => (congrFun h1 _).trans (hK i j)
  have e2 : ∀ i j, W0 m ρ c (Proc.devRef .tc main_arg2) (ix2 i j) = ((V i j : ℝ) : EReal) := fun i j => (congrFun h2 _).trans (hV i j)
  have e3 : ∀ i j, W0 m ρ c (Proc.devRef .tc main_arg3) (ix2 i j) = ((D i j : ℝ) : EReal) := fun i j => (congrFun h3 _).trans (hD i j)
  refine ⟨query_ext fun i g r d => ?_, query_ext fun i g r d => ?_, key_ext fun x g d => ?_, key_ext fun x g d => ?_⟩
  · exact (result_out m ρ c Q K V e0 e1 e2 i g r d).trans (ref_out Q K V x0 x1 x2 hQ hK hV i g r d).symm
  · exact (result_dq m ρ c Q D K V e0 e1 e2 e3 i g r d).trans (ref_dq Q D K V x0 x1 x2 x3 hQ hK hV hD i g r d).symm
  · exact (result_dk m ρ c Q D K V e0 e1 e2 e3 x g d).trans (ref_dk Q D K V x0 x1 x2 x3 hQ hK hV hD x g d).symm
  · exact (result_dv m ρ c Q D K V e0 e1 e2 e3 x g d).trans (ref_dv Q D K x0 x1 x3 hQ hK hD x g d).symm

end Cert.Attn

end
-- ==== Proof.InputLayer.lean ====
/-
  The S5 layer's norm and input projection, over the extended reals. The kernel's call reads one tile of 256 rows a grid
  point: tile 0 is the context, tile `i` the latents' rows `(i - 1) * 256 ..`. Each entry of both results is the same sum
  over the row's features on both sides, so the arrays are equal for all arguments.
-/
module

public import proofs.«01_k».proof.Proof.Gen.InputKernelIdeal.Value
public import proofs.«01_k».proof.Proof.Gen.InputReferenceIdeal.Read
public import Idealize.ShloMosaic.Lib.Pointwise
public import Idealize.ShloMosaic.Lib.Pipeline.ValueKit

@[expose] public section

set_option maxRecDepth 16384

noncomputable section

namespace Cert.LayerIn

open Idealize.ShloMosaic Idealize.ShloMosaic.TcCoe
open scoped BigOperators

/-- A row over its root mean square, times the gain, scaled and shifted, then multiplied with one column of the weights. -/
def project (x g s b w : Fin 1024 → EReal) : EReal :=
  ∑ d, (x d * Ideal.rsqrt (Ideal.div (∑ e, x e * x e) (Ideal.ofBits FTy.f32 1149239296#32) + Ideal.ofBits FTy.f32 897988541#32)
    * g d * (1 + s d) + b d) * w d

theorem off2 : (![0, 0] : Fin 2 → ℕ) = fun _ => 0 := by
  funext a
  fin_cases a <;> rfl

theorem off3 : (![0, 0, 0] : Fin 3 → ℕ) = fun _ => 0 := by
  funext a
  fin_cases a <;> rfl

/-! The kernel's tile. -/

section Kernel

open Cert.InputKernelIdeal Cert.InputKernelIdeal.Gen

variable (i : grid0.Coords) (c x : Vec Ideal S256x1024 .f32) (g : Vec Ideal S1x1024 .f32)
    (s b : Vec Ideal S1x1x1024 .f32) (w : Vec Ideal S1024x2048 .f32) (a : Fin 256)

theorem product_apply (n : Fin 2048) :
    k0_pay1 i c x g s b w (ix2 a n) = project
      (fun d => Scalar.select (Scalar.cmpi CmpIPredicate.eq (BitVec.ofNat 32 (i 0).val) 0#32) (c (ix2 a d)) (x (ix2 a d)))
      (fun d => g (ix2 0 d)) (fun d => s (ix3 0 0 d)) (fun d => b (ix3 0 0 d)) (fun d => w (ix2 d n)) := by
  pointwise [k0_pay1]
  rfl

theorem drive_apply (n : Fin 1024) :
    out0_6 i c x g s b w (ix2 a n) = k0_pay1 i c x g s b w (ix2 a ⟨n.val, by omega⟩) := by
  rw [out0_6]
  refine (congrFun (View.canon_cons_unit_zero off2 _ _ _) _).trans ?_
  simp only [View.ld_unit_zero (S := S256x1024) off2, View.ld_unit_zero (S := S1x1024) off2, View.ld_unit_zero (S := S1x1x1024) off3,
    View.ld_unit_zero (S := S1024x2048) off2]
  pointwise [k0_pay2]

theorem gate_apply (n : Fin 1024) :
    out0_7 i c x g s b w (ix2 a n) = k0_pay1 i c x g s b w (ix2 a ⟨1024 + n.val, by omega⟩) := by
  rw [out0_7]
  refine (congrFun (View.canon_cons_unit_zero off2 _ _ _) _).trans ?_
  simp only [View.ld_unit_zero (S := S256x1024) off2, View.ld_unit_zero (S := S1x1024) off2, View.ld_unit_zero (S := S1x1x1024) off3,
    View.ld_unit_zero (S := S1024x2048) off2]
  pointwise [k0_pay3]

/-- The grid point of tile `i`. -/
def pt (i : Fin 33) : Fin cfg0.N := ⟨i.val, by rw [show cfg0.N = 33 from N_0]; omega⟩

/-- Row `a` of tile `i`. -/
def row (i : Fin 33) (a : Fin 256) : Fin 8448 := ⟨i.val * 256 + a.val, by omega⟩

/-- The modulation's row for a tile: the first for the context, the second for the latents. -/
def seg (i : Fin 33) : Fin 2 := ⟨min i.val 1, by omega⟩

theorem idx : ∀ i : Fin 33, win0_0.index (pt i) = ![0, 0] ∧ win0_1.index (pt i) = ![i.val - 1, 0]
      ∧ win0_2.index (pt i) = ![0, 0] ∧ win0_3.index (pt i) = ![min i.val 1, 0, 0]
      ∧ win0_4.index (pt i) = ![min i.val 1, 0, 0] ∧ win0_5.index (pt i) = ![0, 0]
      ∧ win0_6.index (pt i) = ![i.val, 0] ∧ win0_7.index (pt i) = ![i.val, 0] := by
  decide +kernel

theorem coord : ∀ i : Fin 33, (grid0.coords (pt i) 0).val = i.val := by decide +kernel

variable (m : (ℓ : Loc nD τ sig) → Buf (Elt Ideal) ℓ) (c : Dev nD)

theorem blk_ctx (i : Fin 33) (d : Fin 1024) :
    iblk m c 0 (pt i) (ix2 a d) = m ((c : Thread nD τ).loc main_arg0) (ix2 a d) := by
  have h := (idx i).1
  blk_ext [iblk, V_main_arg0, h]

theorem blk_lat (i : Fin 33) (d : Fin 1024) :
    iblk m c 1 (pt i) (ix2 a d) = m ((c : Thread nD τ).loc main_arg1) (ix2 ⟨(i.val - 1) * 256 + a.val, by omega⟩ d) := by
  have h := (idx i).2.1
  blk_ext [iblk, V_main_arg1, h]

theorem blk_gain (i : Fin 33) (d : Fin 1024) :
    iblk m c 2 (pt i) (ix2 0 d) = m ((c : Thread nD τ).loc main_arg2) (ix2 0 d) := by
  have h := (idx i).2.2.1
  blk_ext [iblk, V_main_arg2, h]

theorem blk_scale (i : Fin 33) (d : Fin 1024) :
    iblk m c 3 (pt i) (ix3 0 0 d) = m ((c : Thread nD τ).loc main_arg3) (ix3 (seg i) 0 d) := by
  have h := (idx i).2.2.2.1
  blk_ext [iblk, V_main_arg3, h, seg]

theorem blk_shift (i : Fin 33) (d : Fin 1024) :
    iblk m c 4 (pt i) (ix3 0 0 d) = m ((c : Thread nD τ).loc main_arg4) (ix3 (seg i) 0 d) := by
  have h := (idx i).2.2.2.2.1
  blk_ext [iblk, V_main_arg4, h, seg]

theorem blk_weight (i : Fin 33) (d : Fin 1024) (n : Fin 2048) :
    iblk m c 5 (pt i) (ix2 d n) = m ((c : Thread nD τ).loc main_arg5) (ix2 d n) := by
  have h := (idx i).2.2.2.2.2.1
  blk_ext [iblk, V_main_arg5, h]

/-- Row `a` of tile `i` of the stacked sequence. -/
def stacked (x0 : Vec Ideal S256x1024 .f32) (x1 : Vec Ideal S8192x1024 .f32) (i : Fin 33) (a : Fin 256) (d : Fin 1024) : EReal :=
  if i.val = 0 then x0 (ix2 a d) else x1 (ix2 ⟨(i.val - 1) * 256 + a.val, by omega⟩ d)

theorem tile_product (i : Fin 33) (n : Fin 2048) :
    k0_pay1 (grid0.coords (pt i)) (iblk m c 0 (pt i)) (iblk m c 1 (pt i)) (iblk m c 2 (pt i)) (iblk m c 3 (pt i)) (iblk m c 4 (pt i))
        (iblk m c 5 (pt i)) (ix2 a n)
      = project (stacked (m ((c : Thread nD τ).loc main_arg0)) (m ((c : Thread nD τ).loc main_arg1)) i a)
          (fun d => m ((c : Thread nD τ).loc main_arg2) (ix2 0 d)) (fun d => m ((c : Thread nD τ).loc main_arg3) (ix3 (seg i) 0 d))
          (fun d => m ((c : Thread nD τ).loc main_arg4) (ix3 (seg i) 0 d)) (fun d => m ((c : Thread nD τ).loc main_arg5) (ix2 d n)) := by
  refine (product_apply _ _ _ _ _ _ _ a n).trans ?_
  simp only [blk_ctx, blk_lat, blk_gain, blk_scale, blk_shift, blk_weight, coord]
  congr 1
  funext d
  rw [stacked]
  by_cases h : i.val = 0
  · have e : Scalar.cmpi CmpIPredicate.eq (BitVec.ofNat 32 i.val) 0#32 = 1#1 := by rw [h]; rfl
    rw [if_pos h, e]; rfl
  · rw [if_neg h]
    have e : Scalar.cmpi CmpIPredicate.eq (BitVec.ofNat 32 i.val) 0#32 = 0#1 := by
      revert h; revert i; decide
    rw [e]; rfl

theorem arr_drive (i : Fin 33) (n : Fin 1024) :
    (dats m 0 c).arrAt 6 cfg0.N (ix2 (row i a) n)
      = project (stacked (m ((c : Thread nD τ).loc main_arg0)) (m ((c : Thread nD τ).loc main_arg1)) i a)
          (fun d => m ((c : Thread nD τ).loc main_arg2) (ix2 0 d)) (fun d => m ((c : Thread nD τ).loc main_arg3) (ix3 (seg i) 0 d))
          (fun d => m ((c : Thread nD τ).loc main_arg4) (ix3 (seg i) 0 d))
          (fun d => m ((c : Thread nD τ).loc main_arg5) (ix2 d ⟨n.val, by omega⟩)) := by
  have h := (idx i).2.2.2.2.2.2.1
  have e := (dats m 0 c).arrAt_emb_eq_flushed 6 Value.disjoint6 (pt i) (flush0_6 _) (ix2 a n)
  refine Eq.trans ?_ (e.trans ?_)
  · blk_ext [h, row]
  · refine (congrFun (after0_6 m c (pt i)) (ix2 a n)).trans ?_
    exact (drive_apply _ _ _ _ _ _ _ a n).trans (tile_product a m c i _)

theorem arr_gate (i : Fin 33) (n : Fin 1024) :
    (dats m 0 c).arrAt 7 cfg0.N (ix2 (row i a) n)
      = project (stacked (m ((c : Thread nD τ).loc main_arg0)) (m ((c : Thread nD τ).loc main_arg1)) i a)
          (fun d => m ((c : Thread nD τ).loc main_arg2) (ix2 0 d)) (fun d => m ((c : Thread nD τ).loc main_arg3) (ix3 (seg i) 0 d))
          (fun d => m ((c : Thread nD τ).loc main_arg4) (ix3 (seg i) 0 d))
          (fun d => m ((c : Thread nD τ).loc main_arg5) (ix2 d ⟨1024 + n.val, by omega⟩)) := by
  have h := (idx i).2.2.2.2.2.2.2
  have e := (dats m 0 c).arrAt_emb_eq_flushed 7 Value.disjoint7 (pt i) (flush0_7 _) (ix2 a n)
  refine Eq.trans ?_ (e.trans ?_)
  · blk_ext [h, row]
  · refine (congrFun (after0_7 m c (pt i)) (ix2 a n)).trans ?_
    exact (gate_apply _ _ _ _ _ _ _ a n).trans (tile_product a m c i _)

end Kernel

/-! The reference's rows. -/

section Reference

open Cert.InputReferenceIdeal Cert.InputReferenceIdeal.Gen Cert.InputReferenceIdeal.Read

variable (x0 : FVec Ideal S256x1024 .f32) (x1 : FVec Ideal S8192x1024 .f32) (x2 : FVec Ideal S1x1024 .f32)
    (x3 x4 : FVec Ideal S2x1x1024 .f32) (x5 : FVec Ideal S1024x2048 .f32)

theorem latent_row (a : Fin 8192) (n : Fin 2048) :
    val_main_v44 (F := Ideal) x1 x2 x3 x4 x5 (ix2 a n) = project (fun d => x1 (ix2 a d)) (fun d => x2 (ix2 0 d))
      (fun d => x3 (ix3 1 0 d)) (fun d => x4 (ix3 1 0 d)) (fun d => x5 (ix2 d n)) := by
  pointwise [val_main_v44]
  refine Finset.sum_congr rfl fun d _ => congrArg (· * x5 (ix2 d n)) ?_
  pointwise [val_main_v21, val_main_v17, val_main_v11, val_main_v9, val_main_v8, val_main_v7, val_main_v6, val_main_v5, val_main_v4, val_main_v3, val_main_v2, val_main_v1, val_main_v0, val_main_v10, val_main_v16, val_main_v15, val_main_v14, val_main_v13, val_main_v12, val_main_v20, val_main_v19, val_main_v18, val_main_cst, val_main_cst_0, val_main_cst_1, val_main_cst_2]

theorem context_row (a : Fin 256) (n : Fin 2048) :
    val_main_v45 (F := Ideal) x0 x2 x3 x4 x5 (ix2 a n) = project (fun d => x0 (ix2 a d)) (fun d => x2 (ix2 0 d))
      (fun d => x3 (ix3 0 0 d)) (fun d => x4 (ix3 0 0 d)) (fun d => x5 (ix2 d n)) := by
  pointwise [val_main_v45]
  refine Finset.sum_congr rfl fun d _ => congrArg (· * x5 (ix2 d n)) ?_
  pointwise [val_main_v43, val_main_v39, val_main_v33, val_main_v31, val_main_v30, val_main_v29, val_main_v28, val_main_v27, val_main_v26, val_main_v25, val_main_v24, val_main_v23, val_main_v22, val_main_v32, val_main_v38, val_main_v37, val_main_v36, val_main_v35, val_main_v34, val_main_v42, val_main_v41, val_main_v40, val_main_cst_3, val_main_cst_4, val_main_cst_5, val_main_cst_6]

theorem ref_product (i : Fin 33) (a : Fin 256) (n : Fin 2048) :
    (if h : (row i a).val < 256 then val_main_v45 (F := Ideal) x0 x2 x3 x4 x5 (ix2 ⟨(row i a).val, h⟩ n)
      else val_main_v44 (F := Ideal) x1 x2 x3 x4 x5 (ix2 ⟨(row i a).val - 256, by omega⟩ n))
      = project (stacked x0 x1 i a) (fun d => x2 (ix2 0 d)) (fun d => x3 (ix3 (seg i) 0 d)) (fun d => x4 (ix3 (seg i) 0 d))
          (fun d => x5 (ix2 d n)) := by
  by_cases h : i.val = 0
  · have hr : (row i a).val < 256 := by simp only [row]; omega
    rw [dif_pos hr, context_row]
    have e : (⟨(row i a).val, hr⟩ : Fin 256) = a := Fin.ext (by simp only [row]; omega)
    have s : seg i = 0 := Fin.ext (by simp only [seg, Fin.val_zero]; omega)
    have st : stacked x0 x1 i a = fun d => x0 (ix2 a d) := funext fun d => if_pos h
    simp only [e, s, st]
  · have hr : ¬ (row i a).val < 256 := by simp only [row]; omega
    rw [dif_neg hr, latent_row]
    have e : (⟨(row i a).val - 256, by omega⟩ : Fin 8192) = ⟨(i.val - 1) * 256 + a.val, by omega⟩ := Fin.ext (by simp only [row]; omega)
    have s : seg i = 1 := Fin.ext (by simp only [seg, Fin.val_one]; omega)
    have st : stacked x0 x1 i a = fun d => x1 (ix2 ⟨(i.val - 1) * 256 + a.val, by omega⟩ d) := funext fun d => if_neg h
    simp only [e, s, st]

theorem ref_drive (i : Fin 33) (a : Fin 256) (n : Fin 1024) :
    val_main_v50 (F := Ideal) x0 x1 x2 x3 x4 x5 (ix2 (row i a) n)
      = project (stacked x0 x1 i a) (fun d => x2 (ix2 0 d)) (fun d => x3 (ix3 (seg i) 0 d)) (fun d => x4 (ix3 (seg i) 0 d))
          (fun d => x5 (ix2 d ⟨n.val, by omega⟩)) := by
  pointwise [val_main_v50, val_main_v46, val_main_v48]
  refine Eq.trans ?_ (ref_product x0 x1 x2 x3 x4 x5 i a _)
  split_ifs <;> rfl

theorem ref_gate (i : Fin 33) (a : Fin 256) (n : Fin 1024) :
    val_main_v51 (F := Ideal) x0 x1 x2 x3 x4 x5 (ix2 (row i a) n)
      = project (stacked x0 x1 i a) (fun d => x2 (ix2 0 d)) (fun d => x3 (ix3 (seg i) 0 d)) (fun d => x4 (ix3 (seg i) 0 d))
          (fun d => x5 (ix2 d ⟨1024 + n.val, by omega⟩)) := by
  pointwise [val_main_v51, val_main_v47, val_main_v49]
  refine Eq.trans ?_ (ref_product x0 x1 x2 x3 x4 x5 i a _)
  split_ifs <;> rfl

end Reference

/-! The two results. -/

/-- Two arrays of rows that agree at every row of every tile. -/
theorem row_ext {x y : (⟨2, ![8448, 1024]⟩ : Shape).Idx → EReal} (h : ∀ i a n, x (ix2 (row i a) n) = y (ix2 (row i a) n)) : x = y := by
  funext j
  idx_vars j
  have e : j0 = row ⟨j0.val / 256, by omega⟩ ⟨j0.val % 256, by omega⟩ := Fin.ext (by simp only [row]; omega)
  rw [e]
  exact h _ _ _

open Cert.InputKernelIdeal Cert.InputKernelIdeal.Gen

variable (m : (ℓ : Loc nD τ sig) → Buf (Elt Ideal) ℓ) (c : Dev nD)

theorem drive_agree : (dats m 0 c).arrAt 6 cfg0.N = Cert.InputReferenceIdeal.Read.val_main_v50 (F := Ideal)
    (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) :=
  row_ext fun i a n => (arr_drive a m c i n).trans (ref_drive _ _ _ _ _ _ i a n).symm

theorem gate_agree : (dats m 0 c).arrAt 7 cfg0.N = Cert.InputReferenceIdeal.Read.val_main_v51 (F := Ideal)
    (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) :=
  row_ext fun i a n => (arr_gate a m c i n).trans (ref_gate _ _ _ _ _ _ i a n).symm

end Cert.LayerIn

end
-- ==== Proof.AttnProducts.lean ====
/-
  The attention layer's norm and input projection, over the extended reals: the values, the gate, and the queries and keys
  before their norms. The kernel's call reads one tile of 256 rows a grid point, and tile 0 is the context. Each entry is the
  same sum over the row's features on both sides, so the arrays are equal for all arguments.
-/
module

public import proofs.«01_k».proof.Proof.Gen.AttnInKernelIdeal.Value
public import proofs.«01_k».proof.Proof.Gen.AttnInReferenceIdeal.Read
public import proofs.«01_k».proof.Proof.InputLayer

@[expose] public section

set_option maxRecDepth 16384

noncomputable section

namespace Cert.AttnProducts

open Idealize.ShloMosaic Idealize.ShloMosaic.TcCoe
open Cert.LayerIn (project off2 off3 row seg)
open scoped BigOperators

/-! The kernel's tile. -/

section Tile

open Cert.AttnInKernelIdeal Cert.AttnInKernelIdeal.Gen

variable (x : Vec Ideal S256x1024 .f32) (g : Vec Ideal S1x1024 .f32) (s b : Vec Ideal S1x1x1024 .f32)
    (w : Vec Ideal S1024x2560 .f32) (qg : Vec Ideal S1x1024 .f32) (kg : Vec Ideal S1x256 .f32) (co si : Vec Ideal S256x128 .f32)
    (hq : Vec Ideal S1024x128 .bf16) (hk : Vec Ideal S256x128 .bf16) (a : Fin 256)

theorem product_apply (n : Fin 2560) :
    k0_pay2 x g s b w (ix2 a n) = project (fun d => x (ix2 a d)) (fun d => g (ix2 0 d)) (fun d => s (ix3 0 0 d))
      (fun d => b (ix3 0 0 d)) (fun d => w (ix2 d n)) := by
  pointwise [k0_pay2]
  rfl

/-- The whole product of a tile reads its blocks whole. -/
theorem whole : k0_pay18 x g s b w qg kg co si hq hk = k0_pay2 x g s b w := by
  rw [k0_pay18]
  simp only [View.ld_unit_zero (S := S256x1024) off2, View.ld_unit_zero (S := S1x1024) off2, View.ld_unit_zero (S := S1x1x1024) off3,
    View.ld_unit_zero (S := S1024x2560) off2]

theorem value_apply (n : Fin 256) :
    out0_13 x g s b w qg kg co si hq hk (ix2 a n) = k0_pay2 x g s b w (ix2 a ⟨1280 + n.val, by omega⟩) := by
  rw [out0_13, whole]
  refine (congrFun (View.canon_cons_unit_zero off2 _ _ _) _).trans ?_
  pointwise [k0_pay16]

theorem gate_apply (n : Fin 1024) :
    out0_14 x g s b w qg kg co si hq hk (ix2 a n) = k0_pay2 x g s b w (ix2 a ⟨1536 + n.val, by omega⟩) := by
  rw [out0_14, whole]
  refine (congrFun (View.canon_cons_unit_zero off2 _ _ _) _).trans ?_
  pointwise [k0_pay17]

theorem raw_apply (n : Fin 1280) :
    out0_15 x g s b w qg kg co si hq hk (ix2 a n) = k0_pay2 x g s b w (ix2 a ⟨n.val, by omega⟩) := by
  rw [out0_15, whole]
  refine (congrFun (View.canon_cons_unit_zero off2 _ _ _) _).trans ?_
  pointwise [k0_pay1]

end Tile

section Kernel

open Cert.AttnInKernelIdeal Cert.AttnInKernelIdeal.Gen

/-- The grid point of tile `i`. -/
def pt (i : Fin 33) : Fin cfg0.N := ⟨i.val, by rw [show cfg0.N = 33 from N_0]; omega⟩

theorem idx : ∀ i : Fin 33, win0_0.index (pt i) = ![i.val, 0] ∧ win0_1.index (pt i) = ![0, 0]
      ∧ win0_2.index (pt i) = ![min i.val 1, 0, 0] ∧ win0_3.index (pt i) = ![min i.val 1, 0, 0]
      ∧ win0_4.index (pt i) = ![0, 0] ∧ win0_13.index (pt i) = ![i.val, 0] ∧ win0_14.index (pt i) = ![i.val, 0]
      ∧ win0_15.index (pt i) = ![i.val, 0] := by
  decide +kernel

variable (m : (ℓ : Loc nD τ sig) → Buf (Elt Ideal) ℓ) (c : Dev nD) (a : Fin 256)

theorem blk_row (i : Fin 33) (d : Fin 1024) :
    iblk m c 0 (pt i) (ix2 a d) = m ((c : Thread nD τ).loc main_arg0) (ix2 (row i a) d) := by
  have h := (idx i).1
  blk_ext [iblk, V_main_arg0, h, row]

theorem blk_gain (i : Fin 33) (d : Fin 1024) :
    iblk m c 1 (pt i) (ix2 0 d) = m ((c : Thread nD τ).loc main_arg1) (ix2 0 d) := by
  have h := (idx i).2.1
  blk_ext [iblk, V_main_arg1, h]

theorem blk_scale (i : Fin 33) (d : Fin 1024) :
    iblk m c 2 (pt i) (ix3 0 0 d) = m ((c : Thread nD τ).loc main_arg2) (ix3 (seg i) 0 d) := by
  have h := (idx i).2.2.1
  blk_ext [iblk, V_main_arg2, h, seg]

theorem blk_shift (i : Fin 33) (d : Fin 1024) :
    iblk m c 3 (pt i) (ix3 0 0 d) = m ((c : Thread nD τ).loc main_arg3) (ix3 (seg i) 0 d) := by
  have h := (idx i).2.2.2.1
  blk_ext [iblk, V_main_arg3, h, seg]

theorem blk_weight (i : Fin 33) (d : Fin 1024) (n : Fin 2560) :
    iblk m c 4 (pt i) (ix2 d n) = m ((c : Thread nD τ).loc main_arg4) (ix2 d n) := by
  have h := (idx i).2.2.2.2.1
  blk_ext [iblk, V_main_arg4, h]

/-- Row `a` of tile `i` through the norm and the product. -/
def entry (x0 : Vec Ideal S8448x1024 .f32) (x1 : Vec Ideal S1x1024 .f32) (x2 x3 : Vec Ideal S2x1x1024 .f32)
    (x4 : Vec Ideal S1024x2560 .f32) (i : Fin 33) (a : Fin 256) (n : Fin 2560) : EReal :=
  project (fun d => x0 (ix2 (row i a) d)) (fun d => x1 (ix2 0 d)) (fun d => x2 (ix3 (seg i) 0 d)) (fun d => x3 (ix3 (seg i) 0 d))
    (fun d => x4 (ix2 d n))

theorem tile_product (i : Fin 33) (n : Fin 2560) :
    k0_pay2 (iblk m c 0 (pt i)) (iblk m c 1 (pt i)) (iblk m c 2 (pt i)) (iblk m c 3 (pt i)) (iblk m c 4 (pt i)) (ix2 a n)
      = entry (m ((c : Thread nD τ).loc main_arg0)) (m ((c : Thread nD τ).loc main_arg1)) (m ((c : Thread nD τ).loc main_arg2))
          (m ((c : Thread nD τ).loc main_arg3)) (m ((c : Thread nD τ).loc main_arg4)) i a n := by
  refine (product_apply _ _ _ _ _ a n).trans ?_
  simp only [blk_row, blk_gain, blk_scale, blk_shift, blk_weight]
  rfl

theorem arr_value (i : Fin 33) (n : Fin 256) :
    (dats m 0 c).arrAt 13 cfg0.N (ix2 (row i a) n)
      = entry (m ((c : Thread nD τ).loc main_arg0)) (m ((c : Thread nD τ).loc main_arg1)) (m ((c : Thread nD τ).loc main_arg2))
          (m ((c : Thread nD τ).loc main_arg3)) (m ((c : Thread nD τ).loc main_arg4)) i a ⟨1280 + n.val, by omega⟩ := by
  have h := (idx i).2.2.2.2.2.1
  have e := (dats m 0 c).arrAt_emb_eq_flushed 13 Value.disjoint13 (pt i) (flush0_13 _) (ix2 a n)
  refine Eq.trans ?_ (e.trans ?_)
  · blk_ext [h, row]
  · refine (congrFun (after0_13 m c (pt i)) (ix2 a n)).trans ?_
    exact (value_apply _ _ _ _ _ _ _ _ _ _ _ a n).trans (tile_product m c a i _)

theorem arr_gate (i : Fin 33) (n : Fin 1024) :
    (dats m 0 c).arrAt 14 cfg0.N (ix2 (row i a) n)
      = entry (m ((c : Thread nD τ).loc main_arg0)) (m ((c : Thread nD τ).loc main_arg1)) (m ((c : Thread nD τ).loc main_arg2))
          (m ((c : Thread nD τ).loc main_arg3)) (m ((c : Thread nD τ).loc main_arg4)) i a ⟨1536 + n.val, by omega⟩ := by
  have h := (idx i).2.2.2.2.2.2.1
  have e := (dats m 0 c).arrAt_emb_eq_flushed 14 Value.disjoint14 (pt i) (flush0_14 _) (ix2 a n)
  refine Eq.trans ?_ (e.trans ?_)
  · blk_ext [h, row]
  · refine (congrFun (after0_14 m c (pt i)) (ix2 a n)).trans ?_
    exact (gate_apply _ _ _ _ _ _ _ _ _ _ _ a n).trans (tile_product m c a i _)

theorem arr_raw (i : Fin 33) (n : Fin 1280) :
    (dats m 0 c).arrAt 15 cfg0.N (ix2 (row i a) n)
      = entry (m ((c : Thread nD τ).loc main_arg0)) (m ((c : Thread nD τ).loc main_arg1)) (m ((c : Thread nD τ).loc main_arg2))
          (m ((c : Thread nD τ).loc main_arg3)) (m ((c : Thread nD τ).loc main_arg4)) i a ⟨n.val, by omega⟩ := by
  have h := (idx i).2.2.2.2.2.2.2
  have e := (dats m 0 c).arrAt_emb_eq_flushed 15 Value.disjoint15 (pt i) (flush0_15 _) (ix2 a n)
  refine Eq.trans ?_ (e.trans ?_)
  · blk_ext [h, row]
  · refine (congrFun (after0_15 m c (pt i)) (ix2 a n)).trans ?_
    exact (raw_apply _ _ _ _ _ _ _ _ _ _ _ a n).trans (tile_product m c a i _)

end Kernel

/-! The reference's rows. -/

section Reference

open Cert.AttnInReferenceIdeal Cert.AttnInReferenceIdeal.Gen Cert.AttnInReferenceIdeal.Read

variable (x0 : FVec Ideal S8448x1024 .f32) (x1 : FVec Ideal S1x1024 .f32) (x2 x3 : FVec Ideal S2x1x1024 .f32)
    (x4 : FVec Ideal S1024x2560 .f32)

theorem latent_row (a : Fin 8192) (n : Fin 2560) :
    val_main_v47 (F := Ideal) x0 x1 x2 x3 x4 (ix2 a n) = project (fun d => x0 (ix2 ⟨256 + a.val, by omega⟩ d)) (fun d => x1 (ix2 0 d))
      (fun d => x2 (ix3 1 0 d)) (fun d => x3 (ix3 1 0 d)) (fun d => x4 (ix2 d n)) := by
  pointwise [val_main_v47]
  refine Finset.sum_congr rfl fun d _ => congrArg (· * x4 (ix2 d n)) ?_
  pointwise [val_main_cst_2, val_main_cst_1, val_main_cst_0, val_main_cst, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1]

theorem context_row (a : Fin 256) (n : Fin 2560) :
    val_main_v46 (F := Ideal) x0 x1 x2 x3 x4 (ix2 a n) = project (fun d => x0 (ix2 ⟨a.val, by omega⟩ d)) (fun d => x1 (ix2 0 d))
      (fun d => x2 (ix3 0 0 d)) (fun d => x3 (ix3 0 0 d)) (fun d => x4 (ix2 d n)) := by
  pointwise [val_main_v46]
  refine Finset.sum_congr rfl fun d _ => congrArg (· * x4 (ix2 d n)) ?_
  pointwise [val_main_cst_6, val_main_cst_5, val_main_cst_4, val_main_cst_3, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v0]

theorem ref_product (i : Fin 33) (a : Fin 256) (n : Fin 2560) :
    (if h : (row i a).val < 256 then val_main_v46 (F := Ideal) x0 x1 x2 x3 x4 (ix2 ⟨(row i a).val, h⟩ n)
      else val_main_v47 (F := Ideal) x0 x1 x2 x3 x4 (ix2 ⟨(row i a).val - 256, by omega⟩ n)) = entry x0 x1 x2 x3 x4 i a n := by
  by_cases h : i.val = 0
  · have hr : (row i a).val < 256 := by simp only [row]; omega
    rw [dif_pos hr, context_row]
    have s : seg i = 0 := Fin.ext (by simp only [seg, Fin.val_zero]; omega)
    rw [entry, s]
  · have hr : ¬ (row i a).val < 256 := by simp only [row]; omega
    rw [dif_neg hr, latent_row]
    have e : (⟨256 + ((row i a).val - 256), by omega⟩ : Fin 8448) = row i a := Fin.ext (by simp only; omega)
    have s : seg i = 1 := Fin.ext (by simp only [seg, Fin.val_one]; omega)
    rw [entry, s]
    simp only [e]

theorem ref_value (i : Fin 33) (a : Fin 256) (n : Fin 256) :
    val_main_v50 (F := Ideal) x0 x1 x2 x3 x4 (ix2 (row i a) n) = entry x0 x1 x2 x3 x4 i a ⟨1280 + n.val, by omega⟩ := by
  pointwise [val_main_v50, val_main_v49, val_main_v48]
  refine Eq.trans ?_ (ref_product x0 x1 x2 x3 x4 i a _)
  split_ifs <;> rfl

theorem ref_gate (i : Fin 33) (a : Fin 256) (n : Fin 1024) :
    val_main_v51 (F := Ideal) x0 x1 x2 x3 x4 (ix2 (row i a) n) = entry x0 x1 x2 x3 x4 i a ⟨1536 + n.val, by omega⟩ := by
  pointwise [val_main_v51, val_main_v48]
  refine Eq.trans ?_ (ref_product x0 x1 x2 x3 x4 i a _)
  split_ifs <;> rfl

theorem ref_raw (i : Fin 33) (a : Fin 256) (n : Fin 1280) :
    val_main_v52 (F := Ideal) x0 x1 x2 x3 x4 (ix2 (row i a) n) = entry x0 x1 x2 x3 x4 i a ⟨n.val, by omega⟩ := by
  pointwise [val_main_v52, val_main_v48]
  refine Eq.trans ?_ (ref_product x0 x1 x2 x3 x4 i a _)
  split_ifs <;> rfl

end Reference

/-! The three results. -/

/-- Two arrays of rows that agree at every row of every tile. -/
theorem rows_ext {N : ℕ} {x y : (⟨2, ![8448, N]⟩ : Shape).Idx → EReal} (h : ∀ i a n, x (ix2 (row i a) n) = y (ix2 (row i a) n)) :
    x = y := by
  funext j
  have h0 : (j 0).val < 8448 := (j 0).isLt
  have e : j = ix2 (row ⟨(j 0).val / 256, by omega⟩ ⟨(j 0).val % 256, by omega⟩) (j 1) := by
    funext k
    match k with
    | ⟨0, _⟩ => exact Fin.ext (show (j 0).val = (j 0).val / 256 * 256 + (j 0).val % 256 by omega)
    | ⟨1, _⟩ => rfl
  rw [e]
  exact h _ _ _

open Cert.AttnInKernelIdeal Cert.AttnInKernelIdeal.Gen

variable (m : (ℓ : Loc nD τ sig) → Buf (Elt Ideal) ℓ) (c : Dev nD)

theorem value_agree : (dats m 0 c).arrAt 13 cfg0.N = Cert.AttnInReferenceIdeal.Read.val_main_v50 (F := Ideal)
    (m ((c : Thread nD τ).loc main_arg0)) (m ((c : Thread nD τ).loc main_arg1)) (m ((c : Thread nD τ).loc main_arg2))
    (m ((c : Thread nD τ).loc main_arg3)) (m ((c : Thread nD τ).loc main_arg4)) :=
  rows_ext fun i a n => (arr_value m c a i n).trans (ref_value _ _ _ _ _ i a n).symm

theorem gate_agree : (dats m 0 c).arrAt 14 cfg0.N = Cert.AttnInReferenceIdeal.Read.val_main_v51 (F := Ideal)
    (m ((c : Thread nD τ).loc main_arg0)) (m ((c : Thread nD τ).loc main_arg1)) (m ((c : Thread nD τ).loc main_arg2))
    (m ((c : Thread nD τ).loc main_arg3)) (m ((c : Thread nD τ).loc main_arg4)) :=
  rows_ext fun i a n => (arr_gate m c a i n).trans (ref_gate _ _ _ _ _ i a n).symm

theorem raw_agree : (dats m 0 c).arrAt 15 cfg0.N = Cert.AttnInReferenceIdeal.Read.val_main_v52 (F := Ideal)
    (m ((c : Thread nD τ).loc main_arg0)) (m ((c : Thread nD τ).loc main_arg1)) (m ((c : Thread nD τ).loc main_arg2))
    (m ((c : Thread nD τ).loc main_arg3)) (m ((c : Thread nD τ).loc main_arg4)) :=
  rows_ext fun i a n => (arr_raw m c a i n).trans (ref_raw _ _ _ _ _ i a n).symm

end Cert.AttnProducts

end
-- ==== Proof.OutputLayer.lean ====
/-
  The S5 layer's output over the extended reals: the exact gelu of the two scans' sum, its gated linear unit, the gate of `z`,
  the output projection and the gated residual. The kernel's call and the reference compute each entry by the same sums; they
  differ in how the gelu is written, with `erf` or with `erfc`, and the two are equal at every extended real.
-/
module

public import proofs.«01_k».proof.Proof.InputLayer
public import proofs.«01_k».proof.Proof.Gen.PostKernelIdeal.Value
public import proofs.«01_k».proof.Proof.Gen.PostReferenceIdeal.Read
public import Idealize.ShloMosaic.PureOps.Ideal.Laws

@[expose] public section

set_option maxRecDepth 16384

noncomputable section

namespace Cert.LayerOut

open Idealize.ShloMosaic Idealize.ShloMosaic.TcCoe
open Cert.LayerIn (off2 off3 row seg stacked row_ext)
open scoped BigOperators

/-- The exact gelu. -/
def gelu (y : EReal) : EReal :=
  Ideal.ofBits FTy.f32 1056964608#32 * y * (1 + Ideal.erf (y * Ideal.ofBits FTy.f32 1060439283#32))

/-- A row through the gated linear unit and the gate of `z`. -/
def glu (y z b : Fin 1024 → EReal) (w : Fin 1024 → Fin 1024 → EReal) (d : Fin 1024) : EReal :=
  gelu (y d) * Ideal.logistic (∑ e, gelu (y e) * w e d + b d) * (z d * Ideal.logistic (z d))

/-- One entry of the layer's output: the residual and the gated projection. -/
def entry (x g : EReal) (y z b : Fin 1024 → EReal) (w : Fin 1024 → Fin 1024 → EReal) (o : Fin 1024 → EReal) : EReal :=
  x + g * ∑ d, glu y z b w d * o d

/-- Row `r` of the two scans' sum. -/
def both (y0 y1 : Vec Ideal ⟨2, ![8448, 1024]⟩ .f32) (r : Fin 8448) (d : Fin 1024) : EReal := y0 (ix2 r d) + y1 (ix2 r d)

/-! The kernel's tile. -/

section Kernel

open Cert.PostKernelIdeal Cert.PostKernelIdeal.Gen

theorem out_apply (i : grid0.Coords) (c x y0 y1 z : Vec Ideal S256x1024 .f32) (g : Vec Ideal S1x1x1024 .f32)
    (wg : Vec Ideal S1024x1024 .f32) (bg : Vec Ideal S1x1024 .f32) (wo : Vec Ideal S1024x1024 .f32) (a : Fin 256) (n : Fin 1024) :
    out0_9 i c x y0 y1 z g wg bg wo (ix2 a n) = entry
      (Scalar.select (Scalar.cmpi CmpIPredicate.eq (BitVec.ofNat 32 (i 0).val) 0#32) (c (ix2 a n)) (x (ix2 a n))) (g (ix3 0 0 n))
      (fun d => y0 (ix2 a d) + y1 (ix2 a d)) (fun d => z (ix2 a d)) (fun d => bg (ix2 0 d)) (fun e d => wg (ix2 e d))
      (fun d => wo (ix2 d n)) := by
  rw [out0_9]
  refine (congrFun (View.canon_cons_unit_zero off2 _ _ _) _).trans ?_
  simp only [View.ld_unit_zero (S := S256x1024) off2, View.ld_unit_zero (S := S1x1024) off2, View.ld_unit_zero (S := S1x1x1024) off3,
    View.ld_unit_zero (S := S1024x1024) off2]
  pointwise [k0_pay1, k0_pay2, k0_pay3, k0_pay4]
  rfl

/-- The grid point of tile `i`. -/
def pt (i : Fin 33) : Fin cfg0.N := ⟨i.val, by rw [show cfg0.N = 33 from N_0]; omega⟩

theorem idx : ∀ i : Fin 33, win0_0.index (pt i) = ![0, 0] ∧ win0_1.index (pt i) = ![i.val - 1, 0]
      ∧ win0_2.index (pt i) = ![i.val, 0] ∧ win0_3.index (pt i) = ![i.val, 0] ∧ win0_4.index (pt i) = ![i.val, 0]
      ∧ win0_5.index (pt i) = ![min i.val 1, 0, 0] ∧ win0_6.index (pt i) = ![0, 0]
      ∧ win0_7.index (pt i) = ![0, 0] ∧ win0_8.index (pt i) = ![0, 0] ∧ win0_9.index (pt i) = ![i.val, 0] := by
  decide +kernel

theorem coord : ∀ i : Fin 33, (grid0.coords (pt i) 0).val = i.val := by decide +kernel

variable (m : (ℓ : Loc nD τ sig) → Buf (Elt Ideal) ℓ) (c : Dev nD) (a : Fin 256) (i : Fin 33)

theorem blk_ctx (d : Fin 1024) : iblk m c 0 (pt i) (ix2 a d) = m ((c : Thread nD τ).loc main_arg0) (ix2 a d) := by
  have h := (idx i).1
  blk_ext [iblk, V_main_arg0, h]

theorem blk_lat (d : Fin 1024) :
    iblk m c 1 (pt i) (ix2 a d) = m ((c : Thread nD τ).loc main_arg1) (ix2 ⟨(i.val - 1) * 256 + a.val, by omega⟩ d) := by
  have h := (idx i).2.1
  blk_ext [iblk, V_main_arg1, h]

theorem blk_y0 (d : Fin 1024) : iblk m c 2 (pt i) (ix2 a d) = m ((c : Thread nD τ).loc main_arg2) (ix2 (row i a) d) := by
  have h := (idx i).2.2.1
  blk_ext [iblk, V_main_arg2, h, row]

theorem blk_y1 (d : Fin 1024) : iblk m c 3 (pt i) (ix2 a d) = m ((c : Thread nD τ).loc main_arg3) (ix2 (row i a) d) := by
  have h := (idx i).2.2.2.1
  blk_ext [iblk, V_main_arg3, h, row]

theorem blk_z (d : Fin 1024) : iblk m c 4 (pt i) (ix2 a d) = m ((c : Thread nD τ).loc main_arg4) (ix2 (row i a) d) := by
  have h := (idx i).2.2.2.2.1
  blk_ext [iblk, V_main_arg4, h, row]

theorem blk_gate (d : Fin 1024) : iblk m c 5 (pt i) (ix3 0 0 d) = m ((c : Thread nD τ).loc main_arg5) (ix3 (seg i) 0 d) := by
  have h := (idx i).2.2.2.2.2.1
  blk_ext [iblk, V_main_arg5, h, seg]

theorem blk_wg (d n : Fin 1024) : iblk m c 6 (pt i) (ix2 d n) = m ((c : Thread nD τ).loc main_arg6) (ix2 d n) := by
  have h := (idx i).2.2.2.2.2.2.1
  blk_ext [iblk, V_main_arg6, h]

theorem blk_bg (d : Fin 1024) : iblk m c 7 (pt i) (ix2 0 d) = m ((c : Thread nD τ).loc main_arg7) (ix2 0 d) := by
  have h := (idx i).2.2.2.2.2.2.2.1
  blk_ext [iblk, V_main_arg7, h]

theorem blk_wo (d n : Fin 1024) : iblk m c 8 (pt i) (ix2 d n) = m ((c : Thread nD τ).loc main_arg8) (ix2 d n) := by
  have h := (idx i).2.2.2.2.2.2.2.2.1
  blk_ext [iblk, V_main_arg8, h]

theorem arr_out (n : Fin 1024) :
    (dats m 0 c).arrAt 9 cfg0.N (ix2 (row i a) n)
      = entry (stacked (m ((c : Thread nD τ).loc main_arg0)) (m ((c : Thread nD τ).loc main_arg1)) i a n)
          (m ((c : Thread nD τ).loc main_arg5) (ix3 (seg i) 0 n))
          (both (m ((c : Thread nD τ).loc main_arg2)) (m ((c : Thread nD τ).loc main_arg3)) (row i a))
          (fun d => m ((c : Thread nD τ).loc main_arg4) (ix2 (row i a) d)) (fun d => m ((c : Thread nD τ).loc main_arg7) (ix2 0 d))
          (fun e d => m ((c : Thread nD τ).loc main_arg6) (ix2 e d)) (fun d => m ((c : Thread nD τ).loc main_arg8) (ix2 d n)) := by
  have h := (idx i).2.2.2.2.2.2.2.2.2
  have e := (dats m 0 c).arrAt_emb_eq_flushed 9 Value.disjoint9 (pt i) (flush0_9 _) (ix2 a n)
  refine Eq.trans ?_ (e.trans ?_)
  · blk_ext [h, row]
  · refine (congrFun (after0_9 m c (pt i)) (ix2 a n)).trans ?_
    refine (out_apply _ _ _ _ _ _ _ _ _ _ a n).trans ?_
    simp only [blk_ctx, blk_lat, blk_y0, blk_y1, blk_z, blk_gate, blk_wg, blk_bg, blk_wo, coord]
    congr 1
    clear h e
    rw [stacked]
    by_cases h : i.val = 0
    · have e : Scalar.cmpi CmpIPredicate.eq (BitVec.ofNat 32 i.val) 0#32 = 1#1 := by rw [h]; rfl
      rw [if_pos h, e]; rfl
    · rw [if_neg h]
      have e : Scalar.cmpi CmpIPredicate.eq (BitVec.ofNat 32 i.val) 0#32 = 0#1 := by
        revert h; revert i; decide
      rw [e]; rfl

end Kernel

/-! The reference's rows. -/

section Reference

open Cert.PostReferenceIdeal Cert.PostReferenceIdeal.Gen Cert.PostReferenceIdeal.Read

variable (x0 : FVec Ideal S256x1024 .f32) (x1 : FVec Ideal S8192x1024 .f32) (x2 x3 x4 : FVec Ideal S8448x1024 .f32)
    (x5 : FVec Ideal S2x1x1024 .f32) (x6 : FVec Ideal S1024x1024 .f32) (x7 : FVec Ideal S1x1024 .f32) (x8 : FVec Ideal S1024x1024 .f32)

theorem gelu_erfc (y : EReal) :
    Ideal.ofBits FTy.f32 1056964608#32 * y * Ideal.erfc (-y * Ideal.ofBits FTy.f32 1060439283#32) = gelu y := by
  rw [gelu, neg_mul, Ideal.erfc_neg]

theorem ctx_gelu (a : Fin 256) (d : Fin 1024) :
    val_main_v9 (F := Ideal) x2 x3 (ix2 a d) = gelu (both x2 x3 ⟨a.val, by omega⟩ d) := by
  refine Eq.trans ?_ (gelu_erfc _)
  pointwise [both, val_main_v9, val_main_v4, val_main_v3, val_main_v1, val_main_v0, val_main_v8, val_main_v7, val_main_v5, val_main_v6, val_main_cst, val_main_cst_0]

theorem lat_gelu (a : Fin 8192) (d : Fin 1024) :
    val_main_v31 (F := Ideal) x2 x3 (ix2 a d) = gelu (both x2 x3 ⟨256 + a.val, by omega⟩ d) := by
  refine Eq.trans ?_ (gelu_erfc _)
  pointwise [both, val_main_v31, val_main_v26, val_main_v25, val_main_v23, val_main_v0, val_main_v30, val_main_v29, val_main_v28, val_main_v27, val_main_cst_3, val_main_cst_4]

theorem ctx_glu (a : Fin 256) (d : Fin 1024) :
    val_main_v21 (F := Ideal) x2 x3 x4 x6 x7 (ix2 a d) = glu (both x2 x3 ⟨a.val, by omega⟩)
      (fun d => x4 (ix2 ⟨a.val, by omega⟩ d)) (fun d => x7 (ix2 0 d)) (fun e d => x6 (ix2 e d)) d := by
  pointwise [val_main_v21, val_main_v19, val_main_v18, val_main_v17, val_main_v16, val_main_v15, val_main_v14, val_main_v13, val_main_v12, val_main_v11, val_main_v10, val_main_v20, val_main_v2, val_main_cst_1, val_main_cst_2, val_main_call0_v0, val_main_call0_v1, val_main_call0_cst, val_main_call0_v2, val_main_call0_v3, val_main_call0_cst_0, val_main_call0_v4, val_main_call0_v5]
  simp only [ctx_gelu]
  rfl

theorem lat_glu (a : Fin 8192) (d : Fin 1024) :
    val_main_v43 (F := Ideal) x2 x3 x4 x6 x7 (ix2 a d) = glu (both x2 x3 ⟨256 + a.val, by omega⟩)
      (fun d => x4 (ix2 ⟨256 + a.val, by omega⟩ d)) (fun d => x7 (ix2 0 d)) (fun e d => x6 (ix2 e d)) d := by
  pointwise [val_main_v43, val_main_v41, val_main_v40, val_main_v39, val_main_v38, val_main_v37, val_main_v36, val_main_v35, val_main_v34, val_main_v33, val_main_v32, val_main_v42, val_main_v24, val_main_cst_5, val_main_cst_6, val_main_call1_v0, val_main_call1_v1, val_main_call1_cst, val_main_call1_v2, val_main_call1_v3, val_main_call1_cst_0, val_main_call1_v4, val_main_call1_v5]
  simp only [lat_gelu]
  rfl

theorem ctx_entry (a : Fin 256) (n : Fin 1024) :
    val_main_v49 (F := Ideal) x0 x2 x3 x4 x5 x6 x7 x8 (ix2 a n) = entry (x0 (ix2 a n)) (x5 (ix3 0 0 n))
      (both x2 x3 ⟨a.val, by omega⟩)
      (fun d => x4 (ix2 ⟨a.val, by omega⟩ d)) (fun d => x7 (ix2 0 d)) (fun e d => x6 (ix2 e d)) (fun d => x8 (ix2 d n)) := by
  pointwise [val_main_v49, val_main_v48, val_main_v47, val_main_v46, val_main_v45, val_main_v22]
  simp only [ctx_glu]
  rfl

theorem lat_entry (a : Fin 8192) (n : Fin 1024) :
    val_main_v54 (F := Ideal) x1 x2 x3 x4 x5 x6 x7 x8 (ix2 a n) = entry (x1 (ix2 a n)) (x5 (ix3 1 0 n))
      (both x2 x3 ⟨256 + a.val, by omega⟩)
      (fun d => x4 (ix2 ⟨256 + a.val, by omega⟩ d)) (fun d => x7 (ix2 0 d)) (fun e d => x6 (ix2 e d)) (fun d => x8 (ix2 d n)) := by
  pointwise [val_main_v54, val_main_v53, val_main_v52, val_main_v51, val_main_v50, val_main_v44]
  simp only [lat_glu]
  rfl

theorem ref_out (i : Fin 33) (a : Fin 256) (n : Fin 1024) :
    val_main_v55 (F := Ideal) x0 x1 x2 x3 x4 x5 x6 x7 x8 (ix2 (row i a) n)
      = entry (stacked x0 x1 i a n) (x5 (ix3 (seg i) 0 n)) (both x2 x3 (row i a))
          (fun d => x4 (ix2 (row i a) d)) (fun d => x7 (ix2 0 d)) (fun e d => x6 (ix2 e d)) (fun d => x8 (ix2 d n)) := by
  pointwise [val_main_v55]
  by_cases h : i.val = 0
  · have hr : (row i a).val < 256 := by simp only [row]; omega
    refine (dif_pos hr).trans ((ctx_entry x0 x2 x3 x4 x5 x6 x7 x8 _ n).trans ?_)
    have e : (⟨(row i a).val, hr⟩ : Fin 256) = a := Fin.ext (by simp only [row]; omega)
    have s : seg i = 0 := Fin.ext (by simp only [seg, Fin.val_zero]; omega)
    have st : stacked x0 x1 i a n = x0 (ix2 a n) := if_pos h
    have e' : x0 (ix2 ⟨(row i a).val, hr⟩ n) = x0 (ix2 a n) := by rw [e]
    refine (congrArg (fun t => entry t _ _ _ _ _ _) e').trans ?_
    rw [st, s]
  · have hr : ¬ (row i a).val < 256 := by simp only [row]; omega
    refine (dif_neg hr).trans ((lat_entry x1 x2 x3 x4 x5 x6 x7 x8 _ n).trans ?_)
    have e : (⟨(row i a).val - 256, by omega⟩ : Fin 8192) = ⟨(i.val - 1) * 256 + a.val, by omega⟩ := Fin.ext (by simp only [row]; omega)
    have s : seg i = 1 := Fin.ext (by simp only [seg, Fin.val_one]; omega)
    have st : stacked x0 x1 i a n = x1 (ix2 ⟨(i.val - 1) * 256 + a.val, by omega⟩ n) := if_neg h
    have r : (⟨256 + ((row i a).val - 256), by omega⟩ : Fin 8448) = row i a := Fin.ext (by simp only [row] at hr ⊢; omega)
    simp only [st, s, e, r]

end Reference

open Cert.PostKernelIdeal Cert.PostKernelIdeal.Gen

theorem out_agree (m : (ℓ : Loc nD τ sig) → Buf (Elt Ideal) ℓ) (c : Dev nD) :
    (dats m 0 c).arrAt 9 cfg0.N = Cert.PostReferenceIdeal.Read.val_main_v55 (F := Ideal)
      (m ((c : Thread nD τ).loc main_arg0)) (m ((c : Thread nD τ).loc main_arg1)) (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7)) (m ((c : Thread nD τ).loc main_arg8)) :=
  row_ext fun i a n => (arr_out m c a i n).trans (ref_out _ _ _ _ _ _ _ _ _ i a n).symm

end Cert.LayerOut

end
-- ==== Proof.Update.lean ====
/-
  The optimiser's step over the extended reals, entry by entry: the sum of the gradient's parts, the two moments and the
  change of the weight. No argument has to be finite.
-/
module

public import Idealize.ShloMosaic.Lib.Pointwise
public import Idealize.ShloMosaic.Lib.Pipeline.ValueKit

@[expose] public section

noncomputable section

namespace Cert.Update

open Idealize.ShloMosaic Idealize.ShloMosaic.TcCoe
open scoped BigOperators

theorem off2 : (![0, 0] : Fin 2 → ℕ) = fun _ => 0 := by
  funext a
  fin_cases a <;> rfl

theorem off3 : (![0, 0, 0] : Fin 3 → ℕ) = fun _ => 0 := by
  funext a
  fin_cases a <;> rfl

/-- The first moment after the step, from the moment `m` and the gradient `g`. -/
def moment (m g : EReal) : EReal := Ideal.ofBits FTy.f32 1063675494#32 * m + Ideal.ofBits FTy.f32 1036831949#32 * g

/-- The second moment after the step. -/
def second (v g : EReal) : EReal := Ideal.ofBits FTy.f32 1065336439#32 * v + Ideal.ofBits FTy.f32 981668463#32 * (g * g)

/-- The change of the weight `w`, with both moments freed of their bias and the decay of the weight. -/
def change (w m v g : EReal) : EReal :=
  Ideal.ofBits FTy.f32 3129152111#32
    * (Ideal.div (Ideal.div (moment m g) (Ideal.ofBits FTy.f32 1059503362#32))
        (Ideal.sqrt (Ideal.div (second v g) (Ideal.ofBits FTy.f32 1008933580#32)) + Ideal.ofBits FTy.f32 841731191#32)
      + Ideal.ofBits FTy.f32 1008981770#32 * w)

/-- One entry of the gradient: the sum over the devices' parts. -/
def total {p : ℕ} (g : Fin p → EReal) : EReal := ∑ k, g k

end Cert.Update

end
-- ==== Proof.InUpdate.lean ====
/-
  One device's share of the S5 layer's input weights: the optimiser's call and the reference, entry by entry. A grid point has one tile of
  512 rows; each entry of the four results needs that entry of the weight and of the moments, and of the gradient's parts.
-/
module

public import proofs.«01_k».proof.Proof.Update
public import proofs.«01_k».proof.Proof.Gen.InWeightKernelIdeal.Value
public import proofs.«01_k».proof.Proof.Gen.InWeightReferenceIdeal.Read

@[expose] public section

set_option maxRecDepth 16384

noncomputable section

namespace Cert.InUpdate

open Idealize.ShloMosaic Idealize.ShloMosaic.TcCoe
open Cert.Update (off2 off3 moment second change total)
open scoped BigOperators

/-! The kernel's tile. -/

section Kernel

open Cert.InWeightKernelIdeal Cert.InWeightKernelIdeal.Gen

variable (w : Vec Ideal S512x256 .f32) (g : Vec Ideal S8x512x256 .bf16) (m v : Vec Ideal S512x256 .f32) (a : Fin 512) (b : Fin 256)

theorem sum_apply : k0_pay5 w g m v (ix2 a b) = total fun k : Fin 8 => g (ix3 k a b) := by
  rw [k0_pay5, total, Fin.sum_univ_eight]
  pointwise [k0_pay4]

theorem grad_apply : out0_4 w g m v (ix2 a b) = total fun k : Fin 8 => g (ix3 k a b) := by
  rw [out0_4]
  refine (congrFun (View.canon_cons_unit_zero off2 _ _ _) _).trans ?_
  exact sum_apply w g m v a b

theorem change_apply :
    out0_5 w g m v (ix2 a b) = change (w (ix2 a b)) (m (ix2 a b)) (v (ix2 a b)) (total fun k : Fin 8 => g (ix3 k a b)) := by
  rw [out0_5]
  refine (congrFun (View.canon_cons_unit_zero off2 _ _ _) _).trans ?_
  simp only [View.ld_unit_zero (S := S512x256) off2]
  pointwise [k0_pay1, k0_pay2, k0_pay3]
  simp only [sum_apply]
  rfl

theorem moment_apply : out0_6 w g m v (ix2 a b) = moment (m (ix2 a b)) (total fun k : Fin 8 => g (ix3 k a b)) := by
  rw [out0_6]
  refine (congrFun (View.canon_cons_unit_zero off2 _ _ _) _).trans ?_
  simp only [View.ld_unit_zero (S := S512x256) off2]
  pointwise [k0_pay1]
  simp only [sum_apply]
  rfl

theorem second_apply : out0_7 w g m v (ix2 a b) = second (v (ix2 a b)) (total fun k : Fin 8 => g (ix3 k a b)) := by
  rw [out0_7]
  refine (congrFun (View.canon_cons_unit_zero off2 _ _ _) _).trans ?_
  simp only [View.ld_unit_zero (S := S512x256) off2]
  pointwise [k0_pay2]
  simp only [sum_apply]
  rfl

end Kernel

/-! The four arrays after the call. -/

section Arrays

open Cert.InWeightKernelIdeal Cert.InWeightKernelIdeal.Gen

/-- The grid point of tile `i`. -/
def pt (i : Fin 2) : Fin cfg0.N := ⟨i.val, by rw [show cfg0.N = 2 from N_0]; omega⟩

/-- Row `a` of tile `i`. -/
def row (i : Fin 2) (a : Fin 512) : Fin 1024 := ⟨i.val * 512 + a.val, by omega⟩

theorem idx : ∀ i : Fin 2, win0_0.index (pt i) = ![i.val, 0] ∧ win0_1.index (pt i) = ![0, i.val, 0]
      ∧ win0_2.index (pt i) = ![i.val, 0] ∧ win0_3.index (pt i) = ![i.val, 0] ∧ win0_4.index (pt i) = ![i.val, 0]
      ∧ win0_5.index (pt i) = ![i.val, 0] ∧ win0_6.index (pt i) = ![i.val, 0] ∧ win0_7.index (pt i) = ![i.val, 0] := by
  decide +kernel

variable (m : (ℓ : Loc nD τ sig) → Buf (Elt Ideal) ℓ) (c : Dev nD) (i : Fin 2) (a : Fin 512) (b : Fin 256)

theorem blk_w : iblk m c 0 (pt i) (ix2 a b) = m ((c : Thread nD τ).loc main_arg0) (ix2 (row i a) b) := by
  have h := (idx i).1
  blk_ext [iblk, V_main_arg0, h, row]

theorem blk_g (k : Fin 8) : iblk m c 1 (pt i) (ix3 k a b) = m ((c : Thread nD τ).loc main_arg1) (ix3 k (row i a) b) := by
  have h := (idx i).2.1
  blk_ext [iblk, V_main_arg1, h, row]

theorem blk_m : iblk m c 2 (pt i) (ix2 a b) = m ((c : Thread nD τ).loc main_arg2) (ix2 (row i a) b) := by
  have h := (idx i).2.2.1
  blk_ext [iblk, V_main_arg2, h, row]

theorem blk_v : iblk m c 3 (pt i) (ix2 a b) = m ((c : Thread nD τ).loc main_arg3) (ix2 (row i a) b) := by
  have h := (idx i).2.2.2.1
  blk_ext [iblk, V_main_arg3, h, row]

/-- The gradient's entry, from the kernel's arguments. -/
def grad (r : Fin 1024) : EReal := total fun k : Fin 8 => m ((c : Thread nD τ).loc main_arg1) (ix3 k r b)

theorem arr_grad : (dats m 0 c).arrAt 4 cfg0.N (ix2 (row i a) b) = grad m c b (row i a) := by
  have h := (idx i).2.2.2.2.1
  have e := (dats m 0 c).arrAt_emb_eq_flushed 4 Value.disjoint4 (pt i) (flush0_4 _) (ix2 a b)
  refine Eq.trans ?_ (e.trans ?_)
  · blk_ext [h, row]
  · refine (congrFun (after0_4 m c (pt i)) (ix2 a b)).trans ?_
    refine (grad_apply _ _ _ _ a b).trans ?_
    simp only [blk_g]
    rfl

theorem arr_change : (dats m 0 c).arrAt 5 cfg0.N (ix2 (row i a) b)
    = change (m ((c : Thread nD τ).loc main_arg0) (ix2 (row i a) b)) (m ((c : Thread nD τ).loc main_arg2) (ix2 (row i a) b))
        (m ((c : Thread nD τ).loc main_arg3) (ix2 (row i a) b)) (grad m c b (row i a)) := by
  have h := (idx i).2.2.2.2.2.1
  have e := (dats m 0 c).arrAt_emb_eq_flushed 5 Value.disjoint5 (pt i) (flush0_5 _) (ix2 a b)
  refine Eq.trans ?_ (e.trans ?_)
  · blk_ext [h, row]
  · refine (congrFun (after0_5 m c (pt i)) (ix2 a b)).trans ?_
    refine (change_apply _ _ _ _ a b).trans ?_
    simp only [blk_w, blk_g, blk_m, blk_v]
    rfl

theorem arr_moment : (dats m 0 c).arrAt 6 cfg0.N (ix2 (row i a) b)
    = moment (m ((c : Thread nD τ).loc main_arg2) (ix2 (row i a) b)) (grad m c b (row i a)) := by
  have h := (idx i).2.2.2.2.2.2.1
  have e := (dats m 0 c).arrAt_emb_eq_flushed 6 Value.disjoint6 (pt i) (flush0_6 _) (ix2 a b)
  refine Eq.trans ?_ (e.trans ?_)
  · blk_ext [h, row]
  · refine (congrFun (after0_6 m c (pt i)) (ix2 a b)).trans ?_
    refine (moment_apply _ _ _ _ a b).trans ?_
    simp only [blk_g, blk_m]
    rfl

theorem arr_second : (dats m 0 c).arrAt 7 cfg0.N (ix2 (row i a) b)
    = second (m ((c : Thread nD τ).loc main_arg3) (ix2 (row i a) b)) (grad m c b (row i a)) := by
  have h := (idx i).2.2.2.2.2.2.2
  have e := (dats m 0 c).arrAt_emb_eq_flushed 7 Value.disjoint7 (pt i) (flush0_7 _) (ix2 a b)
  refine Eq.trans ?_ (e.trans ?_)
  · blk_ext [h, row]
  · refine (congrFun (after0_7 m c (pt i)) (ix2 a b)).trans ?_
    refine (second_apply _ _ _ _ a b).trans ?_
    simp only [blk_g, blk_v]
    rfl

end Arrays

/-! The reference's entries. -/

section Reference

open Cert.InWeightReferenceIdeal Cert.InWeightReferenceIdeal.Gen Cert.InWeightReferenceIdeal.Read

variable (w : (⟨S1024x256, .f32⟩ : BufTy).Contents (Elt Ideal)) (g : (⟨S8x1024x256, .bf16⟩ : BufTy).Contents (Elt Ideal))
  (m v : (⟨S1024x256, .f32⟩ : BufTy).Contents (Elt Ideal)) (a : Fin 1024) (b : Fin 256)

theorem ref_grad : val_main_v1 (F := Ideal) g (ix2 a b) = total fun k : Fin 8 => g (ix3 k a b) := by
  rw [val_main_v1_apply, total]
  refine (congrArg₂ (· + ·) (Ideal.ofBits_zero_f32) (Finset.sum_congr rfl fun k _ => ?_)).trans (zero_add _)
  refine congrArg g (funext fun d => ?_)
  fin_cases d <;> rfl

theorem ref_moment : val_main_v6 (F := Ideal) g m (ix2 a b) = moment (m (ix2 a b)) (total fun k : Fin 8 => g (ix3 k a b)) := by
  pointwise [val_main_cst_0, val_main_v2, val_main_v3, val_main_cst_1, val_main_v4, val_main_v5, val_main_v6]
  simp only [ref_grad]
  rfl

theorem ref_second : val_main_v12 (F := Ideal) g v (ix2 a b) = second (v (ix2 a b)) (total fun k : Fin 8 => g (ix3 k a b)) := by
  pointwise [val_main_cst_2, val_main_v7, val_main_v8, val_main_v9, val_main_cst_3, val_main_v10, val_main_v11, val_main_v12]
  simp only [ref_grad]
  rfl

theorem ref_change : val_main_v25 (F := Ideal) w g m v (ix2 a b)
    = change (w (ix2 a b)) (m (ix2 a b)) (v (ix2 a b)) (total fun k : Fin 8 => g (ix3 k a b)) := by
  pointwise [val_main_cst_4, val_main_v13, val_main_v14, val_main_cst_5, val_main_v15, val_main_v16, val_main_v17, val_main_cst_6, val_main_v18, val_main_v19, val_main_v20, val_main_cst_7, val_main_v21, val_main_v22, val_main_v23, val_main_cst_8, val_main_v24, val_main_v25]
  simp only [ref_moment, ref_second]
  rfl

end Reference

/-! The two agree. -/

section Agree

open Cert.InWeightKernelIdeal Cert.InWeightKernelIdeal.Gen

variable (m : (ℓ : Loc nD τ sig) → Buf (Elt Ideal) ℓ) (c : Dev nD)

/-- Arrays that agree at every row of every tile are equal. -/
theorem row_ext {f g : (⟨2, ![1024, 256]⟩ : Shape).Idx → EReal}
    (h : ∀ (i : Fin 2) (a : Fin 512) (b : Fin 256), f (ix2 (row i a) b) = g (ix2 (row i a) b)) : f = g := by
  funext j
  idx_vars j
  have e : j0 = row ⟨j0.val / 512, by omega⟩ ⟨j0.val % 512, by omega⟩ := Fin.ext (by simp only [row]; omega)
  rw [e]
  exact h _ _ _

theorem grad_agree : (dats m 0 c).arrAt 4 cfg0.N
    = Cert.InWeightReferenceIdeal.Read.val_main_v1 (F := Ideal) (m ((c : Thread nD τ).loc main_arg1)) :=
  row_ext fun i a b => (arr_grad m c i a b).trans (ref_grad _ _ b).symm

theorem change_agree : (dats m 0 c).arrAt 5 cfg0.N
    = Cert.InWeightReferenceIdeal.Read.val_main_v25 (F := Ideal) (m ((c : Thread nD τ).loc main_arg0)) (m ((c : Thread nD τ).loc main_arg1))
        (m ((c : Thread nD τ).loc main_arg2)) (m ((c : Thread nD τ).loc main_arg3)) :=
  row_ext fun i a b => (arr_change m c i a b).trans (ref_change _ _ _ _ _ b).symm

theorem moment_agree : (dats m 0 c).arrAt 6 cfg0.N
    = Cert.InWeightReferenceIdeal.Read.val_main_v6 (F := Ideal) (m ((c : Thread nD τ).loc main_arg1)) (m ((c : Thread nD τ).loc main_arg2)) :=
  row_ext fun i a b => (arr_moment m c i a b).trans (ref_moment _ _ _ b).symm

theorem second_agree : (dats m 0 c).arrAt 7 cfg0.N
    = Cert.InWeightReferenceIdeal.Read.val_main_v12 (F := Ideal) (m ((c : Thread nD τ).loc main_arg1)) (m ((c : Thread nD τ).loc main_arg3)) :=
  row_ext fun i a b => (arr_second m c i a b).trans (ref_second _ _ _ b).symm

end Agree

end Cert.InUpdate

end
-- ==== Proof.SquareUpdate.lean ====
/-
  One device's share of the S5 layer's gate and output weights and of the attention's output weights: the optimiser's call and the reference, entry by entry. A grid point has one tile of
  128 rows; each entry of the four results needs that entry of the weight and of the moments, and of the gradient's parts.
-/
module

public import proofs.«01_k».proof.Proof.Update
public import proofs.«01_k».proof.Proof.Gen.SquareWeightKernelIdeal.Value
public import proofs.«01_k».proof.Proof.Gen.SquareWeightReferenceIdeal.Read

@[expose] public section

set_option maxRecDepth 16384

noncomputable section

namespace Cert.SquareUpdate

open Idealize.ShloMosaic Idealize.ShloMosaic.TcCoe
open Cert.Update (off2 off3 moment second change total)
open scoped BigOperators

/-! The kernel's tile. -/

section Kernel

open Cert.SquareWeightKernelIdeal Cert.SquareWeightKernelIdeal.Gen

variable (w : Vec Ideal S128x1024 .f32) (g : Vec Ideal S8x128x1024 .bf16) (m v : Vec Ideal S128x1024 .f32) (a : Fin 128) (b : Fin 1024)

theorem sum_apply : k0_pay5 w g m v (ix2 a b) = total fun k : Fin 8 => g (ix3 k a b) := by
  rw [k0_pay5, total, Fin.sum_univ_eight]
  pointwise [k0_pay4]

theorem grad_apply : out0_4 w g m v (ix2 a b) = total fun k : Fin 8 => g (ix3 k a b) := by
  rw [out0_4]
  refine (congrFun (View.canon_cons_unit_zero off2 _ _ _) _).trans ?_
  exact sum_apply w g m v a b

theorem change_apply :
    out0_5 w g m v (ix2 a b) = change (w (ix2 a b)) (m (ix2 a b)) (v (ix2 a b)) (total fun k : Fin 8 => g (ix3 k a b)) := by
  rw [out0_5]
  refine (congrFun (View.canon_cons_unit_zero off2 _ _ _) _).trans ?_
  simp only [View.ld_unit_zero (S := S128x1024) off2]
  pointwise [k0_pay1, k0_pay2, k0_pay3]
  simp only [sum_apply]
  rfl

theorem moment_apply : out0_6 w g m v (ix2 a b) = moment (m (ix2 a b)) (total fun k : Fin 8 => g (ix3 k a b)) := by
  rw [out0_6]
  refine (congrFun (View.canon_cons_unit_zero off2 _ _ _) _).trans ?_
  simp only [View.ld_unit_zero (S := S128x1024) off2]
  pointwise [k0_pay1]
  simp only [sum_apply]
  rfl

theorem second_apply : out0_7 w g m v (ix2 a b) = second (v (ix2 a b)) (total fun k : Fin 8 => g (ix3 k a b)) := by
  rw [out0_7]
  refine (congrFun (View.canon_cons_unit_zero off2 _ _ _) _).trans ?_
  simp only [View.ld_unit_zero (S := S128x1024) off2]
  pointwise [k0_pay2]
  simp only [sum_apply]
  rfl

end Kernel

/-! The four arrays after the call. -/

section Arrays

open Cert.SquareWeightKernelIdeal Cert.SquareWeightKernelIdeal.Gen

/-- The grid point of tile `i`. -/
def pt (i : Fin 1) : Fin cfg0.N := ⟨i.val, by rw [show cfg0.N = 1 from N_0]; omega⟩

/-- Row `a` of tile `i`. -/
def row (i : Fin 1) (a : Fin 128) : Fin 128 := ⟨i.val * 128 + a.val, by omega⟩

theorem idx : ∀ i : Fin 1, win0_0.index (pt i) = ![i.val, 0] ∧ win0_1.index (pt i) = ![0, i.val, 0]
      ∧ win0_2.index (pt i) = ![i.val, 0] ∧ win0_3.index (pt i) = ![i.val, 0] ∧ win0_4.index (pt i) = ![i.val, 0]
      ∧ win0_5.index (pt i) = ![i.val, 0] ∧ win0_6.index (pt i) = ![i.val, 0] ∧ win0_7.index (pt i) = ![i.val, 0] := by
  decide +kernel

variable (m : (ℓ : Loc nD τ sig) → Buf (Elt Ideal) ℓ) (c : Dev nD) (i : Fin 1) (a : Fin 128) (b : Fin 1024)

theorem blk_w : iblk m c 0 (pt i) (ix2 a b) = m ((c : Thread nD τ).loc main_arg0) (ix2 (row i a) b) := by
  have h := (idx i).1
  blk_ext [iblk, V_main_arg0, h, row]

theorem blk_g (k : Fin 8) : iblk m c 1 (pt i) (ix3 k a b) = m ((c : Thread nD τ).loc main_arg1) (ix3 k (row i a) b) := by
  have h := (idx i).2.1
  blk_ext [iblk, V_main_arg1, h, row]

theorem blk_m : iblk m c 2 (pt i) (ix2 a b) = m ((c : Thread nD τ).loc main_arg2) (ix2 (row i a) b) := by
  have h := (idx i).2.2.1
  blk_ext [iblk, V_main_arg2, h, row]

theorem blk_v : iblk m c 3 (pt i) (ix2 a b) = m ((c : Thread nD τ).loc main_arg3) (ix2 (row i a) b) := by
  have h := (idx i).2.2.2.1
  blk_ext [iblk, V_main_arg3, h, row]

/-- The gradient's entry, from the kernel's arguments. -/
def grad (r : Fin 128) : EReal := total fun k : Fin 8 => m ((c : Thread nD τ).loc main_arg1) (ix3 k r b)

theorem arr_grad : (dats m 0 c).arrAt 4 cfg0.N (ix2 (row i a) b) = grad m c b (row i a) := by
  have h := (idx i).2.2.2.2.1
  have e := (dats m 0 c).arrAt_emb_eq_flushed 4 Value.disjoint4 (pt i) (flush0_4 _) (ix2 a b)
  refine Eq.trans ?_ (e.trans ?_)
  · blk_ext [h, row]
  · refine (congrFun (after0_4 m c (pt i)) (ix2 a b)).trans ?_
    refine (grad_apply _ _ _ _ a b).trans ?_
    simp only [blk_g]
    rfl

theorem arr_change : (dats m 0 c).arrAt 5 cfg0.N (ix2 (row i a) b)
    = change (m ((c : Thread nD τ).loc main_arg0) (ix2 (row i a) b)) (m ((c : Thread nD τ).loc main_arg2) (ix2 (row i a) b))
        (m ((c : Thread nD τ).loc main_arg3) (ix2 (row i a) b)) (grad m c b (row i a)) := by
  have h := (idx i).2.2.2.2.2.1
  have e := (dats m 0 c).arrAt_emb_eq_flushed 5 Value.disjoint5 (pt i) (flush0_5 _) (ix2 a b)
  refine Eq.trans ?_ (e.trans ?_)
  · blk_ext [h, row]
  · refine (congrFun (after0_5 m c (pt i)) (ix2 a b)).trans ?_
    refine (change_apply _ _ _ _ a b).trans ?_
    simp only [blk_w, blk_g, blk_m, blk_v]
    rfl

theorem arr_moment : (dats m 0 c).arrAt 6 cfg0.N (ix2 (row i a) b)
    = moment (m ((c : Thread nD τ).loc main_arg2) (ix2 (row i a) b)) (grad m c b (row i a)) := by
  have h := (idx i).2.2.2.2.2.2.1
  have e := (dats m 0 c).arrAt_emb_eq_flushed 6 Value.disjoint6 (pt i) (flush0_6 _) (ix2 a b)
  refine Eq.trans ?_ (e.trans ?_)
  · blk_ext [h, row]
  · refine (congrFun (after0_6 m c (pt i)) (ix2 a b)).trans ?_
    refine (moment_apply _ _ _ _ a b).trans ?_
    simp only [blk_g, blk_m]
    rfl

theorem arr_second : (dats m 0 c).arrAt 7 cfg0.N (ix2 (row i a) b)
    = second (m ((c : Thread nD τ).loc main_arg3) (ix2 (row i a) b)) (grad m c b (row i a)) := by
  have h := (idx i).2.2.2.2.2.2.2
  have e := (dats m 0 c).arrAt_emb_eq_flushed 7 Value.disjoint7 (pt i) (flush0_7 _) (ix2 a b)
  refine Eq.trans ?_ (e.trans ?_)
  · blk_ext [h, row]
  · refine (congrFun (after0_7 m c (pt i)) (ix2 a b)).trans ?_
    refine (second_apply _ _ _ _ a b).trans ?_
    simp only [blk_g, blk_v]
    rfl

end Arrays

/-! The reference's entries. -/

section Reference

open Cert.SquareWeightReferenceIdeal Cert.SquareWeightReferenceIdeal.Gen Cert.SquareWeightReferenceIdeal.Read

variable (w : (⟨S128x1024, .f32⟩ : BufTy).Contents (Elt Ideal)) (g : (⟨S8x128x1024, .bf16⟩ : BufTy).Contents (Elt Ideal))
  (m v : (⟨S128x1024, .f32⟩ : BufTy).Contents (Elt Ideal)) (a : Fin 128) (b : Fin 1024)

theorem ref_grad : val_main_v1 (F := Ideal) g (ix2 a b) = total fun k : Fin 8 => g (ix3 k a b) := by
  rw [val_main_v1_apply, total]
  refine (congrArg₂ (· + ·) (Ideal.ofBits_zero_f32) (Finset.sum_congr rfl fun k _ => ?_)).trans (zero_add _)
  refine congrArg g (funext fun d => ?_)
  fin_cases d <;> rfl

theorem ref_moment : val_main_v6 (F := Ideal) g m (ix2 a b) = moment (m (ix2 a b)) (total fun k : Fin 8 => g (ix3 k a b)) := by
  pointwise [val_main_cst_0, val_main_v2, val_main_v3, val_main_cst_1, val_main_v4, val_main_v5, val_main_v6]
  simp only [ref_grad]
  rfl

theorem ref_second : val_main_v12 (F := Ideal) g v (ix2 a b) = second (v (ix2 a b)) (total fun k : Fin 8 => g (ix3 k a b)) := by
  pointwise [val_main_cst_2, val_main_v7, val_main_v8, val_main_v9, val_main_cst_3, val_main_v10, val_main_v11, val_main_v12]
  simp only [ref_grad]
  rfl

theorem ref_change : val_main_v25 (F := Ideal) w g m v (ix2 a b)
    = change (w (ix2 a b)) (m (ix2 a b)) (v (ix2 a b)) (total fun k : Fin 8 => g (ix3 k a b)) := by
  pointwise [val_main_cst_4, val_main_v13, val_main_v14, val_main_cst_5, val_main_v15, val_main_v16, val_main_v17, val_main_cst_6, val_main_v18, val_main_v19, val_main_v20, val_main_cst_7, val_main_v21, val_main_v22, val_main_v23, val_main_cst_8, val_main_v24, val_main_v25]
  simp only [ref_moment, ref_second]
  rfl

end Reference

/-! The two agree. -/

section Agree

open Cert.SquareWeightKernelIdeal Cert.SquareWeightKernelIdeal.Gen

variable (m : (ℓ : Loc nD τ sig) → Buf (Elt Ideal) ℓ) (c : Dev nD)

/-- Arrays that agree at every row of every tile are equal. -/
theorem row_ext {f g : (⟨2, ![128, 1024]⟩ : Shape).Idx → EReal}
    (h : ∀ (i : Fin 1) (a : Fin 128) (b : Fin 1024), f (ix2 (row i a) b) = g (ix2 (row i a) b)) : f = g := by
  funext j
  idx_vars j
  have e : j0 = row ⟨j0.val / 128, by omega⟩ ⟨j0.val % 128, by omega⟩ := Fin.ext (by simp only [row]; omega)
  rw [e]
  exact h _ _ _

theorem grad_agree : (dats m 0 c).arrAt 4 cfg0.N
    = Cert.SquareWeightReferenceIdeal.Read.val_main_v1 (F := Ideal) (m ((c : Thread nD τ).loc main_arg1)) :=
  row_ext fun i a b => (arr_grad m c i a b).trans (ref_grad _ _ b).symm

theorem change_agree : (dats m 0 c).arrAt 5 cfg0.N
    = Cert.SquareWeightReferenceIdeal.Read.val_main_v25 (F := Ideal) (m ((c : Thread nD τ).loc main_arg0)) (m ((c : Thread nD τ).loc main_arg1))
        (m ((c : Thread nD τ).loc main_arg2)) (m ((c : Thread nD τ).loc main_arg3)) :=
  row_ext fun i a b => (arr_change m c i a b).trans (ref_change _ _ _ _ _ b).symm

theorem moment_agree : (dats m 0 c).arrAt 6 cfg0.N
    = Cert.SquareWeightReferenceIdeal.Read.val_main_v6 (F := Ideal) (m ((c : Thread nD τ).loc main_arg1)) (m ((c : Thread nD τ).loc main_arg2)) :=
  row_ext fun i a b => (arr_moment m c i a b).trans (ref_moment _ _ _ b).symm

theorem second_agree : (dats m 0 c).arrAt 7 cfg0.N
    = Cert.SquareWeightReferenceIdeal.Read.val_main_v12 (F := Ideal) (m ((c : Thread nD τ).loc main_arg1)) (m ((c : Thread nD τ).loc main_arg3)) :=
  row_ext fun i a b => (arr_second m c i a b).trans (ref_second _ _ _ b).symm

end Agree

end Cert.SquareUpdate

end
-- ==== Proof.AttnUpdate.lean ====
/-
  One device's share of the attention's input weights: the optimiser's call and the reference, entry by entry. A grid point has one tile of
  512 rows; each entry of the four results needs that entry of the weight and of the moments, and of the gradient's parts.
-/
module

public import proofs.«01_k».proof.Proof.Update
public import proofs.«01_k».proof.Proof.Gen.AttnWeightKernelIdeal.Value
public import proofs.«01_k».proof.Proof.Gen.AttnWeightReferenceIdeal.Read

@[expose] public section

set_option maxRecDepth 16384

noncomputable section

namespace Cert.AttnUpdate

open Idealize.ShloMosaic Idealize.ShloMosaic.TcCoe
open Cert.Update (off2 off3 moment second change total)
open scoped BigOperators

/-! The kernel's tile. -/

section Kernel

open Cert.AttnWeightKernelIdeal Cert.AttnWeightKernelIdeal.Gen

variable (w : Vec Ideal S512x320 .f32) (g : Vec Ideal S8x512x320 .bf16) (m v : Vec Ideal S512x320 .f32) (a : Fin 512) (b : Fin 320)

theorem sum_apply : k0_pay5 w g m v (ix2 a b) = total fun k : Fin 8 => g (ix3 k a b) := by
  rw [k0_pay5, total, Fin.sum_univ_eight]
  pointwise [k0_pay4]

theorem grad_apply : out0_4 w g m v (ix2 a b) = total fun k : Fin 8 => g (ix3 k a b) := by
  rw [out0_4]
  refine (congrFun (View.canon_cons_unit_zero off2 _ _ _) _).trans ?_
  exact sum_apply w g m v a b

theorem change_apply :
    out0_5 w g m v (ix2 a b) = change (w (ix2 a b)) (m (ix2 a b)) (v (ix2 a b)) (total fun k : Fin 8 => g (ix3 k a b)) := by
  rw [out0_5]
  refine (congrFun (View.canon_cons_unit_zero off2 _ _ _) _).trans ?_
  simp only [View.ld_unit_zero (S := S512x320) off2]
  pointwise [k0_pay1, k0_pay2, k0_pay3]
  simp only [sum_apply]
  rfl

theorem moment_apply : out0_6 w g m v (ix2 a b) = moment (m (ix2 a b)) (total fun k : Fin 8 => g (ix3 k a b)) := by
  rw [out0_6]
  refine (congrFun (View.canon_cons_unit_zero off2 _ _ _) _).trans ?_
  simp only [View.ld_unit_zero (S := S512x320) off2]
  pointwise [k0_pay1]
  simp only [sum_apply]
  rfl

theorem second_apply : out0_7 w g m v (ix2 a b) = second (v (ix2 a b)) (total fun k : Fin 8 => g (ix3 k a b)) := by
  rw [out0_7]
  refine (congrFun (View.canon_cons_unit_zero off2 _ _ _) _).trans ?_
  simp only [View.ld_unit_zero (S := S512x320) off2]
  pointwise [k0_pay2]
  simp only [sum_apply]
  rfl

end Kernel

/-! The four arrays after the call. -/

section Arrays

open Cert.AttnWeightKernelIdeal Cert.AttnWeightKernelIdeal.Gen

/-- The grid point of tile `i`. -/
def pt (i : Fin 2) : Fin cfg0.N := ⟨i.val, by rw [show cfg0.N = 2 from N_0]; omega⟩

/-- Row `a` of tile `i`. -/
def row (i : Fin 2) (a : Fin 512) : Fin 1024 := ⟨i.val * 512 + a.val, by omega⟩

theorem idx : ∀ i : Fin 2, win0_0.index (pt i) = ![i.val, 0] ∧ win0_1.index (pt i) = ![0, i.val, 0]
      ∧ win0_2.index (pt i) = ![i.val, 0] ∧ win0_3.index (pt i) = ![i.val, 0] ∧ win0_4.index (pt i) = ![i.val, 0]
      ∧ win0_5.index (pt i) = ![i.val, 0] ∧ win0_6.index (pt i) = ![i.val, 0] ∧ win0_7.index (pt i) = ![i.val, 0] := by
  decide +kernel

variable (m : (ℓ : Loc nD τ sig) → Buf (Elt Ideal) ℓ) (c : Dev nD) (i : Fin 2) (a : Fin 512) (b : Fin 320)

theorem blk_w : iblk m c 0 (pt i) (ix2 a b) = m ((c : Thread nD τ).loc main_arg0) (ix2 (row i a) b) := by
  have h := (idx i).1
  blk_ext [iblk, V_main_arg0, h, row]

theorem blk_g (k : Fin 8) : iblk m c 1 (pt i) (ix3 k a b) = m ((c : Thread nD τ).loc main_arg1) (ix3 k (row i a) b) := by
  have h := (idx i).2.1
  blk_ext [iblk, V_main_arg1, h, row]

theorem blk_m : iblk m c 2 (pt i) (ix2 a b) = m ((c : Thread nD τ).loc main_arg2) (ix2 (row i a) b) := by
  have h := (idx i).2.2.1
  blk_ext [iblk, V_main_arg2, h, row]

theorem blk_v : iblk m c 3 (pt i) (ix2 a b) = m ((c : Thread nD τ).loc main_arg3) (ix2 (row i a) b) := by
  have h := (idx i).2.2.2.1
  blk_ext [iblk, V_main_arg3, h, row]

/-- The gradient's entry, from the kernel's arguments. -/
def grad (r : Fin 1024) : EReal := total fun k : Fin 8 => m ((c : Thread nD τ).loc main_arg1) (ix3 k r b)

theorem arr_grad : (dats m 0 c).arrAt 4 cfg0.N (ix2 (row i a) b) = grad m c b (row i a) := by
  have h := (idx i).2.2.2.2.1
  have e := (dats m 0 c).arrAt_emb_eq_flushed 4 Value.disjoint4 (pt i) (flush0_4 _) (ix2 a b)
  refine Eq.trans ?_ (e.trans ?_)
  · blk_ext [h, row]
  · refine (congrFun (after0_4 m c (pt i)) (ix2 a b)).trans ?_
    refine (grad_apply _ _ _ _ a b).trans ?_
    simp only [blk_g]
    rfl

theorem arr_change : (dats m 0 c).arrAt 5 cfg0.N (ix2 (row i a) b)
    = change (m ((c : Thread nD τ).loc main_arg0) (ix2 (row i a) b)) (m ((c : Thread nD τ).loc main_arg2) (ix2 (row i a) b))
        (m ((c : Thread nD τ).loc main_arg3) (ix2 (row i a) b)) (grad m c b (row i a)) := by
  have h := (idx i).2.2.2.2.2.1
  have e := (dats m 0 c).arrAt_emb_eq_flushed 5 Value.disjoint5 (pt i) (flush0_5 _) (ix2 a b)
  refine Eq.trans ?_ (e.trans ?_)
  · blk_ext [h, row]
  · refine (congrFun (after0_5 m c (pt i)) (ix2 a b)).trans ?_
    refine (change_apply _ _ _ _ a b).trans ?_
    simp only [blk_w, blk_g, blk_m, blk_v]
    rfl

theorem arr_moment : (dats m 0 c).arrAt 6 cfg0.N (ix2 (row i a) b)
    = moment (m ((c : Thread nD τ).loc main_arg2) (ix2 (row i a) b)) (grad m c b (row i a)) := by
  have h := (idx i).2.2.2.2.2.2.1
  have e := (dats m 0 c).arrAt_emb_eq_flushed 6 Value.disjoint6 (pt i) (flush0_6 _) (ix2 a b)
  refine Eq.trans ?_ (e.trans ?_)
  · blk_ext [h, row]
  · refine (congrFun (after0_6 m c (pt i)) (ix2 a b)).trans ?_
    refine (moment_apply _ _ _ _ a b).trans ?_
    simp only [blk_g, blk_m]
    rfl

theorem arr_second : (dats m 0 c).arrAt 7 cfg0.N (ix2 (row i a) b)
    = second (m ((c : Thread nD τ).loc main_arg3) (ix2 (row i a) b)) (grad m c b (row i a)) := by
  have h := (idx i).2.2.2.2.2.2.2
  have e := (dats m 0 c).arrAt_emb_eq_flushed 7 Value.disjoint7 (pt i) (flush0_7 _) (ix2 a b)
  refine Eq.trans ?_ (e.trans ?_)
  · blk_ext [h, row]
  · refine (congrFun (after0_7 m c (pt i)) (ix2 a b)).trans ?_
    refine (second_apply _ _ _ _ a b).trans ?_
    simp only [blk_g, blk_v]
    rfl

end Arrays

/-! The reference's entries. -/

section Reference

open Cert.AttnWeightReferenceIdeal Cert.AttnWeightReferenceIdeal.Gen Cert.AttnWeightReferenceIdeal.Read

variable (w : (⟨S1024x320, .f32⟩ : BufTy).Contents (Elt Ideal)) (g : (⟨S8x1024x320, .bf16⟩ : BufTy).Contents (Elt Ideal))
  (m v : (⟨S1024x320, .f32⟩ : BufTy).Contents (Elt Ideal)) (a : Fin 1024) (b : Fin 320)

theorem ref_grad : val_main_v1 (F := Ideal) g (ix2 a b) = total fun k : Fin 8 => g (ix3 k a b) := by
  rw [val_main_v1_apply, total]
  refine (congrArg₂ (· + ·) (Ideal.ofBits_zero_f32) (Finset.sum_congr rfl fun k _ => ?_)).trans (zero_add _)
  refine congrArg g (funext fun d => ?_)
  fin_cases d <;> rfl

theorem ref_moment : val_main_v6 (F := Ideal) g m (ix2 a b) = moment (m (ix2 a b)) (total fun k : Fin 8 => g (ix3 k a b)) := by
  pointwise [val_main_cst_0, val_main_v2, val_main_v3, val_main_cst_1, val_main_v4, val_main_v5, val_main_v6]
  simp only [ref_grad]
  rfl

theorem ref_second : val_main_v12 (F := Ideal) g v (ix2 a b) = second (v (ix2 a b)) (total fun k : Fin 8 => g (ix3 k a b)) := by
  pointwise [val_main_cst_2, val_main_v7, val_main_v8, val_main_v9, val_main_cst_3, val_main_v10, val_main_v11, val_main_v12]
  simp only [ref_grad]
  rfl

theorem ref_change : val_main_v25 (F := Ideal) w g m v (ix2 a b)
    = change (w (ix2 a b)) (m (ix2 a b)) (v (ix2 a b)) (total fun k : Fin 8 => g (ix3 k a b)) := by
  pointwise [val_main_cst_4, val_main_v13, val_main_v14, val_main_cst_5, val_main_v15, val_main_v16, val_main_v17, val_main_cst_6, val_main_v18, val_main_v19, val_main_v20, val_main_cst_7, val_main_v21, val_main_v22, val_main_v23, val_main_cst_8, val_main_v24, val_main_v25]
  simp only [ref_moment, ref_second]
  rfl

end Reference

/-! The two agree. -/

section Agree

open Cert.AttnWeightKernelIdeal Cert.AttnWeightKernelIdeal.Gen

variable (m : (ℓ : Loc nD τ sig) → Buf (Elt Ideal) ℓ) (c : Dev nD)

/-- Arrays that agree at every row of every tile are equal. -/
theorem row_ext {f g : (⟨2, ![1024, 320]⟩ : Shape).Idx → EReal}
    (h : ∀ (i : Fin 2) (a : Fin 512) (b : Fin 320), f (ix2 (row i a) b) = g (ix2 (row i a) b)) : f = g := by
  funext j
  idx_vars j
  have e : j0 = row ⟨j0.val / 512, by omega⟩ ⟨j0.val % 512, by omega⟩ := Fin.ext (by simp only [row]; omega)
  rw [e]
  exact h _ _ _

theorem grad_agree : (dats m 0 c).arrAt 4 cfg0.N
    = Cert.AttnWeightReferenceIdeal.Read.val_main_v1 (F := Ideal) (m ((c : Thread nD τ).loc main_arg1)) :=
  row_ext fun i a b => (arr_grad m c i a b).trans (ref_grad _ _ b).symm

theorem change_agree : (dats m 0 c).arrAt 5 cfg0.N
    = Cert.AttnWeightReferenceIdeal.Read.val_main_v25 (F := Ideal) (m ((c : Thread nD τ).loc main_arg0)) (m ((c : Thread nD τ).loc main_arg1))
        (m ((c : Thread nD τ).loc main_arg2)) (m ((c : Thread nD τ).loc main_arg3)) :=
  row_ext fun i a b => (arr_change m c i a b).trans (ref_change _ _ _ _ _ b).symm

theorem moment_agree : (dats m 0 c).arrAt 6 cfg0.N
    = Cert.AttnWeightReferenceIdeal.Read.val_main_v6 (F := Ideal) (m ((c : Thread nD τ).loc main_arg1)) (m ((c : Thread nD τ).loc main_arg2)) :=
  row_ext fun i a b => (arr_moment m c i a b).trans (ref_moment _ _ _ b).symm

theorem second_agree : (dats m 0 c).arrAt 7 cfg0.N
    = Cert.AttnWeightReferenceIdeal.Read.val_main_v12 (F := Ideal) (m ((c : Thread nD τ).loc main_arg1)) (m ((c : Thread nD τ).loc main_arg3)) :=
  row_ext fun i a b => (arr_second m c i a b).trans (ref_second _ _ _ b).symm

end Agree

end Cert.AttnUpdate

end
-- ==== Proof.ModUpdate.lean ====
/-
  One device's share of the modulation's weights: the optimiser's call and the reference, entry by entry. A grid point has one tile of
  512 rows; each entry of the four results needs that entry of the weight and of the moments, and of the gradient's parts.
-/
module

public import proofs.«01_k».proof.Proof.Update
public import proofs.«01_k».proof.Proof.Gen.ModWeightKernelIdeal.Value
public import proofs.«01_k».proof.Proof.Gen.ModWeightReferenceIdeal.Read

@[expose] public section

set_option maxRecDepth 16384

noncomputable section

namespace Cert.ModUpdate

open Idealize.ShloMosaic Idealize.ShloMosaic.TcCoe
open Cert.Update (off2 off3 moment second change total)
open scoped BigOperators

/-! The kernel's tile. -/

section Kernel

open Cert.ModWeightKernelIdeal Cert.ModWeightKernelIdeal.Gen

variable (w : Vec Ideal S512x384 .f32) (g : Vec Ideal S1x512x384 .f32) (m v : Vec Ideal S512x384 .f32) (a : Fin 512) (b : Fin 384)

theorem grad_apply : out0_4 w g m v (ix2 a b) = total fun k : Fin 1 => g (ix3 k a b) := by
  rw [out0_4]
  refine (congrFun (View.canon_cons_unit_zero off2 _ _ _) _).trans ?_
  simp only [View.ld_unit_zero (S := S512x384) off2, View.ld_unit_zero (S := S1x512x384) off3, total, Fin.sum_univ_one]
  pointwise [k0_pay1]
  try rfl

theorem change_apply :
    out0_5 w g m v (ix2 a b) = change (w (ix2 a b)) (m (ix2 a b)) (v (ix2 a b)) (total fun k : Fin 1 => g (ix3 k a b)) := by
  rw [out0_5]
  refine (congrFun (View.canon_cons_unit_zero off2 _ _ _) _).trans ?_
  simp only [View.ld_unit_zero (S := S512x384) off2, View.ld_unit_zero (S := S1x512x384) off3, total, Fin.sum_univ_one]
  pointwise [k0_pay1, k0_pay2, k0_pay3, k0_pay4]
  try rfl

theorem moment_apply : out0_6 w g m v (ix2 a b) = moment (m (ix2 a b)) (total fun k : Fin 1 => g (ix3 k a b)) := by
  rw [out0_6]
  refine (congrFun (View.canon_cons_unit_zero off2 _ _ _) _).trans ?_
  simp only [View.ld_unit_zero (S := S512x384) off2, View.ld_unit_zero (S := S1x512x384) off3, total, Fin.sum_univ_one]
  pointwise [k0_pay1, k0_pay2]
  try rfl

theorem second_apply : out0_7 w g m v (ix2 a b) = second (v (ix2 a b)) (total fun k : Fin 1 => g (ix3 k a b)) := by
  rw [out0_7]
  refine (congrFun (View.canon_cons_unit_zero off2 _ _ _) _).trans ?_
  simp only [View.ld_unit_zero (S := S512x384) off2, View.ld_unit_zero (S := S1x512x384) off3, total, Fin.sum_univ_one]
  pointwise [k0_pay1, k0_pay3]
  try rfl

end Kernel

/-! The four arrays after the call. -/

section Arrays

open Cert.ModWeightKernelIdeal Cert.ModWeightKernelIdeal.Gen

/-- The grid point of tile `i`. -/
def pt (i : Fin 4) : Fin cfg0.N := ⟨i.val, by rw [show cfg0.N = 4 from N_0]; omega⟩

/-- Row `a` of tile `i`. -/
def row (i : Fin 4) (a : Fin 512) : Fin 2048 := ⟨i.val * 512 + a.val, by omega⟩

theorem idx : ∀ i : Fin 4, win0_0.index (pt i) = ![i.val, 0] ∧ win0_1.index (pt i) = ![0, i.val, 0]
      ∧ win0_2.index (pt i) = ![i.val, 0] ∧ win0_3.index (pt i) = ![i.val, 0] ∧ win0_4.index (pt i) = ![i.val, 0]
      ∧ win0_5.index (pt i) = ![i.val, 0] ∧ win0_6.index (pt i) = ![i.val, 0] ∧ win0_7.index (pt i) = ![i.val, 0] := by
  decide +kernel

variable (m : (ℓ : Loc nD τ sig) → Buf (Elt Ideal) ℓ) (c : Dev nD) (i : Fin 4) (a : Fin 512) (b : Fin 384)

theorem blk_w : iblk m c 0 (pt i) (ix2 a b) = m ((c : Thread nD τ).loc main_arg0) (ix2 (row i a) b) := by
  have h := (idx i).1
  blk_ext [iblk, V_main_arg0, h, row]

theorem blk_g (k : Fin 1) : iblk m c 1 (pt i) (ix3 k a b) = m ((c : Thread nD τ).loc main_arg1) (ix3 k (row i a) b) := by
  have h := (idx i).2.1
  blk_ext [iblk, V_main_arg1, h, row]

theorem blk_m : iblk m c 2 (pt i) (ix2 a b) = m ((c : Thread nD τ).loc main_arg2) (ix2 (row i a) b) := by
  have h := (idx i).2.2.1
  blk_ext [iblk, V_main_arg2, h, row]

theorem blk_v : iblk m c 3 (pt i) (ix2 a b) = m ((c : Thread nD τ).loc main_arg3) (ix2 (row i a) b) := by
  have h := (idx i).2.2.2.1
  blk_ext [iblk, V_main_arg3, h, row]

/-- The gradient's entry, from the kernel's arguments. -/
def grad (r : Fin 2048) : EReal := total fun k : Fin 1 => m ((c : Thread nD τ).loc main_arg1) (ix3 k r b)

theorem arr_grad : (dats m 0 c).arrAt 4 cfg0.N (ix2 (row i a) b) = grad m c b (row i a) := by
  have h := (idx i).2.2.2.2.1
  have e := (dats m 0 c).arrAt_emb_eq_flushed 4 Value.disjoint4 (pt i) (flush0_4 _) (ix2 a b)
  refine Eq.trans ?_ (e.trans ?_)
  · blk_ext [h, row]
  · refine (congrFun (after0_4 m c (pt i)) (ix2 a b)).trans ?_
    refine (grad_apply _ _ _ _ a b).trans ?_
    simp only [blk_g]
    rfl

theorem arr_change : (dats m 0 c).arrAt 5 cfg0.N (ix2 (row i a) b)
    = change (m ((c : Thread nD τ).loc main_arg0) (ix2 (row i a) b)) (m ((c : Thread nD τ).loc main_arg2) (ix2 (row i a) b))
        (m ((c : Thread nD τ).loc main_arg3) (ix2 (row i a) b)) (grad m c b (row i a)) := by
  have h := (idx i).2.2.2.2.2.1
  have e := (dats m 0 c).arrAt_emb_eq_flushed 5 Value.disjoint5 (pt i) (flush0_5 _) (ix2 a b)
  refine Eq.trans ?_ (e.trans ?_)
  · blk_ext [h, row]
  · refine (congrFun (after0_5 m c (pt i)) (ix2 a b)).trans ?_
    refine (change_apply _ _ _ _ a b).trans ?_
    simp only [blk_w, blk_g, blk_m, blk_v]
    rfl

theorem arr_moment : (dats m 0 c).arrAt 6 cfg0.N (ix2 (row i a) b)
    = moment (m ((c : Thread nD τ).loc main_arg2) (ix2 (row i a) b)) (grad m c b (row i a)) := by
  have h := (idx i).2.2.2.2.2.2.1
  have e := (dats m 0 c).arrAt_emb_eq_flushed 6 Value.disjoint6 (pt i) (flush0_6 _) (ix2 a b)
  refine Eq.trans ?_ (e.trans ?_)
  · blk_ext [h, row]
  · refine (congrFun (after0_6 m c (pt i)) (ix2 a b)).trans ?_
    refine (moment_apply _ _ _ _ a b).trans ?_
    simp only [blk_g, blk_m]
    rfl

theorem arr_second : (dats m 0 c).arrAt 7 cfg0.N (ix2 (row i a) b)
    = second (m ((c : Thread nD τ).loc main_arg3) (ix2 (row i a) b)) (grad m c b (row i a)) := by
  have h := (idx i).2.2.2.2.2.2.2
  have e := (dats m 0 c).arrAt_emb_eq_flushed 7 Value.disjoint7 (pt i) (flush0_7 _) (ix2 a b)
  refine Eq.trans ?_ (e.trans ?_)
  · blk_ext [h, row]
  · refine (congrFun (after0_7 m c (pt i)) (ix2 a b)).trans ?_
    refine (second_apply _ _ _ _ a b).trans ?_
    simp only [blk_g, blk_v]
    rfl

end Arrays

/-! The reference's entries. -/

section Reference

open Cert.ModWeightReferenceIdeal Cert.ModWeightReferenceIdeal.Gen Cert.ModWeightReferenceIdeal.Read

variable (w : (⟨S2048x384, .f32⟩ : BufTy).Contents (Elt Ideal)) (g : (⟨S1x2048x384, .f32⟩ : BufTy).Contents (Elt Ideal))
  (m v : (⟨S2048x384, .f32⟩ : BufTy).Contents (Elt Ideal)) (a : Fin 2048) (b : Fin 384)

theorem ref_grad : val_main_v0 (F := Ideal) g (ix2 a b) = total fun k : Fin 1 => g (ix3 k a b) := by
  rw [val_main_v0_apply, total]
  refine (congrArg₂ (· + ·) (Ideal.ofBits_zero_f32) (Finset.sum_congr rfl fun k _ => ?_)).trans (zero_add _)
  refine congrArg g (funext fun d => ?_)
  fin_cases d <;> rfl

theorem ref_moment : val_main_v5 (F := Ideal) g m (ix2 a b) = moment (m (ix2 a b)) (total fun k : Fin 1 => g (ix3 k a b)) := by
  pointwise [val_main_cst_0, val_main_v1, val_main_v2, val_main_cst_1, val_main_v3, val_main_v4, val_main_v5]
  simp only [ref_grad]
  rfl

theorem ref_second : val_main_v11 (F := Ideal) g v (ix2 a b) = second (v (ix2 a b)) (total fun k : Fin 1 => g (ix3 k a b)) := by
  pointwise [val_main_cst_2, val_main_v6, val_main_v7, val_main_v8, val_main_cst_3, val_main_v9, val_main_v10, val_main_v11]
  simp only [ref_grad]
  rfl

theorem ref_change : val_main_v24 (F := Ideal) w g m v (ix2 a b)
    = change (w (ix2 a b)) (m (ix2 a b)) (v (ix2 a b)) (total fun k : Fin 1 => g (ix3 k a b)) := by
  pointwise [val_main_cst_4, val_main_v12, val_main_v13, val_main_cst_5, val_main_v14, val_main_v15, val_main_v16, val_main_cst_6, val_main_v17, val_main_v18, val_main_v19, val_main_cst_7, val_main_v20, val_main_v21, val_main_v22, val_main_cst_8, val_main_v23, val_main_v24]
  simp only [ref_moment, ref_second]
  rfl

end Reference

/-! The two agree. -/

section Agree

open Cert.ModWeightKernelIdeal Cert.ModWeightKernelIdeal.Gen

variable (m : (ℓ : Loc nD τ sig) → Buf (Elt Ideal) ℓ) (c : Dev nD)

/-- Arrays that agree at every row of every tile are equal. -/
theorem row_ext {f g : (⟨2, ![2048, 384]⟩ : Shape).Idx → EReal}
    (h : ∀ (i : Fin 4) (a : Fin 512) (b : Fin 384), f (ix2 (row i a) b) = g (ix2 (row i a) b)) : f = g := by
  funext j
  idx_vars j
  have e : j0 = row ⟨j0.val / 512, by omega⟩ ⟨j0.val % 512, by omega⟩ := Fin.ext (by simp only [row]; omega)
  rw [e]
  exact h _ _ _

theorem grad_agree : (dats m 0 c).arrAt 4 cfg0.N
    = Cert.ModWeightReferenceIdeal.Read.val_main_v0 (F := Ideal) (m ((c : Thread nD τ).loc main_arg1)) :=
  row_ext fun i a b => (arr_grad m c i a b).trans (ref_grad _ _ b).symm

theorem change_agree : (dats m 0 c).arrAt 5 cfg0.N
    = Cert.ModWeightReferenceIdeal.Read.val_main_v24 (F := Ideal) (m ((c : Thread nD τ).loc main_arg0)) (m ((c : Thread nD τ).loc main_arg1))
        (m ((c : Thread nD τ).loc main_arg2)) (m ((c : Thread nD τ).loc main_arg3)) :=
  row_ext fun i a b => (arr_change m c i a b).trans (ref_change _ _ _ _ _ b).symm

theorem moment_agree : (dats m 0 c).arrAt 6 cfg0.N
    = Cert.ModWeightReferenceIdeal.Read.val_main_v5 (F := Ideal) (m ((c : Thread nD τ).loc main_arg1)) (m ((c : Thread nD τ).loc main_arg2)) :=
  row_ext fun i a b => (arr_moment m c i a b).trans (ref_moment _ _ _ b).symm

theorem second_agree : (dats m 0 c).arrAt 7 cfg0.N
    = Cert.ModWeightReferenceIdeal.Read.val_main_v11 (F := Ideal) (m ((c : Thread nD τ).loc main_arg1)) (m ((c : Thread nD τ).loc main_arg3)) :=
  row_ext fun i a b => (arr_second m c i a b).trans (ref_second _ _ _ b).symm

end Agree

end Cert.ModUpdate

end
-- ==== Proof.SmallUpdate.lean ====
/-
  The fifteen small weights, packed in one array: the optimiser's call and the reference, entry by entry. A grid point has one tile of
  512 rows; each entry of the four results needs that entry of the weight and of the moments, and of the gradient's parts.
-/
module

public import proofs.«01_k».proof.Proof.Update
public import proofs.«01_k».proof.Proof.Gen.SmallWeightKernelIdeal.Value
public import proofs.«01_k».proof.Proof.Gen.SmallWeightReferenceIdeal.Read

@[expose] public section

set_option maxRecDepth 16384

noncomputable section

namespace Cert.SmallUpdate

open Idealize.ShloMosaic Idealize.ShloMosaic.TcCoe
open Cert.Update (off2 off3 moment second change total)
open scoped BigOperators

/-! The kernel's tile. -/

section Kernel

open Cert.SmallWeightKernelIdeal Cert.SmallWeightKernelIdeal.Gen

variable (w : Vec Ideal S512x128 .f32) (g : Vec Ideal S1x512x128 .f32) (m v : Vec Ideal S512x128 .f32) (a : Fin 512) (b : Fin 128)

theorem grad_apply : out0_4 w g m v (ix2 a b) = total fun k : Fin 1 => g (ix3 k a b) := by
  rw [out0_4]
  refine (congrFun (View.canon_cons_unit_zero off2 _ _ _) _).trans ?_
  simp only [View.ld_unit_zero (S := S512x128) off2, View.ld_unit_zero (S := S1x512x128) off3, total, Fin.sum_univ_one]
  pointwise [k0_pay1]
  try rfl

theorem change_apply :
    out0_5 w g m v (ix2 a b) = change (w (ix2 a b)) (m (ix2 a b)) (v (ix2 a b)) (total fun k : Fin 1 => g (ix3 k a b)) := by
  rw [out0_5]
  refine (congrFun (View.canon_cons_unit_zero off2 _ _ _) _).trans ?_
  simp only [View.ld_unit_zero (S := S512x128) off2, View.ld_unit_zero (S := S1x512x128) off3, total, Fin.sum_univ_one]
  pointwise [k0_pay1, k0_pay2, k0_pay3, k0_pay4]
  try rfl

theorem moment_apply : out0_6 w g m v (ix2 a b) = moment (m (ix2 a b)) (total fun k : Fin 1 => g (ix3 k a b)) := by
  rw [out0_6]
  refine (congrFun (View.canon_cons_unit_zero off2 _ _ _) _).trans ?_
  simp only [View.ld_unit_zero (S := S512x128) off2, View.ld_unit_zero (S := S1x512x128) off3, total, Fin.sum_univ_one]
  pointwise [k0_pay1, k0_pay2]
  try rfl

theorem second_apply : out0_7 w g m v (ix2 a b) = second (v (ix2 a b)) (total fun k : Fin 1 => g (ix3 k a b)) := by
  rw [out0_7]
  refine (congrFun (View.canon_cons_unit_zero off2 _ _ _) _).trans ?_
  simp only [View.ld_unit_zero (S := S512x128) off2, View.ld_unit_zero (S := S1x512x128) off3, total, Fin.sum_univ_one]
  pointwise [k0_pay1, k0_pay3]
  try rfl

end Kernel

/-! The four arrays after the call. -/

section Arrays

open Cert.SmallWeightKernelIdeal Cert.SmallWeightKernelIdeal.Gen

/-- The grid point of tile `i`. -/
def pt (i : Fin 9) : Fin cfg0.N := ⟨i.val, by rw [show cfg0.N = 9 from N_0]; omega⟩

/-- Row `a` of tile `i`. -/
def row (i : Fin 9) (a : Fin 512) : Fin 4608 := ⟨i.val * 512 + a.val, by omega⟩

theorem idx : ∀ i : Fin 9, win0_0.index (pt i) = ![i.val, 0] ∧ win0_1.index (pt i) = ![0, i.val, 0]
      ∧ win0_2.index (pt i) = ![i.val, 0] ∧ win0_3.index (pt i) = ![i.val, 0] ∧ win0_4.index (pt i) = ![i.val, 0]
      ∧ win0_5.index (pt i) = ![i.val, 0] ∧ win0_6.index (pt i) = ![i.val, 0] ∧ win0_7.index (pt i) = ![i.val, 0] := by
  decide +kernel

variable (m : (ℓ : Loc nD τ sig) → Buf (Elt Ideal) ℓ) (c : Dev nD) (i : Fin 9) (a : Fin 512) (b : Fin 128)

theorem blk_w : iblk m c 0 (pt i) (ix2 a b) = m ((c : Thread nD τ).loc main_arg0) (ix2 (row i a) b) := by
  have h := (idx i).1
  blk_ext [iblk, V_main_arg0, h, row]

theorem blk_g (k : Fin 1) : iblk m c 1 (pt i) (ix3 k a b) = m ((c : Thread nD τ).loc main_arg1) (ix3 k (row i a) b) := by
  have h := (idx i).2.1
  blk_ext [iblk, V_main_arg1, h, row]

theorem blk_m : iblk m c 2 (pt i) (ix2 a b) = m ((c : Thread nD τ).loc main_arg2) (ix2 (row i a) b) := by
  have h := (idx i).2.2.1
  blk_ext [iblk, V_main_arg2, h, row]

theorem blk_v : iblk m c 3 (pt i) (ix2 a b) = m ((c : Thread nD τ).loc main_arg3) (ix2 (row i a) b) := by
  have h := (idx i).2.2.2.1
  blk_ext [iblk, V_main_arg3, h, row]

/-- The gradient's entry, from the kernel's arguments. -/
def grad (r : Fin 4608) : EReal := total fun k : Fin 1 => m ((c : Thread nD τ).loc main_arg1) (ix3 k r b)

theorem arr_grad : (dats m 0 c).arrAt 4 cfg0.N (ix2 (row i a) b) = grad m c b (row i a) := by
  have h := (idx i).2.2.2.2.1
  have e := (dats m 0 c).arrAt_emb_eq_flushed 4 Value.disjoint4 (pt i) (flush0_4 _) (ix2 a b)
  refine Eq.trans ?_ (e.trans ?_)
  · blk_ext [h, row]
  · refine (congrFun (after0_4 m c (pt i)) (ix2 a b)).trans ?_
    refine (grad_apply _ _ _ _ a b).trans ?_
    simp only [blk_g]
    rfl

theorem arr_change : (dats m 0 c).arrAt 5 cfg0.N (ix2 (row i a) b)
    = change (m ((c : Thread nD τ).loc main_arg0) (ix2 (row i a) b)) (m ((c : Thread nD τ).loc main_arg2) (ix2 (row i a) b))
        (m ((c : Thread nD τ).loc main_arg3) (ix2 (row i a) b)) (grad m c b (row i a)) := by
  have h := (idx i).2.2.2.2.2.1
  have e := (dats m 0 c).arrAt_emb_eq_flushed 5 Value.disjoint5 (pt i) (flush0_5 _) (ix2 a b)
  refine Eq.trans ?_ (e.trans ?_)
  · blk_ext [h, row]
  · refine (congrFun (after0_5 m c (pt i)) (ix2 a b)).trans ?_
    refine (change_apply _ _ _ _ a b).trans ?_
    simp only [blk_w, blk_g, blk_m, blk_v]
    rfl

theorem arr_moment : (dats m 0 c).arrAt 6 cfg0.N (ix2 (row i a) b)
    = moment (m ((c : Thread nD τ).loc main_arg2) (ix2 (row i a) b)) (grad m c b (row i a)) := by
  have h := (idx i).2.2.2.2.2.2.1
  have e := (dats m 0 c).arrAt_emb_eq_flushed 6 Value.disjoint6 (pt i) (flush0_6 _) (ix2 a b)
  refine Eq.trans ?_ (e.trans ?_)
  · blk_ext [h, row]
  · refine (congrFun (after0_6 m c (pt i)) (ix2 a b)).trans ?_
    refine (moment_apply _ _ _ _ a b).trans ?_
    simp only [blk_g, blk_m]
    rfl

theorem arr_second : (dats m 0 c).arrAt 7 cfg0.N (ix2 (row i a) b)
    = second (m ((c : Thread nD τ).loc main_arg3) (ix2 (row i a) b)) (grad m c b (row i a)) := by
  have h := (idx i).2.2.2.2.2.2.2
  have e := (dats m 0 c).arrAt_emb_eq_flushed 7 Value.disjoint7 (pt i) (flush0_7 _) (ix2 a b)
  refine Eq.trans ?_ (e.trans ?_)
  · blk_ext [h, row]
  · refine (congrFun (after0_7 m c (pt i)) (ix2 a b)).trans ?_
    refine (second_apply _ _ _ _ a b).trans ?_
    simp only [blk_g, blk_v]
    rfl

end Arrays

/-! The reference's entries. -/

section Reference

open Cert.SmallWeightReferenceIdeal Cert.SmallWeightReferenceIdeal.Gen Cert.SmallWeightReferenceIdeal.Read

variable (w : (⟨S4608x128, .f32⟩ : BufTy).Contents (Elt Ideal)) (g : (⟨S1x4608x128, .f32⟩ : BufTy).Contents (Elt Ideal))
  (m v : (⟨S4608x128, .f32⟩ : BufTy).Contents (Elt Ideal)) (a : Fin 4608) (b : Fin 128)

theorem ref_grad : val_main_v0 (F := Ideal) g (ix2 a b) = total fun k : Fin 1 => g (ix3 k a b) := by
  rw [val_main_v0_apply, total]
  refine (congrArg₂ (· + ·) (Ideal.ofBits_zero_f32) (Finset.sum_congr rfl fun k _ => ?_)).trans (zero_add _)
  refine congrArg g (funext fun d => ?_)
  fin_cases d <;> rfl

theorem ref_moment : val_main_v5 (F := Ideal) g m (ix2 a b) = moment (m (ix2 a b)) (total fun k : Fin 1 => g (ix3 k a b)) := by
  pointwise [val_main_cst_0, val_main_v1, val_main_v2, val_main_cst_1, val_main_v3, val_main_v4, val_main_v5]
  simp only [ref_grad]
  rfl

theorem ref_second : val_main_v11 (F := Ideal) g v (ix2 a b) = second (v (ix2 a b)) (total fun k : Fin 1 => g (ix3 k a b)) := by
  pointwise [val_main_cst_2, val_main_v6, val_main_v7, val_main_v8, val_main_cst_3, val_main_v9, val_main_v10, val_main_v11]
  simp only [ref_grad]
  rfl

theorem ref_change : val_main_v24 (F := Ideal) w g m v (ix2 a b)
    = change (w (ix2 a b)) (m (ix2 a b)) (v (ix2 a b)) (total fun k : Fin 1 => g (ix3 k a b)) := by
  pointwise [val_main_cst_4, val_main_v12, val_main_v13, val_main_cst_5, val_main_v14, val_main_v15, val_main_v16, val_main_cst_6, val_main_v17, val_main_v18, val_main_v19, val_main_cst_7, val_main_v20, val_main_v21, val_main_v22, val_main_cst_8, val_main_v23, val_main_v24]
  simp only [ref_moment, ref_second]
  rfl

end Reference

/-! The two agree. -/

section Agree

open Cert.SmallWeightKernelIdeal Cert.SmallWeightKernelIdeal.Gen

variable (m : (ℓ : Loc nD τ sig) → Buf (Elt Ideal) ℓ) (c : Dev nD)

/-- Arrays that agree at every row of every tile are equal. -/
theorem row_ext {f g : (⟨2, ![4608, 128]⟩ : Shape).Idx → EReal}
    (h : ∀ (i : Fin 9) (a : Fin 512) (b : Fin 128), f (ix2 (row i a) b) = g (ix2 (row i a) b)) : f = g := by
  funext j
  idx_vars j
  have e : j0 = row ⟨j0.val / 512, by omega⟩ ⟨j0.val % 512, by omega⟩ := Fin.ext (by simp only [row]; omega)
  rw [e]
  exact h _ _ _

theorem grad_agree : (dats m 0 c).arrAt 4 cfg0.N
    = Cert.SmallWeightReferenceIdeal.Read.val_main_v0 (F := Ideal) (m ((c : Thread nD τ).loc main_arg1)) :=
  row_ext fun i a b => (arr_grad m c i a b).trans (ref_grad _ _ b).symm

theorem change_agree : (dats m 0 c).arrAt 5 cfg0.N
    = Cert.SmallWeightReferenceIdeal.Read.val_main_v24 (F := Ideal) (m ((c : Thread nD τ).loc main_arg0)) (m ((c : Thread nD τ).loc main_arg1))
        (m ((c : Thread nD τ).loc main_arg2)) (m ((c : Thread nD τ).loc main_arg3)) :=
  row_ext fun i a b => (arr_change m c i a b).trans (ref_change _ _ _ _ _ b).symm

theorem moment_agree : (dats m 0 c).arrAt 6 cfg0.N
    = Cert.SmallWeightReferenceIdeal.Read.val_main_v5 (F := Ideal) (m ((c : Thread nD τ).loc main_arg1)) (m ((c : Thread nD τ).loc main_arg2)) :=
  row_ext fun i a b => (arr_moment m c i a b).trans (ref_moment _ _ _ b).symm

theorem second_agree : (dats m 0 c).arrAt 7 cfg0.N
    = Cert.SmallWeightReferenceIdeal.Read.val_main_v11 (F := Ideal) (m ((c : Thread nD τ).loc main_arg1)) (m ((c : Thread nD τ).loc main_arg3)) :=
  row_ext fun i a b => (arr_second m c i a b).trans (ref_second _ _ _ b).symm

end Agree

end Cert.SmallUpdate

end
-- ==== Proof.SumParts.lean ====
/-
  The sum of the devices' parts of the small weights' packed gradient: the call and the reference, entry by entry.
  The call has one grid point, which has the whole arrays.
-/
module

public import proofs.«01_k».proof.Proof.Update
public import proofs.«01_k».proof.Proof.Gen.SumKernelIdeal.Value
public import proofs.«01_k».proof.Proof.Gen.SumReferenceIdeal.Read

@[expose] public section

set_option maxRecDepth 16384

noncomputable section

namespace Cert.SumParts

open Idealize.ShloMosaic Idealize.ShloMosaic.TcCoe
open Cert.Update (off2 off3 total)
open scoped BigOperators

section Kernel

open Cert.SumKernelIdeal Cert.SumKernelIdeal.Gen

/-- The call's result from the block of parts it reads. -/
theorem sum_apply (g : Vec Ideal S8x576x128 .f32) (a : Fin 576) (b : Fin 128) :
    out0_1 g (ix2 a b) = total fun k : Fin 8 => g (ix3 k a b) := by
  rw [out0_1]
  refine (congrFun (View.canon_cons_unit_zero off2 _ _ _) _).trans ?_
  simp only [total, Fin.sum_univ_eight]
  pointwise [k0_pay1]
  try rfl

/-- The only grid point. -/
def pt : Fin cfg0.N := ⟨0, by rw [show cfg0.N = 1 from N_0]; omega⟩

theorem idx : win0_0.index pt = ![0, 0, 0] ∧ win0_1.index pt = ![0, 0] := by decide +kernel

variable (m : (ℓ : Loc nD τ sig) → Buf (Elt Ideal) ℓ) (c : Dev nD) (a : Fin 576) (b : Fin 128)

theorem blk_g (k : Fin 8) : iblk m c 0 pt (ix3 k a b) = m ((c : Thread nD τ).loc main_arg0) (ix3 k a b) := by
  have h := idx.1
  blk_ext [iblk, V_main_arg0, h]

/-- The sum's entry, from the kernel's argument. -/
def entry : EReal := total fun k : Fin 8 => m ((c : Thread nD τ).loc main_arg0) (ix3 k a b)

theorem arr_sum : (dats m 0 c).arrAt 1 cfg0.N (ix2 a b) = entry m c a b := by
  have h := idx.2
  have e := (dats m 0 c).arrAt_emb_eq_flushed 1 Value.disjoint1 pt (flush0_1 _) (ix2 a b)
  refine Eq.trans ?_ (e.trans ?_)
  · blk_ext [h]
  · refine (congrFun (after0_1 m c pt) (ix2 a b)).trans ?_
    refine (sum_apply _ a b).trans ?_
    simp only [blk_g]
    rfl

end Kernel

section Reference

open Cert.SumReferenceIdeal Cert.SumReferenceIdeal.Gen Cert.SumReferenceIdeal.Read

theorem ref_sum (g : (⟨S8x576x128, .f32⟩ : BufTy).Contents (Elt Ideal)) (a : Fin 576) (b : Fin 128) :
    val_main_v0 (F := Ideal) g (ix2 a b) = total fun k : Fin 8 => g (ix3 k a b) := by
  rw [val_main_v0_apply, total]
  refine (congrArg₂ (· + ·) (Ideal.ofBits_zero_f32) (Finset.sum_congr rfl fun k _ => ?_)).trans (zero_add _)
  refine congrArg g (funext fun d => ?_)
  fin_cases d <;> rfl

end Reference

section Agree

open Cert.SumKernelIdeal Cert.SumKernelIdeal.Gen

/-- The two agree. -/
theorem sum_agree (m : (ℓ : Loc nD τ sig) → Buf (Elt Ideal) ℓ)
    (c : Dev nD) :
    (dats m 0 c).arrAt 1 cfg0.N
      = Cert.SumReferenceIdeal.Read.val_main_v0 (F := Ideal)
          (m ((c : Thread nD τ).loc main_arg0)) := by
  funext j
  idx_vars j
  exact (arr_sum m c j0 j1).trans (ref_sum _ j0 j1).symm

end Agree

end Cert.SumParts

end
-- ==== Proof.ModLayer.lean ====
/-
  The modulation of both layers: the call and the reference, entry by entry. The call has one grid point, which stores the
  rows of the two layers one after the other.
-/
module

public import proofs.«01_k».proof.Proof.Update
public import proofs.«01_k».proof.Proof.Gen.ModKernelIdeal.Value
public import proofs.«01_k».proof.Proof.Gen.ModReferenceIdeal.Read

@[expose] public section

set_option maxRecDepth 16384

noncomputable section

namespace Cert.Modulate

open Idealize.ShloMosaic Idealize.ShloMosaic.TcCoe
open Cert.Update (off2 off3)
open scoped BigOperators

/-- One entry: the row through silu, times a column of the weights, and the bias. -/
def modulate (c w : Fin 1024 → EReal) (b : EReal) : EReal := (∑ d, c d * Ideal.logistic (c d) * w d) + b

section Kernel

open Cert.ModKernelIdeal Cert.ModKernelIdeal.Gen

variable (x0 : Vec Ideal S16x1024 .f32) (x1 : Vec Ideal S2x1024x384 .f32) (x2 : Vec Ideal S2x1x384 .f32)

theorem first_apply (a : Fin 16) (b : Fin 384) :
    k0_pay2 (View.ld x0 r0_0) (View.ld x1 r0_1) (View.ld x2 r0_2) (ix3 0 a b)
      = modulate (fun d => x0 (ix2 a d)) (fun d => x1 (ix3 0 d b)) (x2 (ix3 0 0 b)) := by
  simp only [View.ld_unit_zero (S := S16x1024) off2]
  pointwise [k0_pay1, k0_pay2]
  try rfl

theorem second_apply (a : Fin 16) (b : Fin 384) :
    k0_pay3 (View.ld x0 r0_0) (View.ld x1 r0_4) (View.ld x2 r0_5) (ix3 0 a b)
      = modulate (fun d => x0 (ix2 a d)) (fun d => x1 (ix3 1 d b)) (x2 (ix3 1 0 b)) := by
  simp only [View.ld_unit_zero (S := S16x1024) off2]
  pointwise [k0_pay1, k0_pay3]
  try rfl

/-- The call's result from the blocks it reads. -/
theorem out_apply (i : Fin 2) (a : Fin 16) (b : Fin 384) :
    out0_3 x0 x1 x2 (ix3 i a b) = modulate (fun d => x0 (ix2 a d)) (fun d => x1 (ix3 i d b)) (x2 (ix3 i 0 b)) := by
  rw [out0_3]
  fin_cases i
  · have e : (ix3 0 a b : S2x16x384.Idx) = r0_3.emb (ix3 0 a b) := by
      funext d
      fin_cases d <;> exact Fin.ext (by simp)
    refine (View.canon_cons_of_not_mem _ _ ?_).trans ?_
    · show (ix3 0 a b : S2x16x384.Idx) ∉ r0_6.set
      rw [Rect.mem_set_unit]
      intro h
      have := (h 0).1
      simp at this
    · refine Eq.trans (congrArg _ e) ?_
      exact (View.canon_cons_emb r0_3 _ _ (ix3 0 a b)).trans (first_apply x0 x1 x2 a b)
  · have e : (ix3 1 a b : S2x16x384.Idx) = r0_6.emb (ix3 0 a b) := by
      funext d
      fin_cases d <;> exact Fin.ext (by simp)
    refine Eq.trans (congrArg _ e) ?_
    exact (View.canon_cons_emb r0_6 _ _ (ix3 0 a b)).trans (second_apply x0 x1 x2 a b)

/-- The only grid point. -/
def pt : Fin cfg0.N := ⟨0, by rw [show cfg0.N = 1 from N_0]; omega⟩

theorem idx : win0_0.index pt = ![0, 0] ∧ win0_1.index pt = ![0, 0, 0] ∧ win0_2.index pt = ![0, 0, 0]
    ∧ win0_3.index pt = ![0, 0, 0] := by decide +kernel

variable (m : (ℓ : Loc nD τ sig) → Buf (Elt Ideal) ℓ) (c : Dev nD)

/-- The bias as the call reads it. -/
theorem bias_apply (X : Valuation τ sig (Elt Ideal)) (i : Fin 2) (b : Fin 384) :
    StableHlo.after (hostOps0 (F := Ideal)) X (Proc.devRef .tc main_v0) (ix3 i 0 b) = X (Proc.devRef .tc main_arg2) (ix2 i b) := by
  unfold_abbrev_sides
  after_results
  pointwise []

theorem blk_c (a : Fin 16) (d : Fin 1024) : iblk m c 0 pt (ix2 a d) = m ((c : Thread nD τ).loc main_arg0) (ix2 a d) := by
  have h := idx.1
  blk_ext [iblk, V_main_arg0, h]

theorem blk_w (i : Fin 2) (d : Fin 1024) (b : Fin 384) :
    iblk m c 1 pt (ix3 i d b) = m ((c : Thread nD τ).loc main_arg1) (ix3 i d b) := by
  have h := idx.2.1
  blk_ext [iblk, V_main_arg1, h]

theorem blk_b (i : Fin 2) (b : Fin 384) : iblk m c 2 pt (ix3 i 0 b) = m ((c : Thread nD τ).loc main_arg2) (ix2 i b) := by
  have h := idx.2.2.1
  refine Eq.trans (b := V m c main_v0 (ix3 i 0 b)) ?_ (bias_apply _ i b)
  blk_ext [iblk, h]

theorem arr_out (i : Fin 2) (a : Fin 16) (b : Fin 384) : (dats m 0 c).arrAt 3 cfg0.N (ix3 i a b)
    = modulate (fun d => m ((c : Thread nD τ).loc main_arg0) (ix2 a d)) (fun d => m ((c : Thread nD τ).loc main_arg1) (ix3 i d b))
        (m ((c : Thread nD τ).loc main_arg2) (ix2 i b)) := by
  have h := idx.2.2.2
  have e := (dats m 0 c).arrAt_emb_eq_flushed 3 Value.disjoint3 pt (flush0_3 _) (ix3 i a b)
  refine Eq.trans ?_ (e.trans ?_)
  · blk_ext [h]
  · refine (congrFun (after0_3 m c pt) (ix3 i a b)).trans ?_
    refine (out_apply _ _ _ i a b).trans ?_
    simp only [blk_c, blk_w, blk_b]

end Kernel

section Reference

open Cert.ModReferenceIdeal Cert.ModReferenceIdeal.Gen Cert.ModReferenceIdeal.Read

variable (c : (⟨S16x1024, .f32⟩ : BufTy).Contents (Elt Ideal)) (w : (⟨S2x1024x384, .f32⟩ : BufTy).Contents (Elt Ideal))
  (b : (⟨S2x384, .f32⟩ : BufTy).Contents (Elt Ideal))

theorem ref_silu (a : Fin 16) (d : Fin 1024) : val_main_v0 (F := Ideal) c (ix2 a d) = c (ix2 a d) * Ideal.logistic (c (ix2 a d)) := by
  pointwise [val_main_v0, val_main_call0_v0, val_main_call0_v1, val_main_call0_cst, val_main_call0_v2, val_main_call0_v3,
    val_main_call0_cst_0, val_main_call0_v4, val_main_call0_v5]
  try rfl

theorem ref_out (i : Fin 2) (a : Fin 16) (n : Fin 384) :
    val_main_v12 (F := Ideal) c w b (ix3 i a n)
      = modulate (fun d => c (ix2 a d)) (fun d => w (ix3 i d n)) (b (ix2 i n)) := by
  fin_cases i <;>
  · pointwise [val_main_v1, val_main_v2, val_main_v3, val_main_v4, val_main_v5, val_main_v6, val_main_v7, val_main_v8, val_main_v9,
      val_main_v10, val_main_v11, val_main_v12]
    simp only [ref_silu]
    try rfl

end Reference

section Agree

open Cert.ModKernelIdeal Cert.ModKernelIdeal.Gen

/-- The two agree. -/
theorem mod_agree (m : (ℓ : Loc nD τ sig) → Buf (Elt Ideal) ℓ)
    (c : Dev nD) :
    (dats m 0 c).arrAt 3 cfg0.N
      = Cert.ModReferenceIdeal.Read.val_main_v12 (F := Ideal)
          (m ((c : Thread nD τ).loc main_arg0))
          (m ((c : Thread nD τ).loc main_arg1))
          (m ((c : Thread nD τ).loc main_arg2)) := by
  funext j
  idx_vars j
  exact (arr_out m c j0 j1 j2).trans (ref_out _ _ _ j0 j1 j2).symm

end Agree

end Cert.Modulate

end
-- ==== Proof.ModGradient.lean ====
/-
  The gradients of the modulation's weights and of the context's row: the call and the reference, entry by entry. The call
  has the devices' eight rows, the context's row and seven rows of zeros in one array of sixteen rows; its weights'
  gradient needs no condition. The context's gradient passes through silu, whose derivative is written in two ways: they
  agree where the row, its gradient and the weights are finite.
-/
module

public import proofs.«01_k».proof.Proof.Update
public import proofs.«01_k».proof.Proof.Finite
public import proofs.«01_k».proof.Proof.Softmax
public import proofs.«01_k».proof.Pre_finite_modulation
public import proofs.«01_k».proof.Proof.Gen.Pre_finite_modulation
public import proofs.«01_k».proof.Proof.Gen.ModGradKernelIdeal.Value
public import proofs.«01_k».proof.Proof.Gen.ModGradReferenceIdeal.Read

@[expose] public section

set_option maxRecDepth 16384

noncomputable section

namespace Cert.ModGradient

open Idealize.ShloMosaic Idealize.ShloMosaic.TcCoe
open Cert.Update (off2 off3 total)
open scoped BigOperators

/-! The sixteen rows. -/

/-- Row `k` of one column: the devices' eight, the context's, and zeros. -/
def rows (l : Fin 8 → EReal) (x : EReal) (k : Fin 16) : EReal :=
  if h : k.val < 8 then l ⟨k.val, h⟩ else if h : k.val - 8 < 1 then x else 0

/-- Row `k` of the devices' eight. -/
def dev (k : Fin 8) : Fin 16 := ⟨k.val, by omega⟩

/-- A sum over the sixteen rows has the devices' rows and the context's. -/
theorem sum_rows (s : Fin 16 → EReal) (l : Fin 8 → EReal) (x : EReal) :
    ∑ k, s k * rows l x k = (∑ k, s (dev k) * l k) + s 8 * x := by
  refine (Fin.sum_univ_add (a := 8) (b := 8) _).trans (congrArg₂ (· + ·) ?_ ?_)
  · refine Finset.sum_congr rfl fun k _ => ?_
    have h : (Fin.castAdd 8 k : Fin 16).val < 8 := k.isLt
    refine congrArg₂ (· * ·) rfl ?_
    rw [rows, dif_pos h]
    rfl
  · refine (Fin.sum_univ_succ _).trans ?_
    have e : ∀ k : Fin 7, s (Fin.natAdd 8 k.succ) * rows l x (Fin.natAdd 8 k.succ) = 0 := by
      intro k
      have h : ¬ (Fin.natAdd 8 k.succ : Fin 16).val < 8 := by simp
      have h' : ¬ (Fin.natAdd 8 k.succ : Fin 16).val - 8 < 1 := by simp
      rw [rows, dif_neg h, dif_neg h', mul_zero]
    rw [Finset.sum_eq_zero fun k _ => e k, add_zero]
    rfl

theorem rows_ctx (l : Fin 8 → EReal) (x : EReal) : rows l x 8 = x := rfl

/-- One entry of the weights' gradient, from the rows of the conditions, the devices' gradients and the context's. -/
def weight (c : Fin 16 → EReal) (l : Fin 8 → EReal) (x : EReal) : EReal :=
  (∑ k, c (dev k) * Ideal.logistic (c (dev k)) * l k) + c 8 * Ideal.logistic (c 8) * x

/-- The derivative of silu at `c` times `t`. -/
def through (c t : EReal) : EReal := t * (Ideal.logistic c * (1 + c * (1 - Ideal.logistic c)))

/-! The kernel's one tile. -/

section Kernel

open Cert.ModGradKernelIdeal Cert.ModGradKernelIdeal.Gen

section Tile

variable (x0 : Vec Ideal S16x1024 .f32) (x1 : Vec Ideal S2x8x384 .f32) (x2 : Vec Ideal S8x2x1x384 .f32)
  (x3 : Vec Ideal S2x1024x384 .f32)

theorem first_rows (k : Fin 16) (n : Fin 384) :
    k0_pay6 (k0_pay16 x0 x1 x2 x3) (View.ld x2 r0_8) (View.ld x1 r0_9) (ix2 k n)
      = rows (fun j => x1 (ix3 0 j n)) (total fun j : Fin 8 => x2 (ix4 j 0 0 n)) k := by
  pointwise [k0_pay6, k0_pay16, k0_pay5]
  simp only [rows, total, Fin.sum_univ_eight]

theorem second_rows (k : Fin 16) (n : Fin 384) :
    k0_pay10 (k0_pay17 x0 x1 x2 x3) (View.ld x2 r0_15) (View.ld x2 r0_16) (View.ld x2 r0_17) (View.ld x2 r0_18)
        (View.ld x1 r0_19) (ix2 k n)
      = rows (fun j => x1 (ix3 1 j n)) (total fun j : Fin 8 => x2 (ix4 j 1 0 n)) k := by
  pointwise [k0_pay10, k0_pay17, k0_pay9]
  simp only [rows, total, Fin.sum_univ_eight]

theorem silu_apply (k : Fin 16) (d : Fin 1024) :
    k0_pay15 x0 x1 x2 x3 (ix2 k d) = x0 (ix2 k d) * Ideal.logistic (x0 (ix2 k d)) := by
  unfold k0_pay15
  simp only [View.ld_unit_zero (S := S16x1024) off2]
  pointwise [k0_pay3, k0_pay2]
  try rfl

theorem first_apply (d : Fin 1024) (n : Fin 384) :
    k0_pay7 (k0_pay15 x0 x1 x2 x3) (k0_pay16 x0 x1 x2 x3) (View.ld x2 r0_8) (View.ld x1 r0_9) (ix3 0 d n)
      = weight (fun k => x0 (ix2 k d)) (fun j => x1 (ix3 0 j n)) (total fun j : Fin 8 => x2 (ix4 j 0 0 n)) := by
  pointwise [k0_pay7]
  simp only [first_rows, silu_apply]
  exact sum_rows (fun k => x0 (ix2 k d) * Ideal.logistic (x0 (ix2 k d))) _ _

theorem second_apply (d : Fin 1024) (n : Fin 384) :
    k0_pay11 (k0_pay15 x0 x1 x2 x3) (k0_pay17 x0 x1 x2 x3) (View.ld x2 r0_15) (View.ld x2 r0_16) (View.ld x2 r0_17)
        (View.ld x2 r0_18) (View.ld x1 r0_19) (ix3 0 d n)
      = weight (fun k => x0 (ix2 k d)) (fun j => x1 (ix3 1 j n)) (total fun j : Fin 8 => x2 (ix4 j 1 0 n)) := by
  pointwise [k0_pay11]
  simp only [second_rows, silu_apply]
  exact sum_rows (fun k => x0 (ix2 k d) * Ideal.logistic (x0 (ix2 k d))) _ _

/-- The weights' gradient from the blocks the call reads. -/
theorem weight_apply (i : Fin 2) (d : Fin 1024) (n : Fin 384) :
    out0_4 x0 x1 x2 x3 (ix3 i d n)
      = weight (fun k => x0 (ix2 k d)) (fun j => x1 (ix3 i j n)) (total fun j : Fin 8 => x2 (ix4 j i 0 n)) := by
  rw [out0_4]
  fin_cases i
  · have e : (ix3 0 d n : S2x1024x384.Idx) = r0_10.emb (ix3 0 d n) := by
      funext a
      fin_cases a <;> exact Fin.ext (by simp)
    refine (View.canon_cons_of_not_mem _ _ ?_).trans ?_
    · show (ix3 0 d n : S2x1024x384.Idx) ∉ r0_20.set
      rw [Rect.mem_set_unit]
      intro h
      have := (h 0).1
      simp at this
    · refine Eq.trans (congrArg _ e) ?_
      exact (View.canon_cons_emb r0_10 _ _ (ix3 0 d n)).trans (first_apply x0 x1 x2 x3 d n)
  · have e : (ix3 1 d n : S2x1024x384.Idx) = r0_20.emb (ix3 0 d n) := by
      funext a
      fin_cases a <;> exact Fin.ext (by simp)
    refine Eq.trans (congrArg _ e) ?_
    exact (View.canon_cons_emb r0_20 _ _ (ix3 0 d n)).trans (second_apply x0 x1 x2 x3 d n)

/-- The gradient of the context's row from the blocks the call reads. -/
theorem context_apply (d : Fin 1024) :
    out0_5 x0 x1 x2 x3 (ix2 0 d) = through (x0 (ix2 8 d))
      ((∑ n, (total fun j : Fin 8 => x2 (ix4 j 0 0 n)) * x3 (ix3 0 d n))
        + ∑ n, (total fun j : Fin 8 => x2 (ix4 j 1 0 n)) * x3 (ix3 1 d n)) := by
  rw [out0_5]
  refine (congrFun (View.canon_cons_unit_zero off2 _ _ _) _).trans ?_
  pointwise [k0_pay1, k0_pay12, k0_pay13, k0_pay8, k0_pay4, k0_pay14, k0_pay2]
  simp only [first_rows, second_rows, rows_ctx]
  rfl

end Tile

/-- The only grid point. -/
def pt : Fin cfg0.N := ⟨0, by rw [show cfg0.N = 1 from N_0]; omega⟩

theorem idx : win0_0.index pt = ![0, 0] ∧ win0_1.index pt = ![0, 0, 0] ∧ win0_2.index pt = ![0, 0, 0, 0]
    ∧ win0_3.index pt = ![0, 0, 0] ∧ win0_4.index pt = ![0, 0, 0] ∧ win0_5.index pt = ![0, 0] := by decide +kernel

variable (m : (ℓ : Loc nD τ sig) → Buf (Elt Ideal) ℓ) (c : Dev nD)

theorem blk_c (a : Fin 16) (d : Fin 1024) : iblk m c 0 pt (ix2 a d) = m ((c : Thread nD τ).loc main_arg0) (ix2 a d) := by
  have h := idx.1
  blk_ext [iblk, V_main_arg0, h]

theorem blk_lat (i : Fin 2) (k : Fin 8) (n : Fin 384) :
    iblk m c 1 pt (ix3 i k n) = m ((c : Thread nD τ).loc main_arg1) (ix3 i k n) := by
  have h := idx.2.1
  blk_ext [iblk, V_main_arg1, h]

theorem blk_ctx (j : Fin 8) (i : Fin 2) (n : Fin 384) :
    iblk m c 2 pt (ix4 j i 0 n) = m ((c : Thread nD τ).loc main_arg2) (ix4 j i 0 n) := by
  have h := idx.2.2.1
  blk_ext [iblk, V_main_arg2, h]

theorem blk_w (i : Fin 2) (d : Fin 1024) (n : Fin 384) :
    iblk m c 3 pt (ix3 i d n) = m ((c : Thread nD τ).loc main_arg3) (ix3 i d n) := by
  have h := idx.2.2.2.1
  blk_ext [iblk, V_main_arg3, h]

/-- The sum of the devices' gradients of the context's row, from the kernel's argument. -/
def ctx (i : Fin 2) (n : Fin 384) : EReal := total fun j : Fin 8 => m ((c : Thread nD τ).loc main_arg2) (ix4 j i 0 n)

/-- One product of the context's gradient with the weights, from the kernel's arguments. -/
def part (i : Fin 2) (d : Fin 1024) (n : Fin 384) : EReal := ctx m c i n * m ((c : Thread nD τ).loc main_arg3) (ix3 i d n)

theorem arr_weight (i : Fin 2) (d : Fin 1024) (n : Fin 384) : (dats m 0 c).arrAt 4 cfg0.N (ix3 i d n)
    = weight (fun k => m ((c : Thread nD τ).loc main_arg0) (ix2 k d)) (fun j => m ((c : Thread nD τ).loc main_arg1) (ix3 i j n))
        (ctx m c i n) := by
  have h := idx.2.2.2.2.1
  have e := (dats m 0 c).arrAt_emb_eq_flushed 4 Value.disjoint4 pt (flush0_4 _) (ix3 i d n)
  refine Eq.trans ?_ (e.trans ?_)
  · blk_ext [h]
  · refine (congrFun (after0_4 m c pt) (ix3 i d n)).trans ?_
    refine (weight_apply _ _ _ _ i d n).trans ?_
    simp only [blk_c, blk_lat, blk_ctx]
    rfl

theorem arr_context (d : Fin 1024) : (dats m 0 c).arrAt 5 cfg0.N (ix2 0 d)
    = through (m ((c : Thread nD τ).loc main_arg0) (ix2 8 d)) ((∑ n, part m c 0 d n) + ∑ n, part m c 1 d n) := by
  have h := idx.2.2.2.2.2
  have e := (dats m 0 c).arrAt_emb_eq_flushed 5 Value.disjoint5 pt (flush0_5 _) (ix2 0 d)
  refine Eq.trans ?_ (e.trans ?_)
  · blk_ext [h]
  · refine (congrFun (after0_5 m c pt) (ix2 0 d)).trans ?_
    refine (context_apply _ _ _ _ d).trans ?_
    simp only [blk_c, blk_ctx, blk_w]
    rfl

end Kernel

/-! The reference's entries. -/

section Reference

open Cert.ModGradReferenceIdeal Cert.ModGradReferenceIdeal.Gen Cert.ModGradReferenceIdeal.Read

variable (c : (⟨S16x1024, .f32⟩ : BufTy).Contents (Elt Ideal)) (l : (⟨S2x8x384, .f32⟩ : BufTy).Contents (Elt Ideal))
  (x : (⟨S8x2x1x384, .f32⟩ : BufTy).Contents (Elt Ideal)) (w : (⟨S2x1024x384, .f32⟩ : BufTy).Contents (Elt Ideal))

theorem ref_silu (k : Fin 8) (d : Fin 1024) :
    val_main_v2 (F := Ideal) c (ix2 k d) = c (ix2 (dev k) d) * Ideal.logistic (c (ix2 (dev k) d)) := by
  pointwise [val_main_v0, val_main_v2, val_main_call0_v0, val_main_call0_v1, val_main_call0_cst, val_main_call0_v2, val_main_call0_v3,
    val_main_call0_cst_0, val_main_call0_v4, val_main_call0_v5]
  try rfl

theorem ref_logistic (d : Fin 1024) : val_main_v12_2 (F := Ideal) c (ix2 0 d) = Ideal.logistic (c (ix2 8 d)) := by
  pointwise [val_main_v1, val_main_call1_v0, val_main_call1_v1, val_main_call1_cst, val_main_call1_v2, val_main_call1_v3,
    val_main_call1_cst_0, val_main_call1_v4, val_main_v12_2]
  try rfl

theorem ref_silu_ctx (d : Fin 1024) :
    val_main_v12_0 (F := Ideal) c (ix2 0 d) = c (ix2 8 d) * Ideal.logistic (c (ix2 8 d)) := by
  pointwise [val_main_v12_0, val_main_v1]
  rw [ref_logistic]

theorem ref_slope (d : Fin 1024) :
    val_main_v12_1 (F := Ideal) c (ix2 0 d) = Ideal.logistic (c (ix2 8 d)) * (1 - Ideal.logistic (c (ix2 8 d))) := by
  pointwise [val_main_v12_1, val_main_call1_v7, val_main_call1_v6, val_main_call1_cst_1]
  rw [ref_logistic]

theorem ref_ctx (i : Fin 2) (n : Fin 384) : val_main_v22 (F := Ideal) x (ix3 i 0 n) = total fun j : Fin 8 => x (ix4 j i 0 n) := by
  rw [val_main_v22_apply, total]
  refine (congrArg₂ (· + ·) (Ideal.ofBits_zero_f32) (Finset.sum_congr rfl fun k _ => ?_)).trans (zero_add _)
  refine congrArg x (funext fun d => ?_)
  fin_cases d <;> rfl

theorem ref_weight (i : Fin 2) (d : Fin 1024) (n : Fin 384) :
    val_main_v53 (F := Ideal) c l x (ix3 i d n)
      = weight (fun k => c (ix2 k d)) (fun j => l (ix3 i j n)) (total fun j : Fin 8 => x (ix4 j i 0 n)) := by
  fin_cases i <;>
  · pointwise [val_main_v53, val_main_v48, val_main_v38, val_main_v31, val_main_v37, val_main_v47, val_main_v52, val_main_cst_0,
      val_main_cst_1, val_main_cst_2, val_main_cst_3, val_main_v30, val_main_v36, val_main_v46, val_main_v51, val_main_v28,
      val_main_v33, val_main_v45, val_main_v50, val_main_v27, val_main_v32, val_main_v44, val_main_v49, val_main_v26,
      val_main_v24, val_main_v25, val_main_v23, val_main_v43, val_main_v42, val_main_v41, val_main_v40]
    simp only [ref_silu, ref_ctx, Fin.sum_univ_one]
    rw [ref_silu_ctx]
    refine (add_comm _ _).trans (congrArg₂ (· + ·) (Finset.sum_congr rfl fun k _ => mul_comm _ _) (mul_comm _ _))

theorem ref_context (d : Fin 1024) :
    val_main_v39 (F := Ideal) c x w (ix2 0 d)
      = ((∑ n, (total fun j : Fin 8 => x (ix4 j 1 0 n)) * w (ix3 1 d n)) + ∑ n, (total fun j : Fin 8 => x (ix4 j 0 0 n)) * w (ix3 0 d n))
          * Ideal.logistic (c (ix2 8 d))
        + c (ix2 8 d) * ((∑ n, (total fun j : Fin 8 => x (ix4 j 1 0 n)) * w (ix3 1 d n)) + ∑ n, (total fun j : Fin 8 => x (ix4 j 0 0 n)) * w (ix3 0 d n))
          * (Ideal.logistic (c (ix2 8 d)) * (1 - Ideal.logistic (c (ix2 8 d)))) := by
  pointwise [val_main_v39, val_main_call2_v0, val_main_call2_v1, val_main_call2_v2, val_main_v35, val_main_v34, val_main_v29,
    val_main_v26, val_main_v25, val_main_v24, val_main_v23, val_main_v17, val_main_v16, val_main_v14, val_main_v13, val_main_v1]
  simp only [ref_logistic, ref_slope, ref_ctx]

end Reference

/-! The precondition. -/

section Precondition

open Cert.Pre_finite_modulation

variable [Facts]

/-- The precondition gives reals: the context's row, the devices' gradients of it and the weights. -/
theorem finite_reals (c : FVec Ideal S16x1024 .f32) (l : FVec Ideal S2x8x384 .f32) (x : FVec Ideal S8x2x1x384 .f32)
    (w : FVec Ideal S2x1024x384 .f32) (h : Cert.Pre_finite_modulation.fn (F := Ideal) c l x w = fun _ => 1#1) :
    (∀ d : Fin 1024, ∃ r : ℝ, c (ix2 8 d) = (r : EReal)) ∧ (∀ i, ∃ r : ℝ, x i = (r : EReal)) ∧ ∀ i, ∃ r : ℝ, w i = (r : EReal) := by
  unfold Cert.Pre_finite_modulation.fn at h
  dsimp only at h
  have h' := congrFun h (fun d => d.elim0)
  obtain ⟨h01, h2⟩ := IntOp.andi_eq_one.1 h'
  obtain ⟨h0, h1⟩ := IntOp.andi_eq_one.1 h01
  refine ⟨fun d => ?_, Cert.Attn.reals_of_all x _ _ _ _ _ h1, Cert.Attn.reals_of_all w _ _ _ _ _ h2⟩
  obtain ⟨r, e⟩ := Cert.Attn.reals_of_all _ _ _ _ _ _ h0 (ix2 0 d)
  refine ⟨r, Eq.trans ?_ e⟩
  pointwise []

end Precondition

/-! The two agree. -/

/-- Both ways of writing silu's derivative, for reals. -/
theorem through_real (c t s : ℝ) :
    ((t + s : ℝ) : EReal) * Ideal.logistic (c : EReal)
        + (c : EReal) * ((t + s : ℝ) : EReal) * (Ideal.logistic (c : EReal) * (1 - Ideal.logistic (c : EReal)))
      = through (c : EReal) ((s : EReal) + (t : EReal)) := by
  rw [through, Ideal.logistic_coe]
  simp only [← EReal.coe_add, ← EReal.coe_mul, ← EReal.coe_one, ← EReal.coe_sub]
  refine congrArg _ ?_
  ring

/-- A sum of products of reals is a real. -/
theorem sum_real {n : ℕ} (f : Fin n → EReal) (h : ∀ i, ∃ r : ℝ, f i = (r : EReal)) : ∃ r : ℝ, ∑ i, f i = (r : EReal) := by
  choose g hg using h
  exact ⟨∑ i, g i, by simp only [hg, Cert.Attn.coe_sum]⟩

section Agree

open Cert.ModGradKernelIdeal Cert.ModGradKernelIdeal.Gen

variable (m : (ℓ : Loc nD τ sig) → Buf (Elt Ideal) ℓ) (c : Dev nD)

theorem weight_agree : (dats m 0 c).arrAt 4 cfg0.N
    = Cert.ModGradReferenceIdeal.Read.val_main_v53 (F := Ideal) (m ((c : Thread nD τ).loc main_arg0)) (m ((c : Thread nD τ).loc main_arg1))
        (m ((c : Thread nD τ).loc main_arg2)) := by
  funext j
  idx_vars j
  exact (arr_weight m c j0 j1 j2).trans (ref_weight _ _ _ j0 j1 j2).symm

theorem context_agree (hc : ∀ d : Fin 1024, ∃ r : ℝ, m ((c : Thread nD τ).loc main_arg0) (ix2 8 d) = (r : EReal))
    (hx : ∀ i, ∃ r : ℝ, m ((c : Thread nD τ).loc main_arg2) i = (r : EReal))
    (hw : ∀ i, ∃ r : ℝ, m ((c : Thread nD τ).loc main_arg3) i = (r : EReal)) : (dats m 0 c).arrAt 5 cfg0.N
    = Cert.ModGradReferenceIdeal.Read.val_main_v39 (F := Ideal) (m ((c : Thread nD τ).loc main_arg0)) (m ((c : Thread nD τ).loc main_arg2))
        (m ((c : Thread nD τ).loc main_arg3)) := by
  have hp : ∀ i d, ∃ r : ℝ, ∑ n, part m c i d n = (r : EReal) := by
    intro i d
    refine sum_real _ fun n => ?_
    obtain ⟨a, ha⟩ : ∃ r : ℝ, ctx m c i n = (r : EReal) := sum_real _ fun j => hx _
    obtain ⟨b, hb⟩ := hw (ix3 i d n)
    refine ⟨a * b, ?_⟩
    rw [part, ha, EReal.coe_mul]
    exact congrArg _ hb
  funext j
  idx_vars j
  obtain rfl : j0 = 0 := Subsingleton.elim _ _
  refine (arr_context m c j1).trans (Eq.trans ?_ (ref_context _ _ _ j1).symm)
  obtain ⟨r, hr⟩ := hc j1
  obtain ⟨s, hs⟩ := hp 0 j1
  obtain ⟨t, ht⟩ := hp 1 j1
  have e := through_real r t s
  rw [EReal.coe_add, ← hs, ← ht, ← hr] at e
  exact e.symm

end Agree

end Cert.ModGradient

end
-- ==== Proof.lean ====
/-
  The certificate: the frames are the generated runs', the references' runs are the generated ones, and the value claims
  compare the results array by array: the attention's output and the gradients of its queries, keys and values; the S5
  layer's projections; the S5 layer's output; the attention layer's products; the optimiser's step on each device's share of the
  weights; the sum of the small weights' gradient; and the modulation with its gradients.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Gen.Pre_finite_modulation
public import proofs.«01_k».proof.Proof.Gen.InputKernel
public import proofs.«01_k».proof.Proof.Gen.InputKernel.Frame
public import proofs.«01_k».proof.Proof.Gen.InputKernelIdeal
public import proofs.«01_k».proof.Proof.Gen.InputKernelIdeal.Frame
public import proofs.«01_k».proof.Proof.Gen.InputKernelIdeal.Value
public import proofs.«01_k».proof.Proof.Gen.InputReferenceIdeal
public import proofs.«01_k».proof.Proof.Gen.InputReferenceIdeal.Run
public import proofs.«01_k».proof.Proof.Gen.InputReferenceIdeal.Read
public import proofs.«01_k».proof.Proof.Gen.PostKernel
public import proofs.«01_k».proof.Proof.Gen.PostKernel.Frame
public import proofs.«01_k».proof.Proof.Gen.PostKernelIdeal
public import proofs.«01_k».proof.Proof.Gen.PostKernelIdeal.Frame
public import proofs.«01_k».proof.Proof.Gen.PostKernelIdeal.Value
public import proofs.«01_k».proof.Proof.Gen.PostReferenceIdeal
public import proofs.«01_k».proof.Proof.Gen.PostReferenceIdeal.Run
public import proofs.«01_k».proof.Proof.Gen.PostReferenceIdeal.Read
public import proofs.«01_k».proof.Proof.Gen.InWeightKernel
public import proofs.«01_k».proof.Proof.Gen.InWeightKernel.Frame
public import proofs.«01_k».proof.Proof.Gen.InWeightKernelIdeal
public import proofs.«01_k».proof.Proof.Gen.InWeightKernelIdeal.Frame
public import proofs.«01_k».proof.Proof.Gen.InWeightKernelIdeal.Value
public import proofs.«01_k».proof.Proof.Gen.InWeightReferenceIdeal
public import proofs.«01_k».proof.Proof.Gen.InWeightReferenceIdeal.Run
public import proofs.«01_k».proof.Proof.Gen.InWeightReferenceIdeal.Read
public import proofs.«01_k».proof.Proof.Gen.SquareWeightKernel
public import proofs.«01_k».proof.Proof.Gen.SquareWeightKernel.Frame
public import proofs.«01_k».proof.Proof.Gen.SquareWeightKernelIdeal
public import proofs.«01_k».proof.Proof.Gen.SquareWeightKernelIdeal.Frame
public import proofs.«01_k».proof.Proof.Gen.SquareWeightKernelIdeal.Value
public import proofs.«01_k».proof.Proof.Gen.SquareWeightReferenceIdeal
public import proofs.«01_k».proof.Proof.Gen.SquareWeightReferenceIdeal.Run
public import proofs.«01_k».proof.Proof.Gen.SquareWeightReferenceIdeal.Read
public import proofs.«01_k».proof.Proof.Gen.AttnWeightKernel
public import proofs.«01_k».proof.Proof.Gen.AttnWeightKernel.Frame
public import proofs.«01_k».proof.Proof.Gen.AttnWeightKernelIdeal
public import proofs.«01_k».proof.Proof.Gen.AttnWeightKernelIdeal.Frame
public import proofs.«01_k».proof.Proof.Gen.AttnWeightKernelIdeal.Value
public import proofs.«01_k».proof.Proof.Gen.AttnWeightReferenceIdeal
public import proofs.«01_k».proof.Proof.Gen.AttnWeightReferenceIdeal.Run
public import proofs.«01_k».proof.Proof.Gen.AttnWeightReferenceIdeal.Read
public import proofs.«01_k».proof.Proof.Gen.ModWeightKernel
public import proofs.«01_k».proof.Proof.Gen.ModWeightKernel.Frame
public import proofs.«01_k».proof.Proof.Gen.ModWeightKernelIdeal
public import proofs.«01_k».proof.Proof.Gen.ModWeightKernelIdeal.Frame
public import proofs.«01_k».proof.Proof.Gen.ModWeightKernelIdeal.Value
public import proofs.«01_k».proof.Proof.Gen.ModWeightReferenceIdeal
public import proofs.«01_k».proof.Proof.Gen.ModWeightReferenceIdeal.Run
public import proofs.«01_k».proof.Proof.Gen.ModWeightReferenceIdeal.Read
public import proofs.«01_k».proof.Proof.Gen.SmallWeightKernel
public import proofs.«01_k».proof.Proof.Gen.SmallWeightKernel.Frame
public import proofs.«01_k».proof.Proof.Gen.SmallWeightKernelIdeal
public import proofs.«01_k».proof.Proof.Gen.SmallWeightKernelIdeal.Frame
public import proofs.«01_k».proof.Proof.Gen.SmallWeightKernelIdeal.Value
public import proofs.«01_k».proof.Proof.Gen.SmallWeightReferenceIdeal
public import proofs.«01_k».proof.Proof.Gen.SmallWeightReferenceIdeal.Run
public import proofs.«01_k».proof.Proof.Gen.SmallWeightReferenceIdeal.Read
public import proofs.«01_k».proof.Proof.Gen.SumKernel
public import proofs.«01_k».proof.Proof.Gen.SumKernel.Frame
public import proofs.«01_k».proof.Proof.Gen.SumKernelIdeal
public import proofs.«01_k».proof.Proof.Gen.SumKernelIdeal.Frame
public import proofs.«01_k».proof.Proof.Gen.SumKernelIdeal.Value
public import proofs.«01_k».proof.Proof.Gen.SumReferenceIdeal
public import proofs.«01_k».proof.Proof.Gen.SumReferenceIdeal.Run
public import proofs.«01_k».proof.Proof.Gen.SumReferenceIdeal.Read
public import proofs.«01_k».proof.Proof.Gen.ModKernel
public import proofs.«01_k».proof.Proof.Gen.ModKernel.Frame
public import proofs.«01_k».proof.Proof.Gen.ModKernelIdeal
public import proofs.«01_k».proof.Proof.Gen.ModKernelIdeal.Frame
public import proofs.«01_k».proof.Proof.Gen.ModKernelIdeal.Value
public import proofs.«01_k».proof.Proof.Gen.ModReferenceIdeal
public import proofs.«01_k».proof.Proof.Gen.ModReferenceIdeal.Run
public import proofs.«01_k».proof.Proof.Gen.ModReferenceIdeal.Read
public import proofs.«01_k».proof.Proof.Gen.ModGradKernel
public import proofs.«01_k».proof.Proof.Gen.ModGradKernel.Frame
public import proofs.«01_k».proof.Proof.Gen.ModGradKernelIdeal
public import proofs.«01_k».proof.Proof.Gen.ModGradKernelIdeal.Frame
public import proofs.«01_k».proof.Proof.Gen.ModGradKernelIdeal.Value
public import proofs.«01_k».proof.Proof.Gen.ModGradReferenceIdeal
public import proofs.«01_k».proof.Proof.Gen.ModGradReferenceIdeal.Run
public import proofs.«01_k».proof.Proof.Gen.ModGradReferenceIdeal.Read
public import proofs.«01_k».proof.Proof.Run
public import proofs.«01_k».proof.Proof.Finite
public import proofs.«01_k».proof.Proof.Results
public import proofs.«01_k».proof.Proof.Gen.AttnInKernel
public import proofs.«01_k».proof.Proof.Gen.AttnInKernelIdeal
public import proofs.«01_k».proof.Proof.Gen.AttnInKernel.Frame
public import proofs.«01_k».proof.Proof.Gen.AttnInKernelIdeal.Frame
public import proofs.«01_k».proof.Proof.Gen.AttnInKernelIdeal.Value
public import proofs.«01_k».proof.Proof.Gen.AttnInReferenceIdeal
public import proofs.«01_k».proof.Proof.Gen.AttnInReferenceIdeal.Run
public import proofs.«01_k».proof.Proof.Gen.AttnInReferenceIdeal.Read
public import proofs.«01_k».proof.Proof.InputLayer
public import proofs.«01_k».proof.Proof.AttnProducts
public import proofs.«01_k».proof.Proof.OutputLayer
public import proofs.«01_k».proof.Proof.InUpdate
public import proofs.«01_k».proof.Proof.SquareUpdate
public import proofs.«01_k».proof.Proof.AttnUpdate
public import proofs.«01_k».proof.Proof.ModUpdate
public import proofs.«01_k».proof.Proof.SmallUpdate
public import proofs.«01_k».proof.Proof.SumParts
public import proofs.«01_k».proof.Proof.ModLayer
public import proofs.«01_k».proof.Proof.ModGradient
public import Idealize.ShloMosaic.Adequacy
public import Idealize.ShloMosaic.Init

@[expose] public section

noncomputable section

namespace Cert.Proof

open Idealize.ShloMosaic Idealize.SL.Sem Cert.Kernel

/-- The reference's frame: its run is the generated one, and it declares no semaphore. -/
theorem frame_ri : Cert.quiescent_ReferenceIdeal := fun m ρ _ =>
  (θ_run Cert.ReferenceIdeal.defs _ _).mono
    (fun r h => ⟨fun c => (h c).2.2.2.2, Idealize.ShloMosaic.sem_eq_zero_of_no_sems (by decide) r.2⟩)
    (Cert.ReferenceIdeal.Value.run (F := Ideal) m ρ)

/-- The value claim: both programs end with the reference's four arrays of the kernel's arguments. -/
theorem algebraic : Cert.algebraic_KernelIdeal_ReferenceIdeal_pre_finite := by
  intro m ρ m' ρ' hpre hagree
  let x0 := fun c : Dev Cert.KernelIdeal.nD => m ((c.tc : Thread Cert.KernelIdeal.nD Cert.KernelIdeal.τ).loc Cert.KernelIdeal.main_arg0)
  let x1 := fun c : Dev Cert.KernelIdeal.nD => m ((c.tc : Thread Cert.KernelIdeal.nD Cert.KernelIdeal.τ).loc Cert.KernelIdeal.main_arg1)
  let x2 := fun c : Dev Cert.KernelIdeal.nD => m ((c.tc : Thread Cert.KernelIdeal.nD Cert.KernelIdeal.τ).loc Cert.KernelIdeal.main_arg2)
  let x3 := fun c : Dev Cert.KernelIdeal.nD => m ((c.tc : Thread Cert.KernelIdeal.nD Cert.KernelIdeal.τ).loc Cert.KernelIdeal.main_arg3)
  refine ⟨fun c => Cert.ReferenceIdeal.Read.val_main_v37 (F := Ideal) (x0 c) (x1 c) (x2 c),
    fun c => Cert.ReferenceIdeal.Read.val_main_v64 (F := Ideal) (x0 c) (x1 c) (x2 c) (x3 c),
    fun c => Cert.ReferenceIdeal.Read.val_main_v63 (F := Ideal) (x0 c) (x1 c) (x2 c) (x3 c),
    fun c => Cert.ReferenceIdeal.Read.val_main_v62 (F := Ideal) (x0 c) (x1 c) (x3 c), ?_, ?_⟩
  · refine (θ_run Cert.KernelIdeal.defs _ _).mono (fun r h c => ?_) (Cert.Attn.kernel_run m ρ)
    obtain ⟨r0, r1, r2, r3⟩ := Cert.Attn.finite_reals _ _ _ _ (hpre c)
    obtain ⟨e0, e1, e2, e3⟩ := Cert.Attn.results_agree m ρ c (x0 c) (x3 c) (x1 c) (x2 c) rfl rfl rfl rfl r0 r1 r2 r3
    obtain ⟨h0, h1, h2, h3, ha⟩ := h c
    exact ⟨h0.trans e0, h1.trans e1, h2.trans e2, h3.trans e3, ha⟩
  · refine (θ_run Cert.ReferenceIdeal.defs _ _).mono (fun r h c => ?_) (Cert.ReferenceIdeal.Value.run (F := Ideal) m' ρ')
    obtain ⟨a0, a1, a2, a3⟩ := hagree c
    obtain ⟨h0, h1, h2, h3, ha⟩ := h c
    refine ⟨h0.trans ?_, h1.trans ?_, h2.trans ?_, h3.trans ?_, ha⟩
    · rw [Cert.ReferenceIdeal.Read.val_main_v37_eq, a0, a1, a2]
    · rw [Cert.ReferenceIdeal.Read.val_main_v64_eq, a0, a1, a2, a3]
    · rw [Cert.ReferenceIdeal.Read.val_main_v63_eq, a0, a1, a2, a3]
    · rw [Cert.ReferenceIdeal.Read.val_main_v62_eq, a0, a1, a3]

/-- The S5 layer's projections: frame of the reference. -/
theorem frame_in : Cert.quiescent_InputReferenceIdeal := fun m ρ _ =>
  (θ_run Cert.InputReferenceIdeal.defs _ _).mono
    (fun r h => ⟨fun c => (h c).2.2, Idealize.ShloMosaic.sem_eq_zero_of_no_sems (by decide) r.2⟩)
    (Cert.InputReferenceIdeal.Value.run (F := Ideal) m ρ)

/-- The S5 layer's projections: value claim: both programs end with the reference's arrays of the kernel's arguments. -/
theorem algebraic_in : Cert.algebraic_InputKernelIdeal_InputReferenceIdeal := by
  intro m ρ m' ρ' _ hagree
  let x0 := fun c : Dev Cert.InputKernelIdeal.nD => m ((c.tc : Thread Cert.InputKernelIdeal.nD Cert.InputKernelIdeal.τ).loc Cert.InputKernelIdeal.main_arg0)
  let x1 := fun c : Dev Cert.InputKernelIdeal.nD => m ((c.tc : Thread Cert.InputKernelIdeal.nD Cert.InputKernelIdeal.τ).loc Cert.InputKernelIdeal.main_arg1)
  let x2 := fun c : Dev Cert.InputKernelIdeal.nD => m ((c.tc : Thread Cert.InputKernelIdeal.nD Cert.InputKernelIdeal.τ).loc Cert.InputKernelIdeal.main_arg2)
  let x3 := fun c : Dev Cert.InputKernelIdeal.nD => m ((c.tc : Thread Cert.InputKernelIdeal.nD Cert.InputKernelIdeal.τ).loc Cert.InputKernelIdeal.main_arg3)
  let x4 := fun c : Dev Cert.InputKernelIdeal.nD => m ((c.tc : Thread Cert.InputKernelIdeal.nD Cert.InputKernelIdeal.τ).loc Cert.InputKernelIdeal.main_arg4)
  let x5 := fun c : Dev Cert.InputKernelIdeal.nD => m ((c.tc : Thread Cert.InputKernelIdeal.nD Cert.InputKernelIdeal.τ).loc Cert.InputKernelIdeal.main_arg5)
  refine ⟨fun c => Cert.InputReferenceIdeal.Read.val_main_v50 (F := Ideal) (x0 c) (x1 c) (x2 c) (x3 c) (x4 c) (x5 c), fun c => Cert.InputReferenceIdeal.Read.val_main_v51 (F := Ideal) (x0 c) (x1 c) (x2 c) (x3 c) (x4 c) (x5 c), ?_, ?_⟩
  · refine (θ_run Cert.InputKernelIdeal.defs _ _).mono (fun r h c => ?_) (Cert.InputKernelIdeal.Value.run_blocks m ρ)
    obtain ⟨h0, h1, ha⟩ := h c
    exact ⟨h0.trans (Cert.LayerIn.drive_agree m c), h1.trans (Cert.LayerIn.gate_agree m c), ha⟩
  · refine (θ_run Cert.InputReferenceIdeal.defs _ _).mono (fun r h c => ?_) (Cert.InputReferenceIdeal.Value.run (F := Ideal) m' ρ')
    obtain ⟨a0, a1, a2, a3, a4, a5⟩ := hagree c
    obtain ⟨h0, h1, ha⟩ := h c
    refine ⟨h0.trans ?_, h1.trans ?_, ha⟩
    · rw [Cert.InputReferenceIdeal.Read.val_main_v50_eq, a0, a1, a2, a3, a4, a5]
    · rw [Cert.InputReferenceIdeal.Read.val_main_v51_eq, a0, a1, a2, a3, a4, a5]

/-- The attention layer's products: frame of the reference. -/
theorem frame_products : Cert.quiescent_AttnInReferenceIdeal := fun m ρ _ =>
  (θ_run Cert.AttnInReferenceIdeal.defs _ _).mono
    (fun r h => ⟨fun c => (h c).2.2.2, Idealize.ShloMosaic.sem_eq_zero_of_no_sems (by decide) r.2⟩)
    (Cert.AttnInReferenceIdeal.Value.run (F := Ideal) m ρ)

/-- The values, the gate and the raw queries and keys. -/
theorem algebraic_products : Cert.algebraic_AttnInKernelIdeal_AttnInReferenceIdeal := by
  intro m ρ m' ρ' _ hagree
  let x0 := fun c : Dev Cert.AttnInKernelIdeal.nD => m ((c.tc : Thread Cert.AttnInKernelIdeal.nD Cert.AttnInKernelIdeal.τ).loc Cert.AttnInKernelIdeal.main_arg0)
  let x1 := fun c : Dev Cert.AttnInKernelIdeal.nD => m ((c.tc : Thread Cert.AttnInKernelIdeal.nD Cert.AttnInKernelIdeal.τ).loc Cert.AttnInKernelIdeal.main_arg1)
  let x2 := fun c : Dev Cert.AttnInKernelIdeal.nD => m ((c.tc : Thread Cert.AttnInKernelIdeal.nD Cert.AttnInKernelIdeal.τ).loc Cert.AttnInKernelIdeal.main_arg2)
  let x3 := fun c : Dev Cert.AttnInKernelIdeal.nD => m ((c.tc : Thread Cert.AttnInKernelIdeal.nD Cert.AttnInKernelIdeal.τ).loc Cert.AttnInKernelIdeal.main_arg3)
  let x4 := fun c : Dev Cert.AttnInKernelIdeal.nD => m ((c.tc : Thread Cert.AttnInKernelIdeal.nD Cert.AttnInKernelIdeal.τ).loc Cert.AttnInKernelIdeal.main_arg4)
  refine ⟨fun c => Cert.AttnInReferenceIdeal.Read.val_main_v50 (F := Ideal) (x0 c) (x1 c) (x2 c) (x3 c) (x4 c), fun c => Cert.AttnInReferenceIdeal.Read.val_main_v51 (F := Ideal) (x0 c) (x1 c) (x2 c) (x3 c) (x4 c), fun c => Cert.AttnInReferenceIdeal.Read.val_main_v52 (F := Ideal) (x0 c) (x1 c) (x2 c) (x3 c) (x4 c), ?_, ?_⟩
  · refine (θ_run Cert.AttnInKernelIdeal.defs _ _).mono (fun r h c => ?_) (Cert.AttnInKernelIdeal.Value.run_blocks m ρ)
    obtain ⟨_, _, h0, h1, h2, ha⟩ := h c
    exact ⟨h0.trans (Cert.AttnProducts.value_agree m c), h1.trans (Cert.AttnProducts.gate_agree m c), h2.trans (Cert.AttnProducts.raw_agree m c), ha⟩
  · refine (θ_run Cert.AttnInReferenceIdeal.defs _ _).mono (fun r h c => ?_) (Cert.AttnInReferenceIdeal.Value.run (F := Ideal) m' ρ')
    obtain ⟨a0, a1, a2, a3, a4, _⟩ := hagree c
    obtain ⟨h0, h1, h2, ha⟩ := h c
    refine ⟨h0.trans ?_, h1.trans ?_, h2.trans ?_, ha⟩
    · rw [Cert.AttnInReferenceIdeal.Read.val_main_v50_eq, a0, a1, a2, a3, a4]
    · rw [Cert.AttnInReferenceIdeal.Read.val_main_v51_eq, a0, a1, a2, a3, a4]
    · rw [Cert.AttnInReferenceIdeal.Read.val_main_v52_eq, a0, a1, a2, a3, a4]

/-- The S5 layer's output: frame of the reference. -/
theorem frame_out : Cert.quiescent_PostReferenceIdeal := fun m ρ _ =>
  (θ_run Cert.PostReferenceIdeal.defs _ _).mono
    (fun r h => ⟨fun c => (h c).2, Idealize.ShloMosaic.sem_eq_zero_of_no_sems (by decide) r.2⟩)
    (Cert.PostReferenceIdeal.Value.run (F := Ideal) m ρ)

/-- The S5 layer's output: value claim: both programs end with the reference's arrays of the kernel's arguments. -/
theorem algebraic_out : Cert.algebraic_PostKernelIdeal_PostReferenceIdeal := by
  intro m ρ m' ρ' _ hagree
  let x0 := fun c : Dev Cert.PostKernelIdeal.nD => m ((c.tc : Thread Cert.PostKernelIdeal.nD Cert.PostKernelIdeal.τ).loc Cert.PostKernelIdeal.main_arg0)
  let x1 := fun c : Dev Cert.PostKernelIdeal.nD => m ((c.tc : Thread Cert.PostKernelIdeal.nD Cert.PostKernelIdeal.τ).loc Cert.PostKernelIdeal.main_arg1)
  let x2 := fun c : Dev Cert.PostKernelIdeal.nD => m ((c.tc : Thread Cert.PostKernelIdeal.nD Cert.PostKernelIdeal.τ).loc Cert.PostKernelIdeal.main_arg2)
  let x3 := fun c : Dev Cert.PostKernelIdeal.nD => m ((c.tc : Thread Cert.PostKernelIdeal.nD Cert.PostKernelIdeal.τ).loc Cert.PostKernelIdeal.main_arg3)
  let x4 := fun c : Dev Cert.PostKernelIdeal.nD => m ((c.tc : Thread Cert.PostKernelIdeal.nD Cert.PostKernelIdeal.τ).loc Cert.PostKernelIdeal.main_arg4)
  let x5 := fun c : Dev Cert.PostKernelIdeal.nD => m ((c.tc : Thread Cert.PostKernelIdeal.nD Cert.PostKernelIdeal.τ).loc Cert.PostKernelIdeal.main_arg5)
  let x6 := fun c : Dev Cert.PostKernelIdeal.nD => m ((c.tc : Thread Cert.PostKernelIdeal.nD Cert.PostKernelIdeal.τ).loc Cert.PostKernelIdeal.main_arg6)
  let x7 := fun c : Dev Cert.PostKernelIdeal.nD => m ((c.tc : Thread Cert.PostKernelIdeal.nD Cert.PostKernelIdeal.τ).loc Cert.PostKernelIdeal.main_arg7)
  let x8 := fun c : Dev Cert.PostKernelIdeal.nD => m ((c.tc : Thread Cert.PostKernelIdeal.nD Cert.PostKernelIdeal.τ).loc Cert.PostKernelIdeal.main_arg8)
  refine ⟨fun c => Cert.PostReferenceIdeal.Read.val_main_v55 (F := Ideal) (x0 c) (x1 c) (x2 c) (x3 c) (x4 c) (x5 c) (x6 c) (x7 c) (x8 c), ?_, ?_⟩
  · refine (θ_run Cert.PostKernelIdeal.defs _ _).mono (fun r h c => ?_) (Cert.PostKernelIdeal.Value.run_blocks m ρ)
    obtain ⟨h0, ha⟩ := h c
    exact ⟨h0.trans (Cert.LayerOut.out_agree m c), ha⟩
  · refine (θ_run Cert.PostReferenceIdeal.defs _ _).mono (fun r h c => ?_) (Cert.PostReferenceIdeal.Value.run (F := Ideal) m' ρ')
    obtain ⟨a0, a1, a2, a3, a4, a5, a6, a7, a8⟩ := hagree c
    obtain ⟨h0, ha⟩ := h c
    refine ⟨h0.trans ?_, ha⟩
    · rw [Cert.PostReferenceIdeal.Read.val_main_v55_eq, a0, a1, a2, a3, a4, a5, a6, a7, a8]

/-- The optimiser on the S5 layer's input weights: frame of the reference. -/
theorem frame_in_update : Cert.quiescent_InWeightReferenceIdeal := fun m ρ _ =>
  (θ_run Cert.InWeightReferenceIdeal.defs _ _).mono
    (fun r h => ⟨fun c => (h c).2.2.2.2, Idealize.ShloMosaic.sem_eq_zero_of_no_sems (by decide) r.2⟩)
    (Cert.InWeightReferenceIdeal.Value.run (F := Ideal) m ρ)

/-- The optimiser on the S5 layer's input weights: value claim: both programs end with the reference's arrays of the kernel's arguments. -/
theorem algebraic_in_update : Cert.algebraic_InWeightKernelIdeal_InWeightReferenceIdeal := by
  intro m ρ m' ρ' _ hagree
  let x0 := fun c : Dev Cert.InWeightKernelIdeal.nD => m ((c.tc : Thread Cert.InWeightKernelIdeal.nD Cert.InWeightKernelIdeal.τ).loc Cert.InWeightKernelIdeal.main_arg0)
  let x1 := fun c : Dev Cert.InWeightKernelIdeal.nD => m ((c.tc : Thread Cert.InWeightKernelIdeal.nD Cert.InWeightKernelIdeal.τ).loc Cert.InWeightKernelIdeal.main_arg1)
  let x2 := fun c : Dev Cert.InWeightKernelIdeal.nD => m ((c.tc : Thread Cert.InWeightKernelIdeal.nD Cert.InWeightKernelIdeal.τ).loc Cert.InWeightKernelIdeal.main_arg2)
  let x3 := fun c : Dev Cert.InWeightKernelIdeal.nD => m ((c.tc : Thread Cert.InWeightKernelIdeal.nD Cert.InWeightKernelIdeal.τ).loc Cert.InWeightKernelIdeal.main_arg3)
  refine ⟨fun c => Cert.InWeightReferenceIdeal.Read.val_main_v1 (F := Ideal) (x1 c),
    fun c => Cert.InWeightReferenceIdeal.Read.val_main_v25 (F := Ideal) (x0 c) (x1 c) (x2 c) (x3 c),
    fun c => Cert.InWeightReferenceIdeal.Read.val_main_v6 (F := Ideal) (x1 c) (x2 c),
    fun c => Cert.InWeightReferenceIdeal.Read.val_main_v12 (F := Ideal) (x1 c) (x3 c), ?_, ?_⟩
  · refine (θ_run Cert.InWeightKernelIdeal.defs _ _).mono (fun r h c => ?_) (Cert.InWeightKernelIdeal.Value.run_blocks m ρ)
    obtain ⟨h0, h1, h2, h3, ha⟩ := h c
    exact ⟨h0.trans (Cert.InUpdate.grad_agree m c), h1.trans (Cert.InUpdate.change_agree m c), h2.trans (Cert.InUpdate.moment_agree m c),
      h3.trans (Cert.InUpdate.second_agree m c), ha⟩
  · refine (θ_run Cert.InWeightReferenceIdeal.defs _ _).mono (fun r h c => ?_) (Cert.InWeightReferenceIdeal.Value.run (F := Ideal) m' ρ')
    obtain ⟨a0, a1, a2, a3⟩ := hagree c
    obtain ⟨h0, h1, h2, h3, ha⟩ := h c
    refine ⟨h0.trans ?_, h1.trans ?_, h2.trans ?_, h3.trans ?_, ha⟩
    · rw [Cert.InWeightReferenceIdeal.Read.val_main_v1_eq, a1]
    · rw [Cert.InWeightReferenceIdeal.Read.val_main_v25_eq, a0, a1, a2, a3]
    · rw [Cert.InWeightReferenceIdeal.Read.val_main_v6_eq, a1, a2]
    · rw [Cert.InWeightReferenceIdeal.Read.val_main_v12_eq, a1, a3]

/-- The optimiser on the square weights: frame of the reference. -/
theorem frame_square_update : Cert.quiescent_SquareWeightReferenceIdeal := fun m ρ _ =>
  (θ_run Cert.SquareWeightReferenceIdeal.defs _ _).mono
    (fun r h => ⟨fun c => (h c).2.2.2.2, Idealize.ShloMosaic.sem_eq_zero_of_no_sems (by decide) r.2⟩)
    (Cert.SquareWeightReferenceIdeal.Value.run (F := Ideal) m ρ)

/-- The optimiser on the square weights: value claim: both programs end with the reference's arrays of the kernel's arguments. -/
theorem algebraic_square_update : Cert.algebraic_SquareWeightKernelIdeal_SquareWeightReferenceIdeal := by
  intro m ρ m' ρ' _ hagree
  let x0 := fun c : Dev Cert.SquareWeightKernelIdeal.nD => m ((c.tc : Thread Cert.SquareWeightKernelIdeal.nD Cert.SquareWeightKernelIdeal.τ).loc Cert.SquareWeightKernelIdeal.main_arg0)
  let x1 := fun c : Dev Cert.SquareWeightKernelIdeal.nD => m ((c.tc : Thread Cert.SquareWeightKernelIdeal.nD Cert.SquareWeightKernelIdeal.τ).loc Cert.SquareWeightKernelIdeal.main_arg1)
  let x2 := fun c : Dev Cert.SquareWeightKernelIdeal.nD => m ((c.tc : Thread Cert.SquareWeightKernelIdeal.nD Cert.SquareWeightKernelIdeal.τ).loc Cert.SquareWeightKernelIdeal.main_arg2)
  let x3 := fun c : Dev Cert.SquareWeightKernelIdeal.nD => m ((c.tc : Thread Cert.SquareWeightKernelIdeal.nD Cert.SquareWeightKernelIdeal.τ).loc Cert.SquareWeightKernelIdeal.main_arg3)
  refine ⟨fun c => Cert.SquareWeightReferenceIdeal.Read.val_main_v1 (F := Ideal) (x1 c),
    fun c => Cert.SquareWeightReferenceIdeal.Read.val_main_v25 (F := Ideal) (x0 c) (x1 c) (x2 c) (x3 c),
    fun c => Cert.SquareWeightReferenceIdeal.Read.val_main_v6 (F := Ideal) (x1 c) (x2 c),
    fun c => Cert.SquareWeightReferenceIdeal.Read.val_main_v12 (F := Ideal) (x1 c) (x3 c), ?_, ?_⟩
  · refine (θ_run Cert.SquareWeightKernelIdeal.defs _ _).mono (fun r h c => ?_) (Cert.SquareWeightKernelIdeal.Value.run_blocks m ρ)
    obtain ⟨h0, h1, h2, h3, ha⟩ := h c
    exact ⟨h0.trans (Cert.SquareUpdate.grad_agree m c), h1.trans (Cert.SquareUpdate.change_agree m c), h2.trans (Cert.SquareUpdate.moment_agree m c),
      h3.trans (Cert.SquareUpdate.second_agree m c), ha⟩
  · refine (θ_run Cert.SquareWeightReferenceIdeal.defs _ _).mono (fun r h c => ?_) (Cert.SquareWeightReferenceIdeal.Value.run (F := Ideal) m' ρ')
    obtain ⟨a0, a1, a2, a3⟩ := hagree c
    obtain ⟨h0, h1, h2, h3, ha⟩ := h c
    refine ⟨h0.trans ?_, h1.trans ?_, h2.trans ?_, h3.trans ?_, ha⟩
    · rw [Cert.SquareWeightReferenceIdeal.Read.val_main_v1_eq, a1]
    · rw [Cert.SquareWeightReferenceIdeal.Read.val_main_v25_eq, a0, a1, a2, a3]
    · rw [Cert.SquareWeightReferenceIdeal.Read.val_main_v6_eq, a1, a2]
    · rw [Cert.SquareWeightReferenceIdeal.Read.val_main_v12_eq, a1, a3]

/-- The optimiser on the attention's input weights: frame of the reference. -/
theorem frame_attn_update : Cert.quiescent_AttnWeightReferenceIdeal := fun m ρ _ =>
  (θ_run Cert.AttnWeightReferenceIdeal.defs _ _).mono
    (fun r h => ⟨fun c => (h c).2.2.2.2, Idealize.ShloMosaic.sem_eq_zero_of_no_sems (by decide) r.2⟩)
    (Cert.AttnWeightReferenceIdeal.Value.run (F := Ideal) m ρ)

/-- The optimiser on the attention's input weights: value claim: both programs end with the reference's arrays of the kernel's arguments. -/
theorem algebraic_attn_update : Cert.algebraic_AttnWeightKernelIdeal_AttnWeightReferenceIdeal := by
  intro m ρ m' ρ' _ hagree
  let x0 := fun c : Dev Cert.AttnWeightKernelIdeal.nD => m ((c.tc : Thread Cert.AttnWeightKernelIdeal.nD Cert.AttnWeightKernelIdeal.τ).loc Cert.AttnWeightKernelIdeal.main_arg0)
  let x1 := fun c : Dev Cert.AttnWeightKernelIdeal.nD => m ((c.tc : Thread Cert.AttnWeightKernelIdeal.nD Cert.AttnWeightKernelIdeal.τ).loc Cert.AttnWeightKernelIdeal.main_arg1)
  let x2 := fun c : Dev Cert.AttnWeightKernelIdeal.nD => m ((c.tc : Thread Cert.AttnWeightKernelIdeal.nD Cert.AttnWeightKernelIdeal.τ).loc Cert.AttnWeightKernelIdeal.main_arg2)
  let x3 := fun c : Dev Cert.AttnWeightKernelIdeal.nD => m ((c.tc : Thread Cert.AttnWeightKernelIdeal.nD Cert.AttnWeightKernelIdeal.τ).loc Cert.AttnWeightKernelIdeal.main_arg3)
  refine ⟨fun c => Cert.AttnWeightReferenceIdeal.Read.val_main_v1 (F := Ideal) (x1 c),
    fun c => Cert.AttnWeightReferenceIdeal.Read.val_main_v25 (F := Ideal) (x0 c) (x1 c) (x2 c) (x3 c),
    fun c => Cert.AttnWeightReferenceIdeal.Read.val_main_v6 (F := Ideal) (x1 c) (x2 c),
    fun c => Cert.AttnWeightReferenceIdeal.Read.val_main_v12 (F := Ideal) (x1 c) (x3 c), ?_, ?_⟩
  · refine (θ_run Cert.AttnWeightKernelIdeal.defs _ _).mono (fun r h c => ?_) (Cert.AttnWeightKernelIdeal.Value.run_blocks m ρ)
    obtain ⟨h0, h1, h2, h3, ha⟩ := h c
    exact ⟨h0.trans (Cert.AttnUpdate.grad_agree m c), h1.trans (Cert.AttnUpdate.change_agree m c), h2.trans (Cert.AttnUpdate.moment_agree m c),
      h3.trans (Cert.AttnUpdate.second_agree m c), ha⟩
  · refine (θ_run Cert.AttnWeightReferenceIdeal.defs _ _).mono (fun r h c => ?_) (Cert.AttnWeightReferenceIdeal.Value.run (F := Ideal) m' ρ')
    obtain ⟨a0, a1, a2, a3⟩ := hagree c
    obtain ⟨h0, h1, h2, h3, ha⟩ := h c
    refine ⟨h0.trans ?_, h1.trans ?_, h2.trans ?_, h3.trans ?_, ha⟩
    · rw [Cert.AttnWeightReferenceIdeal.Read.val_main_v1_eq, a1]
    · rw [Cert.AttnWeightReferenceIdeal.Read.val_main_v25_eq, a0, a1, a2, a3]
    · rw [Cert.AttnWeightReferenceIdeal.Read.val_main_v6_eq, a1, a2]
    · rw [Cert.AttnWeightReferenceIdeal.Read.val_main_v12_eq, a1, a3]

/-- The optimiser on the modulation's weights: frame of the reference. -/
theorem frame_mod_update : Cert.quiescent_ModWeightReferenceIdeal := fun m ρ _ =>
  (θ_run Cert.ModWeightReferenceIdeal.defs _ _).mono
    (fun r h => ⟨fun c => (h c).2.2.2.2, Idealize.ShloMosaic.sem_eq_zero_of_no_sems (by decide) r.2⟩)
    (Cert.ModWeightReferenceIdeal.Value.run (F := Ideal) m ρ)

/-- The optimiser on the modulation's weights: value claim: both programs end with the reference's arrays of the kernel's arguments. -/
theorem algebraic_mod_update : Cert.algebraic_ModWeightKernelIdeal_ModWeightReferenceIdeal := by
  intro m ρ m' ρ' _ hagree
  let x0 := fun c : Dev Cert.ModWeightKernelIdeal.nD => m ((c.tc : Thread Cert.ModWeightKernelIdeal.nD Cert.ModWeightKernelIdeal.τ).loc Cert.ModWeightKernelIdeal.main_arg0)
  let x1 := fun c : Dev Cert.ModWeightKernelIdeal.nD => m ((c.tc : Thread Cert.ModWeightKernelIdeal.nD Cert.ModWeightKernelIdeal.τ).loc Cert.ModWeightKernelIdeal.main_arg1)
  let x2 := fun c : Dev Cert.ModWeightKernelIdeal.nD => m ((c.tc : Thread Cert.ModWeightKernelIdeal.nD Cert.ModWeightKernelIdeal.τ).loc Cert.ModWeightKernelIdeal.main_arg2)
  let x3 := fun c : Dev Cert.ModWeightKernelIdeal.nD => m ((c.tc : Thread Cert.ModWeightKernelIdeal.nD Cert.ModWeightKernelIdeal.τ).loc Cert.ModWeightKernelIdeal.main_arg3)
  refine ⟨fun c => Cert.ModWeightReferenceIdeal.Read.val_main_v0 (F := Ideal) (x1 c),
    fun c => Cert.ModWeightReferenceIdeal.Read.val_main_v24 (F := Ideal) (x0 c) (x1 c) (x2 c) (x3 c),
    fun c => Cert.ModWeightReferenceIdeal.Read.val_main_v5 (F := Ideal) (x1 c) (x2 c),
    fun c => Cert.ModWeightReferenceIdeal.Read.val_main_v11 (F := Ideal) (x1 c) (x3 c), ?_, ?_⟩
  · refine (θ_run Cert.ModWeightKernelIdeal.defs _ _).mono (fun r h c => ?_) (Cert.ModWeightKernelIdeal.Value.run_blocks m ρ)
    obtain ⟨h0, h1, h2, h3, ha⟩ := h c
    exact ⟨h0.trans (Cert.ModUpdate.grad_agree m c), h1.trans (Cert.ModUpdate.change_agree m c), h2.trans (Cert.ModUpdate.moment_agree m c),
      h3.trans (Cert.ModUpdate.second_agree m c), ha⟩
  · refine (θ_run Cert.ModWeightReferenceIdeal.defs _ _).mono (fun r h c => ?_) (Cert.ModWeightReferenceIdeal.Value.run (F := Ideal) m' ρ')
    obtain ⟨a0, a1, a2, a3⟩ := hagree c
    obtain ⟨h0, h1, h2, h3, ha⟩ := h c
    refine ⟨h0.trans ?_, h1.trans ?_, h2.trans ?_, h3.trans ?_, ha⟩
    · rw [Cert.ModWeightReferenceIdeal.Read.val_main_v0_eq, a1]
    · rw [Cert.ModWeightReferenceIdeal.Read.val_main_v24_eq, a0, a1, a2, a3]
    · rw [Cert.ModWeightReferenceIdeal.Read.val_main_v5_eq, a1, a2]
    · rw [Cert.ModWeightReferenceIdeal.Read.val_main_v11_eq, a1, a3]

/-- The optimiser on the small weights: frame of the reference. -/
theorem frame_small_update : Cert.quiescent_SmallWeightReferenceIdeal := fun m ρ _ =>
  (θ_run Cert.SmallWeightReferenceIdeal.defs _ _).mono
    (fun r h => ⟨fun c => (h c).2.2.2.2, Idealize.ShloMosaic.sem_eq_zero_of_no_sems (by decide) r.2⟩)
    (Cert.SmallWeightReferenceIdeal.Value.run (F := Ideal) m ρ)

/-- The optimiser on the small weights: value claim: both programs end with the reference's arrays of the kernel's arguments. -/
theorem algebraic_small_update : Cert.algebraic_SmallWeightKernelIdeal_SmallWeightReferenceIdeal := by
  intro m ρ m' ρ' _ hagree
  let x0 := fun c : Dev Cert.SmallWeightKernelIdeal.nD => m ((c.tc : Thread Cert.SmallWeightKernelIdeal.nD Cert.SmallWeightKernelIdeal.τ).loc Cert.SmallWeightKernelIdeal.main_arg0)
  let x1 := fun c : Dev Cert.SmallWeightKernelIdeal.nD => m ((c.tc : Thread Cert.SmallWeightKernelIdeal.nD Cert.SmallWeightKernelIdeal.τ).loc Cert.SmallWeightKernelIdeal.main_arg1)
  let x2 := fun c : Dev Cert.SmallWeightKernelIdeal.nD => m ((c.tc : Thread Cert.SmallWeightKernelIdeal.nD Cert.SmallWeightKernelIdeal.τ).loc Cert.SmallWeightKernelIdeal.main_arg2)
  let x3 := fun c : Dev Cert.SmallWeightKernelIdeal.nD => m ((c.tc : Thread Cert.SmallWeightKernelIdeal.nD Cert.SmallWeightKernelIdeal.τ).loc Cert.SmallWeightKernelIdeal.main_arg3)
  refine ⟨fun c => Cert.SmallWeightReferenceIdeal.Read.val_main_v0 (F := Ideal) (x1 c),
    fun c => Cert.SmallWeightReferenceIdeal.Read.val_main_v24 (F := Ideal) (x0 c) (x1 c) (x2 c) (x3 c),
    fun c => Cert.SmallWeightReferenceIdeal.Read.val_main_v5 (F := Ideal) (x1 c) (x2 c),
    fun c => Cert.SmallWeightReferenceIdeal.Read.val_main_v11 (F := Ideal) (x1 c) (x3 c), ?_, ?_⟩
  · refine (θ_run Cert.SmallWeightKernelIdeal.defs _ _).mono (fun r h c => ?_) (Cert.SmallWeightKernelIdeal.Value.run_blocks m ρ)
    obtain ⟨h0, h1, h2, h3, ha⟩ := h c
    exact ⟨h0.trans (Cert.SmallUpdate.grad_agree m c), h1.trans (Cert.SmallUpdate.change_agree m c), h2.trans (Cert.SmallUpdate.moment_agree m c), h3.trans (Cert.SmallUpdate.second_agree m c), ha⟩
  · refine (θ_run Cert.SmallWeightReferenceIdeal.defs _ _).mono (fun r h c => ?_) (Cert.SmallWeightReferenceIdeal.Value.run (F := Ideal) m' ρ')
    obtain ⟨a0, a1, a2, a3⟩ := hagree c
    obtain ⟨h0, h1, h2, h3, ha⟩ := h c
    refine ⟨h0.trans ?_, h1.trans ?_, h2.trans ?_, h3.trans ?_, ha⟩
    · rw [Cert.SmallWeightReferenceIdeal.Read.val_main_v0_eq, a1]
    · rw [Cert.SmallWeightReferenceIdeal.Read.val_main_v24_eq, a0, a1, a2, a3]
    · rw [Cert.SmallWeightReferenceIdeal.Read.val_main_v5_eq, a1, a2]
    · rw [Cert.SmallWeightReferenceIdeal.Read.val_main_v11_eq, a1, a3]

/-- The sum of the small weights' gradient: frame of the reference. -/
theorem frame_sum : Cert.quiescent_SumReferenceIdeal := fun m ρ _ =>
  (θ_run Cert.SumReferenceIdeal.defs _ _).mono
    (fun r h => ⟨fun c => (h c).2, Idealize.ShloMosaic.sem_eq_zero_of_no_sems (by decide) r.2⟩)
    (Cert.SumReferenceIdeal.Value.run (F := Ideal) m ρ)

/-- The sum of the small weights' gradient: value claim: both programs end with the reference's arrays of the kernel's arguments. -/
theorem algebraic_sum : Cert.algebraic_SumKernelIdeal_SumReferenceIdeal := by
  intro m ρ m' ρ' _ hagree
  let x0 := fun c : Dev Cert.SumKernelIdeal.nD => m ((c.tc : Thread Cert.SumKernelIdeal.nD Cert.SumKernelIdeal.τ).loc Cert.SumKernelIdeal.main_arg0)
  refine ⟨fun c => Cert.SumReferenceIdeal.Read.val_main_v0 (F := Ideal) (x0 c), ?_, ?_⟩
  · refine (θ_run Cert.SumKernelIdeal.defs _ _).mono (fun r h c => ?_) (Cert.SumKernelIdeal.Value.run_blocks m ρ)
    obtain ⟨h0, ha⟩ := h c
    exact ⟨h0.trans (Cert.SumParts.sum_agree m c), ha⟩
  · refine (θ_run Cert.SumReferenceIdeal.defs _ _).mono (fun r h c => ?_) (Cert.SumReferenceIdeal.Value.run (F := Ideal) m' ρ')
    have a0 := hagree c
    obtain ⟨h0, ha⟩ := h c
    refine ⟨h0.trans ?_, ha⟩
    · rw [Cert.SumReferenceIdeal.Read.val_main_v0_eq, a0]

/-- The modulation: frame of the reference. -/
theorem frame_mod : Cert.quiescent_ModReferenceIdeal := fun m ρ _ =>
  (θ_run Cert.ModReferenceIdeal.defs _ _).mono
    (fun r h => ⟨fun c => (h c).2, Idealize.ShloMosaic.sem_eq_zero_of_no_sems (by decide) r.2⟩)
    (Cert.ModReferenceIdeal.Value.run (F := Ideal) m ρ)

/-- The modulation: value claim: both programs end with the reference's arrays of the kernel's arguments. -/
theorem algebraic_mod : Cert.algebraic_ModKernelIdeal_ModReferenceIdeal := by
  intro m ρ m' ρ' _ hagree
  let x0 := fun c : Dev Cert.ModKernelIdeal.nD => m ((c.tc : Thread Cert.ModKernelIdeal.nD Cert.ModKernelIdeal.τ).loc Cert.ModKernelIdeal.main_arg0)
  let x1 := fun c : Dev Cert.ModKernelIdeal.nD => m ((c.tc : Thread Cert.ModKernelIdeal.nD Cert.ModKernelIdeal.τ).loc Cert.ModKernelIdeal.main_arg1)
  let x2 := fun c : Dev Cert.ModKernelIdeal.nD => m ((c.tc : Thread Cert.ModKernelIdeal.nD Cert.ModKernelIdeal.τ).loc Cert.ModKernelIdeal.main_arg2)
  refine ⟨fun c => Cert.ModReferenceIdeal.Read.val_main_v12 (F := Ideal) (x0 c) (x1 c) (x2 c), ?_, ?_⟩
  · refine (θ_run Cert.ModKernelIdeal.defs _ _).mono (fun r h c => ?_) (Cert.ModKernelIdeal.Value.run_blocks m ρ)
    obtain ⟨h0, ha⟩ := h c
    exact ⟨h0.trans (Cert.Modulate.mod_agree m c), ha⟩
  · refine (θ_run Cert.ModReferenceIdeal.defs _ _).mono (fun r h c => ?_) (Cert.ModReferenceIdeal.Value.run (F := Ideal) m' ρ')
    obtain ⟨a0, a1, a2⟩ := hagree c
    obtain ⟨h0, ha⟩ := h c
    refine ⟨h0.trans ?_, ha⟩
    · rw [Cert.ModReferenceIdeal.Read.val_main_v12_eq, a0, a1, a2]

/-- The modulation's gradients: frame of the reference. -/
theorem frame_mod_grad : Cert.quiescent_ModGradReferenceIdeal := fun m ρ _ =>
  (θ_run Cert.ModGradReferenceIdeal.defs _ _).mono
    (fun r h => ⟨fun c => (h c).2.2, Idealize.ShloMosaic.sem_eq_zero_of_no_sems (by decide) r.2⟩)
    (Cert.ModGradReferenceIdeal.Value.run (F := Ideal) m ρ)

/-- The modulation's gradients: value claim: both programs end with the reference's arrays of the kernel's arguments. -/
theorem algebraic_mod_grad : Cert.algebraic_ModGradKernelIdeal_ModGradReferenceIdeal_pre_finite_modulation := by
  intro m ρ m' ρ' hpre hagree
  let x0 := fun c : Dev Cert.ModGradKernelIdeal.nD => m ((c.tc : Thread Cert.ModGradKernelIdeal.nD Cert.ModGradKernelIdeal.τ).loc Cert.ModGradKernelIdeal.main_arg0)
  let x1 := fun c : Dev Cert.ModGradKernelIdeal.nD => m ((c.tc : Thread Cert.ModGradKernelIdeal.nD Cert.ModGradKernelIdeal.τ).loc Cert.ModGradKernelIdeal.main_arg1)
  let x2 := fun c : Dev Cert.ModGradKernelIdeal.nD => m ((c.tc : Thread Cert.ModGradKernelIdeal.nD Cert.ModGradKernelIdeal.τ).loc Cert.ModGradKernelIdeal.main_arg2)
  let x3 := fun c : Dev Cert.ModGradKernelIdeal.nD => m ((c.tc : Thread Cert.ModGradKernelIdeal.nD Cert.ModGradKernelIdeal.τ).loc Cert.ModGradKernelIdeal.main_arg3)
  refine ⟨fun c => Cert.ModGradReferenceIdeal.Read.val_main_v53 (F := Ideal) (x0 c) (x1 c) (x2 c),
    fun c => Cert.ModGradReferenceIdeal.Read.val_main_v39 (F := Ideal) (x0 c) (x2 c) (x3 c), ?_, ?_⟩
  · refine (θ_run Cert.ModGradKernelIdeal.defs _ _).mono (fun r h c => ?_) (Cert.ModGradKernelIdeal.Value.run_blocks m ρ)
    obtain ⟨r0, r2, r3⟩ := Cert.ModGradient.finite_reals _ _ _ _ (hpre c)
    obtain ⟨h0, h1, ha⟩ := h c
    exact ⟨h0.trans (Cert.ModGradient.weight_agree m c), h1.trans (Cert.ModGradient.context_agree m c r0 r2 r3), ha⟩
  · refine (θ_run Cert.ModGradReferenceIdeal.defs _ _).mono (fun r h c => ?_) (Cert.ModGradReferenceIdeal.Value.run (F := Ideal) m' ρ')
    obtain ⟨a0, a1, a2, a3⟩ := hagree c
    obtain ⟨h0, h1, ha⟩ := h c
    refine ⟨h0.trans ?_, h1.trans ?_, ha⟩
    · rw [Cert.ModGradReferenceIdeal.Read.val_main_v53_eq, a0, a1, a2]
    · rw [Cert.ModGradReferenceIdeal.Read.val_main_v39_eq, a0, a2, a3]

theorem claim : Cert.Claim :=
  ⟨Cert.Kernel.Gen.facts, Cert.KernelIdeal.Gen.facts, Cert.ReferenceIdeal.Gen.facts,
    Cert.InputKernel.Gen.facts, Cert.InputKernelIdeal.Gen.facts, Cert.InputReferenceIdeal.Gen.facts,
    Cert.PostKernel.Gen.facts, Cert.PostKernelIdeal.Gen.facts, Cert.PostReferenceIdeal.Gen.facts,
    Cert.InWeightKernel.Gen.facts, Cert.InWeightKernelIdeal.Gen.facts, Cert.InWeightReferenceIdeal.Gen.facts,
    Cert.SquareWeightKernel.Gen.facts, Cert.SquareWeightKernelIdeal.Gen.facts, Cert.SquareWeightReferenceIdeal.Gen.facts,
    Cert.AttnWeightKernel.Gen.facts, Cert.AttnWeightKernelIdeal.Gen.facts, Cert.AttnWeightReferenceIdeal.Gen.facts,
    Cert.ModWeightKernel.Gen.facts, Cert.ModWeightKernelIdeal.Gen.facts, Cert.ModWeightReferenceIdeal.Gen.facts,
    Cert.SmallWeightKernel.Gen.facts, Cert.SmallWeightKernelIdeal.Gen.facts, Cert.SmallWeightReferenceIdeal.Gen.facts,
    Cert.SumKernel.Gen.facts, Cert.SumKernelIdeal.Gen.facts, Cert.SumReferenceIdeal.Gen.facts,
    Cert.ModKernel.Gen.facts, Cert.ModKernelIdeal.Gen.facts, Cert.ModReferenceIdeal.Gen.facts,
    Cert.ModGradKernel.Gen.facts, Cert.ModGradKernelIdeal.Gen.facts, Cert.ModGradReferenceIdeal.Gen.facts,
    Cert.AttnInKernel.Gen.facts, Cert.AttnInKernelIdeal.Gen.facts, Cert.AttnInReferenceIdeal.Gen.facts,
    Cert.Pre_finite.Gen.facts, Cert.Pre_finite_modulation.Gen.facts,
    fun m ρ _ => Cert.Kernel.Gen.frame m ρ, fun m ρ _ => Cert.KernelIdeal.Gen.frame m ρ,
    fun m ρ _ => Cert.KernelIdeal.Gen.frame m ρ, frame_ri, fun m ρ _ => frame_ri m ρ trivial,
    fun m ρ _ => Cert.InputKernel.Gen.frame m ρ, fun m ρ _ => Cert.InputKernelIdeal.Gen.frame m ρ, frame_in,
    fun m ρ _ => Cert.PostKernel.Gen.frame m ρ, fun m ρ _ => Cert.PostKernelIdeal.Gen.frame m ρ, frame_out,
    fun m ρ _ => Cert.InWeightKernel.Gen.frame m ρ, fun m ρ _ => Cert.InWeightKernelIdeal.Gen.frame m ρ, frame_in_update,
    fun m ρ _ => Cert.SquareWeightKernel.Gen.frame m ρ, fun m ρ _ => Cert.SquareWeightKernelIdeal.Gen.frame m ρ, frame_square_update,
    fun m ρ _ => Cert.AttnWeightKernel.Gen.frame m ρ, fun m ρ _ => Cert.AttnWeightKernelIdeal.Gen.frame m ρ, frame_attn_update,
    fun m ρ _ => Cert.ModWeightKernel.Gen.frame m ρ, fun m ρ _ => Cert.ModWeightKernelIdeal.Gen.frame m ρ, frame_mod_update,
    fun m ρ _ => Cert.SmallWeightKernel.Gen.frame m ρ, fun m ρ _ => Cert.SmallWeightKernelIdeal.Gen.frame m ρ, frame_small_update,
    fun m ρ _ => Cert.SumKernel.Gen.frame m ρ, fun m ρ _ => Cert.SumKernelIdeal.Gen.frame m ρ, frame_sum,
    fun m ρ _ => Cert.ModKernel.Gen.frame m ρ, fun m ρ _ => Cert.ModKernelIdeal.Gen.frame m ρ, frame_mod,
    fun m ρ _ => Cert.ModGradKernel.Gen.frame m ρ, fun m ρ _ => Cert.ModGradKernelIdeal.Gen.frame m ρ,
    fun m ρ _ => Cert.ModGradKernelIdeal.Gen.frame m ρ, frame_mod_grad, fun m ρ _ => frame_mod_grad m ρ trivial,
    fun m ρ _ => Cert.AttnInKernel.Gen.frame m ρ, fun m ρ _ => Cert.AttnInKernelIdeal.Gen.frame m ρ, frame_products,
    trivial, algebraic, trivial, algebraic_in, trivial, algebraic_out,
    trivial, algebraic_in_update, trivial, algebraic_square_update, trivial, algebraic_attn_update, trivial, algebraic_mod_update,
    trivial, algebraic_small_update, trivial, algebraic_sum, trivial, algebraic_mod, trivial, algebraic_mod_grad,
    trivial, algebraic_products⟩

end Cert.Proof

end
